-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v90_0)) (v1 : (c : Dev Cert.Kernel3Ideal.nD) → Buf (Elt Ideal) ((c.tc : Thread Cert.Kernel3Ideal.nD Cert.Kernel3Ideal.τ).loc Cert.Kernel3Ideal.main_v90_1)) (v2 : (c : Dev Cert.Kernel3Ideal.nD) → Buf (Elt Ideal) ((c.tc : Thread Cert.Kernel3Ideal.nD Cert.Kernel3Ideal.τ).loc Cert.Kernel3Ideal.main_v90_2)) (v3 : (c : Dev Cert.Kernel3Ideal.nD) → Buf (Elt Ideal) ((c.tc : Thread Cert.Kernel3Ideal.nD Cert.Kernel3Ideal.τ).loc Cert.Kernel3Ideal.main_v90_3)) (v4 : (c : Dev Cert.Kernel3Ideal.nD) → Buf (Elt Ideal) ((c.tc : Thread Cert.Kernel3Ideal.nD Cert.Kernel3Ideal.τ).loc Cert.Kernel3Ideal.main_v90_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v90_0) = v0 c
          ∧ r.2.mem ((c.tc : Thread Cert.Kernel3Ideal.nD Cert.Kernel3Ideal.τ).loc Cert.Kernel3Ideal.main_v90_1) = v1 c
          ∧ r.2.mem ((c.tc : Thread Cert.Kernel3Ideal.nD Cert.Kernel3Ideal.τ).loc Cert.Kernel3Ideal.main_v90_2) = v2 c
          ∧ r.2.mem ((c.tc : Thread Cert.Kernel3Ideal.nD Cert.Kernel3Ideal.τ).loc Cert.Kernel3Ideal.main_v90_3) = v3 c
          ∧ r.2.mem ((c.tc : Thread Cert.Kernel3Ideal.nD Cert.Kernel3Ideal.τ).loc Cert.Kernel3Ideal.main_v90_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_v155) = v1 c
          ∧ r.2.mem ((c.tc : Thread Cert.Reference3Ideal.nD Cert.Reference3Ideal.τ).loc Cert.Reference3Ideal.main_v175) = v2 c
          ∧ r.2.mem ((c.tc : Thread Cert.Reference3Ideal.nD Cert.Reference3Ideal.τ).loc Cert.Reference3Ideal.main_v177) = v3 c
          ∧ r.2.mem ((c.tc : Thread Cert.Reference3Ideal.nD Cert.Reference3Ideal.τ).loc Cert.Reference3Ideal.main_v179) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  IdealRules.named_const.Statement Cert.Kernel4Ideal.κ "square" .f32 0x179ABE15#32 ((5316911940649 / 5316911983139663491615228241121378304 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)) (v5 : (c : Dev Cert.Kernel4Ideal.nD) → Buf (Elt Ideal) ((c.tc : Thread Cert.Kernel4Ideal.nD Cert.Kernel4Ideal.τ).loc Cert.Kernel4Ideal.main_v32_5)) (v6 : (c : Dev Cert.Kernel4Ideal.nD) → Buf (Elt Ideal) ((c.tc : Thread Cert.Kernel4Ideal.nD Cert.Kernel4Ideal.τ).loc Cert.Kernel4Ideal.main_v32_6)) (v7 : (c : Dev Cert.Kernel4Ideal.nD) → Buf (Elt Ideal) ((c.tc : Thread Cert.Kernel4Ideal.nD Cert.Kernel4Ideal.τ).loc Cert.Kernel4Ideal.main_v32_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_v32_5) = v5 c
          ∧ r.2.mem ((c.tc : Thread Cert.Kernel4Ideal.nD Cert.Kernel4Ideal.τ).loc Cert.Kernel4Ideal.main_v32_6) = v6 c
          ∧ r.2.mem ((c.tc : Thread Cert.Kernel4Ideal.nD Cert.Kernel4Ideal.τ).loc Cert.Kernel4Ideal.main_v32_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v134) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_v137) = v3 c
          ∧ r.2.mem ((c.tc : Thread Cert.Reference4Ideal.nD Cert.Reference4Ideal.τ).loc Cert.Reference4Ideal.main_v138) = v4 c
          ∧ r.2.mem ((c.tc : Thread Cert.Reference4Ideal.nD Cert.Reference4Ideal.τ).loc Cert.Reference4Ideal.main_v140) = v5 c
          ∧ r.2.mem ((c.tc : Thread Cert.Reference4Ideal.nD Cert.Reference4Ideal.τ).loc Cert.Reference4Ideal.main_v79) = v6 c
          ∧ r.2.mem ((c.tc : Thread Cert.Reference4Ideal.nD Cert.Reference4Ideal.τ).loc Cert.Reference4Ideal.main_v141) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x8192x1024 : Shape := ⟨3, ![8, 8192, 1024]⟩
abbrev S4x64 : Shape := ⟨2, ![4, 64]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x8192x1024 .f32) (main_arg1 : FVec F S8x8192x1024 .f32) (main_arg2 : FVec F S8x8192x1024 .f32) (main_arg3 : FVec F S4x64 .f32) (main_arg4 : FVec F S128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x1024 .f32 := Host.absf main_arg2
  let main_cst_2 : FVec F S_ .f32 := constant S_ .f32 0x7F800000#32
  let main_v10 : FVec F S8x8192x1024 .f32 := broadcastInDim S8x8192x1024 ![] bcast_S_S8x8192x1024 main_cst_2
  let main_v11 : IVec S8x8192x1024 1 := cmpf .olt main_v9 main_v10
  let main_c_3 : IVec S_ 1 := constantI S_ 1 1#1
  let main_v12 : IVec S_ 1 := (fun x v => Host.reduce IntOp.andi x v reducesTo_S8x8192x1024_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S8x8192x1024 : Shape := ⟨3, ![8, 8192, 1024]⟩
abbrev S4x64 : Shape := ⟨2, ![4, 64]⟩
abbrev S128 : Shape := ⟨1, ![128]⟩
abbrev S_ : Shape := ⟨0, ![]⟩
abbrev S1x128 : Shape := ⟨2, ![1, 128]⟩
abbrev S1x8192x128 : Shape := ⟨3, ![1, 8192, 128]⟩
abbrev S2048x128 : Shape := ⟨2, ![2048, 128]⟩
abbrev S2048x256 : Shape := ⟨2, ![2048, 256]⟩
abbrev S1x64 : Shape := ⟨2, ![1, 64]⟩
abbrev S1 : Shape := ⟨1, ![1]⟩
abbrev S1x1 : Shape := ⟨2, ![1, 1]⟩
abbrev S1x1024x128 : Shape := ⟨3, ![1, 1024, 128]⟩
abbrev S1024x128 : Shape := ⟨2, ![1024, 128]⟩
abbrev S1024x256 : Shape := ⟨2, ![1024, 256]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S768x256 : Shape := ⟨2, ![768, 256]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x1024, .f32⟩
  | .hbm, ⟨10, _⟩ => ⟨S8x8192x1024, .f32⟩
  | .hbm, ⟨11, _⟩ => ⟨S8x8192x1024, .bf16⟩
  | .hbm, ⟨12, _⟩ => ⟨S8x8192x1024, .bf16⟩
  | .hbm, ⟨13, _⟩ => ⟨S8x8192x1024, .bf16⟩
  | .hbm, ⟨14, _⟩ => ⟨S1x128, .f32⟩
  | .hbm, ⟨15, _⟩ => ⟨S8x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S2048x128, .bf16⟩
  | .local _ .vmem, ⟨11, _⟩ => ⟨S2048x128, .f32⟩
  | .local _ .vmem, ⟨12, _⟩ => ⟨S2048x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v17 : BitVec 32 := Scalar.muli arg11 c1024_i32
  v17
def k0_off1 (k0_t1 : Fin k0_t1_loop.trips) : Fin 3 → Nat :=
  let c0_4 : Index := 0#32
  let c0_i32 : BitVec 32 := 0#32
  let c1_i32 : BitVec 32 := 1#32
  let arg11 : BitVec 32 := Scf.iv c0_i32 c1_i32 k0_t1
  let c1024_i32 : BitVec 32 := 1024#32
  let v17 : BitVec 32 := Scalar.muli arg11 c1024_i32
  let v18 : BitVec 32 := v17
  let v19 : Index := Scalar.indexCast v18
  let c0_5 : Index := 0#32
  ![0, v19.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32_10 : BitVec 32 := 1024#32
  let v34 : BitVec 32 := Scalar.muli arg11 c1024_i32_10
  v34
@[reducible] def k0_t2_loop (k0_t1 : Fin k0_t1_loop.trips) : Scf.Loop 32 :=
  let c0_i32_91 : BitVec 32 := 0#32
  let c0_i32 : BitVec 32 := 0#32
  let c1_i32 : BitVec 32 := 1#32
  let arg11 : BitVec 32 := Scf.iv c0_i32 c1_i32 k0_t1
  let v228 : BitVec 32 := Scalar.subi arg11 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let c1_i32_93 : BitVec 32 := 1#32
  ⟨c0_i32_91, v232, c1_i32_93⟩
def k0_mult3 (k0_t1 : Fin k0_t1_loop.trips) (k0_t2 : Fin (k0_t2_loop k0_t1).trips) : BitVec 32 :=
  let c0_i32_91 : BitVec 32 := 0#32
  let c1_i32_93 : BitVec 32 := 1#32
  let arg12 : BitVec 32 := Scf.iv c0_i32_91 c1_i32_93 k0_t2
  let c1024_i32_105 : BitVec 32 := 1024#32
  let v263 : BitVec 32 := Scalar.muli arg12 c1024_i32_105
  v263
def k0_off2 (k0_t1 : Fin k0_t1_loop.trips) (k0_t2 : Fin (k0_t2_loop k0_t1).trips) : Fin 3 → Nat :=
  let c0_106 : Index := 0#32
  let c0_i32_91 : BitVec 32 := 0#32
  let c1_i32_93 : BitVec 32 := 1#32
  let arg12 : BitVec 32 := Scf.iv c0_i32_91 c1_i32_93 k0_t2
  let c1024_i32_105 : BitVec 32 := 1024#32
  let v263 : BitVec 32 := Scalar.muli arg12 c1024_i32_105
  let v264 : BitVec 32 := v263
  let v265 : Index := Scalar.indexCast v264
  let c0_107 : Index := 0#32
  ![0, v265.toNat, 0]
@[reducible] def k0_t3_loop (k0_t1 : Fin k0_t1_loop.trips) : Scf.Loop 32 :=
  let c0_i32_91 : BitVec 32 := 0#32
  let c0_i32 : BitVec 32 := 0#32
  let c1_i32 : BitVec 32 := 1#32
  let arg11 : BitVec 32 := Scf.iv c0_i32 c1_i32 k0_t1
  let v228 : BitVec 32 := Scalar.subi arg11 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let v229 : BitVec 32 := Scalar.addi c0_i32_91 v228
  let c1_i32_94 : BitVec 32 := 1#32
  ⟨v232, v229, c1_i32_94⟩
def k0_mult4 (k0_t1 : Fin k0_t1_loop.trips) (k0_t3 : Fin (k0_t3_loop k0_t1).trips) : BitVec 32 :=
  let c0_i32_91 : BitVec 32 := 0#32
  let c0_i32 : BitVec 32 := 0#32
  let c1_i32 : BitVec 32 := 1#32
  let arg11 : BitVec 32 := Scf.iv c0_i32 c1_i32 k0_t1
  let v228 : BitVec 32 := Scalar.subi arg11 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let c1_i32_94 : BitVec 32 := 1#32
  let arg12 : BitVec 32 := Scf.iv v232 c1_i32_94 k0_t3
  let c1024_i32_105 : BitVec 32 := 1024#32
  let v263 : BitVec 32 := Scalar.muli arg12 c1024_i32_105
  v263
def k0_off3 (k0_t1 : Fin k0_t1_loop.trips) (k0_t3 : Fin (k0_t3_loop k0_t1).trips) : Fin 3 → Nat :=
  let c0_106 : Index := 0#32
  let c0_i32_91 : BitVec 32 := 0#32
  let c0_i32 : BitVec 32 := 0#32
  let c1_i32 : BitVec 32 := 1#32
  let arg11 : BitVec 32 := Scf.iv c0_i32 c1_i32 k0_t1
  let v228 : BitVec 32 := Scalar.subi arg11 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let c1_i32_94 : BitVec 32 := 1#32
  let arg12 : BitVec 32 := Scf.iv v232 c1_i32_94 k0_t3
  let c1024_i32_105 : BitVec 32 := 1024#32
  let v263 : BitVec 32 := Scalar.muli arg12 c1024_i32_105
  let v264 : BitVec 32 := v263
  let v265 : Index := Scalar.indexCast v264
  let c0_107 : Index := 0#32
  ![0, v265.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8192x1024 : Shape := ⟨3, ![8, 8192, 1024]⟩
abbrev S4x64 : Shape := ⟨2, ![4, 64]⟩
abbrev S128 : Shape := ⟨1, ![128]⟩
abbrev S8x8192x8x2x64 : Shape := ⟨5, ![8, 8192, 8, 2, 64]⟩
abbrev S_ : Shape := ⟨0, ![]⟩
abbrev S8x8192x8x128 : Shape := ⟨4, ![8, 8192, 8, 128]⟩
abbrev S1x64 : Shape := ⟨2, ![1, 64]⟩
abbrev S64 : Shape := ⟨1, ![64]⟩
abbrev S8x8x2x8192x8192 : Shape := ⟨5, ![8, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8x2x8192 : Shape := ⟨4, ![8, 8, 2, 8192]⟩
abbrev S8x8x2x8192x1 : Shape := ⟨5, ![8, 8, 2, 8192, 1]⟩
abbrev S8x8x1x8192x8192 : Shape := ⟨5, ![8, 8, 1, 8192, 8192]⟩
abbrev S8x8x8192x8192 : Shape := ⟨4, ![8, 8, 8192, 8192]⟩
abbrev S8x8x128x8192 : Shape := ⟨4, ![8, 8, 128, 8192]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S4x64, .f32⟩
  | .hbm, ⟨4, _⟩ => ⟨S128, .f32⟩
  | .hbm, ⟨5, _⟩ => ⟨S8x8192x8x2x64, .f32⟩
  | .hbm, ⟨6, _⟩ => ⟨S_, .f32⟩
  | .hbm, ⟨7, _⟩ => ⟨S8x8192x8x2x64, .f32⟩
  | .hbm, ⟨8, _⟩ => ⟨S8x8192x8x2x64, .f32⟩
  | .hbm, ⟨9, _⟩ => ⟨S8x8192x8x2x64, .f32⟩
  | .hbm, ⟨10, _⟩ => ⟨S8x8192x8x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x8x2x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S8x8x2x8192x8192, .i1⟩
  | .hbm, ⟨40, _⟩ => ⟨S8x8x2x8192x8192, .f32⟩
  | .hbm, ⟨41, _⟩ => ⟨S8x8x2x8192x8192, .f32⟩
  | .hbm, ⟨42, _⟩ => ⟨S_, .f32⟩
  | .hbm, ⟨43, _⟩ => ⟨S8x8x2x8192, .f32⟩
  | .hbm, ⟨44, _⟩ => ⟨S_, .f32⟩
  | .hbm, ⟨45, _⟩ => ⟨S8x8x2x8192, .f32⟩
  | .hbm, ⟨46, _⟩ => ⟨S8x8x2x8192, .f32⟩
  | .hbm, ⟨47, _⟩ => ⟨S8x8x2x8192x1, .f32⟩
  | .hbm, ⟨48, _⟩ => ⟨S8x8x2x8192x8192, .f32⟩
  | .hbm, ⟨49, _⟩ => ⟨S8x8x2x8192x8192, .f32⟩
  | .hbm, ⟨50, _⟩ => ⟨S8x8x2x8192x8192, .f32⟩
  | .hbm, ⟨51, _⟩ => ⟨S_, .f32⟩
  | .hbm, ⟨52, _⟩ => ⟨S8x8x2x8192, .f32⟩
  | .hbm, ⟨53, _⟩ => ⟨S8x8x2x8192x1, .f32⟩
  | .hbm, ⟨54, _⟩ => ⟨S8x8x2x8192x8192, .f32⟩
  | .hbm, ⟨55, _⟩ => ⟨S8x8x2x8192x8192, .f32⟩
  | .hbm, ⟨56, _⟩ => ⟨S8x8x1x8192x8192, .f32⟩
  | .hbm, ⟨57, _⟩ => ⟨S8x8x8192x8192, .f32⟩
  | .hbm, ⟨58, _⟩ => ⟨S8x8x1x8192x8192, .f32⟩
  | .hbm, ⟨59, _⟩ => ⟨S8x8x8192x8192, .f32⟩
  | .hbm, ⟨60, _⟩ => ⟨S8x8x8192x8192, .f32⟩
  | .hbm, ⟨61, _⟩ => ⟨S8x8x8192x8192, .f32⟩
  | .hbm, ⟨62, _⟩ => ⟨S8x8x8192x8192, .f32⟩
  | .hbm, ⟨63, _⟩ => ⟨S8x8x128x8192, .f32⟩
  | .hbm, ⟨64, _⟩ => ⟨S8x8192x8x128, .f32⟩
  | .hbm, ⟨65, _⟩ => ⟨S8x8192x8x128, .f32⟩
  | .hbm, ⟨66, _⟩ => ⟨S_, .f32⟩
  | .hbm, ⟨67, _⟩ => ⟨S8x8192x8, .f32⟩
  | .hbm, ⟨68, _⟩ => ⟨S8x8192x8x1, .f32⟩
  | .hbm, ⟨69, _⟩ => ⟨S_, .f32⟩
  | .hbm, ⟨70, _⟩ => ⟨S8x8192x8x1, .f32⟩
  | .hbm, ⟨71, _⟩ => ⟨S8x8192x8x1, .f32⟩
  | .hbm, ⟨72, _⟩ => ⟨S_, .f32⟩
  | .hbm, ⟨73, _⟩ => ⟨S8x8192x8x1, .f32⟩
  | .hbm, ⟨74, _⟩ => ⟨S8x8192x8x1, .f32⟩
  | .hbm, ⟨75, _⟩ => ⟨S8x8192x8x1, .f32⟩
  | .hbm, ⟨76, _⟩ => ⟨S8x8192x8x128, .f32⟩
  | .hbm, ⟨77, _⟩ => ⟨S8x8192x8x128, .f32⟩
  | .hbm, ⟨78, _⟩ => ⟨S1x1x1x128, .f32⟩
  | .hbm, ⟨79, _⟩ => ⟨S8x8192x8x128, .f32⟩
  | .hbm, ⟨80, _⟩ => ⟨S8x8192x8x128, .f32⟩
  | .hbm, ⟨81, _⟩ => ⟨S_, .f32⟩
  | .hbm, ⟨82, _⟩ => ⟨S8x8192x8x128, .f32⟩
  | .hbm, ⟨83, _⟩ => ⟨S8x8192x8x128, .f32⟩
  | .hbm, ⟨84, _⟩ => ⟨S8x8192x1024, .f32⟩
  | .hbm, ⟨85, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel2.lean ====
abbrev S8x8192x1024 : Shape := ⟨3, ![8, 8192, 1024]⟩
abbrev S2x8x8192x256 : Shape := ⟨4, ![2, 8, 8192, 256]⟩
abbrev S1x1024x1024 : Shape := ⟨3, ![1, 1024, 1024]⟩
abbrev S2x1024 : Shape := ⟨2, ![2, 1024]⟩
abbrev S2x256x1024 : Shape := ⟨3, ![2, 256, 1024]⟩
abbrev S2x1024x1024 : Shape := ⟨3, ![2, 1024, 1024]⟩
abbrev S1024x1024 : Shape := ⟨2, ![1024, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x512x1024 : Shape := ⟨3, ![1, 512, 1024]⟩
abbrev S1x1x512x256 : Shape := ⟨4, ![1, 1, 512, 256]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩

abbrev nBuf : Space → Nat
  | .hbm => 24
  | .vmem => 15
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .f32⟩
  | .hbm, ⟨3, _⟩ => ⟨S2x8x8192x256, .f32⟩
  | .hbm, ⟨4, _⟩ => ⟨S1x1024x1024, .f32⟩
  | .hbm, ⟨5, _⟩ => ⟨S2x1024, .f32⟩
  | .hbm, ⟨6, _⟩ => ⟨S2x256x1024, .f32⟩
  | .hbm, ⟨7, _⟩ => ⟨S2x1024x1024, .f32⟩
  | .hbm, ⟨8, _⟩ => ⟨S2x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S1x1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x512x256, .f32⟩
  | .local _ .vmem, ⟨7, _⟩ => ⟨S1x1x512x256, .f32⟩
  | .local _ .vmem, ⟨8, _⟩ => ⟨S1024x1024, .bf16⟩
  | .local _ .vmem, ⟨9, _⟩ => ⟨S1x1024, .f32⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x8192x1024 : Shape := ⟨3, ![8, 8192, 1024]⟩
abbrev S2x8x8192x256 : Shape := ⟨4, ![2, 8, 8192, 256]⟩
abbrev S1x1024x1024 : Shape := ⟨3, ![1, 1024, 1024]⟩
abbrev S2x1024 : Shape := ⟨2, ![2, 1024]⟩
abbrev S2x256x1024 : Shape := ⟨3, ![2, 256, 1024]⟩
abbrev S2x1024x1024 : Shape := ⟨3, ![2, 1024, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S1x8x8192x256 : Shape := ⟨4, ![1, 8, 8192, 256]⟩
abbrev S8x8192x256 : Shape := ⟨3, ![8, 8192, 256]⟩
abbrev S1x256x1024 : Shape := ⟨3, ![1, 256, 1024]⟩
abbrev S256x1024 : Shape := ⟨2, ![256, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .f32⟩
  | .hbm, ⟨3, _⟩ => ⟨S2x8x8192x256, .f32⟩
  | .hbm, ⟨4, _⟩ => ⟨S1x1024x1024, .f32⟩
  | .hbm, ⟨5, _⟩ => ⟨S2x1024, .f32⟩
  | .hbm, ⟨6, _⟩ => ⟨S2x256x1024, .f32⟩
  | .hbm, ⟨7, _⟩ => ⟨S2x1024x1024, .f32⟩
  | .hbm, ⟨8, _⟩ => ⟨S2x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S1024x1024, .f32⟩
  | .hbm, ⟨22, _⟩ => ⟨S8x8192x1024, .f32⟩
  | .hbm, ⟨23, _⟩ => ⟨S1x1024, .f32⟩
  | .hbm, ⟨24, _⟩ => ⟨S1024, .f32⟩
  | .hbm, ⟨25, _⟩ => ⟨S8x8192x1024, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S_, .f32⟩
  | .hbm, ⟨30, _⟩ => ⟨S8x8192x1, .f32⟩
  | .hbm, ⟨31, _⟩ => ⟨S8x8192x1, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x8192x1024, .f32⟩
  | .hbm, ⟨37, _⟩ => ⟨S8x8192x1024, .f32⟩
  | .hbm, ⟨38, _⟩ => ⟨S1x1x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S1x8x8192x256, .f32⟩
  | .hbm, ⟨43, _⟩ => ⟨S8x8192x256, .f32⟩
  | .hbm, ⟨44, _⟩ => ⟨S1x256x1024, .f32⟩
  | .hbm, ⟨45, _⟩ => ⟨S256x1024, .f32⟩
  | .hbm, ⟨46, _⟩ => ⟨S8x8192x1024, .f32⟩
  | .hbm, ⟨47, _⟩ => ⟨S1x1024x1024, .f32⟩
  | .hbm, ⟨48, _⟩ => ⟨S1024x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S1x1024, .f32⟩
  | .hbm, ⟨60, _⟩ => ⟨S1024, .f32⟩
  | .hbm, ⟨61, _⟩ => ⟨S8x8192x1024, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Kernel3.lean ====
abbrev S8x8192x1024 : Shape := ⟨3, ![8, 8192, 1024]⟩
abbrev S2x8x8192x256 : Shape := ⟨4, ![2, 8, 8192, 256]⟩
abbrev S1x1024 : Shape := ⟨2, ![1, 1024]⟩
abbrev S1x1024x1024 : Shape := ⟨3, ![1, 1024, 1024]⟩
abbrev S2x1024 : Shape := ⟨2, ![2, 1024]⟩
abbrev S2x256x1024 : Shape := ⟨3, ![2, 256, 1024]⟩
abbrev S2x1024x1024 : Shape := ⟨3, ![2, 1024, 1024]⟩
abbrev S1024 : Shape := ⟨1, ![1024]⟩
abbrev S1024x2048 : Shape := ⟨2, ![1024, 2048]⟩
abbrev S1x1024x2048 : Shape := ⟨3, ![1, 1024, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S128x1 : Shape := ⟨2, ![128, 1]⟩
abbrev S8192x128 : Shape := ⟨2, ![8192, 128]⟩
abbrev S1024x1024 : Shape := ⟨2, ![1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S1x1x512x256 : Shape := ⟨4, ![1, 1, 512, 256]⟩
abbrev S512x128 : Shape := ⟨2, ![512, 128]⟩
abbrev S1x1x256x256 : Shape := ⟨4, ![1, 1, 256, 256]⟩
abbrev S256x128 : Shape := ⟨2, ![256, 128]⟩
abbrev S256x2048 : Shape := ⟨2, ![256, 2048]⟩

abbrev nBuf : Space → Nat
  | .hbm => 197
  | .vmem => 38
  | .smem => 0
  | _ => 0

abbrev hbmTy0_0 (i : Nat) : BufTy := match i % 128 with
  | 0 => ⟨S8x8192x1024, .bf16⟩
  | 1 => ⟨S8x8192x1024, .bf16⟩
  | 2 => ⟨S8x8192x1024, .bf16⟩
  | 3 => ⟨S8x8192x1024, .f32⟩
  | 4 => ⟨S2x8x8192x256, .f32⟩
  | 5 => ⟨S1x1024, .f32⟩
  | 6 => ⟨S1x1024, .f32⟩
  | 7 => ⟨S1x1024x1024, .f32⟩
  | 8 => ⟨S2x1024, .f32⟩
  | 9 => ⟨S2x256x1024, .f32⟩
  | 10 => ⟨S2x1024x1024, .f32⟩
  | 11 => ⟨S2x1024, .f32⟩
  | 12 => ⟨S1024, .f32⟩
  | 13 => ⟨S1024x2048, .f32⟩
  | 14 => ⟨S2x1024, .f32⟩
  | 15 => ⟨S1x1024x2048, .f32⟩
  | 16 => ⟨S256, .i32⟩
  | 17 => ⟨S_, .i32⟩
  | 18 => ⟨S_, .i32⟩
  | 19 => ⟨S256, .i32⟩
  | 20 => ⟨S256, .i32⟩
  | 21 => ⟨S256, .i32⟩
  | 22 => ⟨S_, .i32⟩
  | 23 => ⟨S256, .i32⟩
  | 24 => ⟨S256, .i1⟩
  | 25 => ⟨S256, .i32⟩
  | 26 => ⟨S256, .i32⟩
  | 27 => ⟨S_, .i32⟩
  | 28 => ⟨S256, .i32⟩
  | 29 => ⟨S256, .i1⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S1x256, .i32⟩
  | 37 => ⟨S256x256, .i32⟩
  | 38 => ⟨S256x256, .i32⟩
  | 39 => ⟨S256x256, .i1⟩
  | 40 => ⟨S256x256, .bf16⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S8192, .f32⟩
  | 56 => ⟨S8192x1, .f32⟩
  | 57 => ⟨S1x8, .f32⟩
  | 58 => ⟨S8192x8, .f32⟩
  | 59 => ⟨S8192x8, .f32⟩
  | 60 => ⟨S8192x8, .f32⟩
  | 61 => ⟨S8192x8, .f32⟩
  | 62 => ⟨S8192x8, .f32⟩
  | 63 => ⟨S128, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i1⟩
  | 78 => ⟨S_, .i32⟩
  | 79 => ⟨S_, .i1⟩
  | 80 => ⟨S128, .i1⟩
  | 81 => ⟨S128, .i1⟩
  | 82 => ⟨S128, .i1⟩
  | 83 => ⟨S128, .i32⟩
  | 84 => ⟨S128, .i32⟩
  | 85 => ⟨S128, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S128, .i32⟩
  | 93 => ⟨S128, .i32⟩
  | 94 => ⟨S_, .i32⟩
  | 95 => ⟨S128, .i32⟩
  | 96 => ⟨S128, .i1⟩
  | 97 => ⟨S_, .i32⟩
  | 98 => ⟨S128, .i32⟩
  | 99 => ⟨S128, .i1⟩
  | 100 => ⟨S_, .i32⟩
  | 101 => ⟨S_, .i1⟩
  | 102 => ⟨S128, .i1⟩
  | 103 => ⟨S128, .i1⟩
  | 104 => ⟨S128, .i1⟩
  | 105 => ⟨S128, .i32⟩
  | 106 => ⟨S128, .i32⟩
  | 107 => ⟨S128, .i32⟩
  | 108 => ⟨S_, .i32⟩
  | 109 => ⟨S128, .i32⟩
  | 110 => ⟨S128, .i1⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S8192x128, .f32⟩
  | 120 => ⟨S_, .f32⟩
  | 121 => ⟨S_, .f32⟩
  | 122 => ⟨S8192x128, .i1⟩
  | 123 => ⟨S8192x128, .f32⟩
  | 124 => ⟨S8192x128, .f32⟩
  | 125 => ⟨S_, .i32⟩
  | 126 => ⟨S128, .i32⟩
  | 127 => ⟨S128, .i1⟩
  | _ => ⟨S8x8192x1024, .bf16⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S8192x128, .f32⟩
  | 9 => ⟨S8192x128, .f32⟩
  | 10 => ⟨S_, .f32⟩
  | 11 => ⟨S_, .f32⟩
  | 12 => ⟨S8192x128, .i1⟩
  | 13 => ⟨S8192x128, .f32⟩
  | 14 => ⟨S8192x128, .f32⟩
  | 15 => ⟨S_, .i32⟩
  | 16 => ⟨S128, .i32⟩
  | 17 => ⟨S128, .i1⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S8192x128, .f32⟩
  | 31 => ⟨S_, .f32⟩
  | 32 => ⟨S_, .f32⟩
  | 33 => ⟨S8192x128, .i1⟩
  | 34 => ⟨S8192x128, .f32⟩
  | 35 => ⟨S8192x128, .f32⟩
  | 36 => ⟨S_, .bf16⟩
  | 37 => ⟨S256x256, .bf16⟩
  | 38 => ⟨S256x256, .bf16⟩
  | 39 => ⟨S1024, .f32⟩
  | 40 => ⟨S1x1024, .f32⟩
  | 41 => ⟨S1024, .f32⟩
  | 42 => ⟨S1x1024, .f32⟩
  | 43 => ⟨S1024x1024, .f32⟩
  | 44 => ⟨S1024x1024, .bf16⟩
  | 45 => ⟨S1x1024, .f32⟩
  | 46 => ⟨S1024, .f32⟩
  | 47 => ⟨S1x1024, .f32⟩
  | 48 => ⟨S1x256x1024, .f32⟩
  | 49 => ⟨S256x1024, .f32⟩
  | 50 => ⟨S256x1024, .bf16⟩
  | 51 => ⟨S1x1024x1024, .f32⟩
  | 52 => ⟨S1024x1024, .f32⟩
  | 53 => ⟨S1024x1024, .bf16⟩
  | 54 => ⟨S1x1024, .f32⟩
  | 55 => ⟨S1024, .f32⟩
  | 56 => ⟨S1x1024, .f32⟩
  | 57 => ⟨S1x1024, .f32⟩
  | 58 => ⟨S1024x2048, .bf16⟩
  | 59 => ⟨S1x1024, .f32⟩
  | 60 => ⟨S1024, .f32⟩
  | 61 => ⟨S1x1024, .f32⟩
  | 62 => ⟨S1024x2048, .f32⟩
  | 63 => ⟨S1024x2048, .bf16⟩
  | 64 => ⟨S8x8192x1024, .f32⟩
  | 65 => ⟨S8x8192x1024, .bf16⟩
  | 66 => ⟨S8x8192x1024, .bf16⟩
  | 67 => ⟨S8x8192x1024, .bf16⟩
  | 68 => ⟨S8x8192x1024, .bf16⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x512x256, .f32⟩
  | .local _ .vmem, ⟨9, _⟩ => ⟨S1x1x512x256, .f32⟩
  | .local _ .vmem, ⟨10, _⟩ => ⟨S256x256, .bf16⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x2048, .bf16⟩
  | .local _ .vmem, ⟨20, _⟩ => ⟨S1x1024, .f32⟩
  | .local _ .vmem, ⟨21, _⟩ => ⟨S1024x2048, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x512x1024, .bf16⟩
  | .local _ .vmem, ⟨37, _⟩ => ⟨S1x512x1024, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_cst_0 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_3 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v27 : Ref sig .tc := ⟨.hbm, 85, rfl⟩
abbrev main_c_4 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_v5 : Ref sig .tc := ⟨.hbm, 95, rfl⟩
abbrev main_call2_v6 : Ref sig .tc := ⟨.hbm, 96, rfl⟩
abbrev main_call2_c_2 : Ref sig .tc := ⟨.hbm, 97, rfl⟩
abbrev main_call2_v7 : Ref sig .tc := ⟨.hbm, 98, rfl⟩
abbrev main_call2_v8 : Ref sig .tc := ⟨.hbm, 99, rfl⟩
abbrev main_call2_c_3 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_v28 : Ref sig .tc := ⟨.hbm, 107, rfl⟩
abbrev main_c_5 : Ref sig .tc := ⟨.hbm, 108, rfl⟩
abbrev main_v29 : Ref sig .tc := ⟨.hbm, 109, rfl⟩
abbrev main_v30 : Ref sig .tc := ⟨.hbm, 110, rfl⟩
abbrev main_c_6 : Ref sig .tc := ⟨.hbm, 111, rfl⟩
abbrev main_v31 : Ref sig .tc := ⟨.hbm, 112, rfl⟩
abbrev main_v32 : Ref sig .tc := ⟨.hbm, 113, rfl⟩
abbrev main_c_7 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_cst_8 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v38 : Ref sig .tc := ⟨.hbm, 124, rfl⟩
abbrev main_c_9 : Ref sig .tc := ⟨.hbm, 125, rfl⟩
abbrev main_v39 : Ref sig .tc := ⟨.hbm, 126, rfl⟩
abbrev main_v40 : Ref sig .tc := ⟨.hbm, 127, rfl⟩
abbrev main_c_10 : Ref sig .tc := ⟨.hbm, 128, rfl⟩
abbrev main_v41 : Ref sig .tc := ⟨.hbm, 129, rfl⟩
abbrev main_v42 : Ref sig .tc := ⟨.hbm, 130, rfl⟩
abbrev main_c_11 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_cst_12 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v49 : Ref sig .tc := ⟨.hbm, 142, rfl⟩
abbrev main_c_13 : Ref sig .tc := ⟨.hbm, 143, rfl⟩
abbrev main_v50 : Ref sig .tc := ⟨.hbm, 144, rfl⟩
abbrev main_v51 : Ref sig .tc := ⟨.hbm, 145, rfl⟩
abbrev main_c_14 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_c_15 : Ref sig .tc := ⟨.hbm, 150, rfl⟩
abbrev main_v55 : Ref sig .tc := ⟨.hbm, 151, rfl⟩
abbrev main_v56 : Ref sig .tc := ⟨.hbm, 152, rfl⟩
abbrev main_c_16 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_cst_17 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v62 : Ref sig .tc := ⟨.hbm, 163, rfl⟩
abbrev main_cst_18 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90_0 : Ref sig .tc := ⟨.hbm, 192, rfl⟩
abbrev main_v90_1 : Ref sig .tc := ⟨.hbm, 193, rfl⟩
abbrev main_v90_2 : Ref sig .tc := ⟨.hbm, 194, rfl⟩
abbrev main_v90_3 : Ref sig .tc := ⟨.hbm, 195, rfl⟩
abbrev main_v90_4 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference3Ideal.lean ====
abbrev S8x8192x1024 : Shape := ⟨3, ![8, 8192, 1024]⟩
abbrev S2x8x8192x256 : Shape := ⟨4, ![2, 8, 8192, 256]⟩
abbrev S1x1024 : Shape := ⟨2, ![1, 1024]⟩
abbrev S1x1024x1024 : Shape := ⟨3, ![1, 1024, 1024]⟩
abbrev S2x1024 : Shape := ⟨2, ![2, 1024]⟩
abbrev S2x256x1024 : Shape := ⟨3, ![2, 256, 1024]⟩
abbrev S2x1024x1024 : Shape := ⟨3, ![2, 1024, 1024]⟩
abbrev S1024 : Shape := ⟨1, ![1024]⟩
abbrev S1024x2048 : Shape := ⟨2, ![1024, 2048]⟩
abbrev S1x1024x2048 : Shape := ⟨3, ![1, 1024, 2048]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S16x64 : Shape := ⟨2, ![16, 64]⟩
abbrev S1x1x16x64 : Shape := ⟨4, ![1, 1, 16, 64]⟩
abbrev S1024x1024 : Shape := ⟨2, ![1024, 1024]⟩
abbrev S8x8192 : Shape := ⟨2, ![8, 8192]⟩
abbrev S8x8192x1 : Shape := ⟨3, ![8, 8192, 1]⟩
abbrev S1x1x1024 : Shape := ⟨3, ![1, 1, 1024]⟩
abbrev S1x8x8192x256 : Shape := ⟨4, ![1, 8, 8192, 256]⟩
abbrev S8x8192x256 : Shape := ⟨3, ![8, 8192, 256]⟩
abbrev S1x256x1024 : Shape := ⟨3, ![1, 256, 1024]⟩
abbrev S256x1024 : Shape := ⟨2, ![256, 1024]⟩
abbrev S8x8192x2048 : Shape := ⟨3, ![8, 8192, 2048]⟩
abbrev S1x8192x1x1x8 : Shape := ⟨5, ![1, 8192, 1, 1, 8]⟩
abbrev S8x8192x8x2x64 : Shape := ⟨5, ![8, 8192, 8, 2, 64]⟩
abbrev S8x8192x8x2x8 : Shape := ⟨5, ![8, 8192, 8, 2, 8]⟩
abbrev S8x8192x8x2x48 : Shape := ⟨5, ![8, 8192, 8, 2, 48]⟩

abbrev nBuf : Space → Nat
  | .hbm => 228
  | .vmem => 0
  | .smem => 0
  | _ => 0

abbrev hbmTy0_0 (i : Nat) : BufTy := match i % 128 with
  | 0 => ⟨S8x8192x1024, .bf16⟩
  | 1 => ⟨S8x8192x1024, .bf16⟩
  | 2 => ⟨S8x8192x1024, .bf16⟩
  | 3 => ⟨S8x8192x1024, .f32⟩
  | 4 => ⟨S2x8x8192x256, .f32⟩
  | 5 => ⟨S1x1024, .f32⟩
  | 6 => ⟨S1x1024, .f32⟩
  | 7 => ⟨S1x1024x1024, .f32⟩
  | 8 => ⟨S2x1024, .f32⟩
  | 9 => ⟨S2x256x1024, .f32⟩
  | 10 => ⟨S2x1024x1024, .f32⟩
  | 11 => ⟨S2x1024, .f32⟩
  | 12 => ⟨S1024, .f32⟩
  | 13 => ⟨S1024x2048, .f32⟩
  | 14 => ⟨S2x1024, .f32⟩
  | 15 => ⟨S1x1024x2048, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S8192, .f32⟩
  | 31 => ⟨S8192x1, .f32⟩
  | 32 => ⟨S1x8, .f32⟩
  | 33 => ⟨S8192x8, .f32⟩
  | 34 => ⟨S8192x8, .f32⟩
  | 35 => ⟨S8192x8, .f32⟩
  | 36 => ⟨S8192x8, .f32⟩
  | 37 => ⟨S8192x8, .f32⟩
  | 38 => ⟨S8x8192x1024, .f32⟩
  | 39 => ⟨S8x8192x16x64, .f32⟩
  | 40 => ⟨S_, .f32⟩
  | 41 => ⟨S8x8192x16, .f32⟩
  | 42 => ⟨S8x8192x16x1, .f32⟩
  | 43 => ⟨S_, .f32⟩
  | 44 => ⟨S8x8192x16x1, .f32⟩
  | 45 => ⟨S8x8192x16x1, .f32⟩
  | 46 => ⟨S8x8192x16x64, .f32⟩
  | 47 => ⟨S8x8192x16x64, .f32⟩
  | 48 => ⟨S8x8192x16x64, .f32⟩
  | 49 => ⟨S_, .f32⟩
  | 50 => ⟨S8x8192x16, .f32⟩
  | 51 => ⟨S8x8192x16x1, .f32⟩
  | 52 => ⟨S_, .f32⟩
  | 53 => ⟨S8x8192x16x1, .f32⟩
  | 54 => ⟨S8x8192x16x1, .f32⟩
  | 55 => ⟨S8x8192x16x64, .f32⟩
  | 56 => ⟨S8x8192x16x64, .f32⟩
  | 57 => ⟨S_, .f32⟩
  | 58 => ⟨S8x8192x16x1, .f32⟩
  | 59 => ⟨S8x8192x16x1, .f32⟩
  | 60 => ⟨S8x8192x16x1, .f32⟩
  | 61 => ⟨S8x8192x16x64, .f32⟩
  | 62 => ⟨S8x8192x16x64, .f32⟩
  | 63 => ⟨S1024, .f32⟩
  | 64 => ⟨S16x64, .f32⟩
  | 65 => ⟨S1x1x16x64, .f32⟩
  | 66 => ⟨S8x8192x16x64, .f32⟩
  | 67 => ⟨S8x8192x16x64, .f32⟩
  | 68 => ⟨S1024, .f32⟩
  | 69 => ⟨S16x64, .f32⟩
  | 70 => ⟨S1x1x16x64, .f32⟩
  | 71 => ⟨S8x8192x16x64, .f32⟩
  | 72 => ⟨S8x8192x16x64, .f32⟩
  | 73 => ⟨S8x8192x1024, .f32⟩
  | 74 => ⟨S8x8192x1024, .f32⟩
  | 75 => ⟨S8x8192x1024, .f32⟩
  | 76 => ⟨S8x8192x1024, .f32⟩
  | 77 => ⟨S8x8192x1024, .f32⟩
  | 78 => ⟨S8x8192x1024, .f32⟩
  | 79 => ⟨S_, .f32⟩
  | 80 => ⟨S8x8192x1024, .f32⟩
  | 81 => ⟨S8x8192x1024, .f32⟩
  | 82 => ⟨S_, .f32⟩
  | 83 => ⟨S8x8192x1024, .f32⟩
  | 84 => ⟨S8x8192x1024, .f32⟩
  | 85 => ⟨S8x8192x1024, .f32⟩
  | 86 => ⟨S8x8192x1024, .f32⟩
  | 87 => ⟨S1024x1024, .f32⟩
  | 88 => ⟨S8x8192x1024, .f32⟩
  | 89 => ⟨S1x1024, .f32⟩
  | 90 => ⟨S1024, .f32⟩
  | 91 => ⟨S8x8192x1024, .f32⟩
  | 92 => ⟨S_, .f32⟩
  | 93 => ⟨S8x8192, .f32⟩
  | 94 => ⟨S8x8192x1, .f32⟩
  | 95 => ⟨S_, .f32⟩
  | 96 => ⟨S8x8192x1, .f32⟩
  | 97 => ⟨S8x8192x1, .f32⟩
  | 98 => ⟨S_, .f32⟩
  | 99 => ⟨S8x8192x1, .f32⟩
  | 100 => ⟨S8x8192x1, .f32⟩
  | 101 => ⟨S8x8192x1, .f32⟩
  | 102 => ⟨S8x8192x1024, .f32⟩
  | 103 => ⟨S8x8192x1024, .f32⟩
  | 104 => ⟨S1x1x1024, .f32⟩
  | 105 => ⟨S8x8192x1024, .f32⟩
  | 106 => ⟨S8x8192x1024, .f32⟩
  | 107 => ⟨S8x8192x1024, .f32⟩
  | 108 => ⟨S1x8x8192x256, .f32⟩
  | 109 => ⟨S8x8192x256, .f32⟩
  | 110 => ⟨S1x256x1024, .f32⟩
  | 111 => ⟨S256x1024, .f32⟩
  | 112 => ⟨S8x8192x1024, .f32⟩
  | 113 => ⟨S1x1024x1024, .f32⟩
  | 114 => ⟨S1024x1024, .f32⟩
  | 115 => ⟨S8x8192x1024, .f32⟩
  | 116 => ⟨S8x8192x1024, .f32⟩
  | 117 => ⟨S8x8192x1024, .f32⟩
  | 118 => ⟨S_, .f32⟩
  | 119 => ⟨S8x8192x1024, .f32⟩
  | 120 => ⟨S8x8192x1024, .f32⟩
  | 121 => ⟨S_, .f32⟩
  | 122 => ⟨S8x8192x1024, .f32⟩
  | 123 => ⟨S8x8192x1024, .f32⟩
  | 124 => ⟨S8x8192x1024, .f32⟩
  | 125 => ⟨S1x1024, .f32⟩
  | 126 => ⟨S1024, .f32⟩
  | 127 => ⟨S8x8192x1024, .f32⟩
  | _ => ⟨S8x8192x1024, .bf16⟩

abbrev hbmTy0_1 (i : Nat) : BufTy := match i % 128 with
  | 0 => ⟨S_, .f32⟩
  | 1 => ⟨S8x8192, .f32⟩
  | 2 => ⟨S8x8192x1, .f32⟩
  | 3 => ⟨S_, .f32⟩
  | 4 => ⟨S8x8192x1, .f32⟩
  | 5 => ⟨S8x8192x1, .f32⟩
  | 6 => ⟨S_, .f32⟩
  | 7 => ⟨S8x8192x1, .f32⟩
  | 8 => ⟨S8x8192x1, .f32⟩
  | 9 => ⟨S8x8192x1, .f32⟩
  | 10 => ⟨S8x8192x1024, .f32⟩
  | 11 => ⟨S8x8192x1024, .f32⟩
  | 12 => ⟨S1x1x1024, .f32⟩
  | 13 => ⟨S8x8192x1024, .f32⟩
  | 14 => ⟨S8x8192x1024, .f32⟩
  | 15 => ⟨S8x8192x1024, .f32⟩
  | 16 => ⟨S8x8192x1024, .f32⟩
  | 17 => ⟨S_, .f32⟩
  | 18 => ⟨S8x8192, .f32⟩
  | 19 => ⟨S8x8192x1, .f32⟩
  | 20 => ⟨S_, .f32⟩
  | 21 => ⟨S8x8192x1, .f32⟩
  | 22 => ⟨S8x8192x1, .f32⟩
  | 23 => ⟨S_, .f32⟩
  | 24 => ⟨S8x8192x1, .f32⟩
  | 25 => ⟨S8x8192x1, .f32⟩
  | 26 => ⟨S8x8192x1, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S8x8192x2048, .f32⟩
  | 33 => ⟨S1x1024, .f32⟩
  | 34 => ⟨S1024, .f32⟩
  | 35 => ⟨S8x8192x1024, .f32⟩
  | 36 => ⟨S_, .f32⟩
  | 37 => ⟨S8x8192, .f32⟩
  | 38 => ⟨S8x8192x1, .f32⟩
  | 39 => ⟨S_, .f32⟩
  | 40 => ⟨S8x8192x1, .f32⟩
  | 41 => ⟨S8x8192x1, .f32⟩
  | 42 => ⟨S_, .f32⟩
  | 43 => ⟨S8x8192x1, .f32⟩
  | 44 => ⟨S8x8192x1, .f32⟩
  | 45 => ⟨S8x8192x1, .f32⟩
  | 46 => ⟨S8x8192x1024, .f32⟩
  | 47 => ⟨S8x8192x1024, .f32⟩
  | 48 => ⟨S1x1x1024, .f32⟩
  | 49 => ⟨S8x8192x1024, .f32⟩
  | 50 => ⟨S8x8192x1024, .f32⟩
  | 51 => ⟨S1024x2048, .f32⟩
  | 52 => ⟨S8x8192x2048, .f32⟩
  | 53 => ⟨S8x8192x1024, .f32⟩
  | 54 => ⟨S1x8192x1x1x8, .f32⟩
  | 55 => ⟨S1x8192x1x1x8, .f32⟩
  | 56 => ⟨S8x8192x8x2x64, .f32⟩
  | 57 => ⟨S8x8192x8x2x8, .f32⟩
  | 58 => ⟨S8x8192x8x2x8, .f32⟩
  | 59 => ⟨S8x8192x8x2x8, .f32⟩
  | 60 => ⟨S8x8192x8x2x8, .f32⟩
  | 61 => ⟨S8x8192x8x2x8, .f32⟩
  | 62 => ⟨S8x8192x8x2x8, .f32⟩
  | 63 => ⟨S8x8192x8x2x8, .f32⟩
  | 64 => ⟨S8x8192x8x2x8, .f32⟩
  | 65 => ⟨S8x8192x8x2x8, .f32⟩
  | 66 => ⟨S8x8192x8x2x8, .f32⟩
  | 67 => ⟨S8x8192x8x2x8, .f32⟩
  | 68 => ⟨S8x8192x8x2x8, .f32⟩
  | 69 => ⟨S8x8192x8x2x48, .f32⟩
  | 70 => ⟨S8x8192x8x2x64, .f32⟩
  | 71 => ⟨S8x8192x1024, .f32⟩
  | 72 => ⟨S_, .f32⟩
  | 73 => ⟨S8x8192x1024, .f32⟩
  | 74 => ⟨S8x8192x1024, .f32⟩
  | 75 => ⟨S8x8192x1024, .bf16⟩
  | 76 => ⟨S8x8192x1024, .f32⟩
  | 77 => ⟨S1x8192x1x1x8, .f32⟩
  | 78 => ⟨S1x8192x1x1x8, .f32⟩
  | 79 => ⟨S8x8192x8x2x64, .f32⟩
  | 80 => ⟨S8x8192x8x2x8, .f32⟩
  | 81 => ⟨S8x8192x8x2x8, .f32⟩
  | 82 => ⟨S8x8192x8x2x8, .f32⟩
  | 83 => ⟨S8x8192x8x2x8, .f32⟩
  | 84 => ⟨S8x8192x8x2x8, .f32⟩
  | 85 => ⟨S8x8192x8x2x8, .f32⟩
  | 86 => ⟨S8x8192x8x2x8, .f32⟩
  | 87 => ⟨S8x8192x8x2x8, .f32⟩
  | 88 => ⟨S8x8192x8x2x8, .f32⟩
  | 89 => ⟨S8x8192x8x2x8, .f32⟩
  | 90 => ⟨S8x8192x8x2x8, .f32⟩
  | 91 => ⟨S8x8192x8x2x8, .f32⟩
  | 92 => ⟨S8x8192x8x2x48, .f32⟩
  | 93 => ⟨S8x8192x8x2x64, .f32⟩
  | 94 => ⟨S8x8192x1024, .f32⟩
  | 95 => ⟨S8x8192x1024, .bf16⟩
  | 96 => ⟨S8x8192x1024, .f32⟩
  | 97 => ⟨S8x8192x1024, .bf16⟩
  | 98 => ⟨S8x8192x1024, .f32⟩
  | 99 => ⟨S8x8192x1024, .bf16⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_cst_12 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_13 : Ref sig .tc := ⟨.hbm, 128, rfl⟩
abbrev main_v90 : Ref sig .tc := ⟨.hbm, 129, rfl⟩
abbrev main_v91 : Ref sig .tc := ⟨.hbm, 130, rfl⟩
abbrev main_cst_14 : Ref sig .tc := ⟨.hbm, 131, rfl⟩
abbrev main_v92 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_16 : Ref sig .tc := ⟨.hbm, 145, rfl⟩
abbrev main_v104 : Ref sig .tc := ⟨.hbm, 146, rfl⟩
abbrev main_v105 : Ref sig .tc := ⟨.hbm, 147, rfl⟩
abbrev main_cst_17 : Ref sig .tc := ⟨.hbm, 148, rfl⟩
abbrev main_v106 : Ref sig .tc := ⟨.hbm, 149, rfl⟩
abbrev main_v107 : Ref sig .tc := ⟨.hbm, 150, rfl⟩
abbrev main_cst_18 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_19 : Ref sig .tc := ⟨.hbm, 164, rfl⟩
abbrev main_v120 : Ref sig .tc := ⟨.hbm, 165, rfl⟩
abbrev main_v121 : Ref sig .tc := ⟨.hbm, 166, rfl⟩
abbrev main_cst_20 : Ref sig .tc := ⟨.hbm, 167, rfl⟩
abbrev main_v122 : Ref sig .tc := ⟨.hbm, 168, rfl⟩
abbrev main_v123 : Ref sig .tc := ⟨.hbm, 169, rfl⟩
abbrev main_cst_21 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_22 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩

abbrev nD : Nat := 1
abbrev τ : Topo := Topo.v7x

variable {F : FTy → Type} [FloatOps F]
-- ==== Kernel4.lean ====
abbrev S8x8192x1024 : Shape := ⟨3, ![8, 8192, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x16x64 : Shape := ⟨3, ![1, 16, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S6x1024 : Shape := ⟨2, ![6, 1024]⟩
abbrev S4x1024x1024 : Shape := ⟨3, ![4, 1024, 1024]⟩
abbrev S1024x64 : Shape := ⟨2, ![1024, 64]⟩
abbrev S64x1024 : Shape := ⟨2, ![64, 1024]⟩
abbrev S16x64 : Shape := ⟨2, ![16, 64]⟩
abbrev S1x512x1024 : Shape := ⟨3, ![1, 512, 1024]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S512x64 : Shape := ⟨2, ![512, 64]⟩
abbrev S1x1024x1024 : Shape := ⟨3, ![1, 1024, 1024]⟩
abbrev S1024x1024 : Shape := ⟨2, ![1024, 1024]⟩
abbrev S1x1 : Shape := ⟨2, ![1, 1]⟩
abbrev S512x256 : Shape := ⟨2, ![512, 256]⟩

abbrev nBuf : Space → Nat
  | .hbm => 70
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S1x6x1024, .f32⟩
  | .hbm, ⟨3, _⟩ => ⟨S1x4x1024x1024, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024, .f32⟩
  | .hbm, ⟨11, _⟩ => ⟨S1x1024, .f32⟩
  | .hbm, ⟨12, _⟩ => ⟨S1x16x64, .f32⟩
  | .hbm, ⟨13, _⟩ => ⟨S256, .i32⟩
  | .hbm, ⟨14, _⟩ => ⟨S_, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S1x256, .i32⟩
  | .hbm, ⟨34, _⟩ => ⟨S256x256, .i32⟩
  | .hbm, ⟨35, _⟩ => ⟨S256x256, .i32⟩
  | .hbm, ⟨36, _⟩ => ⟨S256x256, .i1⟩
  | .hbm, ⟨37, _⟩ => ⟨S256x256, .bf16⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S6x1024, .f32⟩
  | .hbm, ⟨42, _⟩ => ⟨S4x1024x1024, .f32⟩
  | .hbm, ⟨43, _⟩ => ⟨S4x1024x1024, .bf16⟩
  | .hbm, ⟨44, _⟩ => ⟨S1024, .f32⟩
  | .hbm, ⟨45, _⟩ => ⟨S1x1024, .f32⟩
  | .hbm, ⟨46, _⟩ => ⟨S1024x64, .f32⟩
  | .hbm, ⟨47, _⟩ => ⟨S1024x64, .bf16⟩
  | .hbm, ⟨48, _⟩ => ⟨S64x1024, .f32⟩
  | .hbm, ⟨49, _⟩ => ⟨S64x1024, .bf16⟩
  | .hbm, ⟨50, _⟩ => ⟨S1024, .f32⟩
  | .hbm, ⟨51, _⟩ => ⟨S1x1024, .f32⟩
  | .hbm, ⟨52, _⟩ => ⟨S1024x64, .f32⟩
  | .hbm, ⟨53, _⟩ => ⟨S1024x64, .bf16⟩
  | .hbm, ⟨54, _⟩ => ⟨S64x1024, .f32⟩
  | .hbm, ⟨55, _⟩ => ⟨S64x1024, .bf16⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S16x64, .f32⟩
  | .hbm, ⟨61, _⟩ => ⟨S1x1024, .f32⟩
  | .hbm, ⟨62, _⟩ => ⟨S8x8192x1024, .bf16⟩
  | .hbm, ⟨63, _⟩ => ⟨S8x8192x1024, .bf16⟩
  | .hbm, ⟨64, _⟩ => ⟨S8x8192x1024, .bf16⟩
  | .hbm, ⟨65, _⟩ => ⟨S8x8192x1024, .bf16⟩
  | .hbm, ⟨66, _⟩ => ⟨S8x8192x1024, .bf16⟩
  | .hbm, ⟨67, _⟩ => ⟨S8x8192x1024, .bf16⟩
  | .hbm, ⟨68, _⟩ => ⟨S8x8192x1024, .f32⟩
  | .hbm, ⟨69, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S6x1024, .f32⟩
  | .local _ .vmem, ⟨6, _⟩ => ⟨S4x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x256, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .f32⟩
  | .local _ .vmem, ⟨30, _⟩ => ⟨S1x512x1024, .f32⟩
  | .local _ .vmem, ⟨31, _⟩ => ⟨S1x512x1024, .bf16⟩
  | .local _ .vmem, ⟨32, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v32_2 : Ref sig .tc := ⟨.hbm, 64, rfl⟩
abbrev main_v32_3 : Ref sig .tc := ⟨.hbm, 65, rfl⟩
abbrev main_v32_4 : Ref sig .tc := ⟨.hbm, 66, rfl⟩
abbrev main_v32_5 : Ref sig .tc := ⟨.hbm, 67, rfl⟩
abbrev main_v32_6 : Ref sig .tc := ⟨.hbm, 68, rfl⟩
abbrev main_v32_7 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Kernel4Ideal.lean ====
variable {F : FTy → Type} [FloatOps F] [Named F]
def κ : String → Option EReal := fun
  | "square" => some ((5316911940649 / 5316911983139663491615228241121378304 : ℝ) : EReal)
  | _ => none
-- ==== Reference4Ideal.lean ====
abbrev S8x8192x1024 : Shape := ⟨3, ![8, 8192, 1024]⟩
abbrev S2x1024 : Shape := ⟨2, ![2, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x16x64 : Shape := ⟨3, ![1, 16, 64]⟩
abbrev S_ : Shape := ⟨0, ![]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S8x8193x1024 : Shape := ⟨3, ![8, 8193, 1024]⟩
abbrev S1x1x1024x1024 : Shape := ⟨4, ![1, 1, 1024, 1024]⟩
abbrev S1024x1024 : Shape := ⟨2, ![1024, 1024]⟩
abbrev S1024x64 : Shape := ⟨2, ![1024, 64]⟩
abbrev S8x8192x64 : Shape := ⟨3, ![8, 8192, 64]⟩
abbrev S64x1024 : Shape := ⟨2, ![64, 1024]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S16x64 : Shape := ⟨2, ![16, 64]⟩
abbrev S1x1x16x64 : Shape := ⟨4, ![1, 1, 16, 64]⟩

abbrev nBuf : Space → Nat
  | .hbm => 184
  | .vmem => 0
  | .smem => 0
  | _ => 0

abbrev hbmTy0_0 (i : Nat) : BufTy := match i % 128 with
  | 0 => ⟨S8x8192x1024, .f32⟩
  | 1 => ⟨S2x1024, .f32⟩
  | 2 => ⟨S1x6x1024, .f32⟩
  | 3 => ⟨S1x4x1024x1024, .f32⟩
  | 4 => ⟨S1x1024, .f32⟩
  | 5 => ⟨S1x1024x64, .f32⟩
  | 6 => ⟨S1x64x1024, .f32⟩
  | 7 => ⟨S1x1024, .f32⟩
  | 8 => ⟨S1x1024x64, .f32⟩
  | 9 => ⟨S1x64x1024, .f32⟩
  | 10 => ⟨S1x1024, .f32⟩
  | 11 => ⟨S1x1024, .f32⟩
  | 12 => ⟨S1x16x64, .f32⟩
  | 13 => ⟨S8x8192x1024, .f32⟩
  | 14 => ⟨S_, .f32⟩
  | 15 => ⟨S8x8192, .f32⟩
  | 16 => ⟨S8x8192x1, .f32⟩
  | 17 => ⟨S_, .f32⟩
  | 18 => ⟨S8x8192x1, .f32⟩
  | 19 => ⟨S8x8192x1, .f32⟩
  | 20 => ⟨S_, .f32⟩
  | 21 => ⟨S8x8192x1, .f32⟩
  | 22 => ⟨S8x8192x1, .f32⟩
  | 23 => ⟨S8x8192x1, .f32⟩
  | 24 => ⟨S8x8192x1024, .f32⟩
  | 25 => ⟨S8x8192x1024, .f32⟩
  | 26 => ⟨S1x1024, .f32⟩
  | 27 => ⟨S1024, .f32⟩
  | 28 => ⟨S1x1x1024, .f32⟩
  | 29 => ⟨S8x8192x1024, .f32⟩
  | 30 => ⟨S8x8192x1024, .f32⟩
  | 31 => ⟨S_, .i32⟩
  | 32 => ⟨S_, .f32⟩
  | 33 => ⟨S8x8193x1024, .f32⟩
  | 34 => ⟨S8x8192x1024, .f32⟩
  | 35 => ⟨S8x8192x1024, .f32⟩
  | 36 => ⟨S1x1x1024, .f32⟩
  | 37 => ⟨S1024, .f32⟩
  | 38 => ⟨S1x1x1024, .f32⟩
  | 39 => ⟨S8x8192x1024, .f32⟩
  | 40 => ⟨S8x8192x1024, .f32⟩
  | 41 => ⟨S8x8192x1024, .f32⟩
  | 42 => ⟨S1x1x1024x1024, .f32⟩
  | 43 => ⟨S1024x1024, .f32⟩
  | 44 => ⟨S8x8192x1024, .f32⟩
  | 45 => ⟨S8x8192x1024, .f32⟩
  | 46 => ⟨S1x1x1024, .f32⟩
  | 47 => ⟨S1024, .f32⟩
  | 48 => ⟨S1x1x1024, .f32⟩
  | 49 => ⟨S8x8192x1024, .f32⟩
  | 50 => ⟨S8x8192x1024, .f32⟩
  | 51 => ⟨S8x8192x1024, .f32⟩
  | 52 => ⟨S1x1x1024x1024, .f32⟩
  | 53 => ⟨S1024x1024, .f32⟩
  | 54 => ⟨S8x8192x1024, .f32⟩
  | 55 => ⟨S8x8192x1024, .f32⟩
  | 56 => ⟨S1x1x1024, .f32⟩
  | 57 => ⟨S1024, .f32⟩
  | 58 => ⟨S1x1x1024, .f32⟩
  | 59 => ⟨S8x8192x1024, .f32⟩
  | 60 => ⟨S8x8192x1024, .f32⟩
  | 61 => ⟨S8x8192x1024, .f32⟩
  | 62 => ⟨S1x1x1024x1024, .f32⟩
  | 63 => ⟨S1024x1024, .f32⟩
  | 64 => ⟨S8x8192x1024, .f32⟩
  | 65 => ⟨S8x8192x1024, .f32⟩
  | 66 => ⟨S1x1x1024, .f32⟩
  | 67 => ⟨S1024, .f32⟩
  | 68 => ⟨S1x1x1024, .f32⟩
  | 69 => ⟨S8x8192x1024, .f32⟩
  | 70 => ⟨S8x8192x1024, .f32⟩
  | 71 => ⟨S8x8192x1024, .f32⟩
  | 72 => ⟨S1x1x1024x1024, .f32⟩
  | 73 => ⟨S1024x1024, .f32⟩
  | 74 => ⟨S8x8192x1024, .f32⟩
  | 75 => ⟨S1024, .f32⟩
  | 76 => ⟨S8x8192x1024, .f32⟩
  | 77 => ⟨S1x1x1024, .f32⟩
  | 78 => ⟨S1024, .f32⟩
  | 79 => ⟨S1x1x1024, .f32⟩
  | 80 => ⟨S8x8192x1024, .f32⟩
  | 81 => ⟨S8x8192x1024, .f32⟩
  | 82 => ⟨S8x8192x1024, .f32⟩
  | 83 => ⟨S1024x64, .f32⟩
  | 84 => ⟨S8x8192x64, .f32⟩
  | 85 => ⟨S8x8192x64, .f32⟩
  | 86 => ⟨S64x1024, .f32⟩
  | 87 => ⟨S8x8192x1024, .f32⟩
  | 88 => ⟨S1x1x1024, .f32⟩
  | 89 => ⟨S8x8192x1024, .f32⟩
  | 90 => ⟨S8x8192x1024, .f32⟩
  | 91 => ⟨S8x8192x1024, .f32⟩
  | 92 => ⟨S_, .f32⟩
  | 93 => ⟨S8x8192x1024, .f32⟩
  | 94 => ⟨S8x8192x1024, .f32⟩
  | 95 => ⟨S8x8192x1024, .f32⟩
  | 96 => ⟨S8x8192x1024, .f32⟩
  | 97 => ⟨S8x8192x1024, .i1⟩
  | 98 => ⟨S8x8192x1024, .f32⟩
  | 99 => ⟨S8x8192x1024, .f32⟩
  | 100 => ⟨S8x8192x1024, .f32⟩
  | 101 => ⟨S8x8192x1024, .f32⟩
  | 102 => ⟨S8x8192x1024, .f32⟩
  | 103 => ⟨S8x8192x1024, .f32⟩
  | 104 => ⟨S8x8192x1024, .f32⟩
  | 105 => ⟨S8x8192x1024, .f32⟩
  | 106 => ⟨S8x8192x1024, .f32⟩
  | 107 => ⟨S_, .f32⟩
  | 108 => ⟨S8x8192x1024, .f32⟩
  | 109 => ⟨S8x8192x1024, .f32⟩
  | 110 => ⟨S8x8192x1024, .f32⟩
  | 111 => ⟨S8x8192x1024, .f32⟩
  | 112 => ⟨S1024, .f32⟩
  | 113 => ⟨S8x8192x1024, .f32⟩
  | 114 => ⟨S1x1x1024, .f32⟩
  | 115 => ⟨S1024, .f32⟩
  | 116 => ⟨S1x1x1024, .f32⟩
  | 117 => ⟨S8x8192x1024, .f32⟩
  | 118 => ⟨S8x8192x1024, .f32⟩
  | 119 => ⟨S8x8192x1024, .f32⟩
  | 120 => ⟨S1024x64, .f32⟩
  | 121 => ⟨S8x8192x64, .f32⟩
  | 122 => ⟨S64x1024, .f32⟩
  | 123 => ⟨S8x8192x1024, .f32⟩
  | 124 => ⟨S1x1x1024, .f32⟩
  | 125 => ⟨S8x8192x1024, .f32⟩
  | 126 => ⟨S8x8192x1024, .f32⟩
  | 127 => ⟨S8x8192x1024, .f32⟩
  | _ => ⟨S8x8192x1024, .f32⟩

abbrev hbmTy0_1 (i : Nat) : BufTy := match i % 128 with
  | 0 => ⟨S8x8192x1024, .f32⟩
  | 1 => ⟨S_, .f32⟩
  | 2 => ⟨S8x8192x1024, .f32⟩
  | 3 => ⟨S8x8192x1024, .f32⟩
  | 4 => ⟨S_, .f32⟩
  | 5 => ⟨S8x8192x1024, .f32⟩
  | 6 => ⟨S8x8192x1024, .f32⟩
  | 7 => ⟨S1024, .f32⟩
  | 8 => ⟨S1x1x1024, .f32⟩
  | 9 => ⟨S8x8192x1024, .f32⟩
  | 10 => ⟨S8x8192x1024, .f32⟩
  | 11 => ⟨S8x8192x16x64, .f32⟩
  | 12 => ⟨S8x8192x16x64, .f32⟩
  | 13 => ⟨S_, .f32⟩
  | 14 => ⟨S8x8192x16, .f32⟩
  | 15 => ⟨S8x8192x16x1, .f32⟩
  | 16 => ⟨S8x8192x16x1, .f32⟩
  | 17 => ⟨S_, .f32⟩
  | 18 => ⟨S8x8192x16x1, .f32⟩
  | 19 => ⟨S8x8192x16x1, .f32⟩
  | 20 => ⟨S8x8192x16x64, .f32⟩
  | 21 => ⟨S8x8192x16x64, .f32⟩
  | 22 => ⟨S8x8192x1024, .f32⟩
  | 23 => ⟨S_, .f32⟩
  | 24 => ⟨S8x8192x1024, .f32⟩
  | 25 => ⟨S8x8192x1024, .f32⟩
  | 26 => ⟨S1024, .f32⟩
  | 27 => ⟨S1x1x1024, .f32⟩
  | 28 => ⟨S8x8192x1024, .f32⟩
  | 29 => ⟨S8x8192x1024, .f32⟩
  | 30 => ⟨S_, .f32⟩
  | 31 => ⟨S8x8192x1024, .f32⟩
  | 32 => ⟨S8x8192x1024, .f32⟩
  | 33 => ⟨S8x8192x1024, .f32⟩
  | 34 => ⟨S8x8192x16x64, .f32⟩
  | 35 => ⟨S8x8192x16x64, .f32⟩
  | 36 => ⟨S8x8192x16x64, .f32⟩
  | 37 => ⟨S16x64, .f32⟩
  | 38 => ⟨S1x1x16x64, .f32⟩
  | 39 => ⟨S8x8192x16x64, .f32⟩
  | 40 => ⟨S8x8192x16x64, .f32⟩
  | 41 => ⟨S_, .f32⟩
  | 42 => ⟨S8x8192x16, .f32⟩
  | 43 => ⟨S8x8192x16x1, .f32⟩
  | 44 => ⟨S8x8192x16x64, .f32⟩
  | 45 => ⟨S8x8192x16x64, .f32⟩
  | 46 => ⟨S8x8192x16x64, .f32⟩
  | 47 => ⟨S8x8192x1024, .f32⟩
  | 48 => ⟨S8x8192x1024, .bf16⟩
  | 49 => ⟨S8x8192x1024, .bf16⟩
  | 50 => ⟨S8x8192x1024, .bf16⟩
  | 51 => ⟨S8x8192x1024, .bf16⟩
  | 52 => ⟨S8x8192x1024, .bf16⟩
  | 53 => ⟨S8x8192x1024, .f32⟩
  | 54 => ⟨S8x8192x1024, .bf16⟩
  | 55 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_v74 : Ref sig .tc := ⟨.hbm, 105, rfl⟩
abbrev main_v75 : Ref sig .tc := ⟨.hbm, 106, rfl⟩
abbrev main_cst_2 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_3 : Ref sig .tc := ⟨.hbm, 129, rfl⟩
abbrev main_v97 : Ref sig .tc := ⟨.hbm, 130, rfl⟩
abbrev main_v98 : Ref sig .tc := ⟨.hbm, 131, rfl⟩
abbrev main_cst_4 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_call2_v0 : Ref sig .tc := ⟨.hbm, 140, rfl⟩
abbrev main_call2_cst : Ref sig .tc := ⟨.hbm, 141, rfl⟩
abbrev main_call2_v1 : Ref sig .tc := ⟨.hbm, 142, rfl⟩
abbrev main_call2_v2 : Ref sig .tc := ⟨.hbm, 143, rfl⟩
abbrev main_v106 : Ref sig .tc := ⟨.hbm, 144, rfl⟩
abbrev main_cst_5 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_6 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_7 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_8 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩

abbrev nD : Nat := 1
abbrev τ : Topo := Topo.v7x

variable {F : FTy → Type} [FloatOps F]
-- ==== Proof.KI.Tile.lean ====
/- ONE QUERY TILE of the attention call: the region of the outer loop, run once at a symbolic tile. It reads the
   queries, keys, values and the norm's weights, uses three scratch arrays (the stacked queries, the running maxima,
   the accumulators) at any contents and writes one tile of rows of the output. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (c : Dev nD) (i : grid0.Coords)
  (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x256 .f32) (harg10 : arg10.IsWhole)
  (v0 : Vec F S4x64 .f32)
  (X2 : BufTy.Contents (Elt F) arg2.view.ty) (X3 : BufTy.Contents (Elt F) arg3.view.ty) (X4 : BufTy.Contents (Elt F) arg4.view.ty) (X6 : BufTy.Contents (Elt F) arg6.view.ty)

/-- The first loop over the earlier key tiles, by its generated invariant; the values bound before the loop that its
   region does not read are set to zero. -/
@[sl_loop] def keysA (E : Set ℕ) (k : Fin k0_t1_loop.trips) (X8 : BufTy.Contents (Elt F) arg8.view.ty) (G9 : BufTy.Contents (Elt F) arg9.view.ty) (G10 : BufTy.Contents (Elt F) arg10.view.ty) :=
  loopInv_k0_t2 (F := F) Variants.none c none E i arg2 harg2 arg3 harg3 arg4 harg4 arg5 harg5 arg6 harg6 arg7 harg7 arg8 harg8 arg9 harg9 arg10 harg10 (constant S1x1 .f32 0x00000000#32) k 0#32 (constant S256x128 .f32 0x00000000#32)
    (constant S256x128 .f32 0x00000000#32) (constant S256x128 .f32 0x00000000#32) (constant S256x256 .f32 0x00000000#32)
    (constant S256x256 .f32 0x00000000#32) (constant S256x128 .f32 0x00000000#32) X3 X4 X8 G9 G10

/-- The second loop over the earlier key tiles, likewise. -/
@[sl_loop] def keysB (E : Set ℕ) (k : Fin k0_t1_loop.trips) (w : BitVec 32) (X8 : BufTy.Contents (Elt F) arg8.view.ty) (G9 : BufTy.Contents (Elt F) arg9.view.ty) (G10 : BufTy.Contents (Elt F) arg10.view.ty) :=
  loopInv_k0_t3 (F := F) Variants.none c none E i arg2 harg2 arg3 harg3 arg4 harg4 arg5 harg5 arg6 harg6 arg7 harg7 arg8 harg8 arg9 harg9 arg10 harg10 (constant S1x1 .f32 0x00000000#32) k 0#32 (constant S256x128 .f32 0x00000000#32)
    (constant S256x128 .f32 0x00000000#32) (constant S256x128 .f32 0x00000000#32) (constant S256x256 .f32 0x00000000#32)
    (constant S256x256 .f32 0x00000000#32) (constant S256x128 .f32 0x00000000#32) w X3 X4 X8 G9 G10

/-- What a tile's run uses: the four blocks it reads, the output block and the three scratch arrays. -/
abbrev Tile (f7 : BufTy.Contents (Elt F) arg7.view.ty) (f8 : BufTy.Contents (Elt F) arg8.view.ty) (f9 : BufTy.Contents (Elt F) arg9.view.ty) (f10 : BufTy.Contents (Elt F) arg10.view.ty) :
    sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- Tile `k`'s run: what it writes into the output is a list of pieces that depends on what the scratch arrays held. -/
@[irreducible] def tile (k : Fin k0_t1_loop.trips) :
    { L : BufTy.Contents (Elt F) arg8.view.ty → BufTy.Contents (Elt F) arg9.view.ty → BufTy.Contents (Elt F) arg10.view.ty → List (View.Piece (Elt F) S1x8192x128 .bf16) //
      ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty),
        Tile c arg2 arg3 arg4 arg6 arg7 arg8 arg9 arg10 X2 X3 X4 X6 f7 f8 f9 f10
        ⊢ wp frame (wpE (defs₀ (F := F)) Variants.none (c : Thread nD τ) none) E
            (k0_t1_body (F := F) i arg2 harg2 arg3 harg3 arg4 harg4 arg5 harg5 arg6 harg6 arg7 harg7 arg8 harg8 arg9 harg9 arg10 harg10 v0 k PUnit.unit)
            (fun _ => iprop(∃ g8 g9 g10, Tile c arg2 arg3 arg4 arg6 arg7 arg8 arg9 arg10 X2 X3 X4 X6
              (arg7.view.writes (Elt F) f7 (L f8 f9 f10)) g8 g9 g10)) } := by
  refine ⟨?_, fun E f7 f8 f9 f10 => ?run⟩
  case run =>
    unfold k0_t1_body
    iintro ⟨H2, H3, H4, H6, H7, H8, H9, H10⟩
    sl_exec_parts
    sl_step
    iexists _; iexists _; iexists _
    sl_close

end Cert.Proof.KernelIdeal

end
-- ==== Proof.KI.Run.lean ====
/- THE RUN of the attention call: the loop over the query tiles, the grid's points, the launch. What a point may leave
   in the output block is a relation (`Reach`, `Left`): the tiles written one after another, each at some contents of
   the scratch arrays. -/
module

public import proofs.«01_k».proof.Proof.KI.Tile
public import proofs.«01_k».proof.Proof.Gen.KernelIdeal.Frame
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window cellOf)

section Body

variable {F : FTy → Type} [FloatOps F] [Named F]
variable (c : Dev nD) (i : grid0.Coords)
  (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x256 .f32) (harg10 : arg10.IsWhole)
  (v0 : Vec F S4x64 .f32)
  (X2 : BufTy.Contents (Elt F) arg2.view.ty) (X3 : BufTy.Contents (Elt F) arg3.view.ty) (X4 : BufTy.Contents (Elt F) arg4.view.ty) (X6 : BufTy.Contents (Elt F) arg6.view.ty)

/-- The output block after the first `n` tiles, from contents `f`. -/
inductive Reach (f : BufTy.Contents (Elt F) arg7.view.ty) : ℕ → BufTy.Contents (Elt F) arg7.view.ty → Prop
  | zero : Reach f 0 f
  | succ (k : Fin k0_t1_loop.trips) (g : BufTy.Contents (Elt F) arg7.view.ty) (f8 : BufTy.Contents (Elt F) arg8.view.ty) (f9 : BufTy.Contents (Elt F) arg9.view.ty) (f10 : BufTy.Contents (Elt F) arg10.view.ty) : Reach f k.val g →
      Reach f (k.val + 1) (arg7.view.writes (Elt F) g ((tile c i arg2 harg2 arg3 harg3 arg4 harg4 arg5 harg5 arg6 harg6 arg7 harg7 arg8 harg8 arg9 harg9 arg10 harg10 v0 X2 X3 X4 X6 k).1 f8 f9 f10))

/-- The loop over the query tiles: the blocks read are held as they were, the scratch arrays at anything, the output
    block at something the tiles so far leave. -/
@[sl_loop] def loopInv_k0_t1 (E : Set ℕ) (f : BufTy.Contents (Elt F) arg7.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 v0 where
  inv k _ := iprop(∃ g g8 g9 g10, Tile c arg2 arg3 arg4 arg6 arg7 arg8 arg9 arg10 X2 X3 X4 X6 g g8 g9 g10
    ∗ ⌜Reach c i arg2 harg2 arg3 harg3 arg4 harg4 arg5 harg5 arg6 harg6 arg7 harg7 arg8 harg8 arg9 harg9 arg10 harg10 v0 X2 X3 X4 X6 f k g⌝)
  step k acc := by
    iintro ⟨%g, %g8, %g9, %g10, HT, %hg⟩
    iapply (wp_wand_r Idealize.ShloMosaic.frame (wpE (defs₀ (F := F)) Variants.none (c : Thread nD τ) none) E)
    isplitl [HT]
    · iapply ((tile (F := F) c i arg2 harg2 arg3 harg3 arg4 harg4 arg5 harg5 arg6 harg6 arg7 harg7 arg8 harg8 arg9 harg9 arg10 harg10 v0 X2 X3 X4 X6 k).2 E g g8 g9 g10)
      iexact HT
    · iintro %a ⟨%e8, %e9, %e10, HT⟩
      iexists _; iexists e8; iexists e9; iexists e10
      isplitl [HT]
      · iexact HT
      · ipureintro
        exact Reach.succ k g g8 g9 g10 hg

variable (Y2 : (S1x8192x128.Idx → Elt F .bf16)) (Y3 : (S1x8192x128.Idx → Elt F .bf16)) (Y4 : (S1x8192x128.Idx → Elt F .bf16))
  (Y5 : (S4x64.Idx → Elt F .f32)) (Y6 : (S1x128.Idx → Elt F .f32))

/-- What a point may leave in the output block, the other blocks holding `Y2` … `Y6`: all eight tiles, from anything. -/
def Left (X : (S1x8192x128.Idx → Elt F .bf16)) : Prop :=
  ∃ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (f g : BufTy.Contents (Elt F) arg7.view.ty),
    arg2.view.read (Elt F) X2 = Y2 ∧ arg3.view.read (Elt F) X3 = Y3 ∧ arg4.view.read (Elt F) X4 = Y4
    ∧ arg5.view.read (Elt F) X5 = Y5 ∧ arg6.view.read (Elt F) X6 = Y6
    ∧ Reach c i arg2 harg2 arg3 harg3 arg4 harg4 arg5 harg5 arg6 harg6 arg7 harg7 arg8 harg8 arg9 harg9 arg10 harg10 (arg5.view.readAt (Elt F) (Rect.unit (s := S4x64) ![0, 0] S4x64.size inb_S4x64_S4x64_0_0).toLoadRect X5) X2 X3 X4 X6 f k0_t1_loop.trips g
    ∧ arg7.view.read (Elt F) g = X

/-- What the body uses: the five blocks it reads, the output block and the scratch arrays. -/
abbrev Held (X : (S1x8192x128.Idx → Elt F .bf16)) (f8 : BufTy.Contents (Elt F) arg8.view.ty) (f9 : BufTy.Contents (Elt F) arg9.view.ty) (f10 : BufTy.Contents (Elt F) arg10.view.ty) :
    sProp (MT nD τ sig Unit (Elt F) ℕ (UR sig nD τ) ℕ) :=
  iprop(owns (c : Thread nD τ) arg2 fullShare Y2 ∗ owns (c : Thread nD τ) arg3 fullShare Y3 ∗ owns (c : Thread nD τ) arg4 fullShare Y4
    ∗ owns (c : Thread nD τ) arg5 fullShare Y5 ∗ owns (c : Thread nD τ) arg6 fullShare Y6 ∗ owns (c : Thread nD τ) arg7 fullShare X
    ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- The body of one grid point. -/
theorem kernelRun (E : Set ℕ) (Y7 : (S1x8192x128.Idx → Elt F .bf16)) (f8 : BufTy.Contents (Elt F) arg8.view.ty) (f9 : BufTy.Contents (Elt F) arg9.view.ty) (f10 : BufTy.Contents (Elt F) arg10.view.ty) :
    Held c arg2 arg3 arg4 arg5 arg6 arg7 arg8 arg9 arg10 Y2 Y3 Y4 Y5 Y6 Y7 f8 f9 f10
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9 arg10 harg10)
          (fun _ => iprop(∃ X g8 g9 g10, ⌜Left c i arg2 harg2 arg3 harg3 arg4 harg4 arg5 harg5 arg6 harg6 arg7 harg7 arg8 harg8 arg9 harg9 arg10 harg10 Y2 Y3 Y4 Y5 Y6 X⌝
            ∗ Held c arg2 arg3 arg4 arg5 arg6 arg7 arg8 arg9 arg10 Y2 Y3 Y4 Y5 Y6 X g8 g9 g10)) := by
  rw [cc0_diff_attn_eq_skeleton]
  unfold cc0_diff_attn_skel Held owns
  iintro ⟨⟨%X2, %h2, H2⟩, ⟨%X3, %h3, H3⟩, ⟨%X4, %h4, H4⟩, ⟨%X5, %h5, H5⟩, ⟨%X6, %h6, H6⟩, ⟨%f, -, H7⟩, H8, H9, H10⟩
  let L := loopInv_k0_t1 (F := F) c i arg2 harg2 arg3 harg3 arg4 harg4 arg5 harg5 arg6 harg6 arg7 harg7 arg8 harg8 arg9 harg9 arg10 harg10 (arg5.view.readAt (Elt F) (Rect.unit (s := S4x64) ![0, 0] S4x64.size inb_S4x64_S4x64_0_0).toLoadRect X5) X2 X3 X4 X6 E f
  have h0 : Reach c i arg2 harg2 arg3 harg3 arg4 harg4 arg5 harg5 arg6 harg6 arg7 harg7 arg8 harg8 arg9 harg9 arg10 harg10 (arg5.view.readAt (Elt F) (Rect.unit (s := S4x64) ![0, 0] S4x64.size inb_S4x64_S4x64_0_0).toLoadRect X5) X2 X3 X4 X6 f 0 f := Reach.zero
  sl_exec
  have hg := hL8
  sl_step
  iexists _; iexists _; iexists _; iexists _
  isplitr
  · ipureintro
    exact ⟨X2, X3, X4, X5, X6, f, _, h2, h3, h4, h5, h6, hg, rfl⟩
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexists _; isplitr; · ipureintro; exact h5
                  iexact H5
  isplitl [H6]; · iexists _; isplitr; · ipureintro; exact h6
                  iexact H6
  isplitl [H7]; · iexists _; isplitr; · ipureintro; rfl
                  iexact H7
  isplitl [H8]; · iexact H8
  isplitl [H9]; · iexact H9
  iexact H10

end Body

section Launch

variable {F : FTy → Type} [FloatOps F] [Named F]
variable (m : (ℓ : Loc nD τ sig) → Buf (Elt F) ℓ) (ρ : Dev nD → PrngReg)

/-- What the body may leave in the output block at point `t`. -/
def LeftAt (c : Dev nD) (t : Fin cfg0.N) (X : (S1x8192x128.Idx → Elt F .bf16)) : Prop :=
  Left (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) X

/-- The pipeline's proof data: an input block is left as found, the output block as `LeftAt` says. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => LeftAt m c t X
  Φ _ := Pipeline.ΦA spec0 c
  q _ := fullShare
  owed _ := 0

/-- An input block holds its part of the array when the body runs. -/
theorem finds_in (c : Dev nD) (t : Fin cfg0.N) (w : Fin cfg0.W) (hw : w.val < 5) (Y) (h : (rdat m c).Finds w t Y) :
    HEq Y (iblk m c w t) := by
  fin_cases w
  all_goals first
    | (exfalso; revert hw; decide)
    | (obtain ⟨d, hd⟩ := (rdat m c).finds_in_eq_fetched _ rfl (fun _ _ _ => rfl) (fun _ _ _ h => by dsimp only [rdat] at h; exact h) t Y h
       exact heq_of_eq (hd.trans rfl))

/-- A scratch array held whole, spelled as the body does. -/
theorem pointsTo_whole (c : Dev nD) (b : Ref sig .tc) (f : Buf (Elt F) ((c : Thread nD τ).loc b)) :
    (((Memref.whole b).view.loc (c : Thread nD τ) ↦[(Memref.whole b).view.set]{fullShare} f) :
      sProp (MT nD τ sig Unit (Elt F) ℕ (UR sig nD τ) ℕ)) = ((c : Thread nD τ).loc b ↦{fullShare} f) := by
  simp only [Memref.view_whole, View.set_whole]

/-- The body obligation: the blocks and the scratch arrays taken apart, the run of the body, put together again. -/
theorem body_obligation (c : Dev nD) : (rdat m c).BodyObligation (defs₀ (F := F)) Variants.none () Set.univ := fun t Y hY => by
  have e0 := eq_of_heq (finds_in m c t 0 (by decide) _ (hY 0))
  have e1 := eq_of_heq (finds_in m c t 1 (by decide) _ (hY 1))
  have e2 := eq_of_heq (finds_in m c t 2 (by decide) _ (hY 2))
  have e3 := eq_of_heq (finds_in m c t 3 (by decide) _ (hY 3))
  have e4 := eq_of_heq (finds_in m c t 4 (by decide) _ (hY 4))
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [scopedRest0_eq, bigSep_W0, bigSep_W0]
  rw [show defs₀ .tc cfg0.body (cfg0.bodyArgs t (cfg0.slots t)) = bodyAt0 (F := F) t from rfl]
  rw [e0, e1, e2, e3, e4]
  simp only [← pointsTo_whole]
  iintro ⟨⟨⟨⟨%f8, H8⟩, ⟨%f9, H9⟩, ⟨%f10, H10⟩⟩, Hg⟩, Howes, H0, H1, H2, H3, H4, H5⟩
  iapply (wp_wand_r Idealize.ShloMosaic.frame (wpE (defs₀ (F := F)) Variants.none (c : Thread nD τ) none) Set.univ)
  isplitl [H0 H1 H2 H3 H4 H5 H8 H9 H10]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) Set.univ (Y 5) f8 f9 f10)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  · iintro %a ⟨%X, %g8, %g9, %g10, %hX, H0, H1, H2, H3, H4, H5, H8, H9, H10⟩
    isplitl [H8 H9 H10 Hg]
    · isplitr [Hg]
      · isplitl [H8]; · iexists _; iexact H8
        isplitl [H9]; · iexists _; iexact H9
        iexists _; iexact H10
      · iexact Hg
    isplitl [Howes]; · iexact Howes
    isplitl [H0]; · iexists _; isplitr; swap; (· iexact H0); ipureintro; dsimp only [rdat]
    isplitl [H1]; · iexists _; isplitr; swap; (· iexact H1); ipureintro; dsimp only [rdat]
    isplitl [H2]; · iexists _; isplitr; swap; (· iexact H2); ipureintro; dsimp only [rdat]
    isplitl [H3]; · iexists _; isplitr; swap; (· iexact H3); ipureintro; dsimp only [rdat]
    isplitl [H4]; · iexists _; isplitr; swap; (· iexact H4); ipureintro; dsimp only [rdat]
    iexists _; isplitr; swap; (· iexact H5); ipureintro; exact hX

/-- Every run of the program ends, with the arrays as the proof data says and every counter at zero. -/
theorem run_main : θ_run defs (onTc (τ := τ) (main (F := F))) (s₀ m ρ)
    (fun r => RDat.FramePost cfg0 (rdat m) (V m) r ∧ r.2.sem = fun _ => 0) :=
  Pipeline.RDat.θ_run_frame cfgs 0 launch0 defs₀ Variants.none (rdat m) m ρ main (body_obligation m)
    (fun c w => by unfold RDat.share; split <;> rfl) (fun _ _ => rfl) (V m) (hmain m Variants.none)
    (fun _ _ => rfl) (fun _ _ => rfl) _ (fun _ h => h)

/-- The arguments are left as they were. -/
theorem args_kept (r : PUnit × MemSt nD τ sig (Elt F)) (h : RDat.FramePost cfg0 (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 3 rfl).trans (V_main_arg3 m c),
    ((h c).2 main_arg4 (Pipeline.mem_restRefs_of main_arg4 (by decide) (by decide))).trans (V_main_arg4 m c)⟩

end Launch

end Cert.Proof.KernelIdeal

end
-- ==== Proof.Finite.lean ====
/- WHAT THE PRECONDITION SAYS: every entry of the first four arguments is a real number. -/
module

public import proofs.«01_k».proof.Pre_finite
public import Idealize.ShloMosaic.PureOps.Ideal
public import Idealize.ShloMosaic.Lib.ReduceAll

@[expose] public section

noncomputable section

namespace Cert.Proof.Finite

open Cert.Pre_finite Idealize.ShloMosaic

/-- The precondition's side conditions. -/
instance facts : Cert.Pre_finite.Facts where
  bcast_S_S8x8192x1024 := by decide
  reducesTo_S8x8192x1024_S_d0_1_2 := by decide
  h_S_ := by decide
  bcast_S_S4x64 := by decide
  reducesTo_S4x64_S_d0_1 := by decide

open Facts

/-- An extended real of finite magnitude is a real number. -/
theorem real_of_lt (x : EReal) (h : Ideal.cmp .olt (max x (-x)) (Ideal.ofBits .f32 0x7F800000#32) = 1#1) : x = (x.toReal : EReal) := by
  have hb : Ideal.ofBits .f32 0x7F800000#32 = ⊤ := by simp [Ideal.ofBits, Ideal.ieee]
  rw [hb] at h
  have hl : max x (-x) < ⊤ := by
    by_contra hn
    have : Ideal.cmp .olt (max x (-x)) ⊤ = 0#1 := by
      unfold Ideal.cmp
      simp only [decide_eq_false hn]
      rfl
    rw [this] at h
    exact absurd h (by decide)
  obtain ⟨h1, h2⟩ := max_lt_iff.1 hl
  refine (EReal.coe_toReal h1.ne ?_).symm
  rintro rfl
  exact absurd h2 (by simp)

instance : Subsingleton S_.Idx := ⟨fun a b => funext fun i => i.elim0⟩

/-- Whether every entry of an array is of finite magnitude. -/
def allQ (x : FVec Ideal S8x8192x1024 .f32) : IVec S_ 1 :=
  Host.reduce IntOp.andi (cmpf .olt (Host.absf x) (broadcastInDim S8x8192x1024 ![] bcast_S_S8x8192x1024 (constant (F := Ideal) S_ .f32 0x7F800000#32))) (constantI S_ 1 1#1) reducesTo_S8x8192x1024_S_d0_1_2 h_S_
def allL (x : FVec Ideal S4x64 .f32) : IVec S_ 1 :=
  Host.reduce IntOp.andi (cmpf .olt (Host.absf x) (broadcastInDim S4x64 ![] bcast_S_S4x64 (constant (F := Ideal) S_ .f32 0x7F800000#32))) (constantI S_ 1 1#1) reducesTo_S4x64_S_d0_1 h_S_

theorem real_Q (x : FVec Ideal S8x8192x1024 .f32) (h : allQ x (fun a => a.elim0) = 1#1) (i : S8x8192x1024.Idx) : x i = ((x i).toReal : EReal) :=
  real_of_lt _ (Host.reduce_andi_all _ _ reducesTo_S8x8192x1024_S_d0_1_2 h_S_ _ h i)
theorem real_L (x : FVec Ideal S4x64 .f32) (h : allL x (fun a => a.elim0) = 1#1) (i : S4x64.Idx) : x i = ((x i).toReal : EReal) :=
  real_of_lt _ (Host.reduce_andi_all _ _ reducesTo_S4x64_S_d0_1 h_S_ _ h i)

theorem and_split (x y : IVec S_ 1) (i : S_.Idx) (h : andi x y i = 1#1) : x i = 1#1 ∧ y i = 1#1 := IntOp.andi_eq_one.1 h

theorem fn_eq (q k v : FVec Ideal S8x8192x1024 .f32) (l : FVec Ideal S4x64 .f32) (g : FVec Ideal S128 .f32) :
    fn (F := Ideal) q k v l g = andi (andi (andi (allQ q) (allQ k)) (allQ v)) (allL l) := rfl

theorem all_real (q k v : FVec Ideal S8x8192x1024 .f32) (l : FVec Ideal S4x64 .f32) (g : FVec Ideal S128 .f32) (h : fn (F := Ideal) q k v l g = fun _ => 1#1) :
    (∀ i, q i = ((q i).toReal : EReal)) ∧ (∀ i, k i = ((k i).toReal : EReal)) ∧ (∀ i, v i = ((v i).toReal : EReal)) ∧ ∀ i, l i = ((l i).toReal : EReal) := by
  rw [fn_eq] at h
  obtain ⟨h1, h4⟩ := and_split _ _ (fun a => a.elim0) (congrFun h _)
  obtain ⟨h1, h3⟩ := and_split _ _ _ h1
  obtain ⟨h1, h2⟩ := and_split _ _ _ h1
  exact ⟨real_Q q h1, real_Q k h2, real_Q v h3, real_L l h4⟩

end Cert.Proof.Finite

end
-- ==== Proof.Weights.lean ====
/- REAL WEIGHTS: the few facts about powers of two and running maxima that the attention's values rest on. The running
   maximum of a row is only a shift: any real number does, so it is carried as the number it is. -/
module

public import Idealize.ShloMosaic.Lib.Pointwise

@[expose] public section

noncomputable section

namespace Cert.Proof.Weights

open Idealize.ShloMosaic

/-- The amount by which a row's running maximum rises over scores given as differences from it. -/
def rise {n : ℕ} (d : Fin n → ℝ) : ℝ := (max (Finset.univ.fold max (⊥ : EReal) fun j => (d j : EReal)) 0).toReal

theorem coe_rise {n : ℕ} (d : Fin n → ℝ) : max (Finset.univ.fold max (⊥ : EReal) fun j => (d j : EReal)) 0 = (rise d : EReal) := by
  refine (EReal.coe_toReal ?_ ?_).symm
  · refine ne_of_lt (max_lt ?_ EReal.zero_lt_top)
    exact (Finset.fold_max_lt _).2 ⟨bot_lt_top, fun j _ => EReal.coe_lt_top _⟩
  · exact ne_of_gt (lt_of_lt_of_le EReal.bot_lt_zero (le_max_right _ _))

/-- The largest of a row's scores, the masked ones left out. -/
def top {n : ℕ} (b : Fin n → Prop) [DecidablePred b] (s : Fin n → ℝ) : ℝ :=
  (Finset.univ.fold max (⊥ : EReal) fun j => if b j then (s j : EReal) else ⊥).toReal

theorem coe_top {n : ℕ} (b : Fin n → Prop) [DecidablePred b] (s : Fin n → ℝ) (j₀ : Fin n) (h : b j₀) :
    (Finset.univ.fold max (⊥ : EReal) fun j => if b j then (s j : EReal) else ⊥) = (top b s : EReal) := by
  refine (EReal.coe_toReal ?_ ?_).symm
  · refine ne_of_lt ((Finset.fold_max_lt _).2 ⟨bot_lt_top, fun j _ => ?_⟩)
    split
    · exact EReal.coe_lt_top _
    · exact bot_lt_top
  · refine ne_of_gt ((Finset.lt_fold_max _).2 (Or.inr ⟨j₀, Finset.mem_univ _, ?_⟩))
    rw [if_pos h]; exact EReal.bot_lt_coe _

theorem exp2_coe {φ : FTy} (a : ℝ) : FloatOps.exp2 (F := Ideal) (φ := φ) (a : EReal) = (((2 : ℝ) ^ a : ℝ) : EReal) := rfl

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem two_sub (a b : ℝ) : (2 : ℝ) ^ (a - b) = 2 ^ a * (2 ^ b)⁻¹ := by
  rw [Real.rpow_sub (by norm_num), div_eq_mul_inv]

/-- A weighted sum moved to another shift. -/
theorem shift {ι : Type} (J : Finset ι) (s v : ι → ℝ) (m m' : ℝ) :
    (2 : ℝ) ^ (m - m') * ∑ j ∈ J, 2 ^ (s j - m) * v j = ∑ j ∈ J, 2 ^ (s j - m') * v j := by
  rw [Finset.mul_sum]
  refine Finset.sum_congr rfl fun j _ => ?_
  rw [← mul_assoc, ← Real.rpow_add (by norm_num)]
  ring_nf

/-- A masked sum over a tile is the sum over the columns kept. -/
theorem sum_mask (w n : ℕ) (h : n < w) (f : ℕ → ℝ) : (∑ j : Fin w, if j.val ≤ n then f j.val else 0) = ∑ j ∈ Finset.range (n + 1), f j := by
  rw [← Finset.sum_range (f := fun j => if j ≤ n then f j else 0), ← Finset.sum_filter]
  refine Finset.sum_congr (Finset.ext fun j => ?_) fun _ _ => rfl
  simp only [Finset.mem_filter, Finset.mem_range]; omega

/-- A row's sum at shift `m`: the first `n` key tiles, and the keys of tile `t` up to the row's own place `r`. -/
def total (s v : ℕ → ℝ) (m : ℝ) (t n r : ℕ) : ℝ :=
  (∑ j ∈ Finset.range (1024 * n), (2 : ℝ) ^ (s j - m) * v j) + ∑ j ∈ Finset.range (r + 1), (2 : ℝ) ^ (s (1024 * t + j) - m) * v (1024 * t + j)

/-- One key tile more, at a new shift. -/
theorem total_succ (s v : ℕ → ℝ) (m m' : ℝ) (t n r : ℕ) :
    (2 : ℝ) ^ (m - m') * total s v m t n r + ∑ j : Fin 1024, (2 : ℝ) ^ (s (1024 * n + j.val) - m') * v (1024 * n + j.val) = total s v m' t (n + 1) r := by
  unfold total
  rw [mul_add, shift _ s v, shift _ (fun j => s (1024 * t + j)) (fun j => v (1024 * t + j)), Nat.mul_add, Nat.mul_one, Finset.sum_range_add _ (1024 * n) 1024,
    ← Finset.sum_range (f := fun j => (2 : ℝ) ^ (s (1024 * n + j) - m') * v (1024 * n + j))]
  ring

/-- All earlier tiles: the keys up to the row itself. -/
theorem total_last (s v : ℕ → ℝ) (m : ℝ) (t r : ℕ) : total s v m t t r = ∑ j ∈ Finset.range (1024 * t + r + 1), (2 : ℝ) ^ (s j - m) * v j := by
  rw [Nat.add_assoc, Finset.sum_range_add _ (1024 * t) (r + 1)]; rfl

end Cert.Proof.Weights

end
-- ==== Proof.KI.Earlier.lean ====
/- ONE KEY TILE AFTER THE FIRST, over one group of 512 stacked query rows: the kernel's rescaling step as functions of the
   group's running maxima, accumulators and queries and of the tile's keys and values, read at a row. -/
module

public import proofs.«01_k».proof.Proof.KI.Tile
public import proofs.«01_k».proof.Proof.Weights
public import Idealize.ShloMosaic.Lib.Pointwise

@[expose] public section

set_option maxRecDepth 16384

noncomputable section

namespace Cert.Proof.KernelIdeal

open Cert.KernelIdeal Cert.KernelIdeal.Gen Cert.Proof.Weights
open Idealize.ShloMosaic Idealize.ShloMosaic.TcCoe

/-- The differences of 512 rows' scores against a key tile from the rows' running maxima. -/
def fullDiff (M : FVec Ideal S512x128 .f32) (q : FVec Ideal S512x128 .bf16) (kb : FVec Ideal S1024x128 .bf16) : FVec Ideal S512x1024 .bf16 :=
  truncf .bf16 (subf (matmul dot_S512x128_S1024x128_S512x1024_1_1_0_0_n_n none q kb (constant S512x1024 .f32 0x00000000#32))
    (concatenate S512x1024 1 [⟨S512x128, M⟩, ⟨S512x128, M⟩, ⟨S512x128, M⟩, ⟨S512x128, M⟩, ⟨S512x128, M⟩, ⟨S512x128, M⟩, ⟨S512x128, M⟩, ⟨S512x128, M⟩]
      concatenates_S512x128_S512x128_S512x128_S512x128_S512x128_S512x128_S512x128_S512x128_S512x1024_d1)) bitsLt_bf16_f32

/-- How far each row's maximum rises. -/
def fullRise (D : FVec Ideal S512x1024 .bf16) : FVec Ideal S512x1 .f32 :=
  extf .f32 (maximumf (shapeCast S512x1 (multiReduction .maximumf [1] S512 D 0xFF80#16 reduces_S512x1024_S512 (.inr rfl) rfl) shapeCasts_S512_S512x1)
    (broadcast S512x1 (FloatOps.ofBits .bf16 0x0000#16))) bitsLt_bf16_f32

/-- The new maxima. -/
def fullTop (M : FVec Ideal S512x128 .f32) (R : FVec Ideal S512x1 .f32) : FVec Ideal S512x128 .f32 :=
  addf M (broadcastTo S512x128 R broadcasts_S512x1_S512x128)

/-- The tile's weights, its value rows and ones summed by them. -/
def fullSum (D : FVec Ideal S512x1024 .bf16) (R : FVec Ideal S512x1 .f32) (ve : FVec Ideal S1024x256 .bf16) : FVec Ideal S512x256 .f32 :=
  matmul dot_S512x1024_S1024x256_S512x256_1_0_0_1_n_n none
    (exp2 (subf D (broadcastTo S512x1024 (truncf .bf16 R bitsLt_bf16_f32) broadcasts_S512x1_S512x1024))) ve (constant S512x256 .f32 0x00000000#32)

/-- The new accumulators. -/
def fullAcc (M N : FVec Ideal S512x128 .f32) (A P : FVec Ideal S512x256 .f32) : FVec Ideal S512x256 .f32 :=
  addf (mulf (concatenate S512x256 1 [⟨S512x128, exp2 (subf M N)⟩, ⟨S512x128, exp2 (subf M N)⟩] concatenates_S512x128_S512x128_S512x256_d1) A) P

variable (M : FVec Ideal S512x128 .f32) (A : FVec Ideal S512x256 .f32) (q : FVec Ideal S512x128 .bf16)
  (kb : FVec Ideal S1024x128 .bf16) (ve : FVec Ideal S1024x256 .bf16)

/-- What the step stores as maxima and as accumulators. -/
def stepTop : FVec Ideal S512x128 .f32 := shapeCast S512x128 (fullTop M (fullRise (fullDiff M q kb))) shapeCasts_S512x128_S512x128
def stepAcc : FVec Ideal S512x256 .f32 :=
  shapeCast S512x256 (fullAcc M (fullTop M (fullRise (fullDiff M q kb))) A (fullSum (fullDiff M q kb) (fullRise (fullDiff M q kb)) ve)) shapeCasts_S512x256_S512x256

theorem negInf16 : Ideal.ofBits .bf16 0xFF80#16 = (⊥ : EReal) := by
  simp [Ideal.ofBits, Ideal.ieee]

section Row
variable (r : Fin 512) (m : ℝ) (s : Fin 1024 → ℝ)

theorem fullDiff_apply (hM : ∀ l : Fin 128, M (ix2 r l) = (m : EReal)) (hS : ∀ j : Fin 1024, ∑ x : Fin 128, q (ix2 r x) * kb (ix2 j x) = (s j : EReal)) (j : Fin 1024) :
    fullDiff M q kb (ix2 r j) = ((s j - m : ℝ) : EReal) := by
  pointwise [fullDiff]
  rw [hS, EReal.coe_sub]
  congr 1
  split_ifs <;> exact hM _

theorem column_apply (x : FVec Ideal S512 .bf16) (z : Fin 1) :
    extf .f32 (maximumf (shapeCast S512x1 x shapeCasts_S512_S512x1) (broadcast S512x1 (FloatOps.ofBits .bf16 0x0000#16))) bitsLt_bf16_f32 (ix2 r z)
      = max (x (ix1 r)) (0 : EReal) := by
  pointwise

theorem rowMax_apply (D : FVec Ideal S512x1024 .bf16) :
    multiReduction .maximumf [1] S512 D 0xFF80#16 reduces_S512x1024_S512 (.inr rfl) rfl (ix1 r)
      = Finset.univ.fold max (Ideal.ofBits .bf16 0xFF80#16) fun j => D (ix2 r j) := by
  pointwise

theorem fullRise_apply (D : FVec Ideal S512x1024 .bf16) (d : Fin 1024 → ℝ) (hD : ∀ j : Fin 1024, D (ix2 r j) = (d j : EReal)) (z : Fin 1) :
    fullRise D (ix2 r z) = (rise d : EReal) := by
  unfold fullRise
  rw [column_apply, rowMax_apply, negInf16, ← coe_rise]
  simp only [hD]

theorem fullTop_apply (R : FVec Ideal S512x1 .f32) (ρ : ℝ) (hM : ∀ l : Fin 128, M (ix2 r l) = (m : EReal)) (hR : ∀ z : Fin 1, R (ix2 r z) = (ρ : EReal)) (l : Fin 128) :
    fullTop M R (ix2 r l) = ((m + ρ : ℝ) : EReal) := by
  pointwise [fullTop]
  rw [hM, hR, EReal.coe_add]

theorem fullSum_apply (D : FVec Ideal S512x1024 .bf16) (R : FVec Ideal S512x1 .f32) (d : Fin 1024 → ℝ) (ρ : ℝ) (v : Fin 1024 → Fin 256 → ℝ)
    (hD : ∀ j : Fin 1024, D (ix2 r j) = (d j : EReal)) (hR : ∀ z : Fin 1, R (ix2 r z) = (ρ : EReal)) (hv : ∀ (j : Fin 1024) (c : Fin 256), ve (ix2 j c) = (v j c : EReal)) (c : Fin 256) :
    fullSum D R ve (ix2 r c) = ((∑ j : Fin 1024, (2 : ℝ) ^ (d j - ρ) * v j c : ℝ) : EReal) := by
  pointwise [fullSum]
  rw [coe_sum]
  refine Finset.sum_congr rfl fun j _ => ?_
  rw [hD, hR, hv, ← EReal.coe_sub, exp2_coe, EReal.coe_mul]

theorem fullAcc_apply (N : FVec Ideal S512x128 .f32) (P : FVec Ideal S512x256 .f32) (n : ℝ) (a p : Fin 256 → ℝ)
    (hM : ∀ l : Fin 128, M (ix2 r l) = (m : EReal)) (hN : ∀ l : Fin 128, N (ix2 r l) = (n : EReal))
    (hA : ∀ c : Fin 256, A (ix2 r c) = (a c : EReal)) (hP : ∀ c : Fin 256, P (ix2 r c) = (p c : EReal)) (c : Fin 256) :
    fullAcc M N A P (ix2 r c) = (((2 : ℝ) ^ (m - n) * a c + p c : ℝ) : EReal) := by
  pointwise [fullAcc]
  rw [hA, hP, EReal.coe_add, EReal.coe_mul]
  congr 2
  split_ifs <;> rw [hM, hN, ← EReal.coe_sub, exp2_coe]

variable (hM : ∀ l : Fin 128, M (ix2 r l) = (m : EReal)) (hS : ∀ j : Fin 1024, ∑ x : Fin 128, q (ix2 r x) * kb (ix2 j x) = (s j : EReal))
include hM hS

theorem stepTop_apply (l : Fin 128) : stepTop M q kb (ix2 r l) = ((m + rise (fun j => s j - m) : ℝ) : EReal) := by
  unfold stepTop
  rw [shapeCast_id]
  exact fullTop_apply M r m _ _ hM (fullRise_apply r _ _ (fullDiff_apply M q kb r m s hM hS)) l

theorem stepAcc_apply (a : Fin 256 → ℝ) (v : Fin 1024 → Fin 256 → ℝ) (hA : ∀ c : Fin 256, A (ix2 r c) = (a c : EReal))
    (hv : ∀ (j : Fin 1024) (c : Fin 256), ve (ix2 j c) = (v j c : EReal)) (c : Fin 256) :
    stepAcc M A q kb ve (ix2 r c) = (((2 : ℝ) ^ (m - (m + rise (fun j => s j - m))) * a c
      + ∑ j : Fin 1024, (2 : ℝ) ^ (s j - (m + rise (fun j => s j - m))) * v j c : ℝ) : EReal) := by
  have hD := fullDiff_apply M q kb r m s hM hS
  have hR := fullRise_apply r _ _ hD
  unfold stepAcc
  rw [shapeCast_id, fullAcc_apply M A r m _ _ _ a _ hM (fullTop_apply M r m _ _ hM hR) hA (fullSum_apply ve r _ _ _ _ v hD hR hv) c]
  simp only [sub_add_eq_sub_sub]

end Row

end Cert.Proof.KernelIdeal

end
-- ==== Proof.KI.Keys.lean ====
/- THE EARLIER KEY TILES of one query tile: what one trip of the inner loop stores, and what the running maxima and the
   accumulators hold after any number of trips: for each stacked query row one real shift, and the weighted value rows
   and weights summed over the keys met so far. -/
module

public import proofs.«01_k».proof.Proof.KI.Earlier

@[expose] public section

set_option maxRecDepth 16384

noncomputable section

namespace Cert.Proof.KernelIdeal

open Cert.KernelIdeal Cert.KernelIdeal.Gen Cert.Proof.Weights
open Idealize.ShloMosaic Idealize.ShloMosaic.TcCoe

variable (𝒱 : Variants) (c : Dev nD) (bd : Option 𝒱.V) (i : grid0.Coords)
  (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x256 .f32) (harg10 : arg10.IsWhole)
  (v15 : FVec Ideal S1x1 .f32) (t : Fin k0_t1_loop.trips) (w : BitVec 32) (v125 v129 v133 : FVec Ideal S256x128 .f32)
  (v178 v179 : FVec Ideal S256x256 .f32) (v213 : Vec Ideal S256x128 .f32)
  (X3 : BufTy.Contents (Elt Ideal) arg3.view.ty) (X4 : BufTy.Contents (Elt Ideal) arg4.view.ty) (X8 : BufTy.Contents (Elt Ideal) arg8.view.ty)
  (k : Fin (k0_t2_loop t).trips) (f9 : BufTy.Contents (Elt Ideal) arg9.view.ty) (f10 : BufTy.Contents (Elt Ideal) arg10.view.ty)

/-- Key tile `k`, and value tile `k` beside a block of ones. -/
def keyTile : FVec Ideal S1024x128 .bf16 :=
  shapeCast S1024x128 (arg3.view.readAt (Elt Ideal) (Rect.unit (s := S1x8192x128) (k0_off2 t k) S1x1024x128.size (k0_off2_inb t k)).toLoadRect X3) shapeCasts_S1x1024x128_S1024x128
def valueTile : FVec Ideal S1024x256 .bf16 :=
  concatenate S1024x256 1 [⟨S1024x128, shapeCast S1024x128 (arg4.view.readAt (Elt Ideal) (Rect.unit (s := S1x8192x128) (k0_off2 t k) S1x1024x128.size (k0_off2_inb t k)).toLoadRect X4) shapeCasts_S1x1024x128_S1024x128⟩,
    ⟨S1024x128, broadcast S1024x128 (FloatOps.ofBits .bf16 0x3F80#16)⟩] concatenates_S1024x128_S1024x128_S1024x256_d1

/-- The pieces a trip stores: the four groups of 512 rows, each by the same step. -/
theorem trip_top :
    (trip_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 k).1 f9 f10 =
    [⟨Rect.unit (s := S2048x128) ![1536, 0] S512x128.size inb_S2048x128_S512x128_1536_0, stepTop (arg9.view.readAt (Elt Ideal) (Rect.unit (s := S2048x128) ![1536, 0] S512x128.size inb_S2048x128_S512x128_1536_0).toLoadRect f9) (arg8.view.readAt (Elt Ideal) (Rect.unit (s := S2048x128) ![1536, 0] S512x128.size inb_S2048x128_S512x128_1536_0).toLoadRect X8) (keyTile arg3 t X3 k)⟩,
     ⟨Rect.unit (s := S2048x128) ![1024, 0] S512x128.size inb_S2048x128_S512x128_1024_0, stepTop (arg9.view.readAt (Elt Ideal) (Rect.unit (s := S2048x128) ![1024, 0] S512x128.size inb_S2048x128_S512x128_1024_0).toLoadRect f9) (arg8.view.readAt (Elt Ideal) (Rect.unit (s := S2048x128) ![1024, 0] S512x128.size inb_S2048x128_S512x128_1024_0).toLoadRect X8) (keyTile arg3 t X3 k)⟩,
     ⟨Rect.unit (s := S2048x128) ![512, 0] S512x128.size inb_S2048x128_S512x128_512_0, stepTop (arg9.view.readAt (Elt Ideal) (Rect.unit (s := S2048x128) ![512, 0] S512x128.size inb_S2048x128_S512x128_512_0).toLoadRect f9) (arg8.view.readAt (Elt Ideal) (Rect.unit (s := S2048x128) ![512, 0] S512x128.size inb_S2048x128_S512x128_512_0).toLoadRect X8) (keyTile arg3 t X3 k)⟩,
     ⟨Rect.unit (s := S2048x128) ![0, 0] S512x128.size inb_S2048x128_S512x128_0_0, stepTop (arg9.view.readAt (Elt Ideal) (Rect.unit (s := S2048x128) ![0, 0] S512x128.size inb_S2048x128_S512x128_0_0).toLoadRect f9) (arg8.view.readAt (Elt Ideal) (Rect.unit (s := S2048x128) ![0, 0] S512x128.size inb_S2048x128_S512x128_0_0).toLoadRect X8) (keyTile arg3 t X3 k)⟩] := by
  unfold trip_k0_t2
  rfl

theorem trip_acc :
    (trip_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 k).2.1 f9 f10 =
    [⟨Rect.unit (s := S2048x256) ![1536, 0] S512x256.size inb_S2048x256_S512x256_1536_0, stepAcc (arg9.view.readAt (Elt Ideal) (Rect.unit (s := S2048x128) ![1536, 0] S512x128.size inb_S2048x128_S512x128_1536_0).toLoadRect f9) (arg10.view.readAt (Elt Ideal) (Rect.unit (s := S2048x256) ![1536, 0] S512x256.size inb_S2048x256_S512x256_1536_0).toLoadRect f10) (arg8.view.readAt (Elt Ideal) (Rect.unit (s := S2048x128) ![1536, 0] S512x128.size inb_S2048x128_S512x128_1536_0).toLoadRect X8) (keyTile arg3 t X3 k) (valueTile arg4 t X4 k)⟩,
     ⟨Rect.unit (s := S2048x256) ![1024, 0] S512x256.size inb_S2048x256_S512x256_1024_0, stepAcc (arg9.view.readAt (Elt Ideal) (Rect.unit (s := S2048x128) ![1024, 0] S512x128.size inb_S2048x128_S512x128_1024_0).toLoadRect f9) (arg10.view.readAt (Elt Ideal) (Rect.unit (s := S2048x256) ![1024, 0] S512x256.size inb_S2048x256_S512x256_1024_0).toLoadRect f10) (arg8.view.readAt (Elt Ideal) (Rect.unit (s := S2048x128) ![1024, 0] S512x128.size inb_S2048x128_S512x128_1024_0).toLoadRect X8) (keyTile arg3 t X3 k) (valueTile arg4 t X4 k)⟩,
     ⟨Rect.unit (s := S2048x256) ![512, 0] S512x256.size inb_S2048x256_S512x256_512_0, stepAcc (arg9.view.readAt (Elt Ideal) (Rect.unit (s := S2048x128) ![512, 0] S512x128.size inb_S2048x128_S512x128_512_0).toLoadRect f9) (arg10.view.readAt (Elt Ideal) (Rect.unit (s := S2048x256) ![512, 0] S512x256.size inb_S2048x256_S512x256_512_0).toLoadRect f10) (arg8.view.readAt (Elt Ideal) (Rect.unit (s := S2048x128) ![512, 0] S512x128.size inb_S2048x128_S512x128_512_0).toLoadRect X8) (keyTile arg3 t X3 k) (valueTile arg4 t X4 k)⟩,
     ⟨Rect.unit (s := S2048x256) ![0, 0] S512x256.size inb_S2048x256_S512x256_0_0, stepAcc (arg9.view.readAt (Elt Ideal) (Rect.unit (s := S2048x128) ![0, 0] S512x128.size inb_S2048x128_S512x128_0_0).toLoadRect f9) (arg10.view.readAt (Elt Ideal) (Rect.unit (s := S2048x256) ![0, 0] S512x256.size inb_S2048x256_S512x256_0_0).toLoadRect f10) (arg8.view.readAt (Elt Ideal) (Rect.unit (s := S2048x128) ![0, 0] S512x128.size inb_S2048x128_S512x128_0_0).toLoadRect X8) (keyTile arg3 t X3 k) (valueTile arg4 t X4 k)⟩] := by
  unfold trip_k0_t2
  rfl

theorem off2_eq : ∀ (t : Fin k0_t1_loop.trips) (k : Fin (k0_t2_loop t).trips), k0_off2 t k = ![0, 1024 * k.val, 0] := by decide

/-- A load of rows of a two-axis array, and of rows of a block's only slab, read at a row. -/
theorem readAt_rows {sig : RefSig} {κ : Kind} {sp : Space} {e : EltTy} {R C : ℕ} (v : View sig κ sp ⟨2, ![R, C]⟩ e) (f : v.ty.Contents (Elt Ideal)) (o n : ℕ)
    (inb : ∀ a, (![o, 0] : Fin 2 → ℕ) a + (![n, C] : Fin 2 → ℕ) a ≤ (⟨2, ![R, C]⟩ : Shape).size a) (r : Fin n) (l : Fin C) (h : o + r.val < R) :
    v.readAt (Elt Ideal) (Rect.unit (s := ⟨2, ![R, C]⟩) ![o, 0] ![n, C] inb).toLoadRect f (ix2 r l) = v.read (Elt Ideal) f (ix2 ⟨o + r.val, h⟩ l) := by
  rw [View.readAt_apply]
  congr 1
  funext a
  match a with
  | ⟨0, _⟩ => exact Fin.ext (by show o + 1 * r.val = o + r.val; omega)
  | ⟨1, _⟩ => exact Fin.ext (by show 0 + 1 * l.val = l.val; omega)

theorem readAt_slab {sig : RefSig} {κ : Kind} {sp : Space} {e : EltTy} {R C : ℕ} (v : View sig κ sp ⟨3, ![1, R, C]⟩ e) (f : v.ty.Contents (Elt Ideal)) (off : Fin 3 → ℕ) (o n : ℕ)
    (inb : ∀ a, off a + (![1, n, C] : Fin 3 → ℕ) a ≤ (⟨3, ![1, R, C]⟩ : Shape).size a) (ho : off = ![0, o, 0]) (z : Fin 1) (r : Fin n) (l : Fin C) (h : o + r.val < R) :
    v.readAt (Elt Ideal) (Rect.unit (s := ⟨3, ![1, R, C]⟩) off ![1, n, C] inb).toLoadRect f (ix3 z r l) = v.read (Elt Ideal) f (ix3 0 ⟨o + r.val, h⟩ l) := by
  subst ho
  rw [View.readAt_apply]
  congr 1
  funext a
  match a with
  | ⟨0, _⟩ => exact Fin.ext (by show 0 + 1 * z.val = 0; omega)
  | ⟨1, _⟩ => exact Fin.ext (by show o + 1 * r.val = o + r.val; omega)
  | ⟨2, _⟩ => exact Fin.ext (by show 0 + 1 * l.val = l.val; omega)

theorem emb_rows {R C : ℕ} (o n : ℕ) (inb : ∀ a, (![o, 0] : Fin 2 → ℕ) a + (![n, C] : Fin 2 → ℕ) a ≤ (⟨2, ![R, C]⟩ : Shape).size a) (r : Fin n) (l : Fin C) (h : o + r.val < R) :
    (Rect.unit (s := ⟨2, ![R, C]⟩) ![o, 0] ![n, C] inb).emb (ix2 r l) = ix2 ⟨o + r.val, h⟩ l := by
  funext a
  match a with
  | ⟨0, _⟩ => exact Fin.ext (by show o + 1 * r.val = o + r.val; omega)
  | ⟨1, _⟩ => exact Fin.ext (by show 0 + 1 * l.val = l.val; omega)

theorem mem_rows {R C : ℕ} (o n : ℕ) (inb : ∀ a, (![o, 0] : Fin 2 → ℕ) a + (![n, C] : Fin 2 → ℕ) a ≤ (⟨2, ![R, C]⟩ : Shape).size a) (r : Fin R) (l : Fin C)
    (h : o ≤ r.val) (h' : r.val < o + n) : ix2 r l ∈ (Rect.unit (s := ⟨2, ![R, C]⟩) ![o, 0] ![n, C] inb).set := by
  rw [Rect.mem_set_unit]
  intro a
  match a with
  | ⟨0, _⟩ => exact ⟨h, h'⟩
  | ⟨1, _⟩ => exact ⟨Nat.zero_le _, by show l.val < 0 + C; omega⟩

/-- A block's only slab as a matrix, and a matrix beside ones, read at an entry. -/
theorem slab_apply (y : FVec Ideal S1x1024x128 .bf16) (j : Fin 1024) (x : Fin 128) :
    shapeCast S1024x128 y shapeCasts_S1x1024x128_S1024x128 (ix2 j x) = y (ix3 0 j x) := by
  pointwise

theorem ones_apply (y : FVec Ideal S1024x128 .bf16) (j : Fin 1024) (x : Fin 256) :
    concatenate S1024x256 1 [⟨S1024x128, y⟩, ⟨S1024x128, broadcast S1024x128 (FloatOps.ofBits .bf16 0x3F80#16)⟩] concatenates_S1024x128_S1024x128_S1024x256_d1 (ix2 j x)
      = if h : x.val < 128 then y (ix2 j ⟨x.val, h⟩) else ((1 : ℝ) : EReal) := by
  pointwise
  rw [EReal.coe_one]

section Values
variable (Q K V : ℕ → Fin 128 → ℝ)

/-- Row `r`'s score against key `j`, and value row `j` beside ones. -/
def score (r j : ℕ) : ℝ := ∑ x : Fin 128, Q r x * K j x
def valueOne (c : Fin 256) (j : ℕ) : ℝ := if h : c.val < 128 then V j ⟨c.val, h⟩ else 1

/-- What the maxima and the accumulators hold after the diagonal tile `t` and the first `n` key tiles. -/
def Rows (t n : ℕ) (g9 : BufTy.Contents (Elt Ideal) arg9.view.ty) (g10 : BufTy.Contents (Elt Ideal) arg10.view.ty) : Prop :=
  ∃ m : ℕ → ℝ, (∀ (r : Fin 2048) (l : Fin 128), arg9.view.read (Elt Ideal) g9 (ix2 r l) = (m r.val : EReal))
    ∧ ∀ (r : Fin 2048) (x : Fin 256), arg10.view.read (Elt Ideal) g10 (ix2 r x) = (total (score Q K r.val) (valueOne V x) (m r.val) t n (r.val % 1024) : EReal)

variable (hQ : ∀ (r : Fin 2048) (x : Fin 128), arg8.view.read (Elt Ideal) X8 (ix2 r x) = (Q r.val x : EReal))
  (hK : ∀ (j : Fin 8192) (x : Fin 128), arg3.view.read (Elt Ideal) X3 (ix3 0 j x) = (K j.val x : EReal))
  (hV : ∀ (j : Fin 8192) (x : Fin 128), arg4.view.read (Elt Ideal) X4 (ix3 0 j x) = (V j.val x : EReal))

theorem key_lt (t : Fin k0_t1_loop.trips) (k : Fin (k0_t2_loop t).trips) (j : Fin 1024) : 1024 * k.val + j.val < 8192 := by
  have h1 : ∀ (t : Fin k0_t1_loop.trips), (k0_t2_loop t).trips ≤ 8 := by decide
  have := h1 t; have := k.isLt; have := j.isLt; omega

include hK in
theorem keyTile_apply (j : Fin 1024) (x : Fin 128) : keyTile arg3 t X3 k (ix2 j x) = (K (1024 * k.val + j.val) x : EReal) := by
  unfold keyTile
  rw [slab_apply]
  exact (readAt_slab arg3.view X3 _ _ _ (k0_off2_inb t k) (off2_eq t k) _ _ _ (key_lt t k j)).trans (hK ⟨_, key_lt t k j⟩ x)

include hV in
theorem valueTile_apply (j : Fin 1024) (x : Fin 256) : valueTile arg4 t X4 k (ix2 j x) = (valueOne V x (1024 * k.val + j.val) : EReal) := by
  unfold valueTile valueOne
  rw [ones_apply]
  split_ifs with h
  · rw [slab_apply]
    exact (readAt_slab arg4.view X4 _ _ _ (k0_off2_inb t k) (off2_eq t k) _ _ _ (key_lt t k j)).trans (hV ⟨_, key_lt t k j⟩ _)
  · rfl

include hQ hK in
theorem score_group (o : ℕ) (inb : ∀ a, (![o, 0] : Fin 2 → ℕ) a + S512x128.size a ≤ S2048x128.size a) (r : Fin 512) (h : o + r.val < 2048) (j : Fin 1024) :
    ∑ x : Fin 128, arg8.view.readAt (Elt Ideal) (Rect.unit (s := S2048x128) ![o, 0] S512x128.size inb).toLoadRect X8 (ix2 r x) * keyTile arg3 t X3 k (ix2 j x)
      = (score Q K (o + r.val) (1024 * k.val + j.val) : EReal) := by
  unfold score
  rw [coe_sum]
  refine Finset.sum_congr rfl fun x _ => ?_
  rw [EReal.coe_mul, keyTile_apply arg3 t X3 k K hK]
  congr 1
  exact (readAt_rows arg8.view X8 o 512 inb r x h).trans (hQ ⟨_, h⟩ x)

/-- The new shift of row `r` at key tile `n`. -/
def next (m : ℕ → ℝ) (n r : ℕ) : ℝ := m r + rise fun j : Fin 1024 => score Q K r (1024 * n + j.val) - m r

section Group
variable (m : ℕ → ℝ) (T o : ℕ) (ho : o + 512 ≤ 2048) (inb8 inb9 : ∀ a, (![o, 0] : Fin 2 → ℕ) a + S512x128.size a ≤ S2048x128.size a)
  (inb10 : ∀ a, (![o, 0] : Fin 2 → ℕ) a + S512x256.size a ≤ S2048x256.size a)
  (h9 : ∀ (r : Fin 2048) (l : Fin 128), arg9.view.read (Elt Ideal) f9 (ix2 r l) = (m r.val : EReal))
  (h10 : ∀ (r : Fin 2048) (x : Fin 256), arg10.view.read (Elt Ideal) f10 (ix2 r x) = (total (score Q K r.val) (valueOne V x) (m r.val) T k.val (r.val % 1024) : EReal))

include hQ hK h9 ho in
theorem group_top (z : S512x128.Idx) :
    stepTop (arg9.view.readAt (Elt Ideal) (Rect.unit (s := S2048x128) ![o, 0] S512x128.size inb9).toLoadRect f9)
      (arg8.view.readAt (Elt Ideal) (Rect.unit (s := S2048x128) ![o, 0] S512x128.size inb8).toLoadRect X8) (keyTile arg3 t X3 k) z
    = (next Q K m k.val ((Rect.unit (s := S2048x128) ![o, 0] S512x128.size inb9).emb z 0).val : EReal) := by
  obtain ⟨r, l, rfl⟩ : ∃ (r : Fin 512) (l : Fin 128), z = ix2 r l := ⟨z 0, z 1, eq_ix2 z⟩
  have hr : o + r.val < 2048 := by omega
  rw [show (Rect.unit (s := S2048x128) ![o, 0] S512x128.size inb9).emb (ix2 r l) = ix2 ⟨o + r.val, hr⟩ l from emb_rows o 512 inb9 r l hr]
  exact stepTop_apply _ _ _ r (m (o + r.val)) _ (fun l => (readAt_rows arg9.view f9 o 512 inb9 r l hr).trans (h9 ⟨_, hr⟩ l)) (score_group arg3 arg8 t X3 X8 k Q K hQ hK o inb8 r hr) l

include hQ hK hV h9 h10 ho in
theorem group_acc (z : S512x256.Idx) :
    stepAcc (arg9.view.readAt (Elt Ideal) (Rect.unit (s := S2048x128) ![o, 0] S512x128.size inb9).toLoadRect f9)
      (arg10.view.readAt (Elt Ideal) (Rect.unit (s := S2048x256) ![o, 0] S512x256.size inb10).toLoadRect f10)
      (arg8.view.readAt (Elt Ideal) (Rect.unit (s := S2048x128) ![o, 0] S512x128.size inb8).toLoadRect X8) (keyTile arg3 t X3 k) (valueTile arg4 t X4 k) z
    = (total (score Q K ((Rect.unit (s := S2048x256) ![o, 0] S512x256.size inb10).emb z 0).val) (valueOne V ((Rect.unit (s := S2048x256) ![o, 0] S512x256.size inb10).emb z 1))
        (next Q K m k.val ((Rect.unit (s := S2048x256) ![o, 0] S512x256.size inb10).emb z 0).val) T (k.val + 1) (((Rect.unit (s := S2048x256) ![o, 0] S512x256.size inb10).emb z 0).val % 1024) : EReal) := by
  obtain ⟨r, x, rfl⟩ : ∃ (r : Fin 512) (x : Fin 256), z = ix2 r x := ⟨z 0, z 1, eq_ix2 z⟩
  have hr : o + r.val < 2048 := by omega
  rw [show (Rect.unit (s := S2048x256) ![o, 0] S512x256.size inb10).emb (ix2 r x) = ix2 ⟨o + r.val, hr⟩ x from emb_rows o 512 inb10 r x hr]
  refine (stepAcc_apply _ _ _ _ _ r (m (o + r.val)) _ (fun l => (readAt_rows arg9.view f9 o 512 inb9 r l hr).trans (h9 ⟨_, hr⟩ l)) (score_group arg3 arg8 t X3 X8 k Q K hQ hK o inb8 r hr)
    _ _ (fun x => (readAt_rows arg10.view f10 o 512 inb10 r x hr).trans (h10 ⟨_, hr⟩ x)) (valueTile_apply arg4 t X4 k V hV) x).trans ?_
  exact congrArg _ (total_succ (score Q K (o + r.val)) (valueOne V x) (m (o + r.val)) (next Q K m k.val (o + r.val)) T k.val ((o + r.val) % 1024))

end Group

/-- One trip more. -/
theorem rows_step (hQ : ∀ (r : Fin 2048) (x : Fin 128), arg8.view.read (Elt Ideal) X8 (ix2 r x) = (Q r.val x : EReal))
    (hK : ∀ (j : Fin 8192) (x : Fin 128), arg3.view.read (Elt Ideal) X3 (ix3 0 j x) = (K j.val x : EReal))
    (hV : ∀ (j : Fin 8192) (x : Fin 128), arg4.view.read (Elt Ideal) X4 (ix3 0 j x) = (V j.val x : EReal))
    (T : ℕ) (h : Rows arg9 arg10 Q K V T k.val f9 f10) :
    Rows arg9 arg10 Q K V T (k.val + 1)
      (arg9.view.writes (Elt Ideal) f9 ((trip_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 k).1 f9 f10))
      (arg10.view.writes (Elt Ideal) f10 ((trip_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 k).2.1 f9 f10)) := by
  obtain ⟨m, h9, h10⟩ := h
  rw [trip_top, trip_acc]
  refine ⟨next Q K m k.val, fun r l => ?_, fun r x => ?_⟩
  · refine View.read_writes_apply_of_pieces arg9.view f9 (fun y => (next Q K m k.val (y 0).val : EReal)) _ ?_ _ ?_
    · simp only [List.forall_mem_cons, List.not_mem_nil, false_imp_iff, implies_true, and_true]
      exact ⟨group_top arg3 arg8 arg9 t X3 X8 k f9 Q K hQ hK m 1536 (by omega) _ _ h9, group_top arg3 arg8 arg9 t X3 X8 k f9 Q K hQ hK m 1024 (by omega) _ _ h9,
        group_top arg3 arg8 arg9 t X3 X8 k f9 Q K hQ hK m 512 (by omega) _ _ h9, group_top arg3 arg8 arg9 t X3 X8 k f9 Q K hQ hK m 0 (by omega) _ _ h9⟩
    · by_cases c1 : r.val < 512
      · exact ⟨_, .tail _ (.tail _ (.tail _ (.head _))), mem_rows 0 512 inb_S2048x128_S512x128_0_0 r l (by omega) (by omega)⟩
      by_cases c2 : r.val < 1024
      · exact ⟨_, .tail _ (.tail _ (.head _)), mem_rows 512 512 inb_S2048x128_S512x128_512_0 r l (by omega) (by omega)⟩
      by_cases c3 : r.val < 1536
      · exact ⟨_, .tail _ (.head _), mem_rows 1024 512 inb_S2048x128_S512x128_1024_0 r l (by omega) (by omega)⟩
      · exact ⟨_, .head _, mem_rows 1536 512 inb_S2048x128_S512x128_1536_0 r l (by omega) (by omega)⟩
  · refine View.read_writes_apply_of_pieces arg10.view f10 (fun y => (total (score Q K (y 0).val) (valueOne V (y 1)) (next Q K m k.val (y 0).val) T (k.val + 1) ((y 0).val % 1024) : EReal)) _ ?_ _ ?_
    · simp only [List.forall_mem_cons, List.not_mem_nil, false_imp_iff, implies_true, and_true]
      have G := fun o ho i8 i9 i10 => group_acc arg3 arg4 arg8 arg9 arg10 t X3 X4 X8 k f9 f10 Q K V hQ hK hV m T o ho i8 i9 i10 h9 h10
      exact ⟨G 1536 (by omega) _ _ _, G 1024 (by omega) _ _ _, G 512 (by omega) _ _ _, G 0 (by omega) _ _ _⟩
    · by_cases c1 : r.val < 512
      · exact ⟨_, .tail _ (.tail _ (.tail _ (.head _))), mem_rows 0 512 inb_S2048x256_S512x256_0_0 r x (by omega) (by omega)⟩
      by_cases c2 : r.val < 1024
      · exact ⟨_, .tail _ (.tail _ (.head _)), mem_rows 512 512 inb_S2048x256_S512x256_512_0 r x (by omega) (by omega)⟩
      by_cases c3 : r.val < 1536
      · exact ⟨_, .tail _ (.head _), mem_rows 1024 512 inb_S2048x256_S512x256_1024_0 r x (by omega) (by omega)⟩
      · exact ⟨_, .head _, mem_rows 1536 512 inb_S2048x256_S512x256_1536_0 r x (by omega) (by omega)⟩

/-- After any number of trips. -/
theorem rows_trips (hQ : ∀ (r : Fin 2048) (x : Fin 128), arg8.view.read (Elt Ideal) X8 (ix2 r x) = (Q r.val x : EReal))
    (hK : ∀ (j : Fin 8192) (x : Fin 128), arg3.view.read (Elt Ideal) X3 (ix3 0 j x) = (K j.val x : EReal))
    (hV : ∀ (j : Fin 8192) (x : Fin 128), arg4.view.read (Elt Ideal) X4 (ix3 0 j x) = (V j.val x : EReal))
    (T : ℕ) (h : Rows arg9 arg10 Q K V T 0 f9 f10) : ∀ n ≤ (k0_t2_loop t).trips,
    Rows arg9 arg10 Q K V T n
      (arg9.view.writes (Elt Ideal) f9 (pb_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 f9 f10 n).1)
      (arg10.view.writes (Elt Ideal) f10 (pb_k0_t2 (F := Ideal) 𝒱 c bd i arg2 harg2 arg3 harg3 arg4 harg4 arg5 harg5 arg6 harg6 arg7 harg7 arg8 harg8 arg9 harg9 arg10 harg10 v15 t w v125 v129 v133 v178 v179 v213 X3 X4 X8 f9 f10 n).2)
  | 0, _ => h
  | n + 1, hn => by
    have ih := rows_trips hQ hK hV T h n (Nat.le_of_succ_le hn)
    rw [pb_k0_t2_succ (F := Ideal) 𝒱 c bd i arg2 harg2 arg3 harg3 arg4 harg4 arg5 harg5 arg6 harg6 arg7 harg7 arg8 harg8 arg9 harg9 arg10 harg10 v15 t w v125 v129 v133 v178 v179 v213 X3 X4 X8 f9 f10 ⟨n, hn⟩]
    rw [View.writes_append, View.writes_append]
    exact rows_step 𝒱 c bd i arg2 harg2 arg3 harg3 arg4 harg4 arg5 harg5 arg6 harg6 arg7 harg7 arg8 harg8 arg9 harg9 arg10 harg10 v15 t w v125 v129 v133 v178 v179 v213 X3 X4 X8 ⟨n, hn⟩ _ _ Q K V hQ hK hV T ih

end Values

end Cert.Proof.KernelIdeal

end
-- ==== Proof.KI.Group.lean ====
/- THE DIAGONAL KEY TILE over one group of 256 stacked query rows. A group meets only the first `w` keys of the tile, `w` being
   256, 512, 768 or 1024 by its place; the keys past a row's own place are masked. The masked scores, their row maxima and
   the first accumulators, read at a row. -/
module

public import proofs.«01_k».proof.Proof.KI.Keys

@[expose] public section

set_option maxRecDepth 16384

noncomputable section

namespace Cert.Proof.KernelIdeal

open Cert.KernelIdeal Cert.KernelIdeal.Gen Cert.Proof.Weights
open Idealize.ShloMosaic Idealize.ShloMosaic.TcCoe

theorem negInf32 : Ideal.ofBits .f32 0xFF800000#32 = (⊥ : EReal) := by
  simp [Ideal.ofBits, Ideal.ieee]

theorem place_le (a b o : ℕ) (ha : a < 2048) (hb : b < 1024) (ho : o < 1024) :
    (BitVec.ofNat 32 a).sle (BitVec.ofNat 32 b + BitVec.ofNat 32 o) = decide (a ≤ o + b) := by
  rw [← BitVec.ofNat_add, BitVec.sle_eq_decide]
  have e : ∀ n < 4096, (BitVec.ofNat 32 n).toInt = n := fun n hn => by
    rw [BitVec.toInt_eq_toNat_of_lt] <;> rw [BitVec.toNat_ofNat] <;> omega
  rw [e a (by omega), e (b + o) (by omega)]
  congr 1
  exact propext ⟨fun h => by omega, fun h => by omega⟩

theorem choose_place (a b o : ℕ) (ha : a < 2048) (hb : b < 1024) (ho : o < 1024) (x y : EReal) :
    Scalar.select (IntOp.cmpi CmpIPredicate.sle (BitVec.ofNat 32 a) (IntOp.addi (BitVec.ofNat 32 b) (BitVec.ofNat 32 o))) x y = if a ≤ o + b then x else y := by
  unfold Scalar.select IntOp.cmpi IntOp.addi
  have h := place_le a b o ha hb ho
  by_cases c : a ≤ o + b
  · rw [if_pos c, if_pos]
    simp only [c, decide_true] at h
    exact (congrArg BitVec.ofBool h).trans rfl
  · rw [if_neg c, if_neg]
    simp only [c, decide_false] at h
    intro e
    have := (congrArg BitVec.ofBool h).symm.trans e
    exact absurd this (by decide)

/-! ### Groups that meet 256 keys -/

def mask256 (q : FVec Ideal S256x128 .bf16) (kb : FVec Ideal S1024x128 .bf16) : FVec Ideal S256x256 .f32 :=
  select (cmpi .sle (iota .tc S256x256 32 [1] iota_S256x256_d1_w32) (addi (iota .tc S256x256 32 [0] iota_S256x256_d0_w32) (broadcast S256x256 0#32)))
    (matmul dot_S256x128_S256x128_S256x256_1_1_0_0_n_n none q (extractStridedSlice S256x128 ![0, 0] kb slices_S1024x128_o0_0_S256x128) (constant S256x256 .f32 0x00000000#32))
    (broadcast S256x256 (Named.named κ "mask" 0xF149F2CA#32))

def top256 (D : FVec Ideal S256x256 .f32) : FVec Ideal S256x128 .f32 :=
  broadcastTo S256x128 (shapeCast S256x1 (shapeCast S256x1 (multiReduction .maximumf [1] S256 D 0xFF800000#32 reduces_S256x256_S256 (.inl rfl) rfl)
    shapeCasts_S256_S256x1) shapeCasts_S256x1_S256x1) broadcasts_S256x1_S256x128

def tiled256 (M : FVec Ideal S256x128 .f32) : FVec Ideal S256x256 .f32 :=
  concatenate S256x256 1 [⟨S256x128, M⟩, ⟨S256x128, M⟩] concatenates_S256x128_S256x128_S256x256_d1

def acc256 (D N : FVec Ideal S256x256 .f32) (ve : FVec Ideal S1024x256 .bf16) : FVec Ideal S256x256 .f32 :=
  matmul dot_S256x256_S256x256_S256x256_1_0_0_1_n_n none (truncf .bf16 (exp2 (subf D N)) bitsLt_bf16_f32) (extractStridedSlice S256x256 ![0, 0] ve slices_S1024x256_o0_0_S256x256) (constant S256x256 .f32 0x00000000#32)

section
variable (q : FVec Ideal S256x128 .bf16) (kb : FVec Ideal S1024x128 .bf16) (D N : FVec Ideal S256x256 .f32) (M : FVec Ideal S256x128 .f32) (ve : FVec Ideal S1024x256 .bf16)
  (r : Fin 256) (s : ℕ → ℝ) (v : Fin 256 → ℕ → ℝ)

theorem mask256_apply (hS : ∀ j : Fin 1024, ∑ x : Fin 128, q (ix2 r x) * kb (ix2 j x) = (s j.val : EReal)) (j : Fin 256) :
    mask256 q kb (ix2 r j) = if j.val ≤ 0 + r.val then (s j.val : EReal) else ⊥ := by
  have hm : (Named.named κ "mask" 0xF149F2CA#32 : Ideal .f32) = (⊥ : EReal) := rfl
  have hs := hS ⟨j.val, by omega⟩
  pointwise [mask256]
  rw [hm, hs]
  refine (choose_place j.val r.val 0 (by omega) (by omega) (by omega) _ _).trans ?_
  by_cases h : j.val ≤ 0 + r.val
  · have h' := h
    simp only [Nat.zero_add] at h'
    rw [if_pos h, if_pos h']
  · have h' := h
    simp only [Nat.zero_add] at h'
    rw [if_neg h, if_neg h']

theorem top256_apply (hD : ∀ j : Fin 256, D (ix2 r j) = if j.val ≤ 0 + r.val then (s j.val : EReal) else ⊥) (l : Fin 128) :
    top256 D (ix2 r l) = (top (fun j : Fin 256 => j.val ≤ 0 + r.val) (fun j => s j.val) : EReal) := by
  rw [← coe_top (fun j : Fin 256 => j.val ≤ 0 + r.val) (fun j => s j.val) 0 (Nat.zero_le _)]
  simp only [← hD]
  pointwise [top256]
  rw [negInf32]

theorem tiled256_apply (m : ℝ) (hM : ∀ l : Fin 128, M (ix2 r l) = (m : EReal)) (j : Fin 256) : tiled256 M (ix2 r j) = (m : EReal) := by
  pointwise [tiled256]
  split_ifs <;> exact hM _

theorem acc256_apply (m : ℝ) (hD : ∀ j : Fin 256, D (ix2 r j) = if j.val ≤ 0 + r.val then (s j.val : EReal) else ⊥) (hN : ∀ j : Fin 256, N (ix2 r j) = (m : EReal))
    (hv : ∀ (j : Fin 1024) (c : Fin 256), ve (ix2 j c) = (v c j.val : EReal)) (c : Fin 256) :
    acc256 D N ve (ix2 r c) = ((∑ j ∈ Finset.range (0 + r.val + 1), (2 : ℝ) ^ (s j - m) * v c j : ℝ) : EReal) := by
  rw [← sum_mask 256 _ (by omega) (fun j => (2 : ℝ) ^ (s j - m) * v c j), coe_sum]
  have hx : ∀ x : Fin 256, FloatOps.exp2 (φ := .f32) (D (ix2 r x) - N (ix2 r x) : Ideal .f32) = if x.val ≤ 0 + r.val then (((2 : ℝ) ^ (s x.val - m) : ℝ) : EReal) else 0 := by
    intro x
    rw [hD, hN]
    split_ifs
    · rw [← EReal.coe_sub]; exact exp2_coe _
    · rw [EReal.bot_sub]; rfl
  pointwise [acc256]
  refine Finset.sum_congr rfl fun x _ => ?_
  refine (congrArg₂ (fun a b : EReal => a * b) (hx x) (hv ⟨x.val, by omega⟩ c)).trans ?_
  by_cases h : x.val ≤ 0 + r.val
  · have h' := h
    simp only [Nat.zero_add] at h'
    rw [if_pos h, if_pos h', EReal.coe_mul]
  · have h' := h
    simp only [Nat.zero_add] at h'
    rw [if_neg h, if_neg h', zero_mul, EReal.coe_zero]
end

/-! ### Groups that meet 512 keys -/

def mask512 (q : FVec Ideal S256x128 .bf16) (kb : FVec Ideal S1024x128 .bf16) : FVec Ideal S256x512 .f32 :=
  select (cmpi .sle (iota .tc S256x512 32 [1] iota_S256x512_d1_w32) (addi (iota .tc S256x512 32 [0] iota_S256x512_d0_w32) (broadcast S256x512 256#32)))
    (matmul dot_S256x128_S512x128_S256x512_1_1_0_0_n_n none q (extractStridedSlice S512x128 ![0, 0] kb slices_S1024x128_o0_0_S512x128) (constant S256x512 .f32 0x00000000#32))
    (broadcast S256x512 (Named.named κ "mask" 0xF149F2CA#32))

def top512 (D : FVec Ideal S256x512 .f32) : FVec Ideal S256x128 .f32 :=
  broadcastTo S256x128 (shapeCast S256x1 (shapeCast S256x1 (multiReduction .maximumf [1] S256 D 0xFF800000#32 reduces_S256x512_S256 (.inl rfl) rfl)
    shapeCasts_S256_S256x1) shapeCasts_S256x1_S256x1) broadcasts_S256x1_S256x128

def tiled512 (M : FVec Ideal S256x128 .f32) : FVec Ideal S256x512 .f32 :=
  concatenate S256x512 1 [⟨S256x128, M⟩, ⟨S256x128, M⟩, ⟨S256x128, M⟩, ⟨S256x128, M⟩] concatenates_S256x128_S256x128_S256x128_S256x128_S256x512_d1

def acc512 (D N : FVec Ideal S256x512 .f32) (ve : FVec Ideal S1024x256 .bf16) : FVec Ideal S256x256 .f32 :=
  matmul dot_S256x512_S512x256_S256x256_1_0_0_1_n_n none (truncf .bf16 (exp2 (subf D N)) bitsLt_bf16_f32) (extractStridedSlice S512x256 ![0, 0] ve slices_S1024x256_o0_0_S512x256) (constant S256x256 .f32 0x00000000#32)

section
variable (q : FVec Ideal S256x128 .bf16) (kb : FVec Ideal S1024x128 .bf16) (D N : FVec Ideal S256x512 .f32) (M : FVec Ideal S256x128 .f32) (ve : FVec Ideal S1024x256 .bf16)
  (r : Fin 256) (s : ℕ → ℝ) (v : Fin 256 → ℕ → ℝ)

theorem mask512_apply (hS : ∀ j : Fin 1024, ∑ x : Fin 128, q (ix2 r x) * kb (ix2 j x) = (s j.val : EReal)) (j : Fin 512) :
    mask512 q kb (ix2 r j) = if j.val ≤ 256 + r.val then (s j.val : EReal) else ⊥ := by
  have hm : (Named.named κ "mask" 0xF149F2CA#32 : Ideal .f32) = (⊥ : EReal) := rfl
  have hs := hS ⟨j.val, by omega⟩
  pointwise [mask512]
  rw [hm, hs]
  refine (choose_place j.val r.val 256 (by omega) (by omega) (by omega) _ _).trans ?_
  by_cases h : j.val ≤ 256 + r.val
  · have h' := h
    rw [if_pos h]
  · have h' := h
    rw [if_neg h]

theorem top512_apply (hD : ∀ j : Fin 512, D (ix2 r j) = if j.val ≤ 256 + r.val then (s j.val : EReal) else ⊥) (l : Fin 128) :
    top512 D (ix2 r l) = (top (fun j : Fin 512 => j.val ≤ 256 + r.val) (fun j => s j.val) : EReal) := by
  rw [← coe_top (fun j : Fin 512 => j.val ≤ 256 + r.val) (fun j => s j.val) 0 (Nat.zero_le _)]
  simp only [← hD]
  pointwise [top512]
  rw [negInf32]

theorem tiled512_apply (m : ℝ) (hM : ∀ l : Fin 128, M (ix2 r l) = (m : EReal)) (j : Fin 512) : tiled512 M (ix2 r j) = (m : EReal) := by
  pointwise [tiled512]
  split_ifs <;> exact hM _

theorem acc512_apply (m : ℝ) (hD : ∀ j : Fin 512, D (ix2 r j) = if j.val ≤ 256 + r.val then (s j.val : EReal) else ⊥) (hN : ∀ j : Fin 512, N (ix2 r j) = (m : EReal))
    (hv : ∀ (j : Fin 1024) (c : Fin 256), ve (ix2 j c) = (v c j.val : EReal)) (c : Fin 256) :
    acc512 D N ve (ix2 r c) = ((∑ j ∈ Finset.range (256 + r.val + 1), (2 : ℝ) ^ (s j - m) * v c j : ℝ) : EReal) := by
  rw [← sum_mask 512 _ (by omega) (fun j => (2 : ℝ) ^ (s j - m) * v c j), coe_sum]
  have hx : ∀ x : Fin 512, FloatOps.exp2 (φ := .f32) (D (ix2 r x) - N (ix2 r x) : Ideal .f32) = if x.val ≤ 256 + r.val then (((2 : ℝ) ^ (s x.val - m) : ℝ) : EReal) else 0 := by
    intro x
    rw [hD, hN]
    split_ifs
    · rw [← EReal.coe_sub]; exact exp2_coe _
    · rw [EReal.bot_sub]; rfl
  pointwise [acc512]
  refine Finset.sum_congr rfl fun x _ => ?_
  refine (congrArg₂ (fun a b : EReal => a * b) (hx x) (hv ⟨x.val, by omega⟩ c)).trans ?_
  by_cases h : x.val ≤ 256 + r.val
  · have h' := h
    rw [if_pos h, if_pos h', EReal.coe_mul]
  · have h' := h
    rw [if_neg h, if_neg h', zero_mul, EReal.coe_zero]
end

/-! ### Groups that meet 768 keys -/

def mask768 (q : FVec Ideal S256x128 .bf16) (kb : FVec Ideal S1024x128 .bf16) : FVec Ideal S256x768 .f32 :=
  select (cmpi .sle (iota .tc S256x768 32 [1] iota_S256x768_d1_w32) (addi (iota .tc S256x768 32 [0] iota_S256x768_d0_w32) (broadcast S256x768 512#32)))
    (matmul dot_S256x128_S768x128_S256x768_1_1_0_0_n_n none q (extractStridedSlice S768x128 ![0, 0] kb slices_S1024x128_o0_0_S768x128) (constant S256x768 .f32 0x00000000#32))
    (broadcast S256x768 (Named.named κ "mask" 0xF149F2CA#32))

def top768 (D : FVec Ideal S256x768 .f32) : FVec Ideal S256x128 .f32 :=
  broadcastTo S256x128 (shapeCast S256x1 (shapeCast S256x1 (multiReduction .maximumf [1] S256 D 0xFF800000#32 reduces_S256x768_S256 (.inl rfl) rfl)
    shapeCasts_S256_S256x1) shapeCasts_S256x1_S256x1) broadcasts_S256x1_S256x128

def tiled768 (M : FVec Ideal S256x128 .f32) : FVec Ideal S256x768 .f32 :=
  concatenate S256x768 1 [⟨S256x128, M⟩, ⟨S256x128, M⟩, ⟨S256x128, M⟩, ⟨S256x128, M⟩, ⟨S256x128, M⟩, ⟨S256x128, M⟩] concatenates_S256x128_S256x128_S256x128_S256x128_S256x128_S256x128_S256x768_d1

def acc768 (D N : FVec Ideal S256x768 .f32) (ve : FVec Ideal S1024x256 .bf16) : FVec Ideal S256x256 .f32 :=
  matmul dot_S256x768_S768x256_S256x256_1_0_0_1_n_n none (truncf .bf16 (exp2 (subf D N)) bitsLt_bf16_f32) (extractStridedSlice S768x256 ![0, 0] ve slices_S1024x256_o0_0_S768x256) (constant S256x256 .f32 0x00000000#32)

section
variable (q : FVec Ideal S256x128 .bf16) (kb : FVec Ideal S1024x128 .bf16) (D N : FVec Ideal S256x768 .f32) (M : FVec Ideal S256x128 .f32) (ve : FVec Ideal S1024x256 .bf16)
  (r : Fin 256) (s : ℕ → ℝ) (v : Fin 256 → ℕ → ℝ)

theorem mask768_apply (hS : ∀ j : Fin 1024, ∑ x : Fin 128, q (ix2 r x) * kb (ix2 j x) = (s j.val : EReal)) (j : Fin 768) :
    mask768 q kb (ix2 r j) = if j.val ≤ 512 + r.val then (s j.val : EReal) else ⊥ := by
  have hm : (Named.named κ "mask" 0xF149F2CA#32 : Ideal .f32) = (⊥ : EReal) := rfl
  have hs := hS ⟨j.val, by omega⟩
  pointwise [mask768]
  rw [hm, hs]
  refine (choose_place j.val r.val 512 (by omega) (by omega) (by omega) _ _).trans ?_
  by_cases h : j.val ≤ 512 + r.val
  · have h' := h
    rw [if_pos h]
  · have h' := h
    rw [if_neg h]

theorem top768_apply (hD : ∀ j : Fin 768, D (ix2 r j) = if j.val ≤ 512 + r.val then (s j.val : EReal) else ⊥) (l : Fin 128) :
    top768 D (ix2 r l) = (top (fun j : Fin 768 => j.val ≤ 512 + r.val) (fun j => s j.val) : EReal) := by
  rw [← coe_top (fun j : Fin 768 => j.val ≤ 512 + r.val) (fun j => s j.val) 0 (Nat.zero_le _)]
  simp only [← hD]
  pointwise [top768]
  rw [negInf32]

theorem tiled768_apply (m : ℝ) (hM : ∀ l : Fin 128, M (ix2 r l) = (m : EReal)) (j : Fin 768) : tiled768 M (ix2 r j) = (m : EReal) := by
  pointwise [tiled768]
  split_ifs <;> exact hM _

theorem acc768_apply (m : ℝ) (hD : ∀ j : Fin 768, D (ix2 r j) = if j.val ≤ 512 + r.val then (s j.val : EReal) else ⊥) (hN : ∀ j : Fin 768, N (ix2 r j) = (m : EReal))
    (hv : ∀ (j : Fin 1024) (c : Fin 256), ve (ix2 j c) = (v c j.val : EReal)) (c : Fin 256) :
    acc768 D N ve (ix2 r c) = ((∑ j ∈ Finset.range (512 + r.val + 1), (2 : ℝ) ^ (s j - m) * v c j : ℝ) : EReal) := by
  rw [← sum_mask 768 _ (by omega) (fun j => (2 : ℝ) ^ (s j - m) * v c j), coe_sum]
  have hx : ∀ x : Fin 768, FloatOps.exp2 (φ := .f32) (D (ix2 r x) - N (ix2 r x) : Ideal .f32) = if x.val ≤ 512 + r.val then (((2 : ℝ) ^ (s x.val - m) : ℝ) : EReal) else 0 := by
    intro x
    rw [hD, hN]
    split_ifs
    · rw [← EReal.coe_sub]; exact exp2_coe _
    · rw [EReal.bot_sub]; rfl
  pointwise [acc768]
  refine Finset.sum_congr rfl fun x _ => ?_
  refine (congrArg₂ (fun a b : EReal => a * b) (hx x) (hv ⟨x.val, by omega⟩ c)).trans ?_
  by_cases h : x.val ≤ 512 + r.val
  · have h' := h
    rw [if_pos h, if_pos h', EReal.coe_mul]
  · have h' := h
    rw [if_neg h, if_neg h', zero_mul, EReal.coe_zero]
end

/-! ### Groups that meet 1024 keys -/

def mask1024 (q : FVec Ideal S256x128 .bf16) (kb : FVec Ideal S1024x128 .bf16) : FVec Ideal S256x1024 .f32 :=
  select (cmpi .sle (iota .tc S256x1024 32 [1] iota_S256x1024_d1_w32) (addi (iota .tc S256x1024 32 [0] iota_S256x1024_d0_w32) (broadcast S256x1024 768#32)))
    (matmul dot_S256x128_S1024x128_S256x1024_1_1_0_0_n_n none q kb (constant S256x1024 .f32 0x00000000#32))
    (broadcast S256x1024 (Named.named κ "mask" 0xF149F2CA#32))

def top1024 (D : FVec Ideal S256x1024 .f32) : FVec Ideal S256x128 .f32 :=
  broadcastTo S256x128 (shapeCast S256x1 (shapeCast S256x1 (multiReduction .maximumf [1] S256 D 0xFF800000#32 reduces_S256x1024_S256 (.inl rfl) rfl)
    shapeCasts_S256_S256x1) shapeCasts_S256x1_S256x1) broadcasts_S256x1_S256x128

def tiled1024 (M : FVec Ideal S256x128 .f32) : FVec Ideal S256x1024 .f32 :=
  concatenate S256x1024 1 [⟨S256x128, M⟩, ⟨S256x128, M⟩, ⟨S256x128, M⟩, ⟨S256x128, M⟩, ⟨S256x128, M⟩, ⟨S256x128, M⟩, ⟨S256x128, M⟩, ⟨S256x128, M⟩] concatenates_S256x128_S256x128_S256x128_S256x128_S256x128_S256x128_S256x128_S256x128_S256x1024_d1

def acc1024 (D N : FVec Ideal S256x1024 .f32) (ve : FVec Ideal S1024x256 .bf16) : FVec Ideal S256x256 .f32 :=
  matmul dot_S256x1024_S1024x256_S256x256_1_0_0_1_n_n none (truncf .bf16 (exp2 (subf D N)) bitsLt_bf16_f32) ve (constant S256x256 .f32 0x00000000#32)

section
variable (q : FVec Ideal S256x128 .bf16) (kb : FVec Ideal S1024x128 .bf16) (D N : FVec Ideal S256x1024 .f32) (M : FVec Ideal S256x128 .f32) (ve : FVec Ideal S1024x256 .bf16)
  (r : Fin 256) (s : ℕ → ℝ) (v : Fin 256 → ℕ → ℝ)

theorem mask1024_apply (hS : ∀ j : Fin 1024, ∑ x : Fin 128, q (ix2 r x) * kb (ix2 j x) = (s j.val : EReal)) (j : Fin 1024) :
    mask1024 q kb (ix2 r j) = if j.val ≤ 768 + r.val then (s j.val : EReal) else ⊥ := by
  have hm : (Named.named κ "mask" 0xF149F2CA#32 : Ideal .f32) = (⊥ : EReal) := rfl
  have hs := hS ⟨j.val, by omega⟩
  pointwise [mask1024]
  rw [hm, hs]
  refine (choose_place j.val r.val 768 (by omega) (by omega) (by omega) _ _).trans ?_
  by_cases h : j.val ≤ 768 + r.val
  · have h' := h
    rw [if_pos h]
  · have h' := h
    rw [if_neg h]

theorem top1024_apply (hD : ∀ j : Fin 1024, D (ix2 r j) = if j.val ≤ 768 + r.val then (s j.val : EReal) else ⊥) (l : Fin 128) :
    top1024 D (ix2 r l) = (top (fun j : Fin 1024 => j.val ≤ 768 + r.val) (fun j => s j.val) : EReal) := by
  rw [← coe_top (fun j : Fin 1024 => j.val ≤ 768 + r.val) (fun j => s j.val) 0 (Nat.zero_le _)]
  simp only [← hD]
  pointwise [top1024]
  rw [negInf32]

theorem tiled1024_apply (m : ℝ) (hM : ∀ l : Fin 128, M (ix2 r l) = (m : EReal)) (j : Fin 1024) : tiled1024 M (ix2 r j) = (m : EReal) := by
  pointwise [tiled1024]
  split_ifs <;> exact hM _

theorem acc1024_apply (m : ℝ) (hD : ∀ j : Fin 1024, D (ix2 r j) = if j.val ≤ 768 + r.val then (s j.val : EReal) else ⊥) (hN : ∀ j : Fin 1024, N (ix2 r j) = (m : EReal))
    (hv : ∀ (j : Fin 1024) (c : Fin 256), ve (ix2 j c) = (v c j.val : EReal)) (c : Fin 256) :
    acc1024 D N ve (ix2 r c) = ((∑ j ∈ Finset.range (768 + r.val + 1), (2 : ℝ) ^ (s j - m) * v c j : ℝ) : EReal) := by
  rw [← sum_mask 1024 _ (by omega) (fun j => (2 : ℝ) ^ (s j - m) * v c j), coe_sum]
  have hx : ∀ x : Fin 1024, FloatOps.exp2 (φ := .f32) (D (ix2 r x) - N (ix2 r x) : Ideal .f32) = if x.val ≤ 768 + r.val then (((2 : ℝ) ^ (s x.val - m) : ℝ) : EReal) else 0 := by
    intro x
    rw [hD, hN]
    split_ifs
    · rw [← EReal.coe_sub]; exact exp2_coe _
    · rw [EReal.bot_sub]; rfl
  pointwise [acc1024]
  refine Finset.sum_congr rfl fun x _ => ?_
  refine (congrArg₂ (fun a b : EReal => a * b) (hx x) (hv ⟨x.val, by omega⟩ c)).trans ?_
  by_cases h : x.val ≤ 768 + r.val
  · have h' := h
    rw [if_pos h, if_pos h', EReal.coe_mul]
  · have h' := h
    rw [if_neg h, if_neg h', zero_mul, EReal.coe_zero]
end

end Cert.Proof.KernelIdeal

end
-- ==== Proof.KI.Start.lean ====
/- THE DIAGONAL KEY TILE, row by row: with the queries, keys and values as real numbers, a group's maxima are each row's largest
   score among the keys up to its own place, and its first accumulators the weighted sums over those keys. -/
module

public import proofs.«01_k».proof.Proof.KI.Group

@[expose] public section

set_option maxRecDepth 16384

noncomputable section

namespace Cert.Proof.KernelIdeal

open Cert.KernelIdeal Cert.KernelIdeal.Gen Cert.Proof.Weights
open Idealize.ShloMosaic Idealize.ShloMosaic.TcCoe

/-- The largest of the scores up to place `p` of a key tile. -/
def start (s : ℕ → ℝ) (p : ℕ) : ℝ :=
  if p < 256 then top (fun j : Fin 256 => j.val ≤ p) (fun j => s j.val) else if p < 512 then top (fun j : Fin 512 => j.val ≤ p) (fun j => s j.val)
  else if p < 768 then top (fun j : Fin 768 => j.val ≤ p) (fun j => s j.val) else top (fun j : Fin 1024 => j.val ≤ p) (fun j => s j.val)

section
variable (q : FVec Ideal S256x128 .bf16) (kb : FVec Ideal S1024x128 .bf16) (ve : FVec Ideal S1024x256 .bf16) (Q K V : ℕ → Fin 128 → ℝ) (R T : ℕ)

theorem scores_of (hq : ∀ (r : Fin 256) (x : Fin 128), q (ix2 r x) = (Q (R + r.val) x : EReal)) (hk : ∀ (j : Fin 1024) (x : Fin 128), kb (ix2 j x) = (K (1024 * T + j.val) x : EReal))
    (r : Fin 256) (j : Fin 1024) : ∑ x : Fin 128, q (ix2 r x) * kb (ix2 j x) = (score Q K (R + r.val) (1024 * T + j.val) : EReal) := by
  unfold score
  rw [coe_sum]
  exact Finset.sum_congr rfl fun x _ => by rw [hq, hk, EReal.coe_mul]

variable (hq : ∀ (r : Fin 256) (x : Fin 128), q (ix2 r x) = (Q (R + r.val) x : EReal)) (hk : ∀ (j : Fin 1024) (x : Fin 128), kb (ix2 j x) = (K (1024 * T + j.val) x : EReal))
  (hv : ∀ (j : Fin 1024) (c : Fin 256), ve (ix2 j c) = (valueOne V c (1024 * T + j.val) : EReal))

theorem start256 (s : ℕ → ℝ) (r : Fin 256) (p : ℕ) (h : p = 0 + r.val) : start s p = top (fun j : Fin 256 => j.val ≤ 0 + r.val) (fun j => s j.val) := by
  subst h
  unfold start
  rw [if_pos (by omega)]

include hq hk in
theorem first256_top (hR : R % 1024 = 0) (r : Fin 256) (l : Fin 128) :
    top256 (mask256 q kb) (ix2 r l) = (start (fun j => score Q K (R + r.val) (1024 * T + j)) ((R + r.val) % 1024) : EReal) := by
  rw [start256 _ r _ (by omega)]
  exact top256_apply (mask256 q kb) r (fun j => score Q K (R + r.val) (1024 * T + j)) (mask256_apply q kb r (fun j => score Q K (R + r.val) (1024 * T + j)) (scores_of q kb Q K R T hq hk r)) l

include hq hk hv in
theorem first256_acc (hR : R % 1024 = 0) (r : Fin 256) (x : Fin 256) :
    acc256 (mask256 q kb) (tiled256 (top256 (mask256 q kb))) ve (ix2 r x)
      = (total (score Q K (R + r.val)) (valueOne V x) (start (fun j => score Q K (R + r.val) (1024 * T + j)) ((R + r.val) % 1024)) T 0 ((R + r.val) % 1024) : EReal) := by
  refine (acc256_apply (mask256 q kb) _ ve r (fun j => score Q K (R + r.val) (1024 * T + j)) (fun c j => valueOne V c (1024 * T + j)) _
    (mask256_apply q kb r (fun j => score Q K (R + r.val) (1024 * T + j)) (scores_of q kb Q K R T hq hk r)) (tiled256_apply _ r _ (first256_top q kb Q K R T hq hk hR r)) hv x).trans ?_
  unfold total
  have e : (R + r.val) % 1024 = 0 + r.val := by omega
  rw [e]
  simp only [Nat.mul_zero, Finset.range_zero, Finset.sum_empty]
  exact congrArg _ (zero_add _).symm

theorem start512 (s : ℕ → ℝ) (r : Fin 256) (p : ℕ) (h : p = 256 + r.val) : start s p = top (fun j : Fin 512 => j.val ≤ 256 + r.val) (fun j => s j.val) := by
  subst h
  unfold start
  rw [if_neg (by omega), if_pos (by omega)]

include hq hk in
theorem first512_top (hR : R % 1024 = 256) (r : Fin 256) (l : Fin 128) :
    top512 (mask512 q kb) (ix2 r l) = (start (fun j => score Q K (R + r.val) (1024 * T + j)) ((R + r.val) % 1024) : EReal) := by
  rw [start512 _ r _ (by omega)]
  exact top512_apply (mask512 q kb) r (fun j => score Q K (R + r.val) (1024 * T + j)) (mask512_apply q kb r (fun j => score Q K (R + r.val) (1024 * T + j)) (scores_of q kb Q K R T hq hk r)) l

include hq hk hv in
theorem first512_acc (hR : R % 1024 = 256) (r : Fin 256) (x : Fin 256) :
    acc512 (mask512 q kb) (tiled512 (top512 (mask512 q kb))) ve (ix2 r x)
      = (total (score Q K (R + r.val)) (valueOne V x) (start (fun j => score Q K (R + r.val) (1024 * T + j)) ((R + r.val) % 1024)) T 0 ((R + r.val) % 1024) : EReal) := by
  refine (acc512_apply (mask512 q kb) _ ve r (fun j => score Q K (R + r.val) (1024 * T + j)) (fun c j => valueOne V c (1024 * T + j)) _
    (mask512_apply q kb r (fun j => score Q K (R + r.val) (1024 * T + j)) (scores_of q kb Q K R T hq hk r)) (tiled512_apply _ r _ (first512_top q kb Q K R T hq hk hR r)) hv x).trans ?_
  unfold total
  have e : (R + r.val) % 1024 = 256 + r.val := by omega
  rw [e]
  simp only [Nat.mul_zero, Finset.range_zero, Finset.sum_empty]
  exact congrArg _ (zero_add _).symm

theorem start768 (s : ℕ → ℝ) (r : Fin 256) (p : ℕ) (h : p = 512 + r.val) : start s p = top (fun j : Fin 768 => j.val ≤ 512 + r.val) (fun j => s j.val) := by
  subst h
  unfold start
  rw [if_neg (by omega), if_neg (by omega), if_pos (by omega)]

include hq hk in
theorem first768_top (hR : R % 1024 = 512) (r : Fin 256) (l : Fin 128) :
    top768 (mask768 q kb) (ix2 r l) = (start (fun j => score Q K (R + r.val) (1024 * T + j)) ((R + r.val) % 1024) : EReal) := by
  rw [start768 _ r _ (by omega)]
  exact top768_apply (mask768 q kb) r (fun j => score Q K (R + r.val) (1024 * T + j)) (mask768_apply q kb r (fun j => score Q K (R + r.val) (1024 * T + j)) (scores_of q kb Q K R T hq hk r)) l

include hq hk hv in
theorem first768_acc (hR : R % 1024 = 512) (r : Fin 256) (x : Fin 256) :
    acc768 (mask768 q kb) (tiled768 (top768 (mask768 q kb))) ve (ix2 r x)
      = (total (score Q K (R + r.val)) (valueOne V x) (start (fun j => score Q K (R + r.val) (1024 * T + j)) ((R + r.val) % 1024)) T 0 ((R + r.val) % 1024) : EReal) := by
  refine (acc768_apply (mask768 q kb) _ ve r (fun j => score Q K (R + r.val) (1024 * T + j)) (fun c j => valueOne V c (1024 * T + j)) _
    (mask768_apply q kb r (fun j => score Q K (R + r.val) (1024 * T + j)) (scores_of q kb Q K R T hq hk r)) (tiled768_apply _ r _ (first768_top q kb Q K R T hq hk hR r)) hv x).trans ?_
  unfold total
  have e : (R + r.val) % 1024 = 512 + r.val := by omega
  rw [e]
  simp only [Nat.mul_zero, Finset.range_zero, Finset.sum_empty]
  exact congrArg _ (zero_add _).symm

theorem start1024 (s : ℕ → ℝ) (r : Fin 256) (p : ℕ) (h : p = 768 + r.val) : start s p = top (fun j : Fin 1024 => j.val ≤ 768 + r.val) (fun j => s j.val) := by
  subst h
  unfold start
  rw [if_neg (by omega), if_neg (by omega), if_neg (by omega)]

include hq hk in
theorem first1024_top (hR : R % 1024 = 768) (r : Fin 256) (l : Fin 128) :
    top1024 (mask1024 q kb) (ix2 r l) = (start (fun j => score Q K (R + r.val) (1024 * T + j)) ((R + r.val) % 1024) : EReal) := by
  rw [start1024 _ r _ (by omega)]
  exact top1024_apply (mask1024 q kb) r (fun j => score Q K (R + r.val) (1024 * T + j)) (mask1024_apply q kb r (fun j => score Q K (R + r.val) (1024 * T + j)) (scores_of q kb Q K R T hq hk r)) l

include hq hk hv in
theorem first1024_acc (hR : R % 1024 = 768) (r : Fin 256) (x : Fin 256) :
    acc1024 (mask1024 q kb) (tiled1024 (top1024 (mask1024 q kb))) ve (ix2 r x)
      = (total (score Q K (R + r.val)) (valueOne V x) (start (fun j => score Q K (R + r.val) (1024 * T + j)) ((R + r.val) % 1024)) T 0 ((R + r.val) % 1024) : EReal) := by
  refine (acc1024_apply (mask1024 q kb) _ ve r (fun j => score Q K (R + r.val) (1024 * T + j)) (fun c j => valueOne V c (1024 * T + j)) _
    (mask1024_apply q kb r (fun j => score Q K (R + r.val) (1024 * T + j)) (scores_of q kb Q K R T hq hk r)) (tiled1024_apply _ r _ (first1024_top q kb Q K R T hq hk hR r)) hv x).trans ?_
  unfold total
  have e : (R + r.val) % 1024 = 768 + r.val := by omega
  rw [e]
  simp only [Nat.mul_zero, Finset.range_zero, Finset.sum_empty]
  exact congrArg _ (zero_add _).symm

end

end Cert.Proof.KernelIdeal

end
-- ==== Proof.KI.Diag.lean ====
/- THE DIAGONAL KEY TILE as the query tile stores it: the query rows stacked by halves of the head, the eight groups of 256
   stacked rows, and from them the maxima and accumulators the inner loop starts from. -/
module

public import proofs.«01_k».proof.Proof.KI.Start

@[expose] public section

set_option maxRecDepth 16384

noncomputable section

namespace Cert.Proof.KernelIdeal

open Cert.KernelIdeal Cert.KernelIdeal.Gen Cert.Proof.Weights
open Idealize.ShloMosaic Idealize.ShloMosaic.TcCoe

/-- A query tile stacked by halves of the head: the first copy keeps lanes 0 to 63, the second lanes 64 to 127. -/
def stackOf (y : FVec Ideal S1024x128 .bf16) : FVec Ideal S2048x128 .bf16 :=
  shapeCast S2048x128 (concatenate S2048x128 0
    [⟨S1024x128, select (cmpi .slt (iota .tc S1024x128 32 [1] iota_S1024x128_d1_w32) (broadcast S1024x128 64#32)) y (broadcast S1024x128 (FloatOps.ofBits .bf16 0x0000#16))⟩,
     ⟨S1024x128, select (cmpi .slt (iota .tc S1024x128 32 [1] iota_S1024x128_d1_w32) (broadcast S1024x128 64#32)) (broadcast S1024x128 (FloatOps.ofBits .bf16 0x0000#16)) y⟩]
    concatenates_S1024x128_S1024x128_S2048x128_d0) shapeCasts_S2048x128_S2048x128

theorem lane_lt (a : ℕ) (ha : a < 128) (x y : EReal) :
    Scalar.select (IntOp.cmpi CmpIPredicate.slt (BitVec.ofNat 32 a) 64#32) x y = if a < 64 then x else y := by
  have h : (BitVec.ofNat 32 a).slt 64#32 = decide (a < 64) := by
    revert ha
    revert a
    decide
  unfold Scalar.select IntOp.cmpi
  by_cases c : a < 64
  · rw [if_pos c, if_pos]
    simp only [c, decide_true] at h
    exact (congrArg BitVec.ofBool h).trans rfl
  · rw [if_neg c, if_neg]
    simp only [c, decide_false] at h
    intro e
    exact absurd ((congrArg BitVec.ofBool h).symm.trans e) (by decide)

/-- Row `r` of query tile `T` stacked by halves. -/
def stacked (Q : ℕ → Fin 128 → ℝ) (T r : ℕ) (x : Fin 128) : ℝ := if (r < 1024 ↔ x.val < 64) then Q (1024 * T + r % 1024) x else 0

theorem stackOf_apply (y : FVec Ideal S1024x128 .bf16) (Q : ℕ → Fin 128 → ℝ) (T : ℕ) (hy : ∀ (r : Fin 1024) (x : Fin 128), y (ix2 r x) = (Q (1024 * T + r.val) x : EReal))
    (r : Fin 2048) (x : Fin 128) : stackOf y (ix2 r x) = (stacked Q T r.val x : EReal) := by
  unfold stacked
  pointwise [stackOf]
  by_cases h : r.val < 1024
  · rw [dif_pos h]
    refine (lane_lt x.val x.isLt _ _).trans ?_
    rw [Nat.mod_eq_of_lt h]
    by_cases h' : x.val < 64
    · rw [if_pos h', if_pos (show (r.val < 1024 ↔ x.val < 64) by simp [h, h'])]; exact hy ⟨r.val, h⟩ x
    · rw [if_neg h', if_neg (show ¬ (r.val < 1024 ↔ x.val < 64) by simp [h, h'])]; rfl
  · rw [dif_neg h]
    refine (lane_lt x.val x.isLt _ _).trans ?_
    have e : r.val % 1024 = r.val - 1024 := by omega
    by_cases h' : x.val < 64
    · rw [if_pos h', if_neg (show ¬ (r.val < 1024 ↔ x.val < 64) by simp [h, h'])]; rfl
    · rw [if_neg h', if_pos (show (r.val < 1024 ↔ x.val < 64) by simp [h, h'])]
      exact (hy ⟨r.val - 1024, by omega⟩ x).trans (by rw [e])

theorem off1_eq : ∀ k : Fin k0_t1_loop.trips, k0_off1 k = ![0, 1024 * k.val, 0] := by decide

section
variable (arg2 : Memref sig .tc .vmem S1x8192x128 .bf16) (arg3 : Memref sig .tc .vmem S1x8192x128 .bf16) (arg4 : Memref sig .tc .vmem S1x8192x128 .bf16) (arg8 : Memref sig .tc .vmem S2048x128 .bf16) (arg9 : Memref sig .tc .vmem S2048x128 .f32) (arg10 : Memref sig .tc .vmem S2048x256 .f32)
  (X2 : BufTy.Contents (Elt Ideal) arg2.view.ty) (X3 : BufTy.Contents (Elt Ideal) arg3.view.ty) (X4 : BufTy.Contents (Elt Ideal) arg4.view.ty) (k : Fin k0_t1_loop.trips)

/-- The tile's queries, its own keys, and its own values beside a block of ones. -/
def diagQuery : FVec Ideal S1024x128 .bf16 :=
  shapeCast S1024x128 (arg2.view.readAt (Elt Ideal) (Rect.unit (s := S1x8192x128) (k0_off1 k) S1x1024x128.size (k0_off1_inb k)).toLoadRect X2) shapeCasts_S1x1024x128_S1024x128
def diagKey : FVec Ideal S1024x128 .bf16 :=
  shapeCast S1024x128 (arg3.view.readAt (Elt Ideal) (Rect.unit (s := S1x8192x128) (k0_off1 k) S1x1024x128.size (k0_off1_inb k)).toLoadRect X3) shapeCasts_S1x1024x128_S1024x128
def diagValue : FVec Ideal S1024x256 .bf16 :=
  concatenate S1024x256 1 [⟨S1024x128, shapeCast S1024x128 (arg4.view.readAt (Elt Ideal) (Rect.unit (s := S1x8192x128) (k0_off1 k) S1x1024x128.size (k0_off1_inb k)).toLoadRect X4) shapeCasts_S1x1024x128_S1024x128⟩,
    ⟨S1024x128, broadcast S1024x128 (FloatOps.ofBits .bf16 0x3F80#16)⟩] concatenates_S1024x128_S1024x128_S1024x256_d1

/-- The buffer of the stacked queries. -/
def stackedBuf : BufTy.Contents (Elt Ideal) arg8.view.ty := arg8.view.writes (Elt Ideal) arg8.view.junk (tile.sl.H8_1 (F := Ideal) arg2 X2 k)

theorem stackedPieces : tile.sl.H8_1 (F := Ideal) arg2 X2 k =
    [⟨Rect.unit (s := S2048x128) ![0, 0] S2048x128.size inb_S2048x128_S2048x128_0_0, stackOf (diagQuery arg2 X2 k)⟩] := by
  rfl

theorem firstTops : tile.sl.H9_8 (F := Ideal) arg2 arg3 arg8 X2 X3 k =
    [⟨(Rect.unit (s := S2048x128) ![1792, 0] S256x128.size inb_S2048x128_S256x128_1792_0), shapeCast S256x128 (top1024 (mask1024 (arg8.view.readAt (Elt Ideal) (Rect.unit (s := S2048x128) ![1792, 0] S256x128.size inb_S2048x128_S256x128_1792_0).toLoadRect (stackedBuf arg2 arg8 X2 k)) (diagKey arg3 X3 k))) shapeCasts_S256x128_S256x128⟩,
     ⟨(Rect.unit (s := S2048x128) ![1536, 0] S256x128.size inb_S2048x128_S256x128_1536_0), shapeCast S256x128 (top768 (mask768 (arg8.view.readAt (Elt Ideal) (Rect.unit (s := S2048x128) ![1536, 0] S256x128.size inb_S2048x128_S256x128_1536_0).toLoadRect (stackedBuf arg2 arg8 X2 k)) (diagKey arg3 X3 k))) shapeCasts_S256x128_S256x128⟩,
     ⟨(Rect.unit (s := S2048x128) ![1280, 0] S256x128.size inb_S2048x128_S256x128_1280_0), shapeCast S256x128 (top512 (mask512 (arg8.view.readAt (Elt Ideal) (Rect.unit (s := S2048x128) ![1280, 0] S256x128.size inb_S2048x128_S256x128_1280_0).toLoadRect (stackedBuf arg2 arg8 X2 k)) (diagKey arg3 X3 k))) shapeCasts_S256x128_S256x128⟩,
     ⟨(Rect.unit (s := S2048x128) ![1024, 0] S256x128.size inb_S2048x128_S256x128_1024_0), shapeCast S256x128 (top256 (mask256 (arg8.view.readAt (Elt Ideal) (Rect.unit (s := S2048x128) ![1024, 0] S256x128.size inb_S2048x128_S256x128_1024_0).toLoadRect (stackedBuf arg2 arg8 X2 k)) (diagKey arg3 X3 k))) shapeCasts_S256x128_S256x128⟩,
     ⟨(Rect.unit (s := S2048x128) ![768, 0] S256x128.size inb_S2048x128_S256x128_768_0), shapeCast S256x128 (top1024 (mask1024 (arg8.view.readAt (Elt Ideal) (Rect.unit (s := S2048x128) ![768, 0] S256x128.size inb_S2048x128_S256x128_768_0).toLoadRect (stackedBuf arg2 arg8 X2 k)) (diagKey arg3 X3 k))) shapeCasts_S256x128_S256x128⟩,
     ⟨(Rect.unit (s := S2048x128) ![512, 0] S256x128.size inb_S2048x128_S256x128_512_0), shapeCast S256x128 (top768 (mask768 (arg8.view.readAt (Elt Ideal) (Rect.unit (s := S2048x128) ![512, 0] S256x128.size inb_S2048x128_S256x128_512_0).toLoadRect (stackedBuf arg2 arg8 X2 k)) (diagKey arg3 X3 k))) shapeCasts_S256x128_S256x128⟩,
     ⟨(Rect.unit (s := S2048x128) ![256, 0] S256x128.size inb_S2048x128_S256x128_256_0), shapeCast S256x128 (top512 (mask512 (arg8.view.readAt (Elt Ideal) (Rect.unit (s := S2048x128) ![256, 0] S256x128.size inb_S2048x128_S256x128_256_0).toLoadRect (stackedBuf arg2 arg8 X2 k)) (diagKey arg3 X3 k))) shapeCasts_S256x128_S256x128⟩,
     ⟨(Rect.unit (s := S2048x128) ![0, 0] S256x128.size inb_S2048x128_S256x128_0_0), shapeCast S256x128 (top256 (mask256 (arg8.view.readAt (Elt Ideal) (Rect.unit (s := S2048x128) ![0, 0] S256x128.size inb_S2048x128_S256x128_0_0).toLoadRect (stackedBuf arg2 arg8 X2 k)) (diagKey arg3 X3 k))) shapeCasts_S256x128_S256x128⟩] := by
  rfl

theorem firstAccs : tile.sl.H10_8 (F := Ideal) arg2 arg3 arg4 arg8 X2 X3 X4 k =
    [⟨(Rect.unit (s := S2048x256) ![1792, 0] S256x256.size inb_S2048x256_S256x256_1792_0), shapeCast S256x256 (acc1024 (mask1024 (arg8.view.readAt (Elt Ideal) (Rect.unit (s := S2048x128) ![1792, 0] S256x128.size inb_S2048x128_S256x128_1792_0).toLoadRect (stackedBuf arg2 arg8 X2 k)) (diagKey arg3 X3 k)) (tiled1024 (top1024 (mask1024 (arg8.view.readAt (Elt Ideal) (Rect.unit (s := S2048x128) ![1792, 0] S256x128.size inb_S2048x128_S256x128_1792_0).toLoadRect (stackedBuf arg2 arg8 X2 k)) (diagKey arg3 X3 k)))) (diagValue arg4 X4 k)) shapeCasts_S256x256_S256x256⟩,
     ⟨(Rect.unit (s := S2048x256) ![1536, 0] S256x256.size inb_S2048x256_S256x256_1536_0), shapeCast S256x256 (acc768 (mask768 (arg8.view.readAt (Elt Ideal) (Rect.unit (s := S2048x128) ![1536, 0] S256x128.size inb_S2048x128_S256x128_1536_0).toLoadRect (stackedBuf arg2 arg8 X2 k)) (diagKey arg3 X3 k)) (tiled768 (top768 (mask768 (arg8.view.readAt (Elt Ideal) (Rect.unit (s := S2048x128) ![1536, 0] S256x128.size inb_S2048x128_S256x128_1536_0).toLoadRect (stackedBuf arg2 arg8 X2 k)) (diagKey arg3 X3 k)))) (diagValue arg4 X4 k)) shapeCasts_S256x256_S256x256⟩,
     ⟨(Rect.unit (s := S2048x256) ![1280, 0] S256x256.size inb_S2048x256_S256x256_1280_0), shapeCast S256x256 (acc512 (mask512 (arg8.view.readAt (Elt Ideal) (Rect.unit (s := S2048x128) ![1280, 0] S256x128.size inb_S2048x128_S256x128_1280_0).toLoadRect (stackedBuf arg2 arg8 X2 k)) (diagKey arg3 X3 k)) (tiled512 (top512 (mask512 (arg8.view.readAt (Elt Ideal) (Rect.unit (s := S2048x128) ![1280, 0] S256x128.size inb_S2048x128_S256x128_1280_0).toLoadRect (stackedBuf arg2 arg8 X2 k)) (diagKey arg3 X3 k)))) (diagValue arg4 X4 k)) shapeCasts_S256x256_S256x256⟩,
     ⟨(Rect.unit (s := S2048x256) ![1024, 0] S256x256.size inb_S2048x256_S256x256_1024_0), shapeCast S256x256 (acc256 (mask256 (arg8.view.readAt (Elt Ideal) (Rect.unit (s := S2048x128) ![1024, 0] S256x128.size inb_S2048x128_S256x128_1024_0).toLoadRect (stackedBuf arg2 arg8 X2 k)) (diagKey arg3 X3 k)) (tiled256 (top256 (mask256 (arg8.view.readAt (Elt Ideal) (Rect.unit (s := S2048x128) ![1024, 0] S256x128.size inb_S2048x128_S256x128_1024_0).toLoadRect (stackedBuf arg2 arg8 X2 k)) (diagKey arg3 X3 k)))) (diagValue arg4 X4 k)) shapeCasts_S256x256_S256x256⟩,
     ⟨(Rect.unit (s := S2048x256) ![768, 0] S256x256.size inb_S2048x256_S256x256_768_0), shapeCast S256x256 (acc1024 (mask1024 (arg8.view.readAt (Elt Ideal) (Rect.unit (s := S2048x128) ![768, 0] S256x128.size inb_S2048x128_S256x128_768_0).toLoadRect (stackedBuf arg2 arg8 X2 k)) (diagKey arg3 X3 k)) (tiled1024 (top1024 (mask1024 (arg8.view.readAt (Elt Ideal) (Rect.unit (s := S2048x128) ![768, 0] S256x128.size inb_S2048x128_S256x128_768_0).toLoadRect (stackedBuf arg2 arg8 X2 k)) (diagKey arg3 X3 k)))) (diagValue arg4 X4 k)) shapeCasts_S256x256_S256x256⟩,
     ⟨(Rect.unit (s := S2048x256) ![512, 0] S256x256.size inb_S2048x256_S256x256_512_0), shapeCast S256x256 (acc768 (mask768 (arg8.view.readAt (Elt Ideal) (Rect.unit (s := S2048x128) ![512, 0] S256x128.size inb_S2048x128_S256x128_512_0).toLoadRect (stackedBuf arg2 arg8 X2 k)) (diagKey arg3 X3 k)) (tiled768 (top768 (mask768 (arg8.view.readAt (Elt Ideal) (Rect.unit (s := S2048x128) ![512, 0] S256x128.size inb_S2048x128_S256x128_512_0).toLoadRect (stackedBuf arg2 arg8 X2 k)) (diagKey arg3 X3 k)))) (diagValue arg4 X4 k)) shapeCasts_S256x256_S256x256⟩,
     ⟨(Rect.unit (s := S2048x256) ![256, 0] S256x256.size inb_S2048x256_S256x256_256_0), shapeCast S256x256 (acc512 (mask512 (arg8.view.readAt (Elt Ideal) (Rect.unit (s := S2048x128) ![256, 0] S256x128.size inb_S2048x128_S256x128_256_0).toLoadRect (stackedBuf arg2 arg8 X2 k)) (diagKey arg3 X3 k)) (tiled512 (top512 (mask512 (arg8.view.readAt (Elt Ideal) (Rect.unit (s := S2048x128) ![256, 0] S256x128.size inb_S2048x128_S256x128_256_0).toLoadRect (stackedBuf arg2 arg8 X2 k)) (diagKey arg3 X3 k)))) (diagValue arg4 X4 k)) shapeCasts_S256x256_S256x256⟩,
     ⟨(Rect.unit (s := S2048x256) ![0, 0] S256x256.size inb_S2048x256_S256x256_0_0), shapeCast S256x256 (acc256 (mask256 (arg8.view.readAt (Elt Ideal) (Rect.unit (s := S2048x128) ![0, 0] S256x128.size inb_S2048x128_S256x128_0_0).toLoadRect (stackedBuf arg2 arg8 X2 k)) (diagKey arg3 X3 k)) (tiled256 (top256 (mask256 (arg8.view.readAt (Elt Ideal) (Rect.unit (s := S2048x128) ![0, 0] S256x128.size inb_S2048x128_S256x128_0_0).toLoadRect (stackedBuf arg2 arg8 X2 k)) (diagKey arg3 X3 k)))) (diagValue arg4 X4 k)) shapeCasts_S256x256_S256x256⟩] := by
  rfl

variable (Q K V : ℕ → Fin 128 → ℝ)
  (hQ : ∀ (j : Fin 8192) (x : Fin 128), arg2.view.read (Elt Ideal) X2 (ix3 0 j x) = (Q j.val x : EReal))
  (hK : ∀ (j : Fin 8192) (x : Fin 128), arg3.view.read (Elt Ideal) X3 (ix3 0 j x) = (K j.val x : EReal))
  (hV : ∀ (j : Fin 8192) (x : Fin 128), arg4.view.read (Elt Ideal) X4 (ix3 0 j x) = (V j.val x : EReal))

theorem row_lt (k : Fin k0_t1_loop.trips) (j : Fin 1024) : 1024 * k.val + j.val < 8192 := by
  have h1 : k0_t1_loop.trips = 8 := by decide
  have := k.isLt; have := j.isLt; omega

include hQ in
theorem diagQuery_apply (j : Fin 1024) (x : Fin 128) : diagQuery arg2 X2 k (ix2 j x) = (Q (1024 * k.val + j.val) x : EReal) := by
  unfold diagQuery
  rw [slab_apply]
  exact (readAt_slab arg2.view X2 _ _ _ (k0_off1_inb k) (off1_eq k) _ _ _ (row_lt k j)).trans (hQ ⟨_, row_lt k j⟩ x)

include hK in
theorem diagKey_apply (j : Fin 1024) (x : Fin 128) : diagKey arg3 X3 k (ix2 j x) = (K (1024 * k.val + j.val) x : EReal) := by
  unfold diagKey
  rw [slab_apply]
  exact (readAt_slab arg3.view X3 _ _ _ (k0_off1_inb k) (off1_eq k) _ _ _ (row_lt k j)).trans (hK ⟨_, row_lt k j⟩ x)

include hV in
theorem diagValue_apply (j : Fin 1024) (x : Fin 256) : diagValue arg4 X4 k (ix2 j x) = (valueOne V x (1024 * k.val + j.val) : EReal) := by
  unfold diagValue valueOne
  rw [ones_apply]
  split_ifs with h
  · rw [slab_apply]
    exact (readAt_slab arg4.view X4 _ _ _ (k0_off1_inb k) (off1_eq k) _ _ _ (row_lt k j)).trans (hV ⟨_, row_lt k j⟩ _)
  · rfl

include hQ in
theorem stackedBuf_read (r : Fin 2048) (x : Fin 128) :
    arg8.view.read (Elt Ideal) (stackedBuf arg2 arg8 X2 k) (ix2 r x) = (stacked Q k.val r.val x : EReal) := by
  unfold stackedBuf
  rw [stackedPieces]
  refine View.read_writes_apply_of_pieces (Val := Elt Ideal) arg8.view _ (fun y => (stacked Q k.val (y 0).val (y 1) : EReal))
    _ ?_ _ ?_
  · simp only [List.forall_mem_cons, List.not_mem_nil, false_imp_iff, implies_true, and_true]
    intro z
    obtain ⟨r, l, rfl⟩ : ∃ (r : Fin 2048) (l : Fin 128), z = ix2 r l := ⟨z 0, z 1, eq_ix2 z⟩
    rw [show (Rect.unit (s := S2048x128) ![0, 0] S2048x128.size inb_S2048x128_S2048x128_0_0).emb (ix2 r l) = ix2 ⟨0 + r.val, by omega⟩ l from emb_rows 0 2048 _ r l (by omega)]
    refine (stackOf_apply _ Q k.val (diagQuery_apply arg2 X2 k Q hQ) r l).trans ?_
    show (stacked Q k.val r.val l : EReal) = (stacked Q k.val (0 + r.val) l : EReal)
    rw [Nat.zero_add]
  · exact ⟨_, .head _, mem_rows 0 2048 inb_S2048x128_S2048x128_0_0 r x (by omega) (by omega)⟩

section
variable (R : ℕ) (inb8 : ∀ a, (![R, 0] : Fin 2 → ℕ) a + S256x128.size a ≤ S2048x128.size a)
  (inb10 : ∀ a, (![R, 0] : Fin 2 → ℕ) a + S256x256.size a ≤ S2048x256.size a)

include hQ hK in
theorem group256_top (hR : R % 1024 = 0) (hR' : R + 256 ≤ 2048) (z : S256x128.Idx) :
    top256 (mask256 (arg8.view.readAt (Elt Ideal) (Rect.unit (s := S2048x128) ![R, 0] S256x128.size inb8).toLoadRect (stackedBuf arg2 arg8 X2 k)) (diagKey arg3 X3 k)) z
      = (start (fun j => score (stacked Q k.val) K ((Rect.unit (s := S2048x128) ![R, 0] S256x128.size inb8).emb z 0).val (1024 * k.val + j))
          (((Rect.unit (s := S2048x128) ![R, 0] S256x128.size inb8).emb z 0).val % 1024) : EReal) := by
  obtain ⟨r, l, rfl⟩ : ∃ (r : Fin 256) (l : Fin 128), z = ix2 r l := ⟨z 0, z 1, eq_ix2 z⟩
  have hr : R + r.val < 2048 := by omega
  rw [show (Rect.unit (s := S2048x128) ![R, 0] S256x128.size inb8).emb (ix2 r l) = ix2 ⟨R + r.val, hr⟩ l from emb_rows R 256 inb8 r l hr]
  exact first256_top _ _ (stacked Q k.val) K R k.val (fun r x => (readAt_rows arg8.view _ R 256 inb8 r x (by omega)).trans (stackedBuf_read arg2 arg8 X2 k Q hQ ⟨R + r.val, by omega⟩ x)) (diagKey_apply arg3 X3 k K hK) hR r l

include hQ hK hV in
theorem group256_acc (hR : R % 1024 = 0) (hR' : R + 256 ≤ 2048) (z : S256x256.Idx) :
    acc256 (mask256 (arg8.view.readAt (Elt Ideal) (Rect.unit (s := S2048x128) ![R, 0] S256x128.size inb8).toLoadRect (stackedBuf arg2 arg8 X2 k)) (diagKey arg3 X3 k)) (tiled256 (top256 (mask256 (arg8.view.readAt (Elt Ideal) (Rect.unit (s := S2048x128) ![R, 0] S256x128.size inb8).toLoadRect (stackedBuf arg2 arg8 X2 k)) (diagKey arg3 X3 k)))) (diagValue arg4 X4 k) z
      = (total (score (stacked Q k.val) K ((Rect.unit (s := S2048x256) ![R, 0] S256x256.size inb10).emb z 0).val) (valueOne V ((Rect.unit (s := S2048x256) ![R, 0] S256x256.size inb10).emb z 1))
          (start (fun j => score (stacked Q k.val) K ((Rect.unit (s := S2048x256) ![R, 0] S256x256.size inb10).emb z 0).val (1024 * k.val + j))
            (((Rect.unit (s := S2048x256) ![R, 0] S256x256.size inb10).emb z 0).val % 1024)) k.val 0 (((Rect.unit (s := S2048x256) ![R, 0] S256x256.size inb10).emb z 0).val % 1024) : EReal) := by
  obtain ⟨r, x, rfl⟩ : ∃ (r : Fin 256) (x : Fin 256), z = ix2 r x := ⟨z 0, z 1, eq_ix2 z⟩
  have hr : R + r.val < 2048 := by omega
  rw [show (Rect.unit (s := S2048x256) ![R, 0] S256x256.size inb10).emb (ix2 r x) = ix2 ⟨R + r.val, hr⟩ x from emb_rows R 256 inb10 r x hr]
  exact first256_acc _ _ _ (stacked Q k.val) K V R k.val (fun r x => (readAt_rows arg8.view _ R 256 inb8 r x (by omega)).trans (stackedBuf_read arg2 arg8 X2 k Q hQ ⟨R + r.val, by omega⟩ x)) (diagKey_apply arg3 X3 k K hK) (diagValue_apply arg4 X4 k V hV) hR r x

include hQ hK in
theorem group512_top (hR : R % 1024 = 256) (hR' : R + 256 ≤ 2048) (z : S256x128.Idx) :
    top512 (mask512 (arg8.view.readAt (Elt Ideal) (Rect.unit (s := S2048x128) ![R, 0] S256x128.size inb8).toLoadRect (stackedBuf arg2 arg8 X2 k)) (diagKey arg3 X3 k)) z
      = (start (fun j => score (stacked Q k.val) K ((Rect.unit (s := S2048x128) ![R, 0] S256x128.size inb8).emb z 0).val (1024 * k.val + j))
          (((Rect.unit (s := S2048x128) ![R, 0] S256x128.size inb8).emb z 0).val % 1024) : EReal) := by
  obtain ⟨r, l, rfl⟩ : ∃ (r : Fin 256) (l : Fin 128), z = ix2 r l := ⟨z 0, z 1, eq_ix2 z⟩
  have hr : R + r.val < 2048 := by omega
  rw [show (Rect.unit (s := S2048x128) ![R, 0] S256x128.size inb8).emb (ix2 r l) = ix2 ⟨R + r.val, hr⟩ l from emb_rows R 256 inb8 r l hr]
  exact first512_top _ _ (stacked Q k.val) K R k.val (fun r x => (readAt_rows arg8.view _ R 256 inb8 r x (by omega)).trans (stackedBuf_read arg2 arg8 X2 k Q hQ ⟨R + r.val, by omega⟩ x)) (diagKey_apply arg3 X3 k K hK) hR r l

include hQ hK hV in
theorem group512_acc (hR : R % 1024 = 256) (hR' : R + 256 ≤ 2048) (z : S256x256.Idx) :
    acc512 (mask512 (arg8.view.readAt (Elt Ideal) (Rect.unit (s := S2048x128) ![R, 0] S256x128.size inb8).toLoadRect (stackedBuf arg2 arg8 X2 k)) (diagKey arg3 X3 k)) (tiled512 (top512 (mask512 (arg8.view.readAt (Elt Ideal) (Rect.unit (s := S2048x128) ![R, 0] S256x128.size inb8).toLoadRect (stackedBuf arg2 arg8 X2 k)) (diagKey arg3 X3 k)))) (diagValue arg4 X4 k) z
      = (total (score (stacked Q k.val) K ((Rect.unit (s := S2048x256) ![R, 0] S256x256.size inb10).emb z 0).val) (valueOne V ((Rect.unit (s := S2048x256) ![R, 0] S256x256.size inb10).emb z 1))
          (start (fun j => score (stacked Q k.val) K ((Rect.unit (s := S2048x256) ![R, 0] S256x256.size inb10).emb z 0).val (1024 * k.val + j))
            (((Rect.unit (s := S2048x256) ![R, 0] S256x256.size inb10).emb z 0).val % 1024)) k.val 0 (((Rect.unit (s := S2048x256) ![R, 0] S256x256.size inb10).emb z 0).val % 1024) : EReal) := by
  obtain ⟨r, x, rfl⟩ : ∃ (r : Fin 256) (x : Fin 256), z = ix2 r x := ⟨z 0, z 1, eq_ix2 z⟩
  have hr : R + r.val < 2048 := by omega
  rw [show (Rect.unit (s := S2048x256) ![R, 0] S256x256.size inb10).emb (ix2 r x) = ix2 ⟨R + r.val, hr⟩ x from emb_rows R 256 inb10 r x hr]
  exact first512_acc _ _ _ (stacked Q k.val) K V R k.val (fun r x => (readAt_rows arg8.view _ R 256 inb8 r x (by omega)).trans (stackedBuf_read arg2 arg8 X2 k Q hQ ⟨R + r.val, by omega⟩ x)) (diagKey_apply arg3 X3 k K hK) (diagValue_apply arg4 X4 k V hV) hR r x

include hQ hK in
theorem group768_top (hR : R % 1024 = 512) (hR' : R + 256 ≤ 2048) (z : S256x128.Idx) :
    top768 (mask768 (arg8.view.readAt (Elt Ideal) (Rect.unit (s := S2048x128) ![R, 0] S256x128.size inb8).toLoadRect (stackedBuf arg2 arg8 X2 k)) (diagKey arg3 X3 k)) z
      = (start (fun j => score (stacked Q k.val) K ((Rect.unit (s := S2048x128) ![R, 0] S256x128.size inb8).emb z 0).val (1024 * k.val + j))
          (((Rect.unit (s := S2048x128) ![R, 0] S256x128.size inb8).emb z 0).val % 1024) : EReal) := by
  obtain ⟨r, l, rfl⟩ : ∃ (r : Fin 256) (l : Fin 128), z = ix2 r l := ⟨z 0, z 1, eq_ix2 z⟩
  have hr : R + r.val < 2048 := by omega
  rw [show (Rect.unit (s := S2048x128) ![R, 0] S256x128.size inb8).emb (ix2 r l) = ix2 ⟨R + r.val, hr⟩ l from emb_rows R 256 inb8 r l hr]
  exact first768_top _ _ (stacked Q k.val) K R k.val (fun r x => (readAt_rows arg8.view _ R 256 inb8 r x (by omega)).trans (stackedBuf_read arg2 arg8 X2 k Q hQ ⟨R + r.val, by omega⟩ x)) (diagKey_apply arg3 X3 k K hK) hR r l

include hQ hK hV in
theorem group768_acc (hR : R % 1024 = 512) (hR' : R + 256 ≤ 2048) (z : S256x256.Idx) :
    acc768 (mask768 (arg8.view.readAt (Elt Ideal) (Rect.unit (s := S2048x128) ![R, 0] S256x128.size inb8).toLoadRect (stackedBuf arg2 arg8 X2 k)) (diagKey arg3 X3 k)) (tiled768 (top768 (mask768 (arg8.view.readAt (Elt Ideal) (Rect.unit (s := S2048x128) ![R, 0] S256x128.size inb8).toLoadRect (stackedBuf arg2 arg8 X2 k)) (diagKey arg3 X3 k)))) (diagValue arg4 X4 k) z
      = (total (score (stacked Q k.val) K ((Rect.unit (s := S2048x256) ![R, 0] S256x256.size inb10).emb z 0).val) (valueOne V ((Rect.unit (s := S2048x256) ![R, 0] S256x256.size inb10).emb z 1))
          (start (fun j => score (stacked Q k.val) K ((Rect.unit (s := S2048x256) ![R, 0] S256x256.size inb10).emb z 0).val (1024 * k.val + j))
            (((Rect.unit (s := S2048x256) ![R, 0] S256x256.size inb10).emb z 0).val % 1024)) k.val 0 (((Rect.unit (s := S2048x256) ![R, 0] S256x256.size inb10).emb z 0).val % 1024) : EReal) := by
  obtain ⟨r, x, rfl⟩ : ∃ (r : Fin 256) (x : Fin 256), z = ix2 r x := ⟨z 0, z 1, eq_ix2 z⟩
  have hr : R + r.val < 2048 := by omega
  rw [show (Rect.unit (s := S2048x256) ![R, 0] S256x256.size inb10).emb (ix2 r x) = ix2 ⟨R + r.val, hr⟩ x from emb_rows R 256 inb10 r x hr]
  exact first768_acc _ _ _ (stacked Q k.val) K V R k.val (fun r x => (readAt_rows arg8.view _ R 256 inb8 r x (by omega)).trans (stackedBuf_read arg2 arg8 X2 k Q hQ ⟨R + r.val, by omega⟩ x)) (diagKey_apply arg3 X3 k K hK) (diagValue_apply arg4 X4 k V hV) hR r x

include hQ hK in
theorem group1024_top (hR : R % 1024 = 768) (hR' : R + 256 ≤ 2048) (z : S256x128.Idx) :
    top1024 (mask1024 (arg8.view.readAt (Elt Ideal) (Rect.unit (s := S2048x128) ![R, 0] S256x128.size inb8).toLoadRect (stackedBuf arg2 arg8 X2 k)) (diagKey arg3 X3 k)) z
      = (start (fun j => score (stacked Q k.val) K ((Rect.unit (s := S2048x128) ![R, 0] S256x128.size inb8).emb z 0).val (1024 * k.val + j))
          (((Rect.unit (s := S2048x128) ![R, 0] S256x128.size inb8).emb z 0).val % 1024) : EReal) := by
  obtain ⟨r, l, rfl⟩ : ∃ (r : Fin 256) (l : Fin 128), z = ix2 r l := ⟨z 0, z 1, eq_ix2 z⟩
  have hr : R + r.val < 2048 := by omega
  rw [show (Rect.unit (s := S2048x128) ![R, 0] S256x128.size inb8).emb (ix2 r l) = ix2 ⟨R + r.val, hr⟩ l from emb_rows R 256 inb8 r l hr]
  exact first1024_top _ _ (stacked Q k.val) K R k.val (fun r x => (readAt_rows arg8.view _ R 256 inb8 r x (by omega)).trans (stackedBuf_read arg2 arg8 X2 k Q hQ ⟨R + r.val, by omega⟩ x)) (diagKey_apply arg3 X3 k K hK) hR r l

include hQ hK hV in
theorem group1024_acc (hR : R % 1024 = 768) (hR' : R + 256 ≤ 2048) (z : S256x256.Idx) :
    acc1024 (mask1024 (arg8.view.readAt (Elt Ideal) (Rect.unit (s := S2048x128) ![R, 0] S256x128.size inb8).toLoadRect (stackedBuf arg2 arg8 X2 k)) (diagKey arg3 X3 k)) (tiled1024 (top1024 (mask1024 (arg8.view.readAt (Elt Ideal) (Rect.unit (s := S2048x128) ![R, 0] S256x128.size inb8).toLoadRect (stackedBuf arg2 arg8 X2 k)) (diagKey arg3 X3 k)))) (diagValue arg4 X4 k) z
      = (total (score (stacked Q k.val) K ((Rect.unit (s := S2048x256) ![R, 0] S256x256.size inb10).emb z 0).val) (valueOne V ((Rect.unit (s := S2048x256) ![R, 0] S256x256.size inb10).emb z 1))
          (start (fun j => score (stacked Q k.val) K ((Rect.unit (s := S2048x256) ![R, 0] S256x256.size inb10).emb z 0).val (1024 * k.val + j))
            (((Rect.unit (s := S2048x256) ![R, 0] S256x256.size inb10).emb z 0).val % 1024)) k.val 0 (((Rect.unit (s := S2048x256) ![R, 0] S256x256.size inb10).emb z 0).val % 1024) : EReal) := by
  obtain ⟨r, x, rfl⟩ : ∃ (r : Fin 256) (x : Fin 256), z = ix2 r x := ⟨z 0, z 1, eq_ix2 z⟩
  have hr : R + r.val < 2048 := by omega
  rw [show (Rect.unit (s := S2048x256) ![R, 0] S256x256.size inb10).emb (ix2 r x) = ix2 ⟨R + r.val, hr⟩ x from emb_rows R 256 inb10 r x hr]
  exact first1024_acc _ _ _ (stacked Q k.val) K V R k.val (fun r x => (readAt_rows arg8.view _ R 256 inb8 r x (by omega)).trans (stackedBuf_read arg2 arg8 X2 k Q hQ ⟨R + r.val, by omega⟩ x)) (diagKey_apply arg3 X3 k K hK) (diagValue_apply arg4 X4 k V hV) hR r x

end

include hQ hK hV in
/-- What the inner loop starts from. -/
theorem rows_first : Rows arg9 arg10 (stacked Q k.val) K V k.val 0
    (arg9.view.writes (Elt Ideal) arg9.view.junk (tile.sl.H9_8 (F := Ideal) arg2 arg3 arg8 X2 X3 k))
    (arg10.view.writes (Elt Ideal) arg10.view.junk (tile.sl.H10_8 (F := Ideal) arg2 arg3 arg4 arg8 X2 X3 X4 k)) := by
  rw [firstTops, firstAccs]
  simp only [shapeCast_id]
  refine ⟨fun r => start (fun j => score (stacked Q k.val) K r (1024 * k.val + j)) (r % 1024), fun r l => ?_, fun r x => ?_⟩
  · refine View.read_writes_apply_of_pieces (Val := Elt Ideal) arg9.view _ (fun y => (start (fun j => score (stacked Q k.val) K (y 0).val (1024 * k.val + j)) ((y 0).val % 1024) : EReal)) _ ?_ _ ?_
    · simp only [List.forall_mem_cons, List.not_mem_nil, false_imp_iff, implies_true, and_true]
      exact ⟨group1024_top arg2 arg3 arg8 X2 X3 k Q K hQ hK 1792 _ (by omega) (by omega), group768_top arg2 arg3 arg8 X2 X3 k Q K hQ hK 1536 _ (by omega) (by omega), group512_top arg2 arg3 arg8 X2 X3 k Q K hQ hK 1280 _ (by omega) (by omega), group256_top arg2 arg3 arg8 X2 X3 k Q K hQ hK 1024 _ (by omega) (by omega), group1024_top arg2 arg3 arg8 X2 X3 k Q K hQ hK 768 _ (by omega) (by omega), group768_top arg2 arg3 arg8 X2 X3 k Q K hQ hK 512 _ (by omega) (by omega), group512_top arg2 arg3 arg8 X2 X3 k Q K hQ hK 256 _ (by omega) (by omega), group256_top arg2 arg3 arg8 X2 X3 k Q K hQ hK 0 _ (by omega) (by omega)⟩
    · by_cases c0 : r.val < 256
      · exact ⟨_, .tail _ (.tail _ (.tail _ (.tail _ (.tail _ (.tail _ (.tail _ (.head _))))))), mem_rows 0 256 inb_S2048x128_S256x128_0_0 r l (by omega) (by omega)⟩
      by_cases c1 : r.val < 512
      · exact ⟨_, .tail _ (.tail _ (.tail _ (.tail _ (.tail _ (.tail _ (.head _)))))), mem_rows 256 256 inb_S2048x128_S256x128_256_0 r l (by omega) (by omega)⟩
      by_cases c2 : r.val < 768
      · exact ⟨_, .tail _ (.tail _ (.tail _ (.tail _ (.tail _ (.head _))))), mem_rows 512 256 inb_S2048x128_S256x128_512_0 r l (by omega) (by omega)⟩
      by_cases c3 : r.val < 1024
      · exact ⟨_, .tail _ (.tail _ (.tail _ (.tail _ (.head _)))), mem_rows 768 256 inb_S2048x128_S256x128_768_0 r l (by omega) (by omega)⟩
      by_cases c4 : r.val < 1280
      · exact ⟨_, .tail _ (.tail _ (.tail _ (.head _))), mem_rows 1024 256 inb_S2048x128_S256x128_1024_0 r l (by omega) (by omega)⟩
      by_cases c5 : r.val < 1536
      · exact ⟨_, .tail _ (.tail _ (.head _)), mem_rows 1280 256 inb_S2048x128_S256x128_1280_0 r l (by omega) (by omega)⟩
      by_cases c6 : r.val < 1792
      · exact ⟨_, .tail _ (.head _), mem_rows 1536 256 inb_S2048x128_S256x128_1536_0 r l (by omega) (by omega)⟩
      exact ⟨_, .head _, mem_rows 1792 256 inb_S2048x128_S256x128_1792_0 r l (by omega) (by omega)⟩
  · refine View.read_writes_apply_of_pieces (Val := Elt Ideal) arg10.view _ (fun y => (total (score (stacked Q k.val) K (y 0).val) (valueOne V (y 1)) (start (fun j => score (stacked Q k.val) K (y 0).val (1024 * k.val + j)) ((y 0).val % 1024)) k.val 0 ((y 0).val % 1024) : EReal)) _ ?_ _ ?_
    · simp only [List.forall_mem_cons, List.not_mem_nil, false_imp_iff, implies_true, and_true]
      exact ⟨group1024_acc arg2 arg3 arg4 arg8 X2 X3 X4 k Q K V hQ hK hV 1792 _ _ (by omega) (by omega), group768_acc arg2 arg3 arg4 arg8 X2 X3 X4 k Q K V hQ hK hV 1536 _ _ (by omega) (by omega), group512_acc arg2 arg3 arg4 arg8 X2 X3 X4 k Q K V hQ hK hV 1280 _ _ (by omega) (by omega), group256_acc arg2 arg3 arg4 arg8 X2 X3 X4 k Q K V hQ hK hV 1024 _ _ (by omega) (by omega), group1024_acc arg2 arg3 arg4 arg8 X2 X3 X4 k Q K V hQ hK hV 768 _ _ (by omega) (by omega), group768_acc arg2 arg3 arg4 arg8 X2 X3 X4 k Q K V hQ hK hV 512 _ _ (by omega) (by omega), group512_acc arg2 arg3 arg4 arg8 X2 X3 X4 k Q K V hQ hK hV 256 _ _ (by omega) (by omega), group256_acc arg2 arg3 arg4 arg8 X2 X3 X4 k Q K V hQ hK hV 0 _ _ (by omega) (by omega)⟩
    · by_cases c0 : r.val < 256
      · exact ⟨_, .tail _ (.tail _ (.tail _ (.tail _ (.tail _ (.tail _ (.tail _ (.head _))))))), mem_rows 0 256 inb_S2048x256_S256x256_0_0 r x (by omega) (by omega)⟩
      by_cases c1 : r.val < 512
      · exact ⟨_, .tail _ (.tail _ (.tail _ (.tail _ (.tail _ (.tail _ (.head _)))))), mem_rows 256 256 inb_S2048x256_S256x256_256_0 r x (by omega) (by omega)⟩
      by_cases c2 : r.val < 768
      · exact ⟨_, .tail _ (.tail _ (.tail _ (.tail _ (.tail _ (.head _))))), mem_rows 512 256 inb_S2048x256_S256x256_512_0 r x (by omega) (by omega)⟩
      by_cases c3 : r.val < 1024
      · exact ⟨_, .tail _ (.tail _ (.tail _ (.tail _ (.head _)))), mem_rows 768 256 inb_S2048x256_S256x256_768_0 r x (by omega) (by omega)⟩
      by_cases c4 : r.val < 1280
      · exact ⟨_, .tail _ (.tail _ (.tail _ (.head _))), mem_rows 1024 256 inb_S2048x256_S256x256_1024_0 r x (by omega) (by omega)⟩
      by_cases c5 : r.val < 1536
      · exact ⟨_, .tail _ (.tail _ (.head _)), mem_rows 1280 256 inb_S2048x256_S256x256_1280_0 r x (by omega) (by omega)⟩
      by_cases c6 : r.val < 1792
      · exact ⟨_, .tail _ (.head _), mem_rows 1536 256 inb_S2048x256_S256x256_1536_0 r x (by omega) (by omega)⟩
      exact ⟨_, .head _, mem_rows 1792 256 inb_S2048x256_S256x256_1792_0 r x (by omega) (by omega)⟩

end

end Cert.Proof.KernelIdeal

end
-- ==== Proof.Attend.lean ====
/- DIFFERENTIAL ATTENTION over the reals: the average of the value rows under the weights of the keys up to a place, the
   scores of one half of a head, the difference of the two averages, and the row the normalisation makes of it. The
   weights may be powers of two of scores divided by the logarithm of two: they are the exponentials of the scores. -/
module

public import proofs.«01_k».proof.Proof.Weights

@[expose] public section

noncomputable section

namespace Cert.Proof.Weights

open Idealize.ShloMosaic

/-- The average of `v` under the weights `w` of the places up to `p`. -/
def avg (w v : ℕ → ℝ) (p : ℕ) : ℝ := (∑ j ∈ Finset.range (p + 1), w j * v j) / ∑ j ∈ Finset.range (p + 1), w j

theorem avg_scale (a : ℝ) (ha : a ≠ 0) (w v : ℕ → ℝ) (p : ℕ) : avg (fun j => a * w j) v p = avg w v p := by
  unfold avg
  simp only [mul_assoc]
  rw [← Finset.mul_sum, ← Finset.mul_sum, mul_div_mul_left _ _ ha]

theorem avg_shift (s v : ℕ → ℝ) (m : ℝ) (p : ℕ) : avg (fun j => (2 : ℝ) ^ (s j - m)) v p = avg (fun j => (2 : ℝ) ^ s j) v p := by
  rw [← avg_scale ((2 : ℝ) ^ m)⁻¹ (by positivity) (fun j => (2 : ℝ) ^ s j)]
  congr 1
  funext j
  rw [two_sub, mul_comm]

theorem avg_exp_shift (s v : ℕ → ℝ) (m : ℝ) (p : ℕ) : avg (fun j => Real.exp (s j - m)) v p = avg (fun j => Real.exp (s j)) v p := by
  rw [← avg_scale (Real.exp m)⁻¹ (by positivity) (fun j => Real.exp (s j))]
  congr 1
  funext j
  rw [Real.exp_sub, div_eq_mul_inv, mul_comm]

/-- The quotient of two real numbers, the second not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The score of half `e` of the head. -/
def half (e : ℕ) (Q K : ℕ → Fin 128 → ℝ) (p j : ℕ) : ℝ := ∑ x : Fin 128, if x.val / 64 = e then Q p x * K j x else 0

theorem half_scale (e : ℕ) (a : ℝ) (Q K : ℕ → Fin 128 → ℝ) (p j : ℕ) : half e (fun p x => Q p x * a) K p j = half e Q K p j * a := by
  unfold half
  rw [Finset.sum_mul]
  refine Finset.sum_congr rfl fun x _ => ?_
  split_ifs
  · ring
  · rw [zero_mul]

/-- The difference of the two averages, the weights being `w` of the scores. -/
def dif (w : ℝ → ℝ) (Q K V : ℕ → Fin 128 → ℝ) (lam : ℝ) (p : ℕ) (c : Fin 128) : ℝ :=
  avg (fun j => w (half 0 Q K p j)) (fun j => V j c) p - lam * avg (fun j => w (half 1 Q K p j)) (fun j => V j c) p

theorem dif_two (Q K V : ℕ → Fin 128 → ℝ) (lam : ℝ) (p : ℕ) (c : Fin 128) :
    dif (fun s => (2 : ℝ) ^ s) (fun p x => Q p x * (Real.log 2)⁻¹) K V lam p c = dif Real.exp Q K V lam p c := by
  have h : Real.log 2 ≠ 0 := (Real.log_pos (by norm_num)).ne'
  have e : ∀ s : ℝ, (2 : ℝ) ^ (s * (Real.log 2)⁻¹) = Real.exp s := fun s => by
    rw [Real.rpow_def_of_pos (by norm_num), mul_comm, mul_assoc, inv_mul_cancel₀ h, mul_one]
  unfold dif
  simp only [half_scale, e]

/-- The factor of the second average. -/
def lamOf (v : Fin 4 → Fin 64 → EReal) : EReal :=
  Ideal.exp (∑ x, v 0 x * v 1 x) - Ideal.exp (∑ x, v 2 x * v 3 x) + Ideal.ofBits .f32 0x3EB60549#32

theorem lamOf_coe (v : Fin 4 → Fin 64 → ℝ) : ∃ lam : ℝ, lamOf (fun a x => (v a x : EReal)) = (lam : EReal) := by
  have hb : ∃ b : ℝ, Ideal.ofBits .f32 0x3EB60549#32 = (b : EReal) := ⟨_, by simp [Ideal.ofBits, Ideal.ieee]; rfl⟩
  obtain ⟨b, hb⟩ := hb
  refine ⟨Real.exp (∑ x, v 0 x * v 1 x) - Real.exp (∑ x, v 2 x * v 3 x) + b, ?_⟩
  unfold lamOf
  rw [hb]
  simp only [← EReal.coe_mul, ← coe_sum]
  rfl

/-- A row after its normalisation, the gain and the last factor. -/
def normed (o : Fin 128 → EReal) (g : Fin 128 → EReal) (c : Fin 128) : EReal :=
  o c * Ideal.rsqrt (Ideal.div (∑ x, o x * o x) (Ideal.ofBits .f32 0x43000000#32) + Ideal.ofBits .f32 0x3727C5AC#32) * g c * Ideal.ofBits .f32 0x3F24FD5C#32

/-- One batch's head as rows of real numbers. -/
def headOf (A : Fin 8 → Fin 8192 → Fin 1024 → EReal) (b h : Fin 8) (p : ℕ) (x : Fin 128) : ℝ :=
  if hp : p < 8192 then (A b ⟨p, hp⟩ ⟨128 * h.val + x.val, by omega⟩).toReal else 0

theorem headOf_coe (A : Fin 8 → Fin 8192 → Fin 1024 → EReal) (hA : ∀ b j d, A b j d = ((A b j d).toReal : EReal)) (b h : Fin 8) (j : Fin 8192) (x : Fin 128) :
    A b j ⟨128 * h.val + x.val, by omega⟩ = (headOf A b h j.val x : EReal) := by
  unfold headOf
  rw [dif_pos j.isLt]
  exact hA _ _ _

/-- The result: each head's row, the queries scaled by an eighth. -/
def attended (q k v : Fin 8 → Fin 8192 → Fin 1024 → EReal) (lam : ℝ) (g : Fin 128 → EReal) (b : Fin 8) (j : ℕ) (h : Fin 8) (x : Fin 128) : EReal :=
  normed (fun x => (dif Real.exp (fun p x => headOf q b h p x * (1 / 8)) (headOf k b h) (headOf v b h) lam j x : EReal)) g x

end Cert.Proof.Weights

end
-- ==== Proof.KI.Out.lean ====
/- ONE QUERY TILE's rows: the accumulators' quotient is the average of the value rows, and what the tile stores is the difference
   of the two halves' averages, normalised. -/
module

public import proofs.«01_k».proof.Proof.KI.Diag
public import proofs.«01_k».proof.Proof.Attend

@[expose] public section

set_option maxRecDepth 16384

noncomputable section

namespace Cert.Proof.KernelIdeal

open Cert.KernelIdeal Cert.KernelIdeal.Gen Cert.Proof.Weights
open Idealize.ShloMosaic Idealize.ShloMosaic.TcCoe

def ratioOf (A : FVec Ideal S2048x256 .f32) : FVec Ideal S2048x128 .f32 :=
  divf (extractStridedSlice S2048x128 ![0, 0] A slices_S2048x256_o0_0_S2048x128) (extractStridedSlice S2048x128 ![0, 128] A slices_S2048x256_o0_128_S2048x128)

def diffOf (lam : FVec Ideal S1x1 .f32) (N : FVec Ideal S2048x128 .f32) : FVec Ideal S1024x128 .f32 :=
  subf (extractStridedSlice S1024x128 ![0, 0] N slices_S2048x128_o0_0_S1024x128)
    (mulf (broadcastTo S1024x128 lam broadcasts_S1x1_S1024x128) (extractStridedSlice S1024x128 ![1024, 0] N slices_S2048x128_o1024_0_S1024x128))

def squares (D : FVec Ideal S1024x128 .f32) : FVec Ideal S1024x1 .f32 :=
  shapeCast S1024x1 (multiReduction .add [1] S1024 (mulf D D) 0x00000000#32 reduces_S1024x128_S1024 (.inl rfl) rfl) shapeCasts_S1024_S1024x1

theorem ratioOf_apply (A : FVec Ideal S2048x256 .f32) (r : Fin 2048) (c : Fin 128) :
    ratioOf A (ix2 r c) = Ideal.div (A (ix2 r ⟨c.val, by omega⟩)) (A (ix2 r ⟨128 + c.val, by omega⟩)) := by
  pointwise [ratioOf]

theorem diffOf_apply (lam : FVec Ideal S1x1 .f32) (N : FVec Ideal S2048x128 .f32) (r : Fin 1024) (c : Fin 128) :
    diffOf lam N (ix2 r c) = N (ix2 ⟨r.val, by omega⟩ c) - lam (ix2 0 0) * N (ix2 ⟨1024 + r.val, by omega⟩ c) := by
  pointwise [diffOf]

theorem squares_apply (D : FVec Ideal S1024x128 .f32) (r : Fin 1024) : squares D (ix2 r 0) = ∑ x, D (ix2 r x) * D (ix2 r x) := by
  pointwise [squares]

theorem pay2_apply (D : FVec Ideal S1024x128 .f32) (g : FVec Ideal S1x128 .f32) (N : FVec Ideal S1024x1 .f32) (z : Fin 1) (r : Fin 1024) (c : Fin 128) :
    k0_pay2 D g N (broadcast S1024x1 (FloatOps.ofBits .f32 0x43000000#32)) (ix3 z r c)
      = D (ix2 r c) * Ideal.rsqrt (Ideal.div (N (ix2 r 0)) (Ideal.ofBits .f32 0x43000000#32) + Ideal.ofBits .f32 0x3727C5AC#32) * g (ix2 0 c) * Ideal.ofBits .f32 0x3F24FD5C#32 := by
  pointwise [k0_pay2]

theorem pay1_apply (v : Vec Ideal S4x64 .f32) : k0_pay1 v (ix2 0 0) = lamOf (fun a x => v (ix2 a x)) := by
  unfold lamOf
  pointwise [k0_pay1]

/-- A stacked row's score is its half's. -/
theorem score_stacked (Q K : ℕ → Fin 128 → ℝ) (T r j : ℕ) (hr : r < 2048) :
    score (stacked Q T) K r j = half (r / 1024) Q K (1024 * T + r % 1024) j := by
  unfold score stacked half
  refine Finset.sum_congr rfl fun x _ => ?_
  by_cases h : r < 1024 ↔ x.val < 64
  · rw [if_pos h, if_pos (by have := x.isLt; omega)]
  · rw [if_neg h, if_neg (by have := x.isLt; omega), zero_mul]

/-- The quotient of the accumulators' two halves. -/
theorem ratioOf_row (A : FVec Ideal S2048x256 .f32) (Q K V : ℕ → Fin 128 → ℝ) (T : ℕ) (m : ℕ → ℝ)
    (hA : ∀ (r : Fin 2048) (x : Fin 256), A (ix2 r x) = (total (score (stacked Q T) K r.val) (valueOne V x) (m r.val) T T (r.val % 1024) : EReal)) (r : Fin 2048) (c : Fin 128) :
    ratioOf A (ix2 r c) = (avg (fun j => (2 : ℝ) ^ half (r.val / 1024) Q K (1024 * T + r.val % 1024) j) (fun j => V j c) (1024 * T + r.val % 1024) : EReal) := by
  rw [ratioOf_apply, hA, hA, total_last, total_last]
  have one : ∀ j, valueOne V ⟨128 + c.val, by omega⟩ j = 1 := fun j => by
    unfold valueOne; rw [dif_neg (by show ¬ 128 + c.val < 128; omega)]
  have val : ∀ j, valueOne V ⟨c.val, by omega⟩ j = V j c := fun j => by
    unfold valueOne; rw [dif_pos c.isLt]
  simp only [one, val, mul_one, score_stacked Q K T r.val _ r.isLt]
  rw [div_coe _ _ (Finset.sum_pos (fun j _ => by positivity) ⟨0, by simp⟩).ne']
  exact congrArg _ (avg_shift (fun j => half (r.val / 1024) Q K (1024 * T + r.val % 1024) j) (fun j => V j c) (m r.val) (1024 * T + r.val % 1024))

/-- What a tile stores, from its accumulators. -/
def outOf (lam : FVec Ideal S1x1 .f32) (g : FVec Ideal S1x128 .f32) (A : FVec Ideal S2048x256 .f32) : FVec Ideal S1x1024x128 .bf16 :=
  k0_pay2 (diffOf lam (ratioOf A)) g (squares (diffOf lam (ratioOf A))) (broadcast S1024x1 (FloatOps.ofBits .f32 0x43000000#32))

theorem outOf_row (A : FVec Ideal S2048x256 .f32) (Q K V : ℕ → Fin 128 → ℝ) (T : ℕ) (m : ℕ → ℝ)
    (hA : ∀ (r : Fin 2048) (x : Fin 256), A (ix2 r x) = (total (score (stacked Q T) K r.val) (valueOne V x) (m r.val) T T (r.val % 1024) : EReal))
    (lam : FVec Ideal S1x1 .f32) (l : ℝ) (hl : lam (ix2 0 0) = (l : EReal)) (g : FVec Ideal S1x128 .f32) (z : Fin 1) (r : Fin 1024) (c : Fin 128) :
    outOf lam g A (ix3 z r c) = normed (fun x => (dif (fun s => (2 : ℝ) ^ s) Q K V l (1024 * T + r.val) x : EReal)) (fun x => g (ix2 0 x)) c := by
  have hD : ∀ x : Fin 128, diffOf lam (ratioOf A) (ix2 r x) = (dif (fun s => (2 : ℝ) ^ s) Q K V l (1024 * T + r.val) x : EReal) := fun x => by
    rw [diffOf_apply, ratioOf_row A Q K V T m hA, ratioOf_row A Q K V T m hA, hl, ← EReal.coe_mul, ← EReal.coe_sub]
    unfold dif
    have hr := r.isLt
    rw [show r.val / 1024 = 0 by omega, show r.val % 1024 = r.val by omega, show (1024 + r.val) / 1024 = 1 by omega, show (1024 + r.val) % 1024 = r.val by omega]
  unfold outOf normed
  rw [pay2_apply, squares_apply, hD]
  simp only [hD]

section
variable (c : Dev nD) (i : grid0.Coords)
  (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x256 .f32) (harg10 : arg10.IsWhole)
  (v0 : Vec Ideal S4x64 .f32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty)
  (k : Fin k0_t1_loop.trips)
  (f8 : BufTy.Contents (Elt Ideal) arg8.view.ty) (f9 : BufTy.Contents (Elt Ideal) arg9.view.ty) (f10 : BufTy.Contents (Elt Ideal) arg10.view.ty)

/-- The accumulators after all of a tile's keys. -/
def finalAcc : FVec Ideal S2048x256 .f32 := tile.sl.v233 (F := Ideal) c i arg2 harg2 arg3 harg3 arg4 harg4 arg5 harg5 arg6 harg6 arg7 harg7 arg8 harg8 arg9 harg9 arg10 harg10 X2 X3 X4 k

theorem tile_piece : (tile (F := Ideal) c i arg2 harg2 arg3 harg3 arg4 harg4 arg5 harg5 arg6 harg6 arg7 harg7 arg8 harg8 arg9 harg9 arg10 harg10 v0 X2 X3 X4 X6 k).1 f8 f9 f10 =
    [⟨Rect.unit (s := S1x8192x128) (k0_off1 k) S1x1024x128.size (k0_off1_inb k),
      outOf (k0_pay1 v0) (shapeCast S1x128 (arg6.view.readAt (Elt Ideal) (Rect.unit (s := S1x128) ![0, 0] S1x128.size inb_S1x128_S1x128_0_0).toLoadRect X6) shapeCasts_S1x128_S1x128)
        (finalAcc c i arg2 harg2 arg3 harg3 arg4 harg4 arg5 harg5 arg6 harg6 arg7 harg7 arg8 harg8 arg9 harg9 arg10 harg10 X2 X3 X4 k)⟩] := by
  unfold tile
  rfl

variable (Q K V : ℕ → Fin 128 → ℝ)
  (hQ : ∀ (j : Fin 8192) (x : Fin 128), arg2.view.read (Elt Ideal) X2 (ix3 0 j x) = (Q j.val x : EReal))
  (hK : ∀ (j : Fin 8192) (x : Fin 128), arg3.view.read (Elt Ideal) X3 (ix3 0 j x) = (K j.val x : EReal))
  (hV : ∀ (j : Fin 8192) (x : Fin 128), arg4.view.read (Elt Ideal) X4 (ix3 0 j x) = (V j.val x : EReal))

theorem trips2 : ∀ k : Fin k0_t1_loop.trips, (k0_t2_loop k).trips = k.val := by decide
theorem trips3 : ∀ k : Fin k0_t1_loop.trips, (k0_t3_loop k).trips = 0 := by decide

include hQ hK hV in
theorem finalAcc_row : ∃ m : ℕ → ℝ, ∀ (r : Fin 2048) (x : Fin 256), finalAcc c i arg2 harg2 arg3 harg3 arg4 harg4 arg5 harg5 arg6 harg6 arg7 harg7 arg8 harg8 arg9 harg9 arg10 harg10 X2 X3 X4 k (ix2 r x)
    = (total (score (stacked Q k.val) K r.val) (valueOne V x) (m r.val) k.val k.val (r.val % 1024) : EReal) := by
  obtain ⟨m, -, h10⟩ := rows_trips Variants.none c none i arg2 harg2 arg3 harg3 arg4 harg4 arg5 harg5 arg6 harg6 arg7 harg7 arg8 harg8 arg9 harg9 arg10 harg10 (constant (F := Ideal) S1x1 .f32 0x00000000#32) k 0#32
    (constant (F := Ideal) S256x128 .f32 0x00000000#32) (constant (F := Ideal) S256x128 .f32 0x00000000#32) (constant (F := Ideal) S256x128 .f32 0x00000000#32)
    (constant (F := Ideal) S256x256 .f32 0x00000000#32) (constant (F := Ideal) S256x256 .f32 0x00000000#32) (constant (F := Ideal) S256x128 .f32 0x00000000#32)
    X3 X4 (stackedBuf arg2 arg8 X2 k) _ _ (stacked Q k.val) K V (stackedBuf_read arg2 arg8 X2 k Q hQ) hK hV k.val
    (rows_first arg2 arg3 arg4 arg8 arg9 arg10 X2 X3 X4 k Q K V hQ hK hV) (k0_t2_loop k).trips le_rfl
  refine ⟨m, fun r x => ?_⟩
  refine Eq.trans ?_ ((h10 r x).trans (by rw [trips2 k]))
  have h3 : Scf.trips (k0_t3_loop k).lb (k0_t3_loop k).ub (k0_t3_loop k).st = 0 := trips3 k
  unfold finalAcc tile.sl.v233
  rw [h3, pb_k0_t3.eq_1, List.nil_append, View.writes_append]
  refine (readAt_rows arg10.view _ 0 2048 _ r x (by omega)).trans ?_
  unfold stackedBuf
  congr 2
  exact Fin.ext (Nat.zero_add _)

end

end Cert.Proof.KernelIdeal

end
-- ==== Proof.KI.Block.lean ====
/- ONE GRID POINT: after its eight query tiles every row of the output block is the normalised difference of the two halves'
   averages over the keys up to that row. -/
module

public import proofs.«01_k».proof.Proof.KI.Out
public import proofs.«01_k».proof.Proof.KI.Run

@[expose] public section

set_option maxRecDepth 16384

noncomputable section

namespace Cert.Proof.KernelIdeal

open Cert.KernelIdeal Cert.KernelIdeal.Gen Cert.Proof.Weights
open Idealize.ShloMosaic Idealize.ShloMosaic.TcCoe

section
variable (c : Dev nD) (i : grid0.Coords)
  (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x8192x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x256 .f32) (harg10 : arg10.IsWhole)

section
variable (v0 : Vec Ideal S4x64 .f32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty)
  (f : BufTy.Contents (Elt Ideal) arg7.view.ty) (Q K V : ℕ → Fin 128 → ℝ) (l : ℝ) (g : Fin 128 → EReal)
  (hQ : ∀ (j : Fin 8192) (x : Fin 128), arg2.view.read (Elt Ideal) X2 (ix3 0 j x) = (Q j.val x : EReal))
  (hK : ∀ (j : Fin 8192) (x : Fin 128), arg3.view.read (Elt Ideal) X3 (ix3 0 j x) = (K j.val x : EReal))
  (hV : ∀ (j : Fin 8192) (x : Fin 128), arg4.view.read (Elt Ideal) X4 (ix3 0 j x) = (V j.val x : EReal))
  (hl : k0_pay1 v0 (ix2 0 0) = (l : EReal))
  (hg : ∀ x : Fin 128, arg6.view.read (Elt Ideal) X6 (ix2 0 x) = g x)

/-- Row `j` of the result. -/
def outRow (Q K V : ℕ → Fin 128 → ℝ) (l : ℝ) (g : Fin 128 → EReal) (j : ℕ) (x : Fin 128) : EReal :=
  normed (fun x => (dif (fun s => (2 : ℝ) ^ s) Q K V l j x : EReal)) g x

include hg in
theorem gain_apply (x : Fin 128) : shapeCast S1x128 (arg6.view.readAt (Elt Ideal) (Rect.unit (s := S1x128) ![0, 0] S1x128.size inb_S1x128_S1x128_0_0).toLoadRect X6) shapeCasts_S1x128_S1x128 (ix2 0 x) = g x := by
  refine (congrFun (shapeCast_id _ _) _).trans ?_
  refine (readAt_rows arg6.view X6 0 1 _ 0 x (by omega)).trans ?_
  exact hg x

include hQ hK hV hl hg in
theorem tile_rows (k : Fin k0_t1_loop.trips) (z : S1x1024x128.Idx) :
    outOf (k0_pay1 v0) (shapeCast S1x128 (arg6.view.readAt (Elt Ideal) (Rect.unit (s := S1x128) ![0, 0] S1x128.size inb_S1x128_S1x128_0_0).toLoadRect X6) shapeCasts_S1x128_S1x128)
        (finalAcc c i arg2 harg2 arg3 harg3 arg4 harg4 arg5 harg5 arg6 harg6 arg7 harg7 arg8 harg8 arg9 harg9 arg10 harg10 X2 X3 X4 k) z
      = outRow Q K V l g ((Rect.unit (s := S1x8192x128) (k0_off1 k) S1x1024x128.size (k0_off1_inb k)).emb z 1).val
          ((Rect.unit (s := S1x8192x128) (k0_off1 k) S1x1024x128.size (k0_off1_inb k)).emb z 2) := by
  obtain ⟨a, r, x, rfl⟩ : ∃ (a : Fin 1) (r : Fin 1024) (x : Fin 128), z = ix3 a r x := ⟨z 0, z 1, z 2, eq_ix3 z⟩
  obtain ⟨m, hA⟩ := finalAcc_row c i arg2 harg2 arg3 harg3 arg4 harg4 arg5 harg5 arg6 harg6 arg7 harg7 arg8 harg8 arg9 harg9 arg10 harg10 X2 X3 X4 k Q K V hQ hK hV
  refine (outOf_row _ Q K V k.val m hA _ l hl _ a r x).trans ?_
  unfold outRow
  have e1 : ((Rect.unit (s := S1x8192x128) (k0_off1 k) S1x1024x128.size (k0_off1_inb k)).emb (ix3 a r x) 1).val = 1024 * k.val + r.val := by
    show k0_off1 k 1 + 1 * r.val = _
    rw [off1_eq k]
    show 1024 * k.val + 1 * r.val = _
    omega
  have e2 : (Rect.unit (s := S1x8192x128) (k0_off1 k) S1x1024x128.size (k0_off1_inb k)).emb (ix3 a r x) 2 = x := by
    apply Fin.ext
    show k0_off1 k 2 + 1 * x.val = _
    rw [off1_eq k]
    show 0 + 1 * x.val = _
    omega
  rw [e1, e2]
  congr 1
  funext x
  exact gain_apply arg6 X6 g hg x

theorem mem_tile (k : Fin k0_t1_loop.trips) (j : Fin 8192) (x : Fin 128) :
    ix3 0 j x ∈ (Rect.unit (s := S1x8192x128) (k0_off1 k) S1x1024x128.size (k0_off1_inb k)).set ↔ 1024 * k.val ≤ j.val ∧ j.val < 1024 * k.val + 1024 := by
  rw [Rect.mem_set_unit]
  rw [off1_eq k]
  constructor
  · intro h
    exact h 1
  · intro h a
    match a with
    | ⟨0, _⟩ => exact ⟨Nat.zero_le _, by show 0 < 0 + 1; omega⟩
    | ⟨1, _⟩ => exact h
    | ⟨2, _⟩ => exact ⟨Nat.zero_le _, by show x.val < 0 + 128; omega⟩

include hQ hK hV hl hg in
/-- After the first `n` tiles the rows of those tiles are done. -/
theorem reach_rows (n : ℕ) (h : BufTy.Contents (Elt Ideal) arg7.view.ty) (hr : Reach c i arg2 harg2 arg3 harg3 arg4 harg4 arg5 harg5 arg6 harg6 arg7 harg7 arg8 harg8 arg9 harg9 arg10 harg10 v0 X2 X3 X4 X6 f n h) (j : Fin 8192) (x : Fin 128) (hj : j.val < 1024 * n) :
    arg7.view.read (Elt Ideal) h (ix3 0 j x) = outRow Q K V l g j.val x := by
  induction hr with
  | zero => omega
  | succ k h' f8 f9 f10 _ ih =>
    rw [tile_piece]
    by_cases hk : 1024 * k.val ≤ j.val
    · refine View.read_writes_apply_of_pieces (Val := Elt Ideal) arg7.view h' (fun y => outRow Q K V l g (y 1).val (y 2)) _ ?_ (ix3 0 j x) ?_
      · simp only [List.forall_mem_cons, List.not_mem_nil, false_imp_iff, implies_true, and_true]
        exact tile_rows c i arg2 harg2 arg3 harg3 arg4 harg4 arg5 harg5 arg6 harg6 arg7 harg7 arg8 harg8 arg9 harg9 arg10 harg10 v0 X2 X3 X4 X6 Q K V l g hQ hK hV hl hg k
      · exact ⟨_, .head _, (mem_tile k j x).2 ⟨hk, by omega⟩⟩
    · rw [View.read_writes_apply_of_forall_not_mem]
      · exact ih (by omega)
      · simp only [List.forall_mem_cons, List.not_mem_nil, false_imp_iff, implies_true, and_true]
        intro hm
        exact hk ((mem_tile k j x).1 hm).1
end

variable (Y2 Y3 Y4 : S1x8192x128.Idx → Elt Ideal .bf16) (Y5 : S4x64.Idx → Elt Ideal .f32) (Y6 : S1x128.Idx → Elt Ideal .f32) (X : S1x8192x128.Idx → Elt Ideal .bf16)

/-- What a point leaves in the output block. -/
theorem left_rows (h : Left (F := Ideal) c i arg2 harg2 arg3 harg3 arg4 harg4 arg5 harg5 arg6 harg6 arg7 harg7 arg8 harg8 arg9 harg9 arg10 harg10 Y2 Y3 Y4 Y5 Y6 X) (Q K V : ℕ → Fin 128 → ℝ) (l : ℝ) (g : Fin 128 → EReal)
    (hQ : ∀ (j : Fin 8192) (x : Fin 128), Y2 (ix3 0 j x) = (Q j.val x : EReal)) (hK : ∀ (j : Fin 8192) (x : Fin 128), Y3 (ix3 0 j x) = (K j.val x : EReal))
    (hV : ∀ (j : Fin 8192) (x : Fin 128), Y4 (ix3 0 j x) = (V j.val x : EReal)) (hl : lamOf (fun a x => Y5 (ix2 a x)) = (l : EReal))
    (hg : ∀ x : Fin 128, Y6 (ix2 0 x) = g x) (j : Fin 8192) (x : Fin 128) : X (ix3 0 j x) = outRow Q K V l g j.val x := by
  obtain ⟨X2, X3, X4, X5, X6, f, h', rfl, rfl, rfl, rfl, rfl, hr, rfl⟩ := h
  refine reach_rows c i arg2 harg2 arg3 harg3 arg4 harg4 arg5 harg5 arg6 harg6 arg7 harg7 arg8 harg8 arg9 harg9 arg10 harg10 _ X2 X3 X4 X6 f Q K V l g hQ hK hV ?_ hg k0_t1_loop.trips h' hr j x ?_
  · rw [pay1_apply, ← hl]
    congr 1
    funext a x
    refine (readAt_rows arg5.view X5 0 4 _ a x (by omega)).trans ?_
    congr 2
    exact Fin.ext (Nat.zero_add _)
  · have h1 : k0_t1_loop.trips = 8 := by decide
    rw [h1]; exact j.isLt
end

end Cert.Proof.KernelIdeal

end
-- ==== Proof.KI.Array.lean ====
/- THE RESULT ARRAY of the kernel: the arrays its windows read as the host operations leave them, its blocks at coordinates, and
   the array its output blocks cover. -/
module

public import proofs.«01_k».proof.Proof.KI.Block
public import Idealize.ShloMosaic.Lib.Pipeline.ValueKit

@[expose] public section

set_option maxRecDepth 16384

noncomputable section

namespace Cert.Proof.KernelIdeal

open Cert.KernelIdeal Cert.KernelIdeal.Gen Cert.Proof.Weights
open Idealize.ShloMosaic Idealize.ShloMosaic.TcCoe Idealize.ShloMosaic.StableHlo Idealize.ShloMosaic.Pipeline

variable (m : (ℓ : Loc nD τ sig) → Buf (Elt Ideal) ℓ) (c : Dev nD)

/-- The arguments on core `c`, entry by entry. -/
abbrev argQ (b : Fin 8) (j : Fin 8192) (d : Fin 1024) : EReal := (m ((c : Thread nD τ).loc main_arg0) : FVec Ideal S8x8192x1024 .f32) (ix3 b j d)
abbrev argK (b : Fin 8) (j : Fin 8192) (d : Fin 1024) : EReal := (m ((c : Thread nD τ).loc main_arg1) : FVec Ideal S8x8192x1024 .f32) (ix3 b j d)
abbrev argV (b : Fin 8) (j : Fin 8192) (d : Fin 1024) : EReal := (m ((c : Thread nD τ).loc main_arg2) : FVec Ideal S8x8192x1024 .f32) (ix3 b j d)
abbrev argLam (a : Fin 4) (x : Fin 64) : EReal := (m ((c : Thread nD τ).loc main_arg3) : FVec Ideal S4x64 .f32) (ix2 a x)
abbrev argG (x : Fin 128) : EReal := (m ((c : Thread nD τ).loc main_arg4) : FVec Ideal S128 .f32) (ix1 x)

/-- The queries' factor. -/
def scale : FVec Ideal S_ .f32 := Host.divf (constant S_ .f32 0x3E000000#32) (Host.log (constant S_ .f32 0x40000000#32))

def scaled (x : FVec Ideal S8x8192x1024 .f32) : FVec Ideal S8x8192x1024 .bf16 :=
  truncf .bf16 (mulf x (broadcastInDim S8x8192x1024 ![] bcast_S_S8x8192x1024 scale)) bitsLt_bf16_f32
def narrow (x : FVec Ideal S8x8192x1024 .f32) : FVec Ideal S8x8192x1024 .bf16 := truncf .bf16 x bitsLt_bf16_f32
def asRow (x : FVec Ideal S128 .f32) : FVec Ideal S1x128 .f32 := shapeCast S1x128 x shapeCasts_S128_S1x128

theorem V_q : V m c main_v4 = scaled (m ((c : Thread nD τ).loc main_arg0)) := by
  show StableHlo.after hostOps0 (fun b => m (c, b)) main_v4 = _
  simp only [hostOps0, TRef.ternary, TRef.unary, TRef.toBuf, TRef.ofBuf, cast_eq]
  after_results_simp <;> rfl
theorem V_k : V m c main_v5 = narrow (m ((c : Thread nD τ).loc main_arg1)) := by
  show StableHlo.after hostOps0 (fun b => m (c, b)) main_v5 = _
  simp only [hostOps0, TRef.ternary, TRef.unary, TRef.toBuf, TRef.ofBuf, cast_eq]
  after_results_simp <;> rfl
theorem V_v : V m c main_v6 = narrow (m ((c : Thread nD τ).loc main_arg2)) := by
  show StableHlo.after hostOps0 (fun b => m (c, b)) main_v6 = _
  simp only [hostOps0, TRef.ternary, TRef.unary, TRef.toBuf, TRef.ofBuf, cast_eq]
  after_results_simp <;> rfl
theorem V_g : V m c main_v7 = asRow (m ((c : Thread nD τ).loc main_arg4)) := by
  show StableHlo.after hostOps0 (fun b => m (c, b)) main_v7 = _
  simp only [hostOps0, TRef.ternary, TRef.unary, TRef.toBuf, TRef.ofBuf, cast_eq]
  after_results_simp <;> rfl

theorem idx0 : ∀ t : Fin cfg0.N, win0_0.index t = ![t.val / 8, 0, t.val % 8] := (by decide +kernel : ∀ t : Fin grid0.N, _)
theorem idx1 : ∀ t : Fin cfg0.N, win0_1.index t = ![t.val / 8, 0, t.val % 8] := (by decide +kernel : ∀ t : Fin grid0.N, _)
theorem idx2 : ∀ t : Fin cfg0.N, win0_2.index t = ![t.val / 8, 0, t.val % 8] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, 0, t.val % 8] := (by decide +kernel : ∀ t : Fin grid0.N, _)

section
variable (t : Fin cfg0.N) (b h : Fin 8) (hb : b.val = t.val / 8) (hh : h.val = t.val % 8) (j : Fin 8192) (x : Fin 128)
include hb hh

theorem block_q : (iblk m c 0 t : FVec Ideal S1x8192x128 .bf16) (ix3 0 j x) = (V m c main_v4 : FVec Ideal S8x8192x1024 .bf16) (ix3 b j ⟨128 * h.val + x.val, by omega⟩) := by
  blk_simp [iblk]
  congr 1
  blk_ext [idx0]
theorem block_k : (iblk m c 1 t : FVec Ideal S1x8192x128 .bf16) (ix3 0 j x) = (V m c main_v5 : FVec Ideal S8x8192x1024 .bf16) (ix3 b j ⟨128 * h.val + x.val, by omega⟩) := by
  blk_simp [iblk]
  congr 1
  blk_ext [idx1]
theorem block_v : (iblk m c 2 t : FVec Ideal S1x8192x128 .bf16) (ix3 0 j x) = (V m c main_v6 : FVec Ideal S8x8192x1024 .bf16) (ix3 b j ⟨128 * h.val + x.val, by omega⟩) := by
  blk_simp [iblk]
  congr 1
  blk_ext [idx2]
end

theorem block_lam (t : Fin cfg0.N) (a : Fin 4) (x : Fin 64) : (iblk m c 3 t : FVec Ideal S4x64 .f32) (ix2 a x) = argLam m c a x := by
  blk_simp [iblk]
  rw [V_main_arg3]
  unfold argLam
  congr 1
  blk_ext [idx3]

theorem block_g (t : Fin cfg0.N) (x : Fin 128) : (iblk m c 4 t : FVec Ideal S1x128 .f32) (ix2 0 x) = (V m c main_v7 : FVec Ideal S1x128 .f32) (ix2 0 x) := by
  blk_simp [iblk]
  congr 1
  blk_ext [idx4]

theorem asRow_apply (y : FVec Ideal S128 .f32) (x : Fin 128) : asRow y (ix2 0 x) = y (ix1 x) := by
  pointwise [asRow]

theorem narrow_apply (y : FVec Ideal S8x8192x1024 .f32) (i : S8x8192x1024.Idx) : narrow y i = y i := rfl

theorem scale_apply (i : S_.Idx) : scale i = (((1 / 8) * (Real.log 2)⁻¹ : ℝ) : EReal) := by
  have h1 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.log ((2 : ℝ) : EReal) = ((Real.log 2 : ℝ) : EReal) := by
    rw [Ideal.log_coe, if_neg (by norm_num)]
  show Ideal.div (Ideal.ofBits .f32 0x3E000000#32) (Ideal.log (Ideal.ofBits .f32 0x40000000#32)) = _
  rw [h1, h2, h3, div_coe _ _ (Real.log_pos (by norm_num)).ne', div_eq_mul_inv]

theorem scaled_apply (y : FVec Ideal S8x8192x1024 .f32) (i : S8x8192x1024.Idx) (r : ℝ) (h : y i = (r : EReal)) :
    scaled y i = ((r * (1 / 8) * (Real.log 2)⁻¹ : ℝ) : EReal) := by
  have e : scaled y i = y i * scale (fun a => a.elim0) := by
    show y i * scale _ = _
    congr 1
  rw [e, h, scale_apply, ← EReal.coe_mul]
  congr 1
  ring

/-- What the result array holds. -/
def result (lam : ℝ) : FVec Ideal S8x8192x1024 .bf16 := fun i =>
  attended (argQ m c) (argK m c) (argV m c) lam (argG m c) (i 0) (i 1).val ⟨(i 2).val / 128, by have := (i 2).isLt; simp [S8x8192x1024] at this; omega⟩ ⟨(i 2).val % 128, by omega⟩

theorem result_apply (lam : ℝ) (z : S8x8192x1024.Idx) (b h : Fin 8) (j : Fin 8192) (x : Fin 128) (h0 : (z 0).val = b.val) (h1 : (z 1).val = j.val)
    (h2 : (z 2).val = h.val * 128 + x.val) : result m c lam z = attended (argQ m c) (argK m c) (argV m c) lam (argG m c) b j.val h x := by
  unfold result
  have e0 : (z 0 : Fin 8) = b := Fin.ext h0
  have e2 : (⟨(z 2).val / 128, by have := (z 2).isLt; simp [S8x8192x1024] at this; omega⟩ : Fin 8) = h := Fin.ext (by simp only [h2]; omega)
  have e3 : (⟨(z 2).val % 128, by omega⟩ : Fin 128) = x := Fin.ext (by simp only [h2]; omega)
  rw [e2, e3, h1]
  exact congrArg (fun u => attended (argQ m c) (argK m c) (argV m c) lam (argG m c) u j.val h x) e0

section
variable (lam : ℝ) (hlam : lamOf (fun a x => argLam m c a x) = (lam : EReal))
  (hq : ∀ b j d, argQ m c b j d = ((argQ m c b j d).toReal : EReal)) (hk : ∀ b j d, argK m c b j d = ((argK m c b j d).toReal : EReal))
  (hv : ∀ b j d, argV m c b j d = ((argV m c b j d).toReal : EReal))
include hlam hq hk hv

/-- One point's block holds its head's rows. -/
theorem left_block (t : Fin cfg0.N) (b h : Fin 8) (hb : b.val = t.val / 8) (hh : h.val = t.val % 8) (X : FVec Ideal S1x8192x128 .bf16) (hX : LeftAt m c t X)
    (j : Fin 8192) (x : Fin 128) :
    X (ix3 0 j x) = attended (argQ m c) (argK m c) (argV m c) lam (argG m c) b j.val h x := by
  have e := left_rows (h := hX) (Q := fun p x => headOf (argQ m c) b h p x * (1 / 8) * (Real.log 2)⁻¹) (K := headOf (argK m c) b h)
    (V := headOf (argV m c) b h) (l := lam) (g := argG m c)
    (hQ := fun j x => by
      refine (block_q m c t b h hb hh j x).trans ?_
      rw [V_q m c]
      exact scaled_apply _ _ _ (headOf_coe (argQ m c) hq b h j x))
    (hK := fun j x => by
      refine (block_k m c t b h hb hh j x).trans ?_
      rw [V_k m c]
      exact headOf_coe (argK m c) hk b h j x)
    (hV := fun j x => by
      refine (block_v m c t b h hb hh j x).trans ?_
      rw [V_v m c]
      exact headOf_coe (argV m c) hv b h j x)
    (hl := by
      rw [← hlam]
      congr 1
      funext a x
      exact block_lam m c t a x)
    (hg := fun x => by
      refine (block_g m c t x).trans ?_
      rw [V_g m c]
      exact asRow_apply _ x) (j := j) (x := x)
  rw [e]
  unfold outRow attended
  congr 1
  funext x
  rw [dif_two]

/-- The result array at the end of the run. -/
theorem array (r : PUnit × MemSt nD τ sig (Elt Ideal)) (h : RDat.FramePost cfg0 (rdat m) (V m) r) :
    r.2.mem ((c : Thread nD τ).loc main_v8) = result m c lam := by
  obtain ⟨after, hL, hA⟩ := RDat.FramePost.exists_exact h c
  refine (hA 5).trans ?_
  refine Dat.arrAt_eq_of_covers ((rdat m c).withAfter after) 5 (result m c lam) (by decide +kernel) fun t hf y => ?_
  obtain ⟨Y, -, hX⟩ := hL 5 t hf
  have hN : t.val < 64 := t.isLt
  have e := fun (j : Fin 8192) (x : Fin 128) => left_block m c lam hlam hq hk hv t ⟨t.val / 8, by omega⟩ ⟨t.val % 8, by omega⟩ rfl rfl (after 5 t) hX j x
  blk_simp
  have y0 : (y 0).val < 1 := (y 0).isLt
  have hy : y = (ix3 0 (y 1) (y 2) : S1x8192x128.Idx) := by
    funext a
    fin_cases a
    · exact Fin.ext (by show (y 0).val = 0; omega)
    · rfl
    · rfl
  refine Eq.trans ?_ (result_apply m c lam _ ⟨t.val / 8, by omega⟩ ⟨t.val % 8, by omega⟩ (y 1) (y 2) ?_ ?_ ?_).symm
  · exact (congrArg (after 5 t) hy).trans (e (y 1) (y 2))
  · blk_simp [idx5]
  · blk_simp [idx5]
  · blk_simp [idx5]

end

end Cert.Proof.KernelIdeal

end
-- ==== Proof.Ref.lean ====
/- THE REFERENCE'S VALUE, stage by stage, read at coordinates. -/
module

public import proofs.«01_k».proof.Proof.Attend
public import proofs.«01_k».proof.Proof.Gen.ReferenceIdeal.Run
public import Idealize.ShloMosaic.Lib.Pipeline.ValueKit

@[expose] public section

set_option maxRecDepth 16384

noncomputable section

namespace Cert.Proof.ReferenceIdeal

open Cert.ReferenceIdeal Cert.ReferenceIdeal.Gen Cert.ReferenceIdeal.Value Cert.Proof.Weights
open Idealize.ShloMosaic Idealize.ShloMosaic.TcCoe Idealize.ShloMosaic.StableHlo

abbrev Scores := FVec Ideal S8x8x2x8192x8192 .f32

/-- The scores of the two halves of each head. -/
def scores (q k : FVec Ideal S8x8192x1024 .f32) : Scores :=
  Host.dotGeneral dot_S8x8192x8x2x64_S8x8192x8x2x64_S8x8x2x8192x8192_4_4_1_1_023_023 none (mulf (shapeCast _ q shapeCasts_S8x8192x1024_S8x8192x8x2x64) (broadcastInDim S8x8192x8x2x64 ![] bcast_S_S8x8192x8x2x64 (constant S_ .f32 0x3E000000#32))) (shapeCast _ k shapeCasts_S8x8192x1024_S8x8192x8x2x64)

/-- The scores of later keys made minus infinity. -/
def masked (s : Scores) : Scores :=
  select (broadcastInDim S8x8x2x8192x8192 ![3, 4] bcast_S8192x8192_S8x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S8x8x2x8192x8192 ![] bcast_S_S8x8x2x8192x8192 (id (constant S_ .f32 0xFF800000#32)))

/-- Each row's largest score. -/
def rowMax (s : Scores) : FVec Ideal S8x8x2x8192 .f32 :=
  Host.reduce FloatOps.maximumf s (constant S_ .f32 0xFF800000#32) reducesTo_S8x8x2x8192x8192_S8x8x2x8192_d4 h_S_
def rowTop (s : Scores) : FVec Ideal S8x8x2x8192 .f32 :=
  maximumf (broadcastInDim S8x8x2x8192 ![] bcast_S_S8x8x2x8192 (constant S_ .f32 0xFF800000#32)) (rowMax s)

/-- One number per row, along the row. -/
def along (x : FVec Ideal S8x8x2x8192 .f32) : Scores :=
  broadcastInDim S8x8x2x8192x8192 ![0, 1, 2, 3, 4] bcast_S8x8x2x8192x1_S8x8x2x8192x8192_0_1_2_3_4 (broadcastInDim S8x8x2x8192x1 ![0, 1, 2, 3] bcast_S8x8x2x8192_S8x8x2x8192x1_0_1_2_3 x)

def expd (s : Scores) (t : FVec Ideal S8x8x2x8192 .f32) : Scores := Host.exp (subf s (along t))

def rowSum (s : Scores) : FVec Ideal S8x8x2x8192 .f32 :=
  Host.reduceAdd s (constant S_ .f32 0x00000000#32) reducesTo_S8x8x2x8192x8192_S8x8x2x8192_d4 h_S_

def overSum (e : Scores) (t : FVec Ideal S8x8x2x8192 .f32) : Scores := Host.divf e (along t)

def lamOut (a : FVec Ideal S4x64 .f32) : FVec Ideal S_ .f32 :=
  addf (subf (Host.exp (Host.reduceAdd (mulf (shapeCast _ (extractStridedSlice S1x64 ![0, 0] a slices_S4x64_S1x64_0_0) shapeCasts_S1x64_S64) (shapeCast _ (extractStridedSlice S1x64 ![1, 0] a slices_S4x64_S1x64_1_0) shapeCasts_S1x64_S64)) (constant S_ .f32 0x00000000#32) reducesTo_S64_S_d0 h_S_)) (Host.exp (Host.reduceAdd (mulf (shapeCast _ (extractStridedSlice S1x64 ![2, 0] a slices_S4x64_S1x64_2_0) shapeCasts_S1x64_S64) (shapeCast _ (extractStridedSlice S1x64 ![3, 0] a slices_S4x64_S1x64_3_0) shapeCasts_S1x64_S64)) (constant S_ .f32 0x00000000#32) reducesTo_S64_S_d0 h_S_))) (constant S_ .f32 0x3EB60549#32)

/-- The difference of the halves' probabilities. -/
def differ (p : Scores) (l : FVec Ideal S_ .f32) : FVec Ideal S8x8x8192x8192 .f32 :=
  subf (shapeCast _ (extractStridedSlice S8x8x1x8192x8192 ![0, 0, 0, 0, 0] p slices_S8x8x2x8192x8192_S8x8x1x8192x8192_0_0_0_0_0) shapeCasts_S8x8x1x8192x8192_S8x8x8192x8192) (mulf (broadcastInDim S8x8x8192x8192 ![] bcast_S_S8x8x8192x8192 l) (shapeCast _ (extractStridedSlice S8x8x1x8192x8192 ![0, 0, 1, 0, 0] p slices_S8x8x2x8192x8192_S8x8x1x8192x8192_0_0_1_0_0) shapeCasts_S8x8x1x8192x8192_S8x8x8192x8192))

/-- The values weighted by them. -/
def weigh (v : FVec Ideal S8x8192x1024 .f32) (a : FVec Ideal S8x8x8192x8192 .f32) : FVec Ideal S8x8192x8x128 .f32 :=
  transpose S8x8192x8x128 [0, 3, 1, 2] (Host.dotGeneral dot_S8x8192x8x128_S8x8x8192x8192_S8x8x128x8192_1_3_3_2_02_01 none (shapeCast _ v shapeCasts_S8x8192x1024_S8x8192x8x128) a) transposes_S8x8x128x8192_S8x8192x8x128_0_3_1_2

def normOut (o : FVec Ideal S8x8192x8x128 .f32) (g : FVec Ideal S128 .f32) : FVec Ideal S8x8192x8x128 .f32 :=
  mulf (mulf (mulf o (broadcastInDim S8x8192x8x128 ![0, 1, 2, 3] bcast_S8x8192x8x1_S8x8192x8x128_0_1_2_3 (Host.rsqrt (addf (Host.divf (broadcastInDim S8x8192x8x1 ![0, 1, 2] bcast_S8x8192x8_S8x8192x8x1_0_1_2 (Host.reduceAdd (mulf o o) (constant S_ .f32 0x00000000#32) reducesTo_S8x8192x8x128_S8x8192x8_d3 h_S_)) (broadcastInDim S8x8192x8x1 ![] bcast_S_S8x8192x8x1 (constant S_ .f32 0x43000000#32))) (broadcastInDim S8x8192x8x1 ![] bcast_S_S8x8192x8x1 (constant S_ .f32 0x3727C5AC#32)))))) (broadcastInDim S8x8192x8x128 ![0, 1, 2, 3] bcast_S1x1x1x128_S8x8192x8x128_0_1_2_3 (broadcastInDim S1x1x1x128 ![3] bcast_S128_S1x1x1x128_3 g))) (broadcastInDim S8x8192x8x128 ![] bcast_S_S8x8192x8x128 (constant S_ .f32 0x3F24FD5C#32))

def joined (o : FVec Ideal S8x8192x8x128 .f32) : FVec Ideal S8x8192x1024 .bf16 :=
  truncf .bf16 (shapeCast S8x8192x1024 o shapeCasts_S8x8192x8x128_S8x8192x1024) bitsLt_bf16_f32

def probs (s : Scores) : Scores := overSum (expd s (rowTop s)) (rowSum (expd s (rowTop s)))

theorem out_eq (m : (ℓ : Loc nD τ sig) → Buf (Elt Ideal) ℓ) (c : Dev nD) :
    res_out0 m c = joined (normOut (weigh (m ((c.tc : Thread nD τ).loc main_arg2)) (differ (probs (masked (scores (m ((c.tc : Thread nD τ).loc main_arg0)) (m ((c.tc : Thread nD τ).loc main_arg1))))) (lamOut (m ((c.tc : Thread nD τ).loc main_arg3))))) (m ((c.tc : Thread nD τ).loc main_arg4))) := rfl

variable (b h : Fin 8) (e : Fin 2) (p j : Fin 8192)
theorem along_apply (x : FVec Ideal S8x8x2x8192 .f32) : along x (ix5 b h e p j) = x (ix4 b h e p) := by
  pointwise [along]

theorem expd_apply (s : Scores) (t) : expd s t (ix5 b h e p j) = Ideal.exp (s (ix5 b h e p j) - t (ix4 b h e p)) := by
  pointwise [expd, along_apply]

theorem overSum_apply (s : Scores) (t) : overSum s t (ix5 b h e p j) = Ideal.div (s (ix5 b h e p j)) (t (ix4 b h e p)) := by
  pointwise [overSum, along_apply]

theorem rowSum_apply (s : Scores) : rowSum s (ix4 b h e p) = ∑ j : Fin 8192, s (ix5 b h e p j) := by
  pointwise [rowSum]

theorem masked_apply (s : Scores) : masked s (ix5 b h e p j) = if j.val ≤ p.val then s (ix5 b h e p j) else ⊥ := by
  have hc : IntOp.cmpi .sle (BitVec.ofNat 32 j.val) (BitVec.ofNat 32 p.val) = if j.val ≤ p.val then 1#1 else 0#1 := by
    have h1 : (BitVec.ofNat 32 j.val).toInt = (j.val : ℤ) := by
      have := j.isLt
      rw [BitVec.toInt_eq_toNat_of_lt] <;> simp only [BitVec.toNat_ofNat] <;> omega
    have h2 : (BitVec.ofNat 32 p.val).toInt = (p.val : ℤ) := by
      have := p.isLt
      rw [BitVec.toInt_eq_toNat_of_lt] <;> simp only [BitVec.toNat_ofNat] <;> omega
    have h3 : (BitVec.ofNat 32 j.val).sle (BitVec.ofNat 32 p.val) = decide (j.val ≤ p.val) := by
      rw [BitVec.sle_eq_decide, h1, h2]
      exact decide_eq_decide.2 Int.ofNat_le
    show BitVec.ofBool ((BitVec.ofNat 32 j.val).sle (BitVec.ofNat 32 p.val)) = _
    rw [h3]
    split_ifs with hjp <;> simp [hjp]
  have hm : id (constant (F := Ideal) S_ .f32 0xFF800000#32) ix0 = ⊥ := by
    show Ideal.ofBits .f32 0xFF800000#32 = ⊥
    simp [Ideal.ofBits, Ideal.ieee]
  pointwise [masked]
  rw [hc, hm]
  split_ifs <;> rfl

theorem scores_apply (q k) : scores q k (ix5 b h e p j) = ∑ x : Fin 64, q (ix3 b p ⟨h.val * 128 + e.val * 64 + x.val, by omega⟩) * Ideal.ofBits .f32 0x3E000000#32 *
    k (ix3 b j ⟨h.val * 128 + e.val * 64 + x.val, by omega⟩) := by
  pointwise [scores]

theorem differ_apply (s : Scores) (l) : differ s l (ix4 b h p j) = s (ix5 b h 0 p j) - l (ix0) * s (ix5 b h 1 p j) := by
  pointwise [differ]

theorem lamOut_apply (l) : lamOut l (ix0) = lamOf (fun a x => l (ix2 a x)) := by
  pointwise [lamOut, lamOf]

variable (x : Fin 128)
theorem weigh_apply (v a) : weigh v a (ix4 b p h x) = ∑ j : Fin 8192, v (ix3 b j ⟨h.val * 128 + x.val, by omega⟩) * a (ix4 b h p j) := by
  pointwise [weigh]

theorem normOut_apply (o g) : normOut o g (ix4 b p h x) = normed (fun x => o (ix4 b p h x)) (fun x => g (ix1 x)) x := by
  pointwise [normOut, normed]

theorem joined_apply (o) : joined o (ix3 b p ⟨128 * h.val + x.val, by omega⟩) = o (ix4 b p h x) := by
  pointwise [joined]

/-- A fold of maxima is at least each of its elements. -/
theorem le_foldl {ι : Type} (f : ι → EReal) (l : List ι) (a : EReal) : a ≤ l.foldl (fun r n => max r (f n)) a ∧ ∀ n ∈ l, f n ≤ l.foldl (fun r n => max r (f n)) a := by
  induction l generalizing a with
  | nil => exact ⟨le_rfl, fun n hn => absurd hn (List.not_mem_nil)⟩
  | cons i l ih =>
    obtain ⟨h1, h2⟩ := ih (max a (f i))
    refine ⟨(le_max_left _ _).trans h1, fun n hn => ?_⟩
    rcases List.mem_cons.1 hn with rfl | hn
    · exact (le_max_right _ _).trans h1
    · exact h2 n hn

theorem foldl_ne_top {ι : Type} (f : ι → EReal) (hf : ∀ i, f i ≠ ⊤) (l : List ι) (a : EReal) (ha : a ≠ ⊤) : l.foldl (fun r n => max r (f n)) a ≠ ⊤ := by
  induction l generalizing a with
  | nil => exact ha
  | cons i l ih => exact ih _ (ne_of_lt (max_lt (lt_top_iff_ne_top.2 ha) (lt_top_iff_ne_top.2 (hf i))))

section
variable {s t u : Shape} {axes : List (Fin s.rank)} (f : FVec Ideal s .f32) (init : FVec Ideal u .f32) (hr : s.ReducesTo axes t) (hu : 0 < u.numel)

/-- A maximum over axes is at least each element it is taken over. -/
theorem le_reduce (i : s.Idx) (j : t.Idx) (hd : hr.drop i = j) : f i ≤ Host.reduce (FloatOps.maximumf (F := Ideal) (φ := .f32)) f init hr hu j := by
  have hin := (le_foldl (fun n => f (s.rowMajor.symm n)) ((List.finRange s.numel).filter fun n => hr.drop (s.rowMajor.symm n) = j) (init (Shape.Idx.first hu))).2
    (s.rowMajor i) (List.mem_filter.2 ⟨List.mem_finRange _, by rw [Equiv.symm_apply_apply]; exact decide_eq_true hd⟩)
  simp only [Equiv.symm_apply_apply] at hin
  exact hin

theorem reduce_ne_top (hf : ∀ i, f i ≠ ⊤) (hi : ∀ i, init i ≠ ⊤) (j : t.Idx) : Host.reduce (FloatOps.maximumf (F := Ideal) (φ := .f32)) f init hr hu j ≠ ⊤ :=
  foldl_ne_top (fun n => f (s.rowMajor.symm n)) (fun i => hf _) _ _ (hi _)
end

theorem drop_row : reducesTo_S8x8x2x8192x8192_S8x8x2x8192_d4.drop (ix5 b h e p j) = ix4 b h e p := by
  funext a
  fin_cases a <;> rfl

theorem bot_ofBits : Ideal.ofBits .f32 0xFF800000#32 = ⊥ := by simp [Ideal.ofBits, Ideal.ieee]

theorem le_rowMax (s : Scores) : s (ix5 b h e p j) ≤ rowMax s (ix4 b h e p) := by
  unfold rowMax
  exact le_reduce s _ reducesTo_S8x8x2x8192x8192_S8x8x2x8192_d4 h_S_ (ix5 b h e p j) (ix4 b h e p) (drop_row b h e p j)

theorem rowMax_ne_top (s : Scores) (hs : ∀ i, s i ≠ ⊤) : rowMax s (ix4 b h e p) ≠ ⊤ := by
  unfold rowMax
  exact reduce_ne_top s _ reducesTo_S8x8x2x8192x8192_S8x8x2x8192_d4 h_S_ hs (fun i => bot_ofBits.trans_ne bot_ne_top) (ix4 b h e p)

theorem floor_apply (y) : maximumf (broadcastInDim S8x8x2x8192 ![] bcast_S_S8x8x2x8192 (constant (F := Ideal) S_ .f32 0xFF800000#32)) y (ix4 b h e p) = y (ix4 b h e p) := by
  show max (Ideal.ofBits .f32 0xFF800000#32) (y (ix4 b h e p)) = _
  rw [bot_ofBits]
  exact max_eq_right bot_le

/-- The largest score of a row with a finite score is finite. -/
theorem rowTop_coe (s : Scores) (hs : ∀ i, s i ≠ ⊤) (h0 : s (ix5 b h e p j) ≠ ⊥) : ∃ t : ℝ, rowTop s (ix4 b h e p) = (t : EReal) := by
  unfold rowTop
  rw [floor_apply]
  exact ⟨_, (EReal.coe_toReal (rowMax_ne_top b h e p s hs) (ne_of_gt (lt_of_lt_of_le (bot_lt_iff_ne_bot.2 h0) (le_rowMax b h e p j s)))).symm⟩

/-- A half of the head's 128 columns, as 64. -/
theorem sum_half (e : Fin 2) (f : ℕ → ℝ) : ∑ x : Fin 64, f (e.val * 64 + x.val) = ∑ x : Fin 128, if x.val / 64 = e.val then f x.val else 0 := by
  have h := Fin.sum_univ_add (a := 64) (b := 64) (f := fun x : Fin (64 + 64) => if x.val / 64 = e.val then f x.val else 0)
  refine Eq.trans ?_ h.symm
  have h1 : ∀ x : Fin 64, (Fin.castAdd 64 x).val / 64 = 0 := fun x => by rw [Fin.val_castAdd]; omega
  have h2 : ∀ x : Fin 64, (Fin.natAdd 64 x).val / 64 = 1 := fun x => by rw [Fin.val_natAdd]; omega
  simp only [h1, h2]
  fin_cases e
  · simp
  · simp
    exact Finset.sum_congr rfl fun x _ => congrArg f (Nat.add_comm _ _)

section
variable (q k v : FVec Ideal S8x8192x1024 .f32)
  (hq : ∀ b j d, q (ix3 b j d) = ((q (ix3 b j d)).toReal : EReal)) (hk : ∀ b j d, k (ix3 b j d) = ((k (ix3 b j d)).toReal : EReal))
  (hv : ∀ b j d, v (ix3 b j d) = ((v (ix3 b j d)).toReal : EReal))

/-- A head's rows of an array. -/
abbrev rows (A : FVec Ideal S8x8192x1024 .f32) : ℕ → Fin 128 → ℝ := headOf (fun b j d => A (ix3 b j d)) b h

/-- The score, a real number. -/
abbrev score (e : Fin 2) (p j : ℕ) : ℝ := half e.val (fun p x => rows b h q p x * (1 / 8)) (rows b h k) p j

theorem eighth : Ideal.ofBits .f32 0x3E000000#32 = ((1 / 8 : ℝ) : EReal) := by
  simp [Ideal.ofBits, Ideal.ieee]
  rw [← EReal.coe_mul]
  norm_num

theorem scores_coe (hq : ∀ b j d, q (ix3 b j d) = ((q (ix3 b j d)).toReal : EReal)) (hk : ∀ b j d, k (ix3 b j d) = ((k (ix3 b j d)).toReal : EReal)) :
    scores q k (ix5 b h e p j) = (score b h q k e p.val j.val : EReal) := by
  rw [scores_apply]
  unfold score half
  have hs := sum_half e (fun x => if hx : x < 128 then rows b h q p.val ⟨x, hx⟩ * (1 / 8) * rows b h k j.val ⟨x, hx⟩ else 0)
  have e1 : (∑ x : Fin 128, if x.val / 64 = e.val then rows b h q p.val x * (1 / 8) * rows b h k j.val x else 0) =
      ∑ x : Fin 64, rows b h q p.val ⟨e.val * 64 + x.val, by omega⟩ * (1 / 8) * rows b h k j.val ⟨e.val * 64 + x.val, by omega⟩ := by
    refine Eq.trans (Finset.sum_congr rfl fun x _ => ?_) (hs.symm.trans (Finset.sum_congr rfl fun x _ => ?_))
    · beta_reduce
      rw [dif_pos x.isLt]
    · exact dif_pos (by omega)
  rw [e1, coe_sum]
  refine Finset.sum_congr rfl fun x _ => ?_
  rw [EReal.coe_mul, EReal.coe_mul, eighth, ← headOf_coe (fun b j d => q (ix3 b j d)) hq b h p, ← headOf_coe (fun b j d => k (ix3 b j d)) hk b h j]
  have e2 : (⟨h.val * 128 + e.val * 64 + x.val, by omega⟩ : Fin 1024) = ⟨128 * h.val + (e.val * 64 + x.val), by omega⟩ := Fin.ext (by
    show h.val * 128 + e.val * 64 + x.val = 128 * h.val + (e.val * 64 + x.val)
    omega)
  rw [e2]

/-- The masked scores, in real numbers. -/
theorem masked_coe (hq : ∀ b j d, q (ix3 b j d) = ((q (ix3 b j d)).toReal : EReal)) (hk : ∀ b j d, k (ix3 b j d) = ((k (ix3 b j d)).toReal : EReal)) :
    masked (scores q k) (ix5 b h e p j) = if j.val ≤ p.val then (score b h q k e p.val j.val : EReal) else ⊥ := by
  rw [masked_apply, scores_coe b h e p j q k hq hk]

/-- A row's weight of one key over the sum of its weights. -/
def prob (s : ℕ → ℝ) (p j : ℕ) : ℝ := if j ≤ p then Real.exp (s j) / ∑ i ∈ Finset.range (p + 1), Real.exp (s i) else 0

/-- The probabilities, in real numbers. -/
theorem probs_coe (hq : ∀ b j d, q (ix3 b j d) = ((q (ix3 b j d)).toReal : EReal)) (hk : ∀ b j d, k (ix3 b j d) = ((k (ix3 b j d)).toReal : EReal)) :
    probs (masked (scores q k)) (ix5 b h e p j) = (prob (score b h q k e p.val) p.val j.val : EReal) := by
  have hs : ∀ i, masked (scores q k) i ≠ ⊤ := fun i => by
    have hi : i = ix5 (i 0) (i 1) (i 2) (i 3) (i 4) := by
      funext a
      fin_cases a <;> rfl
    rw [hi]
    refine (masked_coe (i 0) (i 1) (i 2) (i 3) (i 4) q k hq hk).trans_ne ?_
    split_ifs
    · exact EReal.coe_ne_top _
    · exact bot_ne_top
  have h0 : masked (scores q k) (ix5 b h e p p) ≠ ⊥ := by
    rw [masked_coe b h e p p q k hq hk, if_pos le_rfl]
    exact EReal.coe_ne_bot _
  obtain ⟨t, ht⟩ := rowTop_coe b h e p p (masked (scores q k)) hs h0
  have hx : ∀ j : Fin 8192, expd (masked (scores q k)) (rowTop (masked (scores q k))) (ix5 b h e p j) =
      ((if j.val ≤ p.val then Real.exp (score b h q k e p.val j.val - t) else 0 : ℝ) : EReal) := fun j => by
    rw [expd_apply, ht, masked_coe b h e p j q k hq hk]
    split_ifs
    · rfl
    · rfl
  have hw : rowSum (expd (masked (scores q k)) (rowTop (masked (scores q k)))) (ix4 b h e p) =
      ((∑ j ∈ Finset.range (p.val + 1), Real.exp (score b h q k e p.val j - t) : ℝ) : EReal) := by
    rw [rowSum_apply, ← sum_mask 8192 p.val p.isLt (fun j => Real.exp (score b h q k e p.val j - t)), coe_sum]
    exact Finset.sum_congr rfl fun j _ => hx j
  unfold probs
  rw [overSum_apply, hx, hw, div_coe]
  · refine congrArg (fun r : ℝ => (r : EReal)) ?_
    unfold prob
    split_ifs
    · simp only [Real.exp_sub]
      rw [← Finset.sum_div, div_div_div_cancel_right₀ (Real.exp_pos t).ne']
    · exact zero_div _
  · exact (Finset.sum_pos (fun _ _ => Real.exp_pos _) ⟨0, Finset.mem_range.2 (by omega)⟩).ne'

/-- The values weighted by the difference of two rows of probabilities. -/
theorem weighted (s s' w : ℕ → ℝ) (lam : ℝ) (p : Fin 8192) :
    ∑ j : Fin 8192, w j.val * (prob s p.val j.val - lam * prob s' p.val j.val) =
      avg (fun j => Real.exp (s j)) w p.val - lam * avg (fun j => Real.exp (s' j)) w p.val := by
  have e1 : ∀ s : ℕ → ℝ, ∑ j : Fin 8192, w j.val * prob s p.val j.val = avg (fun j => Real.exp (s j)) w p.val := fun s => by
    unfold avg
    rw [Finset.sum_div, ← sum_mask 8192 p.val p.isLt (fun j => Real.exp (s j) * w j / _)]
    refine Finset.sum_congr rfl fun j _ => ?_
    unfold prob
    split_ifs
    · ring
    · exact mul_zero _
  rw [← e1 s, ← e1 s', Finset.mul_sum, ← Finset.sum_sub_distrib]
  exact Finset.sum_congr rfl fun j _ => by ring

/-- The whole reference at coordinates. -/
theorem out_apply (a : FVec Ideal S4x64 .f32) (g : FVec Ideal S128 .f32) (lam : ℝ) (hl : lamOf (fun i x => a (ix2 i x)) = (lam : EReal))
    (hq : ∀ b j d, q (ix3 b j d) = ((q (ix3 b j d)).toReal : EReal)) (hk : ∀ b j d, k (ix3 b j d) = ((k (ix3 b j d)).toReal : EReal))
    (hv : ∀ b j d, v (ix3 b j d) = ((v (ix3 b j d)).toReal : EReal)) :
    joined (normOut (weigh v (differ (probs (masked (scores q k))) (lamOut a))) g) (ix3 b p ⟨128 * h.val + x.val, by omega⟩) =
      attended (fun b j d => q (ix3 b j d)) (fun b j d => k (ix3 b j d)) (fun b j d => v (ix3 b j d)) lam (fun x => g (ix1 x)) b p.val h x := by
  rw [joined_apply, normOut_apply]
  unfold attended
  congr 1
  funext x
  rw [weigh_apply]
  simp only [differ_apply, lamOut_apply, hl, probs_coe b h _ p _ q k hq hk]
  have e1 : ∀ j : Fin 8192, v (ix3 b j ⟨h.val * 128 + x.val, by omega⟩) = (rows b h v j.val x : EReal) := fun j => by
    rw [← headOf_coe (fun b j d => v (ix3 b j d)) hv b h j]
    congr 2
    exact Fin.ext (by show h.val * 128 + x.val = 128 * h.val + x.val; omega)
  simp only [e1, ← EReal.coe_mul, ← EReal.coe_sub, ← coe_sum]
  rw [weighted _ _ (fun j => rows b h v j x)]
  rfl

end

end Cert.Proof.ReferenceIdeal

end
-- ==== Proof.Equal.lean ====
/- THE EQUATION: from the same arguments the kernel's array and the reference's are one. -/
module

public import proofs.«01_k».proof.Proof.KI.Array
public import proofs.«01_k».proof.Proof.Ref

@[expose] public section

set_option maxRecDepth 16384

noncomputable section

namespace Cert.Proof

open Idealize.ShloMosaic Idealize.ShloMosaic.TcCoe Cert.Proof.Weights

/-- The reference's array on one core is what the kernel's ends as, the arguments being equal. -/
theorem out_eq_result (m : (ℓ : Loc Cert.KernelIdeal.nD Cert.KernelIdeal.τ Cert.KernelIdeal.sig) → Buf (Elt Ideal) ℓ) (c : Dev Cert.KernelIdeal.nD)
    (q k v : FVec Ideal Cert.ReferenceIdeal.S8x8192x1024 .f32) (a : FVec Ideal Cert.ReferenceIdeal.S4x64 .f32) (g : FVec Ideal Cert.ReferenceIdeal.S128 .f32)
    (eq : q = m ((c.tc : Thread Cert.KernelIdeal.nD Cert.KernelIdeal.τ).loc Cert.KernelIdeal.main_arg0))
    (ek : k = m ((c.tc : Thread Cert.KernelIdeal.nD Cert.KernelIdeal.τ).loc Cert.KernelIdeal.main_arg1))
    (ev : v = m ((c.tc : Thread Cert.KernelIdeal.nD Cert.KernelIdeal.τ).loc Cert.KernelIdeal.main_arg2))
    (ea : a = m ((c.tc : Thread Cert.KernelIdeal.nD Cert.KernelIdeal.τ).loc Cert.KernelIdeal.main_arg3))
    (eg : g = m ((c.tc : Thread Cert.KernelIdeal.nD Cert.KernelIdeal.τ).loc Cert.KernelIdeal.main_arg4))
    (lam : ℝ) (hl : lamOf (fun i x => a (ix2 i x)) = (lam : EReal))
    (hq : ∀ i, q i = ((q i).toReal : EReal)) (hk : ∀ i, k i = ((k i).toReal : EReal)) (hv : ∀ i, v i = ((v i).toReal : EReal)) :
    ReferenceIdeal.joined (ReferenceIdeal.normOut (ReferenceIdeal.weigh v (ReferenceIdeal.differ (ReferenceIdeal.probs (ReferenceIdeal.masked (ReferenceIdeal.scores q k))) (ReferenceIdeal.lamOut a))) g) =
      KernelIdeal.result m c lam := by
  funext i
  have i2 : (i 2).val < 1024 := (i 2).isLt
  obtain ⟨h, hh⟩ : ∃ h : Fin 8, h.val = (i 2).val / 128 := ⟨⟨(i 2).val / 128, by omega⟩, rfl⟩
  obtain ⟨x, hx⟩ : ∃ x : Fin 128, x.val = (i 2).val % 128 := ⟨⟨(i 2).val % 128, by omega⟩, rfl⟩
  have hi : i = (ix3 (i 0) (i 1) ⟨128 * h.val + x.val, by omega⟩ : Cert.ReferenceIdeal.S8x8192x1024.Idx) := by
    funext d
    fin_cases d
    · rfl
    · rfl
    · exact Fin.ext (by show (i 2).val = 128 * h.val + x.val; omega)
  refine Eq.trans ?_ (KernelIdeal.result_apply m c lam i (i 0) h (i 1) x rfl rfl (by omega)).symm
  refine Eq.trans (congrArg _ hi) ?_
  rw [ReferenceIdeal.out_apply (i 0) h (i 1) x q k v a g lam hl (fun b j d => hq _) (fun b j d => hk _) (fun b j d => hv _)]
  subst eq ek ev eg
  rfl

end Cert.Proof

end
-- ==== Proof.O.Row.lean ====
/- ONE ROW OF THE OUTPUT PROJECTION: the gated attention row through the output matrix, its norm added to the stream, then the
   gated per-layer embedding's norm added. -/
module

public import Idealize.ShloMosaic.Lib.Pipeline.ValueKit

@[expose] public section

noncomputable section

namespace Cert.Proof.Rows

open Idealize.ShloMosaic

/-- The logistic function. -/
def logi (x : EReal) : EReal :=
  Ideal.div 1 (1 + Ideal.exp (-x))

/-- A row over the root of its mean square, times a gain. -/
def rms (y g : Fin 1024 → EReal) (n : Fin 1024) : EReal :=
  y n * Ideal.rsqrt (Ideal.div (∑ d, y d * y d) (Ideal.ofBits .f32 0x44800000#32) + Ideal.ofBits .f32 0x358637BD#32) * g n

/-- A row times a matrix. -/
def times {k : ℕ} (x : Fin k → EReal) (w : Fin k → Fin 1024 → EReal) (n : Fin 1024) : EReal := ∑ d, x d * w d n

/-- The attention's row times its gate. -/
def gate (o g : Fin 1024 → EReal) (d : Fin 1024) : EReal := o d * (g d * logi (g d))

/-- The stream after the attention. -/
def after (o g h : Fin 1024 → EReal) (w : Fin 1024 → Fin 1024 → EReal) (np : Fin 1024 → EReal) (n : Fin 1024) : EReal :=
  h n + rms (times (gate o g) w) np n

/-- The embedding gated by the stream. -/
def embed (s : Fin 1024 → EReal) (p : Fin 256 → EReal) (wp : Fin 256 → Fin 1024 → EReal) (wg : Fin 1024 → Fin 1024 → EReal) (n : Fin 1024) : EReal :=
  logi (times s wg n) * times p wp n

/-- The stream after the embedding. -/
def plus (s : Fin 1024 → EReal) (p : Fin 256 → EReal) (wp : Fin 256 → Fin 1024 → EReal) (wg : Fin 1024 → Fin 1024 → EReal) (nl : Fin 1024 → EReal) (n : Fin 1024) : EReal :=
  s n + rms (embed s p wp wg) nl n

theorem plus_congr_first {s s' : Fin 1024 → EReal} {p : Fin 256 → EReal} {wp : Fin 256 → Fin 1024 → EReal} {wg : Fin 1024 → Fin 1024 → EReal} {nl : Fin 1024 → EReal} {n : Fin 1024}
    (e : ∀ d, s d = s' d) : plus s p wp wg nl n = plus s' p wp wg nl n := by
  rw [funext e]

theorem plus_congr {o o' g g' h h' np np' nl nl' : Fin 1024 → EReal} {p p' : Fin 256 → EReal} {w w' wg wg' : Fin 1024 → Fin 1024 → EReal} {wp wp' : Fin 256 → Fin 1024 → EReal}
    (eo : ∀ d, o d = o' d) (eg : ∀ d, g d = g' d) (eh : ∀ d, h d = h' d) (ew : ∀ d n, w d n = w' d n) (enp : ∀ n, np n = np' n)
    (ep : ∀ d, p d = p' d) (ewp : ∀ d n, wp d n = wp' d n) (ewg : ∀ d n, wg d n = wg' d n) (enl : ∀ n, nl n = nl' n) (n : Fin 1024) :
    plus (after o g h w np) p wp wg nl n = plus (after o' g' h' w' np') p' wp' wg' nl' n := by
  obtain rfl := funext eo
  obtain rfl := funext eg
  obtain rfl := funext eh
  obtain rfl : w = w' := funext fun d => funext (ew d)
  obtain rfl := funext enp
  obtain rfl := funext ep
  obtain rfl : wp = wp' := funext fun d => funext (ewp d)
  obtain rfl : wg = wg' := funext fun d => funext (ewg d)
  obtain rfl := funext enl
  rfl

end Cert.Proof.Rows

end
-- ==== Proof.O.Pay.lean ====
/- THE KERNEL'S BODY AT COORDINATES: each value of one row group from the values it reads. -/
module

public import proofs.«01_k».proof.Proof.O.Row
public import proofs.«01_k».proof.Proof.Gen.Kernel2Ideal.Value
public import Idealize.ShloMosaic.Lib.Pipeline.ValueKit

@[expose] public section

set_option maxRecDepth 16384

noncomputable section

namespace Cert.Proof.Kernel2Ideal

open Cert.Kernel2Ideal Cert.Kernel2Ideal.Gen Cert.Proof.Rows
open Idealize.ShloMosaic Idealize.ShloMosaic.TcCoe

variable (r : Fin 256) (n : Fin 1024)

theorem pay3_apply (p : Vec Ideal S1x1x256x256 .f32) (w : Vec Ideal S256x1024 .bf16) :
    k0_pay3 p w (ix2 r n) = times (fun d => p (ix4 0 0 r d)) (fun d n => w (ix2 d n)) n := by
  pointwise [k0_pay3, times]

theorem pay5_apply (g o : Vec Ideal S1x256x1024 .bf16) (w : Vec Ideal S1024x1024 .bf16) :
    k0_pay5 g o w (ix2 r n) = times (gate (fun d => o (ix3 0 r d)) (fun d => g (ix3 0 r d))) (fun d n => w (ix2 d n)) n := by
  pointwise [k0_pay5, times, gate, logi]
  simp only [zero_sub]

theorem pay7_apply (y : FVec Ideal S256x1024 .f32) (h : Vec Ideal S1x256x1024 .f32) (g : Vec Ideal S1x1024 .f32) :
    k0_pay7 y h g (ix2 r n) = h (ix3 0 r n) + rms (fun n => y (ix2 r n)) (fun n => g (ix2 0 n)) n := by
  pointwise [k0_pay7, rms]

theorem pay11_apply (e s : FVec Ideal S256x1024 .f32) (w : Vec Ideal S1024x1024 .bf16) :
    k0_pay11 e s w (ix2 r n) = logi (times (fun d => s (ix2 r d)) (fun d n => w (ix2 d n)) n) * e (ix2 r n) := by
  pointwise [k0_pay11, times, logi]
  rw [zero_sub]

theorem pay13_apply (e s : FVec Ideal S256x1024 .f32) (w : Vec Ideal S1024x1024 .bf16) :
    k0_pay13 e s w (ix2 r 0) = Ideal.rsqrt (Ideal.div (∑ d : Fin 1024, k0_pay11 e s w (ix2 r d) * k0_pay11 e s w (ix2 r d)) (Ideal.ofBits .f32 0x44800000#32) + Ideal.ofBits .f32 0x358637BD#32) := by
  pointwise [k0_pay13]

theorem pay1_apply (s u : FVec Ideal S256x1024 .f32) (g : FVec Ideal S1x1024 .f32) (q : FVec Ideal S256x1 .f32) :
    k0_pay1 s u g q (ix3 0 r n) = s (ix2 r n) + u (ix2 r n) * q (ix2 r 0) * g (ix2 0 n) := by
  pointwise [k0_pay1]

theorem pay12_eq (g : Vec Ideal S1x1024 .f32) : k0_pay12 g = g := shapeCast_id _ _

/-- The first row group's result. -/
theorem first_apply (e s : FVec Ideal S256x1024 .f32) (w : Vec Ideal S1024x1024 .bf16) (g : Vec Ideal S1x1024 .f32) :
    k0_pay1 s (k0_pay11 e s w) (k0_pay12 g) (k0_pay13 e s w) (ix3 0 r n) =
      s (ix2 r n) + rms (fun n => logi (times (fun d => s (ix2 r d)) (fun d n => w (ix2 d n)) n) * e (ix2 r n)) (fun n => g (ix2 0 n)) n := by
  rw [pay1_apply, pay13_apply, pay12_eq]
  simp only [pay11_apply]
  rfl

/-- One row group's result, from the rows it reads. -/
def group (o g : Vec Ideal S1x256x1024 .bf16) (h : Vec Ideal S1x256x1024 .f32) (p : Vec Ideal S1x1x256x256 .f32) (w : Vec Ideal S1024x1024 .bf16) (np : Vec Ideal S1x1024 .f32)
    (wp : Vec Ideal S256x1024 .bf16) (wg : Vec Ideal S1024x1024 .bf16) (nl : Vec Ideal S1x1024 .f32) : FVec Ideal S1x256x1024 .f32 :=
  k0_pay1 (k0_pay7 (k0_pay5 g o w) h np) (k0_pay11 (k0_pay3 p wp) (k0_pay7 (k0_pay5 g o w) h np) wg) (k0_pay12 nl) (k0_pay13 (k0_pay3 p wp) (k0_pay7 (k0_pay5 g o w) h np) wg)

/-- The second row group's text is the first's. -/
theorem second_eq (o g : Vec Ideal S1x256x1024 .bf16) (h : Vec Ideal S1x256x1024 .f32) (p : Vec Ideal S1x1x256x256 .f32) (w : Vec Ideal S1024x1024 .bf16) (np : Vec Ideal S1x1024 .f32)
    (wp : Vec Ideal S256x1024 .bf16) (wg : Vec Ideal S1024x1024 .bf16) (nl : Vec Ideal S1x1024 .f32) :
    k0_pay2 (k0_pay4 p wp) (k0_pay9 (k0_pay6 g o w) (k0_pay8 h) np) (k0_pay10 (k0_pay6 g o w) (k0_pay8 h) np wg) nl = group o g h p w np wp wg nl := rfl

theorem group_apply (o g : Vec Ideal S1x256x1024 .bf16) (h : Vec Ideal S1x256x1024 .f32) (p : Vec Ideal S1x1x256x256 .f32) (w : Vec Ideal S1024x1024 .bf16) (np : Vec Ideal S1x1024 .f32)
    (wp : Vec Ideal S256x1024 .bf16) (wg : Vec Ideal S1024x1024 .bf16) (nl : Vec Ideal S1x1024 .f32) :
    group o g h p w np wp wg nl (ix3 0 r n) =
      plus (after (fun d => o (ix3 0 r d)) (fun d => g (ix3 0 r d)) (fun d => h (ix3 0 r d)) (fun d n => w (ix2 d n)) (fun n => np (ix2 0 n)))
        (fun d => p (ix4 0 0 r d)) (fun d n => wp (ix2 d n)) (fun d n => wg (ix2 d n)) (fun n => nl (ix2 0 n)) n := by
  unfold group
  rw [first_apply]
  simp only [pay7_apply, pay5_apply, pay3_apply]
  rfl

end Cert.Proof.Kernel2Ideal

end
-- ==== Proof.O.Array.lean ====
/- THE SECOND KERNEL'S RESULT ARRAY: the arrays its windows read as the host operations leave them, its blocks at coordinates, and
   the array its output blocks cover. -/
module

public import proofs.«01_k».proof.Proof.O.Pay

@[expose] public section

set_option maxRecDepth 16384

noncomputable section

namespace Cert.Proof.Kernel2Ideal

open Cert.Kernel2Ideal Cert.Kernel2Ideal.Gen Cert.Proof.Rows
open Idealize.ShloMosaic Idealize.ShloMosaic.TcCoe Idealize.ShloMosaic.StableHlo Idealize.ShloMosaic.Pipeline

section
variable {e : EltTy} (o : ℕ) (r : Fin 256) (d : Fin 1024) (j : Fin 512) (h : j.val = o + r.val)

include h in
theorem ld3 (x : Vec Ideal S1x512x1024 e) (inb) : View.ld x (Rect.unit (s := S1x512x1024) ![0, o, 0] S1x256x1024.size inb) (ix3 0 r d) = x (ix3 0 j d) := by
  refine View.ld_unit_apply_of _ _ _ _ _ _ fun a => ?_
  match a with
  | ⟨0, _⟩ => rfl
  | ⟨1, _⟩ => exact h
  | ⟨2, _⟩ => exact (Nat.zero_add _).symm

include h in
theorem ld4 (x : Vec Ideal S1x1x512x256 e) (inb) (d : Fin 256) : View.ld x (Rect.unit (s := S1x1x512x256) ![0, 0, o, 0] S1x1x256x256.size inb) (ix4 0 0 r d) = x (ix4 0 0 j d) := by
  refine View.ld_unit_apply_of _ _ _ _ _ _ fun a => ?_
  match a with
  | ⟨0, _⟩ => rfl
  | ⟨1, _⟩ => rfl
  | ⟨2, _⟩ => exact h
  | ⟨3, _⟩ => exact (Nat.zero_add _).symm

theorem ldw {k : ℕ} (d : Fin k) (n : Fin 1024) (x : Vec Ideal ⟨2, ![k, 1024]⟩ e) (inb) : View.ld x (Rect.unit (s := ⟨2, ![k, 1024]⟩) ![0, 0] ![k, 1024] inb) (ix2 d n) = x (ix2 d n) := by
  refine View.ld_unit_apply_of _ _ _ _ _ _ fun a => ?_
  match a with
  | ⟨0, _⟩ => exact (Nat.zero_add _).symm
  | ⟨1, _⟩ => exact (Nat.zero_add _).symm
end

/-- One row of the output block from the rows of the input blocks. -/
theorem block_row (x0 x1 : Vec Ideal S1x512x1024 .bf16) (x2 : Vec Ideal S1x512x1024 .f32) (x3 : Vec Ideal S1x1x512x256 .f32) (x4 : Vec Ideal S1024x1024 .bf16)
    (x5 : Vec Ideal S1x1024 .f32) (x6 : Vec Ideal S256x1024 .bf16) (x7 : Vec Ideal S1024x1024 .bf16) (x8 : Vec Ideal S1x1024 .f32) (y : S1x512x1024.Idx)
    (j : Fin 512) (n : Fin 1024) (h1' : (y 1).val = j.val) (h2' : (y 2).val = n.val) :
    out0_9 x0 x1 x2 x3 x4 x5 x6 x7 x8 y =
      plus (after (fun d => x0 (ix3 0 j d)) (fun d => x1 (ix3 0 j d)) (fun d => x2 (ix3 0 j d)) (fun d n => x4 (ix2 d n)) (fun n => x5 (ix2 0 n)))
        (fun d => x3 (ix4 0 0 j d)) (fun d n => x6 (ix2 d n)) (fun d n => x7 (ix2 d n)) (fun n => x8 (ix2 0 n)) n := by
  unfold out0_9 k0_pay17 k0_pay16 k0_pay15 k0_pay14
  canon_tiles x h using cover0_9 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    rw [second_eq, group_apply]
    exact plus_congr (fun d => ld3 256 r d j hj _ _) (fun d => ld3 256 r d j hj _ _) (fun d => ld3 256 r d j hj _ _) (fun d n => ldw d n _ _) (fun n => ldw 0 n _ _)
      (fun d => ld4 256 r j hj _ _ d) (fun d n => ldw d n _ _) (fun d n => ldw d n _ _) (fun n => ldw 0 n _ _) z
  · have hz : z = n := Fin.ext (h2.symm.trans h2')
    have hj : j.val = 0 + r.val := (h1'.symm.trans h1).trans (Nat.zero_add _).symm
    subst hz
    refine (group_apply r z _ _ _ _ _ _ _ _ _).trans ?_
    exact plus_congr (fun d => ld3 0 r d j hj _ _) (fun d => ld3 0 r d j hj _ _) (fun d => ld3 0 r d j hj _ _) (fun d n => ldw d n _ _) (fun n => ldw 0 n _ _)
      (fun d => ld4 0 r j hj _ _ d) (fun d n => ldw d n _ _) (fun d n => ldw d n _ _) (fun n => ldw 0 n _ _) z

variable (m : (ℓ : Loc nD τ sig) → Buf (Elt Ideal) ℓ) (c : Dev nD)

/-- The weights as the host operations leave them. -/
def square (x : FVec Ideal S1x1024x1024 .f32) : FVec Ideal S1024x1024 .bf16 := truncf .bf16 (shapeCast S1024x1024 x shapeCasts_S1x1024x1024_S1024x1024) bitsLt_bf16_f32
def wide (x : FVec Ideal S2x1024x1024 .f32) : FVec Ideal S1x1024x1024 .f32 := extractStridedSlice S1x1024x1024 ![1, 0, 0] x slices_S2x1024x1024_S1x1024x1024_1_0_0
def short (x : FVec Ideal S2x256x1024 .f32) : FVec Ideal S256x1024 .bf16 :=
  truncf .bf16 (shapeCast S256x1024 (extractStridedSlice S1x256x1024 ![1, 0, 0] x slices_S2x256x1024_S1x256x1024_1_0_0) shapeCasts_S1x256x1024_S256x1024) bitsLt_bf16_f32
def gain (x : FVec Ideal S2x1024 .f32) : FVec Ideal S1x1024 .f32 :=
  shapeCast S1x1024 (shapeCast S1024 (extractStridedSlice S1x1024 ![1, 0] x slices_S2x1024_S1x1024_1_0) shapeCasts_S1x1024_S1024) shapeCasts_S1024_S1x1024

theorem square_apply (x) (d n : Fin 1024) : square x (ix2 d n) = x (ix3 0 d n) := by
  pointwise [square]
theorem wide_apply (x) (d n : Fin 1024) : wide x (ix3 0 d n) = x (ix3 1 d n) := by
  pointwise [wide]
theorem short_apply (x) (d : Fin 256) (n : Fin 1024) : short x (ix2 d n) = x (ix3 1 d n) := by
  pointwise [short]
theorem gain_apply (x) (n : Fin 1024) : gain x (ix2 0 n) = x (ix2 1 n) := by
  pointwise [gain]

theorem V_w : V m c main_v1 = square (m ((c : Thread nD τ).loc main_arg4)) := by
  show StableHlo.after hostOps0 (fun b => m (c, b)) main_v1 = _
  simp only [hostOps0, TRef.ternary, TRef.unary, TRef.toBuf, TRef.ofBuf, cast_eq]
  after_results_simp <;> rfl
theorem V_np : V m c main_v4 = gain (m ((c : Thread nD τ).loc main_arg5)) := by
  show StableHlo.after hostOps0 (fun b => m (c, b)) main_v4 = _
  simp only [hostOps0, TRef.ternary, TRef.unary, TRef.toBuf, TRef.ofBuf, cast_eq]
  after_results_simp <;> rfl
theorem V_wp : V m c main_v7 = short (m ((c : Thread nD τ).loc main_arg6)) := by
  show StableHlo.after hostOps0 (fun b => m (c, b)) main_v7 = _
  simp only [hostOps0, TRef.ternary, TRef.unary, TRef.toBuf, TRef.ofBuf, cast_eq]
  after_results_simp <;> rfl
theorem V_wg : V m c main_v10 = square (wide (m ((c : Thread nD τ).loc main_arg7))) := by
  show StableHlo.after hostOps0 (fun b => m (c, b)) main_v10 = _
  simp only [hostOps0, TRef.ternary, TRef.unary, TRef.toBuf, TRef.ofBuf, cast_eq]
  after_results_simp <;> rfl
theorem V_nl : V m c main_v13 = gain (m ((c : Thread nD τ).loc main_arg8)) := by
  show StableHlo.after hostOps0 (fun b => m (c, b)) main_v13 = _
  simp only [hostOps0, TRef.ternary, TRef.unary, TRef.toBuf, TRef.ofBuf, cast_eq]
  after_results_simp <;> rfl

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![1, t.val / 16, t.val % 16, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 16, t.val % 16, 0] := (by decide +kernel : ∀ t : Fin grid0.N, _)

section
variable (t : Fin cfg0.N) (b : Fin 8) (p : Fin 8192) (j : Fin 512) (hb : b.val = t.val / 16) (hp : p.val = t.val % 16 * 512 + j.val)
include hb hp

theorem block_o (d : Fin 1024) : (iblk m c 0 t : FVec Ideal S1x512x1024 .bf16) (ix3 0 j d) = (m ((c : Thread nD τ).loc main_arg0) : FVec Ideal S8x8192x1024 .bf16) (ix3 b p d) := by
  blk_simp [iblk]
  rw [V_main_arg0]
  congr 1
  blk_ext [idx0]
theorem block_g (d : Fin 1024) : (iblk m c 1 t : FVec Ideal S1x512x1024 .bf16) (ix3 0 j d) = (m ((c : Thread nD τ).loc main_arg1) : FVec Ideal S8x8192x1024 .bf16) (ix3 b p d) := by
  blk_simp [iblk]
  rw [V_main_arg1]
  congr 1
  blk_ext [idx1]
theorem block_h (d : Fin 1024) : (iblk m c 2 t : FVec Ideal S1x512x1024 .f32) (ix3 0 j d) = (m ((c : Thread nD τ).loc main_arg2) : FVec Ideal S8x8192x1024 .f32) (ix3 b p d) := by
  blk_simp [iblk]
  rw [V_main_arg2]
  congr 1
  blk_ext [idx2]
theorem block_p (d : Fin 256) : (iblk m c 3 t : FVec Ideal S1x1x512x256 .f32) (ix4 0 0 j d) = (m ((c : Thread nD τ).loc main_arg3) : FVec Ideal S2x8x8192x256 .f32) (ix4 1 b p d) := by
  blk_simp [iblk]
  rw [V_main_arg3]
  congr 1
  blk_ext [idx3]
end

theorem block_w (t : Fin cfg0.N) (d : Fin 1024) (n : Fin 1024) : (iblk m c 4 t : FVec Ideal S1024x1024 .bf16) (ix2 d n) = (m ((c : Thread nD τ).loc main_arg4) : FVec Ideal S1x1024x1024 .f32) (ix3 0 d n) := by
  refine Eq.trans ?_ (square_apply _ d n)
  blk_simp [iblk]
  rw [V_w]
  congr 1
  blk_ext [idx4]
theorem block_wp (t : Fin cfg0.N) (d : Fin 256) (n : Fin 1024) : (iblk m c 6 t : FVec Ideal S256x1024 .bf16) (ix2 d n) = (m ((c : Thread nD τ).loc main_arg6) : FVec Ideal S2x256x1024 .f32) (ix3 1 d n) := by
  refine Eq.trans ?_ (short_apply _ d n)
  blk_simp [iblk]
  rw [V_wp]
  congr 1
  blk_ext [idx6]
theorem block_wg (t : Fin cfg0.N) (d : Fin 1024) (n : Fin 1024) : (iblk m c 7 t : FVec Ideal S1024x1024 .bf16) (ix2 d n) = (m ((c : Thread nD τ).loc main_arg7) : FVec Ideal S2x1024x1024 .f32) (ix3 1 d n) := by
  refine Eq.trans ?_ ((square_apply _ d n).trans (wide_apply _ d n))
  blk_simp [iblk]
  rw [V_wg]
  congr 1
  blk_ext [idx7]
theorem block_np (t : Fin cfg0.N) (n : Fin 1024) : (iblk m c 5 t : FVec Ideal S1x1024 .f32) (ix2 0 n) = (m ((c : Thread nD τ).loc main_arg5) : FVec Ideal S2x1024 .f32) (ix2 1 n) := by
  refine Eq.trans ?_ (gain_apply _ n)
  blk_simp [iblk]
  rw [V_np]
  congr 1
  blk_ext [idx5]
theorem block_nl (t : Fin cfg0.N) (n : Fin 1024) : (iblk m c 8 t : FVec Ideal S1x1024 .f32) (ix2 0 n) = (m ((c : Thread nD τ).loc main_arg8) : FVec Ideal S2x1024 .f32) (ix2 1 n) := by
  refine Eq.trans ?_ (gain_apply _ n)
  blk_simp [iblk]
  rw [V_nl]
  congr 1
  blk_ext [idx8]

/-- One row of the result from the arguments' rows. -/
def resultRow (b : Fin 8) (p : Fin 8192) (n : Fin 1024) : EReal :=
  plus (after (fun d => (m ((c : Thread nD τ).loc main_arg0) : FVec Ideal S8x8192x1024 .bf16) (ix3 b p d)) (fun d => (m ((c : Thread nD τ).loc main_arg1) : FVec Ideal S8x8192x1024 .bf16) (ix3 b p d))
      (fun d => (m ((c : Thread nD τ).loc main_arg2) : FVec Ideal S8x8192x1024 .f32) (ix3 b p d)) (fun d n => (m ((c : Thread nD τ).loc main_arg4) : FVec Ideal S1x1024x1024 .f32) (ix3 0 d n))
      (fun n => (m ((c : Thread nD τ).loc main_arg5) : FVec Ideal S2x1024 .f32) (ix2 1 n)))
    (fun d => (m ((c : Thread nD τ).loc main_arg3) : FVec Ideal S2x8x8192x256 .f32) (ix4 1 b p d)) (fun d n => (m ((c : Thread nD τ).loc main_arg6) : FVec Ideal S2x256x1024 .f32) (ix3 1 d n))
    (fun d n => (m ((c : Thread nD τ).loc main_arg7) : FVec Ideal S2x1024x1024 .f32) (ix3 1 d n)) (fun n => (m ((c : Thread nD τ).loc main_arg8) : FVec Ideal S2x1024 .f32) (ix2 1 n)) n

/-- What the result array holds. -/
def result : FVec Ideal S8x8192x1024 .f32 := fun i => resultRow m c (i 0) (i 1) (i 2)

theorem result_apply (z : S8x8192x1024.Idx) (b : Fin 8) (p : Fin 8192) (n : Fin 1024) (h0 : (z 0).val = b.val) (h1 : (z 1).val = p.val) (h2 : (z 2).val = n.val) :
    result m c z = resultRow m c b p n := by
  have hz : z = ix3 b p n := by
    funext a
    fin_cases a
    · exact Fin.ext h0
    · exact Fin.ext h1
    · exact Fin.ext h2
  subst hz
  rfl

/-- The result array at the end of the run. -/
theorem array : (dats m 0 c).arrAt 9 cfg0.N = result m c := by
  refine (dats m 0 c).arrAt_eq_of_covers 9 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_9]
  refine (block_row _ _ _ _ _ _ _ _ _ y j n hj hn).trans ?_
  refine Eq.trans ?_ (result_apply m c _ b p n ?_ ?_ ?_).symm
  · simp only [block_o m c t b p j hb hp, block_g m c t b p j hb hp, block_h m c t b p j hb hp, block_p m c t b p j hb hp, block_w, block_np, block_wp, block_wg, block_nl]
    rfl
  · blk_simp [idx9]
    omega
  · blk_simp [idx9]
    omega
  · blk_simp [idx9]
    omega

end Cert.Proof.Kernel2Ideal

end
-- ==== Proof.O.Ref.lean ====
/- THE SECOND REFERENCE'S VALUE, stage by stage, read at coordinates. -/
module

public import proofs.«01_k».proof.Proof.O.Row
public import proofs.«01_k».proof.Proof.Gen.Reference2Ideal.Run
public import Idealize.ShloMosaic.Lib.Pipeline.ValueKit

@[expose] public section

set_option maxRecDepth 16384

noncomputable section

namespace Cert.Proof.Reference2Ideal

open Cert.Reference2Ideal Cert.Reference2Ideal.Gen Cert.Reference2Ideal.Value Cert.Proof.Rows
open Idealize.ShloMosaic Idealize.ShloMosaic.TcCoe Idealize.ShloMosaic.StableHlo

abbrev Stream := FVec Ideal S8x8192x1024 .f32

def onesOf : Stream := broadcastInDim S8x8192x1024 ![] bcast_S_S8x8192x1024 (constant S_ .f32 0x3F800000#32)

/-- The logistic function of every entry. -/
def logis (x : Stream) : Stream := Host.divf onesOf (addf onesOf (Host.exp (Host.negf x)))

def widen (x : FVec Ideal S8x8192x1024 .bf16) : Stream := extf .f32 x bitsLt_bf16_f32

def gated (o g : Stream) : Stream := mulf o (mulf g (logis g))

def square (x : FVec Ideal S1x1024x1024 .f32) : FVec Ideal S1024x1024 .f32 := shapeCast _ x shapeCasts_S1x1024x1024_S1024x1024
def wide (x : FVec Ideal S2x1024x1024 .f32) : FVec Ideal S1x1024x1024 .f32 := extractStridedSlice S1x1024x1024 ![1, 0, 0] x slices_S2x1024x1024_S1x1024x1024_1_0_0
def gain (x : FVec Ideal S2x1024 .f32) : FVec Ideal S1024 .f32 := shapeCast _ (extractStridedSlice S1x1024 ![1, 0] x slices_S2x1024_S1x1024_1_0) shapeCasts_S1x1024_S1024
def rows (x : FVec Ideal S2x8x8192x256 .f32) : FVec Ideal S8x8192x256 .f32 := shapeCast _ (extractStridedSlice S1x8x8192x256 ![1, 0, 0, 0] x slices_S2x8x8192x256_S1x8x8192x256_1_0_0_0) shapeCasts_S1x8x8192x256_S8x8192x256
def short (x : FVec Ideal S2x256x1024 .f32) : FVec Ideal S256x1024 .f32 := shapeCast _ (extractStridedSlice S1x256x1024 ![1, 0, 0] x slices_S2x256x1024_S1x256x1024_1_0_0) shapeCasts_S1x256x1024_S256x1024

def through (x : Stream) (w : FVec Ideal S1024x1024 .f32) : Stream := Host.dotGeneral dot_S8x8192x1024_S1024x1024_S8x8192x1024_2_0_01_1_n_n none x w
def throughP (x : FVec Ideal S8x8192x256 .f32) (w : FVec Ideal S256x1024 .f32) : Stream := Host.dotGeneral dot_S8x8192x256_S256x1024_S8x8192x1024_2_0_01_1_n_n none x w

/-- Every row over the root of its mean square, times a gain. -/
def normRows (y : Stream) (g : FVec Ideal S1024 .f32) : Stream :=
  mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

def first (o g : FVec Ideal S8x8192x1024 .bf16) (h : Stream) (w : FVec Ideal S1x1024x1024 .f32) (np : FVec Ideal S2x1024 .f32) : Stream :=
  addf h (normRows (through (gated (widen o) (widen g)) (square w)) (gain np))

def second (s : Stream) (p : FVec Ideal S2x8x8192x256 .f32) (wp : FVec Ideal S2x256x1024 .f32) (wg : FVec Ideal S2x1024x1024 .f32) (nl : FVec Ideal S2x1024 .f32) : Stream :=
  addf s (normRows (mulf (logis (through s (square (wide wg)))) (throughP (rows p) (short wp))) (gain nl))

theorem out_eq (m : (ℓ : Loc nD τ sig) → Buf (Elt Ideal) ℓ) (c : Dev nD) :
    res_out0 m c = second (first (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)))
      (m ((c.tc : Thread nD τ).loc main_arg3)) (m ((c.tc : Thread nD τ).loc main_arg6)) (m ((c.tc : Thread nD τ).loc main_arg7)) (m ((c.tc : Thread nD τ).loc main_arg8)) := rfl

variable (b : Fin 8) (p : Fin 8192) (n : Fin 1024)

theorem logis_apply (x : Stream) : logis x (ix3 b p n) = logi (x (ix3 b p n)) := by
  pointwise [logis, onesOf, logi]
theorem gated_apply (o g : Stream) : gated o g (ix3 b p n) = gate (fun d => o (ix3 b p d)) (fun d => g (ix3 b p d)) n := by
  pointwise [gated, gate, logis_apply]
theorem square_apply (x) (d : Fin 1024) : square x (ix2 d n) = x (ix3 0 d n) := by
  pointwise [square]
theorem wide_apply (x) (d : Fin 1024) : wide x (ix3 0 d n) = x (ix3 1 d n) := by
  pointwise [wide]
theorem gain_apply (x) : gain x (ix1 n) = x (ix2 1 n) := by
  pointwise [gain]
theorem rows_apply (x) (d : Fin 256) : rows x (ix3 b p d) = x (ix4 1 b p d) := by
  pointwise [rows]
theorem short_apply (x) (d : Fin 256) : short x (ix2 d n) = x (ix3 1 d n) := by
  pointwise [short]
theorem through_apply (x w) : through x w (ix3 b p n) = times (fun d => x (ix3 b p d)) (fun d n => w (ix2 d n)) n := by
  pointwise [through, times]
theorem throughP_apply (x w) : throughP x w (ix3 b p n) = times (fun d => x (ix3 b p d)) (fun d n => w (ix2 d n)) n := by
  pointwise [throughP, times]
theorem normRows_apply (y g) : normRows y g (ix3 b p n) = rms (fun n => y (ix3 b p n)) (fun n => g (ix1 n)) n := by
  pointwise [normRows, rms]

theorem first_apply (o g : FVec Ideal S8x8192x1024 .bf16) (h : Stream) (w : FVec Ideal S1x1024x1024 .f32) (np : FVec Ideal S2x1024 .f32) :
    first o g h w np (ix3 b p n) = after (fun d => o (ix3 b p d)) (fun d => g (ix3 b p d)) (fun d => h (ix3 b p d)) (fun d n => w (ix3 0 d n)) (fun n => np (ix2 1 n)) n := by
  show h (ix3 b p n) + normRows _ _ (ix3 b p n) = _
  simp only [normRows_apply, through_apply, gated_apply, square_apply, gain_apply]
  rfl

theorem second_apply (s : Stream) (q : FVec Ideal S2x8x8192x256 .f32) (wp : FVec Ideal S2x256x1024 .f32) (wg : FVec Ideal S2x1024x1024 .f32) (nl : FVec Ideal S2x1024 .f32) :
    second s q wp wg nl (ix3 b p n) = plus (fun d => s (ix3 b p d)) (fun d => q (ix4 1 b p d)) (fun d n => wp (ix3 1 d n)) (fun d n => wg (ix3 1 d n)) (fun n => nl (ix2 1 n)) n := by
  have e : ∀ n : Fin 1024, mulf (logis (through s (square (wide wg)))) (throughP (rows q) (short wp)) (ix3 b p n) =
      embed (fun d => s (ix3 b p d)) (fun d => q (ix4 1 b p d)) (fun d n => wp (ix3 1 d n)) (fun d n => wg (ix3 1 d n)) n := fun n => by
    show logis _ (ix3 b p n) * throughP _ _ (ix3 b p n) = _
    simp only [logis_apply, through_apply, throughP_apply, square_apply, wide_apply, rows_apply, short_apply]
    rfl
  show s (ix3 b p n) + normRows _ _ (ix3 b p n) = _
  simp only [normRows_apply, gain_apply, e]
  rfl

end Cert.Proof.Reference2Ideal

end
-- ==== Proof.M.Row.lean ====
/- ONE ROW BETWEEN THE RECURRENCE AND THE ATTENTION: the norm of each head, the projections of the normed stream, the rotation of
   each head's first lanes. -/
module

public import proofs.«01_k».proof.Proof.O.Row

@[expose] public section

noncomputable section

namespace Cert.Proof.Rows

open Idealize.ShloMosaic

/-- A row's mean over the 64 lanes of the head that lane `n` lies in. -/
def headMean (y : Fin 1024 → EReal) (n : Fin 1024) : EReal :=
  Ideal.div (∑ j : Fin 64, y ⟨n.val / 64 * 64 + j.val, by omega⟩) (Ideal.ofBits .f32 0x42800000#32)

/-- A row less its heads' means. -/
def centred (y : Fin 1024 → EReal) (n : Fin 1024) : EReal := y n - headMean y n

/-- A row normed head by head. -/
def headNorm (y g b : Fin 1024 → EReal) (n : Fin 1024) : EReal :=
  centred y n * Ideal.rsqrt (headMean (fun d => centred y d * centred y d) n + Ideal.ofBits .f32 0x3A27C5AC#32) * g n + b n

/-- The normed row with the bonus. -/
def mixed (y g b e : Fin 1024 → EReal) (n : Fin 1024) : EReal := headNorm y g b n + e n

/-- A normed row times a matrix of two blocks of columns. -/
def proj (h g : Fin 1024 → EReal) (w : Fin 1024 → Fin 2048 → EReal) (n : Fin 2048) : EReal := ∑ d, rms h g d * w d n

/-- The first and the second block of columns. -/
def left (x : Fin 2048 → EReal) (n : Fin 1024) : EReal := x ⟨n.val, by omega⟩
def right (x : Fin 2048 → EReal) (n : Fin 1024) : EReal := x ⟨1024 + n.val, by omega⟩

/-- The lanes eight above and eight below. -/
def up (n : Fin 1024) : Fin 1024 := ⟨(n.val + 8) % 1024, by omega⟩
def down (n : Fin 1024) : Fin 1024 := ⟨(n.val + 1016) % 1024, by omega⟩

/-- The angle's number of a lane. -/
def turn (n : ℕ) : Fin 8 := ⟨n % 8, by omega⟩

/-- The first sixteen lanes of each head rotated in pairs eight apart. -/
def rotated (c s : Fin 8 → EReal) (x : Fin 1024 → EReal) (n : Fin 1024) : EReal :=
  if n.val % 64 < 8 then x n * c (turn n) - x (up n) * s (turn n)
  else if n.val % 64 < 16 then x n * c (turn n) + x (down n) * s (turn n)
  else x n

/-- The kernel's rotation: three products with tables of 128 lanes. -/
def rolled (c s1 s2 : Fin 128 → EReal) (x : Fin 1024 → EReal) (n : Fin 1024) : EReal :=
  x n * c ⟨n.val % 128, by omega⟩ + x (up n) * s1 ⟨n.val % 128, by omega⟩ + x (down n) * s2 ⟨n.val % 128, by omega⟩

theorem rolled_eq (c s : Fin 8 → EReal) (x : Fin 1024 → EReal) (n : Fin 1024) (tc t1 t2 : Fin 128 → EReal)
    (hc : ∀ l : Fin 128, tc l = if l.val % 64 < 16 then c (turn l) else 1)
    (h1 : ∀ l : Fin 128, t1 l = if l.val % 64 < 8 then -s (turn l) else 0)
    (h2 : ∀ l : Fin 128, t2 l = if 8 ≤ l.val % 64 ∧ l.val % 64 < 16 then s (turn l) else 0) :
    rolled tc t1 t2 x n = rotated c s x n := by
  have ht : turn (n.val % 128) = turn n.val := Fin.ext (by show n.val % 128 % 8 = n.val % 8; omega)
  have hm : n.val % 128 % 64 = n.val % 64 := by omega
  unfold rolled rotated
  simp only [hc, h1, h2, ht, hm]
  by_cases a : n.val % 64 < 8
  · have b : n.val % 64 < 16 := by omega
    have d : ¬ 8 ≤ n.val % 64 := by omega
    simp only [a, b, d, if_true, false_and, if_false, mul_zero, add_zero, mul_neg, sub_eq_add_neg]
  · by_cases b : n.val % 64 < 16
    · have d : 8 ≤ n.val % 64 := by omega
      simp only [a, b, d, if_true, true_and, if_false, mul_zero, add_zero]
    · simp only [a, b, if_false, and_false, mul_zero, add_zero, mul_one]

/-- The sums of a row's blocks of 256 lanes with a matrix. -/
def blockSum (x : Fin 1024 → EReal) (o : Fin 256 → Fin 256 → EReal) (n : Fin 1024) : EReal :=
  ∑ d : Fin 256, x ⟨n.val / 256 * 256 + d.val, by omega⟩ * o d ⟨n.val % 256, by omega⟩

theorem sum_mul_const {ι : Type} (s : Finset ι) (f : ι → EReal) (q : ℝ) (hq : 0 ≤ q) : ∑ i ∈ s, f i * (q : EReal) = (∑ i ∈ s, f i) * (q : EReal) := by
  classical
  induction s using Finset.induction_on with
  | empty => simp
  | insert a s ha ih =>
    rw [Finset.sum_insert ha, Finset.sum_insert ha, ih, EReal.right_distrib_of_nonneg_of_ne_top (EReal.coe_nonneg.mpr hq) (EReal.coe_ne_top q)]

theorem ofBits_64 : Ideal.ofBits .f32 0x42800000#32 = ((64 : ℝ) : EReal) := by
  simp [Ideal.ofBits, Ideal.ieee]
  rw [← EReal.coe_mul]
  norm_num
theorem ofBits_64th : Ideal.ofBits .bf16 0x3C80#16 = ((1 / 64 : ℝ) : EReal) := by
  simp [Ideal.ofBits, Ideal.ieee]
  rw [← EReal.coe_mul]
  norm_num

theorem div_64 (x : EReal) : Ideal.div x (Ideal.ofBits .f32 0x42800000#32) = x * Ideal.ofBits .bf16 0x3C80#16 := by
  rw [ofBits_64, ofBits_64th]
  have h : ((64 : ℝ) : EReal) ≠ 0 := by exact_mod_cast (by norm_num : (64 : ℝ) ≠ 0)
  rw [Ideal.div, if_neg h, ← EReal.coe_inv]
  norm_num

/-- The sums with the matrix that is one sixty-fourth where two lanes lie in one head and zero elsewhere are the heads' means. -/
theorem blockSum_eq (x : Fin 1024 → EReal) (o : Fin 256 → Fin 256 → EReal) (n : Fin 1024)
    (ho : ∀ d k : Fin 256, o d k = (if d.val / 64 = k.val / 64 then 1 else 0) * Ideal.ofBits .bf16 0x3C80#16) :
    blockSum x o n = headMean x n := by
  unfold blockSum headMean
  rw [div_64, ofBits_64th, ← sum_mul_const _ _ _ (by norm_num)]
  have e : ∀ d : Fin 256, x ⟨n.val / 256 * 256 + d.val, by omega⟩ * o d ⟨n.val % 256, by omega⟩ =
      if d.val / 64 = n.val % 256 / 64 then x ⟨n.val / 256 * 256 + d.val, by omega⟩ * ((1 / 64 : ℝ) : EReal) else 0 := fun d => by
    rw [ho, ofBits_64th]
    split <;> simp
  rw [Finset.sum_congr rfl fun d _ => e d, ← Equiv.sum_comp (finProdFinEquiv (m := 4) (n := 64)), Fintype.sum_prod_type,
    Finset.sum_eq_single (⟨n.val % 256 / 64, by omega⟩ : Fin 4)]
  · refine Finset.sum_congr rfl fun j _ => ?_
    have h : (finProdFinEquiv ((⟨n.val % 256 / 64, by omega⟩ : Fin 4), j) : Fin 256).val = j.val + 64 * (n.val % 256 / 64) := rfl
    rw [if_pos (by rw [h]; omega)]
    congr 2
    refine Fin.ext ?_
    show n.val / 256 * 256 + (j.val + 64 * (n.val % 256 / 64)) = n.val / 64 * 64 + j.val
    omega
  · intro q _ hq
    refine Finset.sum_eq_zero fun j _ => if_neg fun h => hq (Fin.ext ?_)
    have h' : (j.val + 64 * q.val) / 64 = n.val % 256 / 64 := h
    show q.val = n.val % 256 / 64
    omega
  · exact fun h => absurd (Finset.mem_univ _) h

end Cert.Proof.Rows

end
-- ==== Proof.M.Pay.lean ====
/- THE THIRD KERNEL'S BODY AT COORDINATES: each value of one row group from the values it reads. -/
module

public import proofs.«01_k».proof.Proof.M.Row
public import proofs.«01_k».proof.Proof.Gen.Kernel3Ideal.Value
public import Idealize.ShloMosaic.Lib.Pipeline.ValueKit
public import Idealize.ShloMosaic.Lib.KernelVsHost

@[expose] public section

set_option maxRecDepth 16384

noncomputable section

namespace Cert.Proof.Kernel3Ideal

open Cert.Kernel3Ideal Cert.Kernel3Ideal.Gen Cert.Proof.Rows
open Idealize.ShloMosaic Idealize.ShloMosaic.TcCoe

abbrev Tile := FVec Ideal S256x1024 .f32

variable (r : Fin 256) (n : Fin 1024)

/-- A block of 256 lanes times a matrix. -/
def block (v : FVec Ideal S256x256 .bf16) (o : Vec Ideal S256x256 .bf16) : FVec Ideal S256x256 .f32 :=
  matmul dot_S256x256_S256x256_S256x256_1_0_0_1_n_n none v (shapeCast S256x256 o shapeCasts_S256x256_S256x256 : FVec Ideal S256x256 .bf16) (constant S256x256 .f32 0x00000000#32)

/-- The four blocks of lanes. -/
def lanes (v : FVec Ideal S256x1024 .bf16) : Fin 4 → FVec Ideal S256x256 .bf16 :=
  ![extractStridedSlice S256x256 ![0, 0] v slices_S256x1024_o0_0_S256x256, extractStridedSlice S256x256 ![0, 256] v slices_S256x1024_o0_256_S256x256,
    extractStridedSlice S256x256 ![0, 512] v slices_S256x1024_o0_512_S256x256, extractStridedSlice S256x256 ![0, 768] v slices_S256x1024_o0_768_S256x256]

/-- The blocks times the matrix, side by side. -/
def heads (v : FVec Ideal S256x1024 .bf16) (o : Vec Ideal S256x256 .bf16) : Tile :=
  concatenate S256x1024 1 [⟨S256x256, block (lanes v 0) o⟩, ⟨S256x256, block (lanes v 1) o⟩, ⟨S256x256, block (lanes v 2) o⟩, ⟨S256x256, block (lanes v 3) o⟩]
    concatenates_S256x256_S256x256_S256x256_S256x256_S256x1024_d1

theorem block_apply (v : FVec Ideal S256x256 .bf16) (o : Vec Ideal S256x256 .bf16) (k : Fin 256) : block v o (ix2 r k) = ∑ d : Fin 256, v (ix2 r d) * o (ix2 d k) := by
  pointwise [block]

theorem lanes_apply (v : FVec Ideal S256x1024 .bf16) (q : Fin 4) (d : Fin 256) : lanes v q (ix2 r d) = v (ix2 r ⟨q.val * 256 + d.val, by omega⟩) := by
  fin_cases q
  · show extractStridedSlice S256x256 ![0, 0] v slices_S256x1024_o0_0_S256x256 (ix2 r d) = _
    pointwise
  · show extractStridedSlice S256x256 ![0, 256] v slices_S256x1024_o0_256_S256x256 (ix2 r d) = _
    pointwise
  · show extractStridedSlice S256x256 ![0, 512] v slices_S256x1024_o0_512_S256x256 (ix2 r d) = _
    pointwise
  · show extractStridedSlice S256x256 ![0, 768] v slices_S256x1024_o0_768_S256x256 (ix2 r d) = _
    pointwise

theorem heads_apply (v : FVec Ideal S256x1024 .bf16) (o : Vec Ideal S256x256 .bf16) :
    heads v o (ix2 r n) = blockSum (fun n => v (ix2 r n)) (fun d k => o (ix2 d k)) n := by
  refine (concatenate_ofFn_apply (s₁ := S256x256) (t := S256x1024) 1 (N := 4) (fun q => block (lanes v q) o) _ rfl 256 rfl (ix2 r n) ⟨n.val / 256, by omega⟩ rfl (ix2 r ⟨n.val % 256, by omega⟩) rfl ?_).trans ?_
  · intro b hb
    match b with
    | ⟨0, _⟩ => rfl
    | ⟨1, _⟩ => exact absurd rfl hb
  · rw [block_apply]
    refine Finset.sum_congr rfl fun d _ => ?_
    rw [lanes_apply]

theorem pay4_apply (y : Vec Ideal S1x256x1024 .bf16) (o : Vec Ideal S256x256 .bf16) :
    k0_pay4 y o (ix2 r n) = y (ix3 0 r n) - blockSum (fun n => y (ix3 0 r n)) (fun d k => o (ix2 d k)) n := by
  have e : k0_pay4 y o = subf (extf .f32 (shapeCast S256x1024 y shapeCasts_S1x256x1024_S256x1024) bitsLt_bf16_f32) (heads (shapeCast S256x1024 y shapeCasts_S1x256x1024_S256x1024) o) := rfl
  have c : ∀ n : Fin 1024, shapeCast S256x1024 y shapeCasts_S1x256x1024_S256x1024 (ix2 r n) = y (ix3 0 r n) := fun n => by
    pointwise
  rw [e]
  show shapeCast S256x1024 y shapeCasts_S1x256x1024_S256x1024 (ix2 r n) - heads _ o (ix2 r n) = _
  rw [heads_apply]
  simp only [c]

theorem pay9_apply (v : Tile) (o : Vec Ideal S256x256 .bf16) :
    k0_pay9 v o (ix2 r n) = blockSum (fun n => v (ix2 r n) * v (ix2 r n)) (fun d k => o (ix2 d k)) n := by
  have e : k0_pay9 v o = heads (mulf v v) o := rfl
  rw [e, heads_apply]
  rfl

theorem pay12_apply (d q : Tile) (lg lb : Vec Ideal S1x1024 .f32) (e g : Vec Ideal S1x256x1024 .bf16) :
    k0_pay12 d q lg lb e g (ix2 r n) =
      gate (fun n => d (ix2 r n) * Ideal.rsqrt (q (ix2 r n) + Ideal.ofBits .f32 0x3A27C5AC#32) * lg (ix2 0 n) + lb (ix2 0 n) + e (ix3 0 r n)) (fun n => g (ix3 0 r n)) n := by
  pointwise [k0_pay12, gate, logi]
  simp only [zero_sub]

theorem pay13_apply (z : FVec Ideal S256x1024 .bf16) (w : Vec Ideal S1024x1024 .bf16) (x : Vec Ideal S1x256x1024 .f32) (g : Vec Ideal S1x1024 .f32) :
    k0_pay13 z w x g (ix2 r n) = x (ix3 0 r n) + rms (times (fun d => z (ix2 r d)) (fun d n => w (ix2 d n))) (fun n => g (ix2 0 n)) n := by
  pointwise [k0_pay13, rms, times]

theorem pay18_apply (p : Vec Ideal S1x1x256x256 .f32) (w : Vec Ideal S256x1024 .bf16) :
    k0_pay18 p w (ix2 r n) = times (fun d => p (ix4 0 0 r d)) (fun d n => w (ix2 d n)) n := by
  pointwise [k0_pay18, times]

theorem pay20_apply (s : Tile) (p : Vec Ideal S1x1x256x256 .f32) (wp : Vec Ideal S256x1024 .bf16) (wg : Vec Ideal S1024x1024 .bf16) :
    k0_pay20 s p wp wg (ix2 r n) = embed (fun d => s (ix2 r d)) (fun d => p (ix4 0 0 r d)) (fun d n => wp (ix2 d n)) (fun d n => wg (ix2 d n)) n := by
  pointwise [k0_pay20, embed, times, logi]
  simp only [zero_sub]

theorem pay22_apply (s : Tile) (p : Vec Ideal S1x1x256x256 .f32) (wp : Vec Ideal S256x1024 .bf16) (wg : Vec Ideal S1024x1024 .bf16) :
    k0_pay22 s p wp wg (ix1 r) = ∑ d : Fin 1024, k0_pay20 s p wp wg (ix2 r d) * k0_pay20 s p wp wg (ix2 r d) := by
  pointwise [k0_pay22]

theorem pay23_apply (s e : Tile) (g : FVec Ideal S1x1024 .f32) (q : FVec Ideal S256 .f32) :
    k0_pay23 s e g q (ix2 r n) = s (ix2 r n) + e (ix2 r n) * Ideal.rsqrt (Ideal.div (q (ix1 r)) (Ideal.ofBits .f32 0x44800000#32) + Ideal.ofBits .f32 0x358637BD#32) * g (ix2 0 n) := by
  pointwise [k0_pay23]

theorem pay21_eq (g : Vec Ideal S1x1024 .f32) : k0_pay21 g = g := shapeCast_id _ _

/-- A product with a matrix of two blocks of columns, after the norm. -/
theorem pay33_apply (h : Tile) (g : Vec Ideal S1x1024 .f32) (w : Vec Ideal S1024x2048 .bf16) (k : Fin 2048) :
    k0_pay33 h g w (ix2 r k) = proj (fun d => h (ix2 r d)) (fun d => g (ix2 0 d)) (fun d k => w (ix2 d k)) k := by
  pointwise [k0_pay33, proj, rms]

/-- One row group's stream. -/
def stream (y g e : Vec Ideal S1x256x1024 .bf16) (x : Vec Ideal S1x256x1024 .f32) (p : Vec Ideal S1x1x256x256 .f32) (o : Vec Ideal S256x256 .bf16) (lg lb : Vec Ideal S1x1024 .f32)
    (w : Vec Ideal S1024x1024 .bf16) (np : Vec Ideal S1x1024 .f32) (wp : Vec Ideal S256x1024 .bf16) (wg : Vec Ideal S1024x1024 .bf16) (nl : Vec Ideal S1x1024 .f32) : Tile :=
  let s := k0_pay13 (k0_pay12 (k0_pay4 y o) (k0_pay9 (k0_pay4 y o) o) lg lb e g) w x np
  k0_pay23 s (k0_pay20 s p wp wg) (k0_pay21 nl) (k0_pay22 s p wp wg)

/-- A row of the stream. -/
abbrev streamRow (y g e x : Fin 1024 → EReal) (p : Fin 256 → EReal) (lg lb : Fin 1024 → EReal) (w : Fin 1024 → Fin 1024 → EReal) (np : Fin 1024 → EReal) (wp : Fin 256 → Fin 1024 → EReal)
    (wg : Fin 1024 → Fin 1024 → EReal) (nl : Fin 1024 → EReal) : Fin 1024 → EReal :=
  plus (after (mixed y lg lb e) g x w np) p wp wg nl

theorem stream_apply (y g e : Vec Ideal S1x256x1024 .bf16) (x : Vec Ideal S1x256x1024 .f32) (p : Vec Ideal S1x1x256x256 .f32) (o : Vec Ideal S256x256 .bf16) (lg lb : Vec Ideal S1x1024 .f32)
    (w : Vec Ideal S1024x1024 .bf16) (np : Vec Ideal S1x1024 .f32) (wp : Vec Ideal S256x1024 .bf16) (wg : Vec Ideal S1024x1024 .bf16) (nl : Vec Ideal S1x1024 .f32)
    (ho : ∀ d k : Fin 256, o (ix2 d k) = (if d.val / 64 = k.val / 64 then 1 else 0) * Ideal.ofBits .bf16 0x3C80#16) :
    stream y g e x p o lg lb w np wp wg nl (ix2 r n) =
      streamRow (fun d => y (ix3 0 r d)) (fun d => g (ix3 0 r d)) (fun d => e (ix3 0 r d)) (fun d => x (ix3 0 r d)) (fun d => p (ix4 0 0 r d)) (fun d => lg (ix2 0 d)) (fun d => lb (ix2 0 d))
        (fun d n => w (ix2 d n)) (fun d => np (ix2 0 d)) (fun d n => wp (ix2 d n)) (fun d n => wg (ix2 d n)) (fun d => nl (ix2 0 d)) n := by
  unfold stream
  rw [pay23_apply, pay22_apply, pay21_eq]
  simp only [pay20_apply, pay13_apply, pay12_apply, pay9_apply, pay4_apply, blockSum_eq _ (fun d k => o (ix2 d k)) _ ho]
  rfl

/-- A table of 128 lanes repeated over the row. -/
def tiled (c : FVec Ideal S256x128 .f32) : Tile :=
  concatenate S256x1024 1 [⟨S256x128, c⟩, ⟨S256x128, c⟩, ⟨S256x128, c⟩, ⟨S256x128, c⟩, ⟨S256x128, c⟩, ⟨S256x128, c⟩, ⟨S256x128, c⟩, ⟨S256x128, c⟩]
    concatenates_S256x128_S256x128_S256x128_S256x128_S256x128_S256x128_S256x128_S256x128_S256x1024_d1

theorem tiled_apply (c : FVec Ideal S256x128 .f32) : tiled c (ix2 r n) = c (ix2 r ⟨n.val % 128, by omega⟩) := by
  refine concatenate_replicate_apply (s₁ := S256x128) (t := S256x1024) 1 8 c _ rfl (ix2 r n) (ix2 r ⟨n.val % 128, by omega⟩) rfl ?_
  intro b hb
  match b with
  | ⟨0, _⟩ => rfl
  | ⟨1, _⟩ => exact absurd rfl hb

/-- The first block of columns of a product, rotated. -/
def turned (c s1 s2 : FVec Ideal S256x128 .f32) (x : Tile) : Tile :=
  addf (addf (mulf x (tiled c)) (mulf (dynamicRotate 1 1016#32 none x rotates_S256x1024_d1) (tiled s1))) (mulf (dynamicRotate 1 8#32 none x rotates_S256x1024_d1) (tiled s2))

theorem turned_apply (c s1 s2 : FVec Ideal S256x128 .f32) (x : Tile) :
    turned c s1 s2 x (ix2 r n) = rolled (fun l => c (ix2 r l)) (fun l => s1 (ix2 r l)) (fun l => s2 (ix2 r l)) (fun n => x (ix2 r n)) n := by
  have a : dynamicRotate 1 1016#32 none x rotates_S256x1024_d1 (ix2 r n) = x (ix2 r (up n)) := by
    refine dynamicRotate_apply 1 1016#32 x rotates_S256x1024_d1 (ix2 r n) (ix2 r (up n)) fun b => ?_
    match b with
    | ⟨0, _⟩ => rfl
    | ⟨1, _⟩ => show (n.val + 8) % 1024 = (n.val + 1024 - 1016) % 1024; omega
  have b : dynamicRotate 1 8#32 none x rotates_S256x1024_d1 (ix2 r n) = x (ix2 r (down n)) := by
    refine dynamicRotate_apply 1 8#32 x rotates_S256x1024_d1 (ix2 r n) (ix2 r (down n)) fun b => ?_
    match b with
    | ⟨0, _⟩ => rfl
    | ⟨1, _⟩ => show (n.val + 1016) % 1024 = (n.val + 1024 - 8) % 1024; omega
  show x (ix2 r n) * tiled c (ix2 r n) + dynamicRotate 1 1016#32 none x rotates_S256x1024_d1 (ix2 r n) * tiled s1 (ix2 r n)
    + dynamicRotate 1 8#32 none x rotates_S256x1024_d1 (ix2 r n) * tiled s2 (ix2 r n) = _
  rw [a, b, tiled_apply, tiled_apply, tiled_apply]
  rfl

theorem pay40_apply (c s1 s2 : FVec Ideal S256x128 .f32) (x : FVec Ideal S256x2048 .f32) :
    k0_pay40 c s1 s2 x (ix3 0 r n) = rolled (fun l => c (ix2 r l)) (fun l => s1 (ix2 r l)) (fun l => s2 (ix2 r l)) (left fun k => x (ix2 r k)) n := by
  have e : k0_pay40 c s1 s2 x = shapeCast S1x256x1024 (turned c s1 s2 (extractStridedSlice S256x1024 ![0, 0] x slices_S256x2048_o0_0_S256x1024) : FVec Ideal S256x1024 .f32) shapeCasts_S256x1024_S1x256x1024 := rfl
  have l : ∀ n : Fin 1024, extractStridedSlice S256x1024 ![0, 0] x slices_S256x2048_o0_0_S256x1024 (ix2 r n) = left (fun k => x (ix2 r k)) n := fun n => by
    pointwise [left]
  rw [e]
  pointwise
  rw [turned_apply]
  simp only [l]

theorem pay42_apply (c s1 s2 : FVec Ideal S256x128 .f32) (x : FVec Ideal S256x2048 .f32) :
    k0_pay42 c s1 s2 x (ix3 0 r n) = rolled (fun l => c (ix2 r l)) (fun l => s1 (ix2 r l)) (fun l => s2 (ix2 r l)) (left fun k => x (ix2 r k)) n * Ideal.ofBits .f32 0x3E38AA3B#32 := by
  rw [← pay40_apply]
  rfl

theorem pay41_apply (x : FVec Ideal S256x2048 .f32) : k0_pay41 x (ix3 0 r n) = right (fun k => x (ix2 r k)) n := by
  pointwise [k0_pay41, right]

end Cert.Proof.Kernel3Ideal

end
-- ==== Proof.M.Block.lean ====
/- THE THIRD KERNEL'S OUTPUT BLOCKS: each of their rows from the rows of the input blocks. -/
module

public import proofs.«01_k».proof.Proof.M.Pay

@[expose] public section

set_option maxRecDepth 16384

noncomputable section

namespace Cert.Proof.Kernel3Ideal

open Cert.Kernel3Ideal Cert.Kernel3Ideal.Gen Cert.Proof.Rows
open Idealize.ShloMosaic Idealize.ShloMosaic.TcCoe

section
variable {e : EltTy} (o : ℕ) (r : Fin 256) (d : Fin 1024) (j : Fin 512) (h : j.val = o + r.val)

include h in
theorem ld3 (x : Vec Ideal S1x512x1024 e) (inb) : View.ld x (Rect.unit (s := S1x512x1024) ![0, o, 0] S1x256x1024.size inb) (ix3 0 r d) = x (ix3 0 j d) := by
  refine View.ld_unit_apply_of _ _ _ _ _ _ fun a => ?_
  match a with
  | ⟨0, _⟩ => rfl
  | ⟨1, _⟩ => exact h
  | ⟨2, _⟩ => exact (Nat.zero_add _).symm

include h in
theorem ld4 (x : Vec Ideal S1x1x512x256 e) (inb) (d : Fin 256) : View.ld x (Rect.unit (s := S1x1x512x256) ![0, 0, o, 0] S1x1x256x256.size inb) (ix4 0 0 r d) = x (ix4 0 0 j d) := by
  refine View.ld_unit_apply_of _ _ _ _ _ _ fun a => ?_
  match a with
  | ⟨0, _⟩ => rfl
  | ⟨1, _⟩ => rfl
  | ⟨2, _⟩ => exact h
  | ⟨3, _⟩ => exact (Nat.zero_add _).symm

include h in
theorem ld2 (x : Vec Ideal S512x128 e) (inb) (l : Fin 128) : View.ld x (Rect.unit (s := S512x128) ![o, 0] S256x128.size inb) (ix2 r l) = x (ix2 j l) := by
  refine View.ld_unit_apply_of _ _ _ _ _ _ fun a => ?_
  match a with
  | ⟨0, _⟩ => exact h
  | ⟨1, _⟩ => exact (Nat.zero_add _).symm

theorem ldw {k l : ℕ} (d : Fin k) (n : Fin l) (x : Vec Ideal ⟨2, ![k, l]⟩ e) (inb) : View.ld x (Rect.unit (s := ⟨2, ![k, l]⟩) ![0, 0] ![k, l] inb) (ix2 d n) = x (ix2 d n) := by
  refine View.ld_unit_apply_of _ _ _ _ _ _ fun a => ?_
  match a with
  | ⟨0, _⟩ => exact (Nat.zero_add _).symm
  | ⟨1, _⟩ => exact (Nat.zero_add _).symm
end

/-- A row of the stream from the input blocks. -/
def blockRow (x0 x1 x2 : Vec Ideal S1x512x1024 .bf16) (x3 : Vec Ideal S1x512x1024 .f32) (x4 : Vec Ideal S1x1x512x256 .f32) (x5 : Vec Ideal S256x256 .bf16) (x6 x7 : Vec Ideal S1x1024 .f32) (x8 : Vec Ideal S1024x1024 .bf16) (x9 : Vec Ideal S1x1024 .f32) (x10 : Vec Ideal S256x1024 .bf16) (x11 : Vec Ideal S1024x1024 .bf16) (x12 : Vec Ideal S1x1024 .f32) (j : Fin 512) : Fin 1024 → EReal :=
  streamRow (fun d => x0 (ix3 0 j d)) (fun d => x1 (ix3 0 j d)) (fun d => x2 (ix3 0 j d)) (fun d => x3 (ix3 0 j d)) (fun d => x4 (ix4 0 0 j d)) (fun d => x6 (ix2 0 d)) (fun d => x7 (ix2 0 d))
    (fun d n => x8 (ix2 d n)) (fun d => x9 (ix2 0 d)) (fun d n => x10 (ix2 d n)) (fun d n => x11 (ix2 d n)) (fun d => x12 (ix2 0 d))

theorem streamRow_congr {y y' g g' e e' x x' lg lg' lb lb' np np' nl nl' : Fin 1024 → EReal} {p p' : Fin 256 → EReal} {w w' wg wg' : Fin 1024 → Fin 1024 → EReal} {wp wp' : Fin 256 → Fin 1024 → EReal}
    (hy : ∀ d, y d = y' d) (hg : ∀ d, g d = g' d) (he : ∀ d, e d = e' d) (hx : ∀ d, x d = x' d) (hp : ∀ d, p d = p' d) (hlg : ∀ d, lg d = lg' d) (hlb : ∀ d, lb d = lb' d)
    (hw : ∀ d n, w d n = w' d n) (hnp : ∀ d, np d = np' d) (hwp : ∀ d n, wp d n = wp' d n) (hwg : ∀ d n, wg d n = wg' d n) (hnl : ∀ d, nl d = nl' d) :
    streamRow y g e x p lg lb w np wp wg nl = streamRow y' g' e' x' p' lg' lb' w' np' wp' wg' nl' := by
  obtain rfl := funext hy
  obtain rfl := funext hg
  obtain rfl := funext he
  obtain rfl := funext hx
  obtain rfl := funext hp
  obtain rfl := funext hlg
  obtain rfl := funext hlb
  obtain rfl : w = w' := funext fun d => funext (hw d)
  obtain rfl := funext hnp
  obtain rfl : wp = wp' := funext fun d => funext (hwp d)
  obtain rfl : wg = wg' := funext fun d => funext (hwg d)
  obtain rfl := funext hnl
  rfl

/-- The two row groups' streams. -/
def upper (x0 x1 x2 : Vec Ideal S1x512x1024 .bf16) (x3 : Vec Ideal S1x512x1024 .f32) (x4 : Vec Ideal S1x1x512x256 .f32) (x5 : Vec Ideal S256x256 .bf16) (x6 x7 : Vec Ideal S1x1024 .f32) (x8 : Vec Ideal S1024x1024 .bf16) (x9 : Vec Ideal S1x1024 .f32) (x10 : Vec Ideal S256x1024 .bf16) (x11 : Vec Ideal S1024x1024 .bf16) (x12 : Vec Ideal S1x1024 .f32) : Tile :=
  stream (View.ld x0 r0_0) (View.ld x1 r0_0) (View.ld x2 r0_0) (View.ld x3 r0_0) (View.ld x4 r0_5) (View.ld x5 r0_2) (View.ld x6 r0_3) (View.ld x7 r0_3) (View.ld x8 r0_4) (View.ld x9 r0_3)
    (View.ld x10 r0_6) (View.ld x11 r0_4) (View.ld x12 r0_3)
def lower (x0 x1 x2 : Vec Ideal S1x512x1024 .bf16) (x3 : Vec Ideal S1x512x1024 .f32) (x4 : Vec Ideal S1x1x512x256 .f32) (x5 : Vec Ideal S256x256 .bf16) (x6 x7 : Vec Ideal S1x1024 .f32) (x8 : Vec Ideal S1024x1024 .bf16) (x9 : Vec Ideal S1x1024 .f32) (x10 : Vec Ideal S256x1024 .bf16) (x11 : Vec Ideal S1024x1024 .bf16) (x12 : Vec Ideal S1x1024 .f32) : Tile :=
  stream (View.ld x0 r0_1) (View.ld x1 r0_1) (View.ld x2 r0_1) (View.ld x3 r0_1) (View.ld x4 r0_7) (View.ld x5 r0_2) (View.ld x6 r0_3) (View.ld x7 r0_3) (View.ld x8 r0_4) (View.ld x9 r0_3)
    (View.ld x10 r0_6) (View.ld x11 r0_4) (View.ld x12 r0_3)

section
variable (r : Fin 256) (j : Fin 512) (x0 x1 x2 : Vec Ideal S1x512x1024 .bf16) (x3 : Vec Ideal S1x512x1024 .f32) (x4 : Vec Ideal S1x1x512x256 .f32) (x5 : Vec Ideal S256x256 .bf16) (x6 x7 : Vec Ideal S1x1024 .f32) (x8 : Vec Ideal S1024x1024 .bf16) (x9 : Vec Ideal S1x1024 .f32) (x10 : Vec Ideal S256x1024 .bf16) (x11 : Vec Ideal S1024x1024 .bf16) (x12 : Vec Ideal S1x1024 .f32)
  (ho : ∀ d k : Fin 256, x5 (ix2 d k) = (if d.val / 64 = k.val / 64 then 1 else 0) * Ideal.ofBits .bf16 0x3C80#16)
include ho

theorem upper_row (h : j.val = 0 + r.val) : (fun n => upper x0 x1 x2 x3 x4 x5 x6 x7 x8 x9 x10 x11 x12 (ix2 r n)) = blockRow x0 x1 x2 x3 x4 x5 x6 x7 x8 x9 x10 x11 x12 j := by
  funext n
  unfold upper
  rw [stream_apply r n _ _ _ _ _ _ _ _ _ _ _ _ _ fun d k => (ldw d k x5 _).trans (ho d k)]
  exact congrFun (streamRow_congr (fun d => ld3 0 r d j h x0 _) (fun d => ld3 0 r d j h x1 _) (fun d => ld3 0 r d j h x2 _) (fun d => ld3 0 r d j h x3 _) (fun d => ld4 0 r j h x4 _ d)
    (fun d => ldw 0 d x6 _) (fun d => ldw 0 d x7 _) (fun d n => ldw d n x8 _) (fun d => ldw 0 d x9 _) (fun d n => ldw d n x10 _) (fun d n => ldw d n x11 _) (fun d => ldw 0 d x12 _)) n

theorem upper_proj (h : j.val = 0 + r.val) (g : Vec Ideal S1x1024 .f32) (w : Vec Ideal S1024x2048 .bf16) :
    (fun k => k0_pay33 (upper x0 x1 x2 x3 x4 x5 x6 x7 x8 x9 x10 x11 x12) (View.ld g r0_3) (View.ld w r0_10) (ix2 r k)) = proj (blockRow x0 x1 x2 x3 x4 x5 x6 x7 x8 x9 x10 x11 x12 j) (fun d => g (ix2 0 d)) (fun d k => w (ix2 d k)) := by
  funext k
  rw [pay33_apply, upper_row r j x0 x1 x2 x3 x4 x5 x6 x7 x8 x9 x10 x11 x12 ho h]
  congr 1
  · exact funext fun d => ldw 0 d g _
  · exact funext fun d => funext fun n => ldw d n w _

theorem lower_row (h : j.val = 256 + r.val) : (fun n => lower x0 x1 x2 x3 x4 x5 x6 x7 x8 x9 x10 x11 x12 (ix2 r n)) = blockRow x0 x1 x2 x3 x4 x5 x6 x7 x8 x9 x10 x11 x12 j := by
  funext n
  unfold lower
  rw [stream_apply r n _ _ _ _ _ _ _ _ _ _ _ _ _ fun d k => (ldw d k x5 _).trans (ho d k)]
  exact congrFun (streamRow_congr (fun d => ld3 256 r d j h x0 _) (fun d => ld3 256 r d j h x1 _) (fun d => ld3 256 r d j h x2 _) (fun d => ld3 256 r d j h x3 _) (fun d => ld4 256 r j h x4 _ d)
    (fun d => ldw 0 d x6 _) (fun d => ldw 0 d x7 _) (fun d n => ldw d n x8 _) (fun d => ldw 0 d x9 _) (fun d n => ldw d n x10 _) (fun d n => ldw d n x11 _) (fun d => ldw 0 d x12 _)) n

theorem lower_proj (h : j.val = 256 + r.val) (g : Vec Ideal S1x1024 .f32) (w : Vec Ideal S1024x2048 .bf16) :
    (fun k => k0_pay33 (lower x0 x1 x2 x3 x4 x5 x6 x7 x8 x9 x10 x11 x12) (View.ld g r0_3) (View.ld w r0_10) (ix2 r k)) = proj (blockRow x0 x1 x2 x3 x4 x5 x6 x7 x8 x9 x10 x11 x12 j) (fun d => g (ix2 0 d)) (fun d k => w (ix2 d k)) := by
  funext k
  rw [pay33_apply, lower_row r j x0 x1 x2 x3 x4 x5 x6 x7 x8 x9 x10 x11 x12 ho h]
  congr 1
  · exact funext fun d => ldw 0 d g _
  · exact funext fun d => funext fun n => ldw d n w _

end

theorem pay27_eq (c : Vec Ideal S256x128 .f32) : k0_pay27 c = c := shapeCast_id _ _

theorem up_apply (v : Tile) (r : Fin 256) (n : Fin 1024) : shapeCast S1x256x1024 v shapeCasts_S256x1024_S1x256x1024 (ix3 0 r n) = v (ix2 r n) := by
  pointwise

section
variable (x0 x1 x2 : Vec Ideal S1x512x1024 .bf16) (x3 : Vec Ideal S1x512x1024 .f32) (x4 : Vec Ideal S1x1x512x256 .f32) (x5 : Vec Ideal S256x256 .bf16) (x6 x7 : Vec Ideal S1x1024 .f32) (x8 : Vec Ideal S1024x1024 .bf16) (x9 : Vec Ideal S1x1024 .f32) (x10 : Vec Ideal S256x1024 .bf16) (x11 : Vec Ideal S1024x1024 .bf16) (x12 x13 : Vec Ideal S1x1024 .f32) (x14 : Vec Ideal S1024x2048 .bf16) (x15 : Vec Ideal S1x1024 .f32) (x16 : Vec Ideal S1024x2048 .bf16) (x17 x18 x19 : Vec Ideal S512x128 .f32)
  (y : S1x512x1024.Idx) (j : Fin 512) (n : Fin 1024) (h1' : (y 1).val = j.val) (h2' : (y 2).val = n.val)
  (ho : ∀ d k : Fin 256, x5 (ix2 d k) = (if d.val / 64 = k.val / 64 then 1 else 0) * Ideal.ofBits .bf16 0x3C80#16)
include h1' h2' ho

/-- A row of the stream. -/
theorem block_h : out0_20 x0 x1 x2 x3 x4 x5 x6 x7 x8 x9 x10 x11 x12 x13 x14 x15 x16 x17 x18 x19 y = blockRow x0 x1 x2 x3 x4 x5 x6 x7 x8 x9 x10 x11 x12 j n := by
  unfold out0_20
  canon_tiles x h using cover0_20 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    refine (congrFun (show k0_pay26 (k0_pay52 x0 x1 x2 x3 x4 x5 x6 x7 x8 x9 x10 x11 x12 x13 x14 x15 x16 x17 x18 x19) (k0_pay53 x0 x1 x2 x3 x4 x5 x6 x7 x8 x9 x10 x11 x12 x13 x14 x15 x16 x17 x18 x19) (k0_pay54 x0 x1 x2 x3 x4 x5 x6 x7 x8 x9 x10 x11 x12 x13 x14 x15 x16 x17 x18 x19) (View.ld x12 r0_3) = shapeCast S1x256x1024 (lower x0 x1 x2 x3 x4 x5 x6 x7 x8 x9 x10 x11 x12) shapeCasts_S256x1024_S1x256x1024 from rfl) (ix3 0 r z)).trans ?_
    rw [up_apply]
    exact congrFun (lower_row r j x0 x1 x2 x3 x4 x5 x6 x7 x8 x9 x10 x11 x12 ho hj) z
  · have hz : z = n := Fin.ext (h2.symm.trans h2')
    have hj : j.val = 0 + r.val := (h1'.symm.trans h1).trans (Nat.zero_add _).symm
    subst hz
    refine (congrFun (show k0_pay25 (k0_pay48 x0 x1 x2 x3 x4 x5 x6 x7 x8 x9 x10 x11 x12 x13 x14 x15 x16 x17 x18 x19) (k0_pay55 x0 x1 x2 x3 x4 x5 x6 x7 x8 x9 x10 x11 x12 x13 x14 x15 x16 x17 x18 x19) (k0_pay56 x0 x1 x2 x3 x4 x5 x6 x7 x8 x9 x10 x11 x12 x13 x14 x15 x16 x17 x18 x19) (k0_pay57 x0 x1 x2 x3 x4 x5 x6 x7 x8 x9 x10 x11 x12 x13 x14 x15 x16 x17 x18 x19) = shapeCast S1x256x1024 (upper x0 x1 x2 x3 x4 x5 x6 x7 x8 x9 x10 x11 x12) shapeCasts_S256x1024_S1x256x1024 from rfl) (ix3 0 r z)).trans ?_
    rw [up_apply]
    exact congrFun (upper_row r j x0 x1 x2 x3 x4 x5 x6 x7 x8 x9 x10 x11 x12 ho hj) z

/-- A row of the queries. -/
theorem block_q : out0_21 x0 x1 x2 x3 x4 x5 x6 x7 x8 x9 x10 x11 x12 x13 x14 x15 x16 x17 x18 x19 y = rolled (fun l => x17 (ix2 j l)) (fun l => x18 (ix2 j l)) (fun l => x19 (ix2 j l)) (left (proj (blockRow x0 x1 x2 x3 x4 x5 x6 x7 x8 x9 x10 x11 x12 j) (fun d => x15 (ix2 0 d)) fun d k => x16 (ix2 d k))) n * Ideal.ofBits .f32 0x3E38AA3B#32 := by
  unfold out0_21
  canon_tiles x h using cover0_21 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    refine (congrFun (show k0_pay1 (k0_pay46 (k0_pay63 x0 x1 x2 x3 x4 x5 x6 x7 x8 x9 x10 x11 x12 x13 x14 x15 x16 x17 x18 x19) (k0_pay64 x0 x1 x2 x3 x4 x5 x6 x7 x8 x9 x10 x11 x12 x13 x14 x15 x16 x17 x18 x19) (k0_pay65 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19)) = k0_pay42 (k0_pay27 (View.ld x17 r0_9)) (k0_pay27 (View.ld x18 r0_9)) (k0_pay27 (View.ld x19 r0_9)) (k0_pay33 (lower x0 x1 x2 x3 x4 x5 x6 x7 x8 x9 x10 x11 x12) (View.ld x15 r0_3) (View.ld x16 r0_10)) from rfl) (ix3 0 r z)).trans ?_
    rw [pay42_apply, pay27_eq, pay27_eq, pay27_eq, lower_proj r j x0 x1 x2 x3 x4 x5 x6 x7 x8 x9 x10 x11 x12 ho hj]
    rw [show (fun l => View.ld x17 r0_9 (ix2 r l)) = fun l => x17 (ix2 j l) from funext fun l => ld2 256 r j hj x17 _ l,
      show (fun l => View.ld x18 r0_9 (ix2 r l)) = fun l => x18 (ix2 j l) from funext fun l => ld2 256 r j hj x18 _ l,
      show (fun l => View.ld x19 r0_9 (ix2 r l)) = fun l => x19 (ix2 j l) from funext fun l => ld2 256 r j hj x19 _ l]
  · have hz : z = n := Fin.ext (h2.symm.trans h2')
    have hj : j.val = 0 + r.val := (h1'.symm.trans h1).trans (Nat.zero_add _).symm
    subst hz
    refine (congrFun (show k0_pay42 (k0_pay60 x0 x1 x2 x3 x4 x5 x6 x7 x8 x9 x10 x11 x12 x13 x14 x15 x16 x17 x18 x19) (k0_pay61 x0 x1 x2 x3 x4 x5 x6 x7 x8 x9 x10 x11 x12 x13 x14 x15 x16 x17 x18 x19) (k0_pay62 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) = k0_pay42 (k0_pay27 (View.ld x17 r0_8)) (k0_pay27 (View.ld x18 r0_8)) (k0_pay27 (View.ld x19 r0_8)) (k0_pay33 (upper x0 x1 x2 x3 x4 x5 x6 x7 x8 x9 x10 x11 x12) (View.ld x15 r0_3) (View.ld x16 r0_10)) from rfl) (ix3 0 r z)).trans ?_
    rw [pay42_apply, pay27_eq, pay27_eq, pay27_eq, upper_proj r j x0 x1 x2 x3 x4 x5 x6 x7 x8 x9 x10 x11 x12 ho hj]
    rw [show (fun l => View.ld x17 r0_8 (ix2 r l)) = fun l => x17 (ix2 j l) from funext fun l => ld2 0 r j hj x17 _ l,
      show (fun l => View.ld x18 r0_8 (ix2 r l)) = fun l => x18 (ix2 j l) from funext fun l => ld2 0 r j hj x18 _ l,
      show (fun l => View.ld x19 r0_8 (ix2 r l)) = fun l => x19 (ix2 j l) from funext fun l => ld2 0 r j hj x19 _ l]

/-- A row of the keys. -/
theorem block_k : out0_22 x0 x1 x2 x3 x4 x5 x6 x7 x8 x9 x10 x11 x12 x13 x14 x15 x16 x17 x18 x19 y = rolled (fun l => x17 (ix2 j l)) (fun l => x18 (ix2 j l)) (fun l => x19 (ix2 j l)) (left (proj (blockRow x0 x1 x2 x3 x4 x5 x6 x7 x8 x9 x10 x11 x12 j) (fun d => x13 (ix2 0 d)) fun d k => x14 (ix2 d k))) n := by
  unfold out0_22
  canon_tiles x h using cover0_22 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    refine (congrFun (show k0_pay44 (k0_pay63 x0 x1 x2 x3 x4 x5 x6 x7 x8 x9 x10 x11 x12 x13 x14 x15 x16 x17 x18 x19) (k0_pay64 x0 x1 x2 x3 x4 x5 x6 x7 x8 x9 x10 x11 x12 x13 x14 x15 x16 x17 x18 x19) (k0_pay65 x0 x1 x2 x3 x4 x5 x6 x7 x8 x9 x10 x11 x12 x13 x14 x15 x16 x17 x18 x19) (k0_pay67 x0 x1 x2 x3 x4 x5 x6 x7 x8 x9 x10 x11 x12 x13 x14 x15 x16 x17 x18 x19) = k0_pay40 (k0_pay27 (View.ld x17 r0_9)) (k0_pay27 (View.ld x18 r0_9)) (k0_pay27 (View.ld x19 r0_9)) (k0_pay33 (lower x0 x1 x2 x3 x4 x5 x6 x7 x8 x9 x10 x11 x12) (View.ld x13 r0_3) (View.ld x14 r0_10)) from rfl) (ix3 0 r z)).trans ?_
    rw [pay40_apply, pay27_eq, pay27_eq, pay27_eq, lower_proj r j x0 x1 x2 x3 x4 x5 x6 x7 x8 x9 x10 x11 x12 ho hj]
    rw [show (fun l => View.ld x17 r0_9 (ix2 r l)) = fun l => x17 (ix2 j l) from funext fun l => ld2 256 r j hj x17 _ l,
      show (fun l => View.ld x18 r0_9 (ix2 r l)) = fun l => x18 (ix2 j l) from funext fun l => ld2 256 r j hj x18 _ l,
      show (fun l => View.ld x19 r0_9 (ix2 r l)) = fun l => x19 (ix2 j l) from funext fun l => ld2 256 r j hj x19 _ l]
  · have hz : z = n := Fin.ext (h2.symm.trans h2')
    have hj : j.val = 0 + r.val := (h1'.symm.trans h1).trans (Nat.zero_add _).symm
    subst hz
    refine (congrFun (show k0_pay40 (k0_pay60 x0 x1 x2 x3 x4 x5 x6 x7 x8 x9 x10 x11 x12 x13 x14 x15 x16 x17 x18 x19) (k0_pay61 x0 x1 x2 x3 x4 x5 x6 x7 x8 x9 x10 x11 x12 x13 x14 x15 x16 x17 x18 x19) (k0_pay62 x0 x1 x2 x3 x4 x5 x6 x7 x8 x9 x10 x11 x12 x13 x14 x15 x16 x17 x18 x19) (k0_pay66 x0 x1 x2 x3 x4 x5 x6 x7 x8 x9 x10 x11 x12 x13 x14 x15 x16 x17 x18 x19) = k0_pay40 (k0_pay27 (View.ld x17 r0_8)) (k0_pay27 (View.ld x18 r0_8)) (k0_pay27 (View.ld x19 r0_8)) (k0_pay33 (upper x0 x1 x2 x3 x4 x5 x6 x7 x8 x9 x10 x11 x12) (View.ld x13 r0_3) (View.ld x14 r0_10)) from rfl) (ix3 0 r z)).trans ?_
    rw [pay40_apply, pay27_eq, pay27_eq, pay27_eq, upper_proj r j x0 x1 x2 x3 x4 x5 x6 x7 x8 x9 x10 x11 x12 ho hj]
    rw [show (fun l => View.ld x17 r0_8 (ix2 r l)) = fun l => x17 (ix2 j l) from funext fun l => ld2 0 r j hj x17 _ l,
      show (fun l => View.ld x18 r0_8 (ix2 r l)) = fun l => x18 (ix2 j l) from funext fun l => ld2 0 r j hj x18 _ l,
      show (fun l => View.ld x19 r0_8 (ix2 r l)) = fun l => x19 (ix2 j l) from funext fun l => ld2 0 r j hj x19 _ l]

/-- A row of the values. -/
theorem block_v : out0_23 x0 x1 x2 x3 x4 x5 x6 x7 x8 x9 x10 x11 x12 x13 x14 x15 x16 x17 x18 x19 y = right (proj (blockRow x0 x1 x2 x3 x4 x5 x6 x7 x8 x9 x10 x11 x12 j) (fun d => x13 (ix2 0 d)) fun d k => x14 (ix2 d k)) n := by
  unfold out0_23
  canon_tiles x h using cover0_23 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    refine (congrFun (show k0_pay45 (k0_pay67 x0 x1 x2 x3 x4 x5 x6 x7 x8 x9 x10 x11 x12 x13 x14 x15 x16 x17 x18 x19) = k0_pay41 (k0_pay33 (lower x0 x1 x2 x3 x4 x5 x6 x7 x8 x9 x10 x11 x12) (View.ld x13 r0_3) (View.ld x14 r0_10)) from rfl) (ix3 0 r z)).trans ?_
    rw [pay41_apply, lower_proj r j x0 x1 x2 x3 x4 x5 x6 x7 x8 x9 x10 x11 x12 ho hj]
  · have hz : z = n := Fin.ext (h2.symm.trans h2')
    have hj : j.val = 0 + r.val := (h1'.symm.trans h1).trans (Nat.zero_add _).symm
    subst hz
    refine (congrFun (show k0_pay41 (k0_pay66 x0 x1 x2 x3 x4 x5 x6 x7 x8 x9 x10 x11 x12 x13 x14 x15 x16 x17 x18 x19) = k0_pay41 (k0_pay33 (upper x0 x1 x2 x3 x4 x5 x6 x7 x8 x9 x10 x11 x12) (View.ld x13 r0_3) (View.ld x14 r0_10)) from rfl) (ix3 0 r z)).trans ?_
    rw [pay41_apply, upper_proj r j x0 x1 x2 x3 x4 x5 x6 x7 x8 x9 x10 x11 x12 ho hj]

/-- A row of the gates. -/
theorem block_g : out0_24 x0 x1 x2 x3 x4 x5 x6 x7 x8 x9 x10 x11 x12 x13 x14 x15 x16 x17 x18 x19 y = right (proj (blockRow x0 x1 x2 x3 x4 x5 x6 x7 x8 x9 x10 x11 x12 j) (fun d => x15 (ix2 0 d)) fun d k => x16 (ix2 d k)) n := by
  unfold out0_24
  canon_tiles x h using cover0_24 ..
  all_goals obtain ⟨a, r, z, rfl⟩ : ∃ (a : Fin 1) (r : Fin 256) (z : Fin 1024), x = ix3 a r z := ⟨x 0, x 1, x 2, eq_ix3 x⟩
  all_goals obtain rfl : a = 0 := Subsingleton.elim _ _
  · have hz : z = n := Fin.ext (h2.symm.trans h2')
    have hj : j.val = 256 + r.val := h1'.symm.trans h1
    subst hz
    refine (congrFun (show k0_pay2 (k0_pay69 x0 x1 x2 x3 x4 x5 x6 x7 x8 x9 x10 x11 x12 x13 x14 x15 x16 x17 x18 x19) = k0_pay41 (k0_pay33 (lower x0 x1 x2 x3 x4 x5 x6 x7 x8 x9 x10 x11 x12) (View.ld x15 r0_3) (View.ld x16 r0_10)) from rfl) (ix3 0 r z)).trans ?_
    rw [pay41_apply, lower_proj r j x0 x1 x2 x3 x4 x5 x6 x7 x8 x9 x10 x11 x12 ho hj]
  · have hz : z = n := Fin.ext (h2.symm.trans h2')
    have hj : j.val = 0 + r.val := (h1'.symm.trans h1).trans (Nat.zero_add _).symm
    subst hz
    refine (congrFun (show k0_pay43 (k0_pay68 x0 x1 x2 x3 x4 x5 x6 x7 x8 x9 x10 x11 x12 x13 x14 x15 x16 x17 x18 x19) = k0_pay41 (k0_pay33 (upper x0 x1 x2 x3 x4 x5 x6 x7 x8 x9 x10 x11 x12) (View.ld x15 r0_3) (View.ld x16 r0_10)) from rfl) (ix3 0 r z)).trans ?_
    rw [pay41_apply, upper_proj r j x0 x1 x2 x3 x4 x5 x6 x7 x8 x9 x10 x11 x12 ho hj]
end

end Cert.Proof.Kernel3Ideal

end
-- ==== Proof.M.Table.lean ====
/- THE TABLES THE THIRD KERNEL'S HOST OPERATIONS MAKE: the lanes' numbers, the rotation's three tables and the matrix of the heads' means. -/
module

public import proofs.«01_k».proof.Proof.M.Row
public import proofs.«01_k».proof.Proof.Gen.Kernel3Ideal.Value
public import Idealize.ShloMosaic.Lib.Pipeline.ValueKit

@[expose] public section

set_option maxRecDepth 16384

noncomputable section

namespace Cert.Proof.Kernel3Ideal

open Cert.Kernel3Ideal Cert.Kernel3Ideal.Gen Cert.Proof.Rows
open Idealize.ShloMosaic Idealize.ShloMosaic.TcCoe

/-- One word in every lane. -/
def each (z : IVec S_ 32) : IVec S128 32 := broadcastInDim S128 ![] bcast_S_S128 z

/-- The divisor, one in place of zero. -/
def divisor (d : IVec S_ 32) : IVec S_ 32 := select (cmpi .eq d (constantI S_ 32 0#32)) (constantI S_ 32 1#32) d

/-- The remainder with the divisor's sign. -/
def remainder (x : IVec S128 32) (d : IVec S_ 32) : IVec S128 32 :=
  select (andi (cmpi .ne (cmpi .slt (Host.remsi x (each (divisor d))) (each (constantI S_ 32 0#32)))
      (broadcastInDim S128 ![] bcast_S_S128 (cmpi .slt (divisor d) (constantI S_ 32 0#32))))
    (cmpi .ne (Host.remsi x (each (divisor d))) (each (constantI S_ 32 0#32))))
    (addi (Host.remsi x (each (divisor d))) (each (divisor d))) (Host.remsi x (each (divisor d)))

/-- A lane's number in its head, and its angle's number. -/
def lane : IVec S128 32 := remainder (iotaInDim S128 32 0) (constantI S_ 32 64#32)
def angle : IVec S128 32 := remainder lane (constantI S_ 32 8#32)

/-- The angle's number as the gather takes it. -/
def start : IVec S128x1 32 :=
  broadcastInDim S128x1 ![0] bcast_S128_S128x1_0 (select (cmpi .slt angle (each (constantI S_ 32 0#32))) (addi angle (each (constantI S_ 32 8#32))) angle)

def first : IVec S128 1 := cmpi .slt lane (each (constantI S_ 32 8#32))
def both : IVec S128 1 := cmpi .slt lane (each (constantI S_ 32 16#32))
def second : IVec S128 1 := andi (cmpi .sge lane (each (constantI S_ 32 8#32))) (cmpi .slt lane (each (constantI S_ 32 16#32)))

/-- The angles: every position times every frequency. -/
def angles : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
          (broadcastInDim S8 ![] bcast_S_S8 (constant S_ .f32 0x41800000#32))))))

def picked (x : FVec Ideal S8192x8 .f32) : FVec Ideal S8192x128 .f32 := Host.gather gather_S8192x8_S128x1_S8192x128_0_1_n_n_1_1_81921 x start

/-- One array where a lane's mark is set, a constant elsewhere. -/
def marked (k : IVec S128 1) (x : FVec Ideal S8192x128 .f32) (z : FVec Ideal S_ .f32) : FVec Ideal S8192x128 .f32 :=
  select (broadcastInDim S8192x128 ![1] bcast_S128_S8192x128_1 k) x (broadcastInDim S8192x128 ![] bcast_S_S8192x128 z)

def cosTable : FVec Ideal S8192x128 .f32 := marked both (picked (Host.cos angles)) (constant S_ .f32 0x3F800000#32)
def sinFirst : FVec Ideal S8192x128 .f32 := marked first (Host.negf (picked (Host.sin angles))) (constant S_ .f32 0x00000000#32)
def sinSecond : FVec Ideal S8192x128 .f32 := marked second (picked (Host.sin angles)) (constant S_ .f32 0x00000000#32)

/-- One word for each of 256 lanes. -/
def every (z : IVec S_ 32) : IVec S256 32 := broadcastInDim S256 ![] bcast_S_S256 z

/-- The lanes' heads. -/
def head : IVec S256 32 :=
  select (andi (cmpi .ne (signi (iotaInDim S256 32 0)) (broadcastInDim S256 ![] bcast_S_S256 (signi (constantI S_ 32 64#32))))
      (cmpi .ne (Host.remsi (iotaInDim S256 32 0) (every (constantI S_ 32 64#32))) (every (constantI S_ 32 0#32))))
    (subi (Host.divsi (iotaInDim S256 32 0) (every (constantI S_ 32 64#32))) (every (constantI S_ 32 1#32)))
    (Host.divsi (iotaInDim S256 32 0) (every (constantI S_ 32 64#32)))

/-- One sixty-fourth where two lanes lie in one head. -/
def means : FVec Ideal S256x256 .bf16 :=
  mulf (uitofp .bf16 (cmpi .eq (broadcastInDim S256x256 ![0, 1] bcast_S256x1_S256x256_0_1 (broadcastInDim S256x1 ![0] bcast_S256_S256x1_0 head))
      (broadcastInDim S256x256 ![0, 1] bcast_S1x256_S256x256_0_1 (broadcastInDim S1x256 ![1] bcast_S256_S1x256_1 head))))
    (broadcastInDim S256x256 ![] bcast_S_S256x256 (constant S_ .bf16 0x3C80#16))

theorem lane_apply : ∀ l : Fin 128, lane (ix1 l) = BitVec.ofNat 32 (l.val % 64) := by decide +kernel
theorem angle_apply : ∀ l : Fin 128, angle (ix1 l) = BitVec.ofNat 32 (l.val % 8) := by decide +kernel
theorem start_apply : ∀ l : Fin 128, (start (ix2 l 0)).toInt.toNat = l.val % 8 := by decide +kernel
theorem first_apply : ∀ l : Fin 128, first (ix1 l) = if l.val % 64 < 8 then 1#1 else 0#1 := by decide +kernel
theorem both_apply : ∀ l : Fin 128, both (ix1 l) = if l.val % 64 < 16 then 1#1 else 0#1 := by decide +kernel
theorem second_apply : ∀ l : Fin 128, second (ix1 l) = if 8 ≤ l.val % 64 ∧ l.val % 64 < 16 then 1#1 else 0#1 := by decide +kernel
theorem head_apply : ∀ d : Fin 256, head (ix1 d) = BitVec.ofNat 32 (d.val / 64) := by decide +kernel

theorem picked_apply (x : FVec Ideal S8192x8 .f32) (p : Fin 8192) (l : Fin 128) : picked x (ix2 p l) = x (ix2 p (turn l.val)) := by
  unfold picked Host.gather
  congr 1
  funext a
  refine Fin.ext ?_
  match a with
  | ⟨0, _⟩ =>
    show GatherDims.start _ (ix2 p l) start 0 + GatherDims.batchCoord _ (ix2 p l) 0 + GatherDims.offCoord _ (ix2 p l) 0 = _
    rw [GatherDims.batchCoord_eq_zero _ _ _ List.not_mem_nil]
    unfold GatherDims.start
    rw [dif_neg (show ¬ (0 : Fin 2) ∈ gather_S8192x8_S128x1_S8192x128_0_1_n_n_1_1_81921.startIndexMap by decide)]
    rw [Nat.zero_add]
    rfl
  | ⟨1, _⟩ =>
    show GatherDims.start _ (ix2 p l) start 1 + GatherDims.batchCoord _ (ix2 p l) 1 + GatherDims.offCoord _ (ix2 p l) 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S8192x8_S128x1_S8192x128_0_1_n_n_1_1_81921.startIndexMap from List.mem_singleton.mpr rfl)]
    have hs : gather_S8192x8_S128x1_S8192x128_0_1_n_n_1_1_81921.siIdx (ix2 p l) ⟨List.idxOf (1 : Fin 2) gather_S8192x8_S128x1_S8192x128_0_1_n_n_1_1_81921.startIndexMap,
        List.idxOf_lt_length_iff.2 (List.mem_singleton.mpr rfl)⟩ = ix2 l 0 := by
      funext b
      refine Fin.ext ?_
      match b with
      | ⟨0, _⟩ => rfl
      | ⟨1, _⟩ => rfl
    rw [hs]
    show min (start (ix2 l 0)).toInt.toNat 7 + 0 + 0 = l.val % 8
    rw [start_apply]
    omega

theorem marked_apply (k : IVec S128 1) (x : FVec Ideal S8192x128 .f32) (z : FVec Ideal S_ .f32) (p : Fin 8192) (l : Fin 128) :
    marked k x z (ix2 p l) = if k (ix1 l) = 1#1 then x (ix2 p l) else z ix0 := by
  pointwise [marked]
  rfl

theorem means_apply (d k : Fin 256) : means (ix2 d k) = (if d.val / 64 = k.val / 64 then 1 else 0) * Ideal.ofBits .bf16 0x3C80#16 := by
  pointwise [means]
  simp only [head_apply]
  congr 1
  have hd : (BitVec.ofNat 32 (d.val / 64) = BitVec.ofNat 32 (k.val / 64)) ↔ d.val / 64 = k.val / 64 := by
    constructor
    · intro h
      have h' := congrArg BitVec.toNat h
      simp only [BitVec.toNat_ofNat] at h'
      omega
    · intro h
      rw [h]
  by_cases h : d.val / 64 = k.val / 64
  · simp [IntOp.cmpi, h, FloatOps.uitofp]
  · simp [IntOp.cmpi, hd, h, FloatOps.uitofp]

/-- The tables at a position and a lane. -/
theorem cosTable_apply (p : Fin 8192) (l : Fin 128) : cosTable (ix2 p l) = if l.val % 64 < 16 then (Host.cos angles : FVec Ideal S8192x8 .f32) (ix2 p (turn l.val)) else 1 := by
  unfold cosTable
  rw [marked_apply, both_apply, picked_apply]
  by_cases h : l.val % 64 < 16
  · simp [h]
  · simp [h]
    pointwise
theorem sinFirst_apply (p : Fin 8192) (l : Fin 128) : sinFirst (ix2 p l) = if l.val % 64 < 8 then -(Host.sin angles : FVec Ideal S8192x8 .f32) (ix2 p (turn l.val)) else 0 := by
  unfold sinFirst
  rw [marked_apply, first_apply]
  by_cases h : l.val % 64 < 8
  · simp only [h, if_true]
    show -(picked (Host.sin angles) (ix2 p l)) = _
    rw [picked_apply]
  · simp [h]
    pointwise
theorem sinSecond_apply (p : Fin 8192) (l : Fin 128) :
    sinSecond (ix2 p l) = if 8 ≤ l.val % 64 ∧ l.val % 64 < 16 then (Host.sin angles : FVec Ideal S8192x8 .f32) (ix2 p (turn l.val)) else 0 := by
  unfold sinSecond
  rw [marked_apply, second_apply, picked_apply]
  by_cases h : 8 ≤ l.val % 64 ∧ l.val % 64 < 16
  · simp [h]
  · simp [h]
    pointwise

end Cert.Proof.Kernel3Ideal

end
-- ==== Proof.M.Host.lean ====
/- WHAT THE THIRD KERNEL'S WINDOWS READ: the arrays as the host operations leave them, and the input blocks at coordinates. -/
module

public import proofs.«01_k».proof.Proof.M.Table

@[expose] public section

set_option maxRecDepth 16384

noncomputable section

namespace Cert.Proof.Kernel3Ideal

open Cert.Kernel3Ideal Cert.Kernel3Ideal.Gen Cert.Proof.Rows
open Idealize.ShloMosaic Idealize.ShloMosaic.TcCoe Idealize.ShloMosaic.StableHlo Idealize.ShloMosaic.Pipeline

variable (m : (ℓ : Loc nD τ sig) → Buf (Elt Ideal) ℓ) (c : Dev nD)

/-- The weights as the host operations leave them. -/
def square (x : FVec Ideal S1x1024x1024 .f32) : FVec Ideal S1024x1024 .bf16 := truncf .bf16 (shapeCast S1024x1024 x shapeCasts_S1x1024x1024_S1024x1024) bitsLt_bf16_f32
def pair (x : FVec Ideal S1x1024x2048 .f32) : FVec Ideal S1024x2048 .bf16 := truncf .bf16 (shapeCast S1024x2048 x shapeCasts_S1x1024x2048_S1024x2048) bitsLt_bf16_f32
def wide (x : FVec Ideal S2x1024x1024 .f32) : FVec Ideal S1x1024x1024 .f32 := extractStridedSlice S1x1024x1024 ![0, 0, 0] x slices_S2x1024x1024_S1x1024x1024_0_0_0
def short (x : FVec Ideal S2x256x1024 .f32) : FVec Ideal S256x1024 .bf16 :=
  truncf .bf16 (shapeCast S256x1024 (extractStridedSlice S1x256x1024 ![0, 0, 0] x slices_S2x256x1024_S1x256x1024_0_0_0) shapeCasts_S1x256x1024_S256x1024) bitsLt_bf16_f32
def again (x : FVec Ideal S1x1024 .f32) : FVec Ideal S1x1024 .f32 := shapeCast S1x1024 (shapeCast S1024 x shapeCasts_S1x1024_S1024) shapeCasts_S1024_S1x1024
def gain (x : FVec Ideal S2x1024 .f32) : FVec Ideal S1x1024 .f32 := again (extractStridedSlice S1x1024 ![0, 0] x slices_S2x1024_S1x1024_0_0)
def next (x : FVec Ideal S2x1024 .f32) : FVec Ideal S1x1024 .f32 := again (extractStridedSlice S1x1024 ![1, 0] x slices_S2x1024_S1x1024_1_0)
def flat (x : FVec Ideal S1024 .f32) : FVec Ideal S1x1024 .f32 := shapeCast S1x1024 x shapeCasts_S1024_S1x1024
def narrow (x : FVec Ideal S1024x2048 .f32) : FVec Ideal S1024x2048 .bf16 := truncf .bf16 x bitsLt_bf16_f32

theorem square_apply (x) (d n : Fin 1024) : square x (ix2 d n) = x (ix3 0 d n) := by
  pointwise [square]
theorem pair_apply (x) (d : Fin 1024) (n : Fin 2048) : pair x (ix2 d n) = x (ix3 0 d n) := by
  pointwise [pair]
theorem wide_apply (x) (d n : Fin 1024) : wide x (ix3 0 d n) = x (ix3 0 d n) := by
  pointwise [wide]
theorem short_apply (x) (d : Fin 256) (n : Fin 1024) : short x (ix2 d n) = x (ix3 0 d n) := by
  pointwise [short]
theorem again_apply (x) (n : Fin 1024) : again x (ix2 0 n) = x (ix2 0 n) := by
  pointwise [again]
theorem gain_apply (x) (n : Fin 1024) : gain x (ix2 0 n) = x (ix2 0 n) := by
  pointwise [gain, again]
theorem next_apply (x) (n : Fin 1024) : next x (ix2 0 n) = x (ix2 1 n) := by
  pointwise [next, again]
theorem flat_apply (x) (n : Fin 1024) : flat x (ix2 0 n) = x (ix1 n) := by
  pointwise [flat]
theorem narrow_apply (x) (d : Fin 1024) (n : Fin 2048) : narrow x (ix2 d n) = x (ix2 d n) := by
  pointwise [narrow]

theorem V_means : V m c main_v64 = means := by
  show StableHlo.after (List.flatten _) (fun b => m (c, b)) main_v64 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_lg : V m c main_v66 = again (m ((c : Thread nD τ).loc main_arg5)) := by
  show StableHlo.after (List.flatten _) (fun b => m (c, b)) main_v66 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_lb : V m c main_v68 = again (m ((c : Thread nD τ).loc main_arg6)) := by
  show StableHlo.after (List.flatten _) (fun b => m (c, b)) main_v68 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_w : V m c main_v70 = square (m ((c : Thread nD τ).loc main_arg7)) := by
  show StableHlo.after (List.flatten _) (fun b => m (c, b)) main_v70 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_np : V m c main_v73 = gain (m ((c : Thread nD τ).loc main_arg8)) := by
  show StableHlo.after (List.flatten _) (fun b => m (c, b)) main_v73 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_wp : V m c main_v76 = short (m ((c : Thread nD τ).loc main_arg9)) := by
  show StableHlo.after (List.flatten _) (fun b => m (c, b)) main_v76 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_wg : V m c main_v79 = square (wide (m ((c : Thread nD τ).loc main_arg10))) := by
  show StableHlo.after (List.flatten _) (fun b => m (c, b)) main_v79 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_nl : V m c main_v82 = gain (m ((c : Thread nD τ).loc main_arg11)) := by
  show StableHlo.after (List.flatten _) (fun b => m (c, b)) main_v82 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_kn : V m c main_v83 = flat (m ((c : Thread nD τ).loc main_arg12)) := by
  show StableHlo.after (List.flatten _) (fun b => m (c, b)) main_v83 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_kw : V m c main_v84 = narrow (m ((c : Thread nD τ).loc main_arg13)) := by
  show StableHlo.after (List.flatten _) (fun b => m (c, b)) main_v84 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_qn : V m c main_v87 = next (m ((c : Thread nD τ).loc main_arg14)) := by
  show StableHlo.after (List.flatten _) (fun b => m (c, b)) main_v87 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_qw : V m c main_v89 = pair (m ((c : Thread nD τ).loc main_arg15)) := by
  show StableHlo.after (List.flatten _) (fun b => m (c, b)) main_v89 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_cos : V m c main_v38 = cosTable := by
  show StableHlo.after (List.flatten _) (fun b => m (c, b)) main_v38 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_sin1 : V m c main_v49 = sinFirst := by
  show StableHlo.after (List.flatten _) (fun b => m (c, b)) main_v49 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl
theorem V_sin2 : V m c main_v62 = sinSecond := by
  show StableHlo.after (List.flatten _) (fun b => m (c, b)) main_v62 = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, TRef.nullary, TRef.binary, TRef.ternary, TRef.unary, TRef.toBuf, TRef.ofBuf, cast_eq]
  after_results_simp <;> rfl

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16, 0] := (by decide +kernel : ∀ t : Fin grid0.N, _)
theorem idx2 : ∀ t : Fin cfg0.N, win0_2.index t = ![t.val / 16, t.val % 16, 0] := (by decide +kernel : ∀ t : Fin grid0.N, _)
theorem idx3 : ∀ t : Fin cfg0.N, win0_3.index t = ![t.val / 16, t.val % 16, 0] := (by decide +kernel : ∀ t : Fin grid0.N, _)
theorem idx4 : ∀ t : Fin cfg0.N, win0_4.index t = ![0, t.val / 16, t.val % 16, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val % 16, 0] := (by decide +kernel : ∀ t : Fin grid0.N, _)
theorem idx18 : ∀ t : Fin cfg0.N, win0_18.index t = ![t.val % 16, 0] := (by decide +kernel : ∀ t : Fin grid0.N, _)
theorem idx19 : ∀ t : Fin cfg0.N, win0_19.index t = ![t.val % 16, 0] := (by decide +kernel : ∀ t : Fin grid0.N, _)
theorem idx20 : ∀ t : Fin cfg0.N, win0_20.index t = ![t.val / 16, t.val % 16, 0] := (by decide +kernel : ∀ t : Fin grid0.N, _)
theorem idx21 : ∀ t : Fin cfg0.N, win0_21.index t = ![t.val / 16, t.val % 16, 0] := (by decide +kernel : ∀ t : Fin grid0.N, _)
theorem idx22 : ∀ t : Fin cfg0.N, win0_22.index t = ![t.val / 16, t.val % 16, 0] := (by decide +kernel : ∀ t : Fin grid0.N, _)
theorem idx23 : ∀ t : Fin cfg0.N, win0_23.index t = ![t.val / 16, t.val % 16, 0] := (by decide +kernel : ∀ t : Fin grid0.N, _)
theorem idx24 : ∀ t : Fin cfg0.N, win0_24.index t = ![t.val / 16, t.val % 16, 0] := (by decide +kernel : ∀ t : Fin grid0.N, _)

section
variable (t : Fin cfg0.N) (b : Fin 8) (p : Fin 8192) (j : Fin 512) (hb : b.val = t.val / 16) (hp : p.val = t.val % 16 * 512 + j.val)
include hb hp

theorem iblk_y (d : Fin 1024) : (iblk m c 0 t : FVec Ideal S1x512x1024 .bf16) (ix3 0 j d) = (m ((c : Thread nD τ).loc main_arg0) : FVec Ideal S8x8192x1024 .bf16) (ix3 b p d) := by
  blk_simp [iblk]
  rw [V_main_arg0]
  congr 1
  blk_ext [idx0]
theorem iblk_g (d : Fin 1024) : (iblk m c 1 t : FVec Ideal S1x512x1024 .bf16) (ix3 0 j d) = (m ((c : Thread nD τ).loc main_arg1) : FVec Ideal S8x8192x1024 .bf16) (ix3 b p d) := by
  blk_simp [iblk]
  rw [V_main_arg1]
  congr 1
  blk_ext [idx1]
theorem iblk_e (d : Fin 1024) : (iblk m c 2 t : FVec Ideal S1x512x1024 .bf16) (ix3 0 j d) = (m ((c : Thread nD τ).loc main_arg2) : FVec Ideal S8x8192x1024 .bf16) (ix3 b p d) := by
  blk_simp [iblk]
  rw [V_main_arg2]
  congr 1
  blk_ext [idx2]
theorem iblk_x (d : Fin 1024) : (iblk m c 3 t : FVec Ideal S1x512x1024 .f32) (ix3 0 j d) = (m ((c : Thread nD τ).loc main_arg3) : FVec Ideal S8x8192x1024 .f32) (ix3 b p d) := by
  blk_simp [iblk]
  rw [V_main_arg3]
  congr 1
  blk_ext [idx3]
theorem iblk_p (d : Fin 256) : (iblk m c 4 t : FVec Ideal S1x1x512x256 .f32) (ix4 0 0 j d) = (m ((c : Thread nD τ).loc main_arg4) : FVec Ideal S2x8x8192x256 .f32) (ix4 0 b p d) := by
  blk_simp [iblk]
  rw [V_main_arg4]
  congr 1
  blk_ext [idx4]
end

section
variable (t : Fin cfg0.N) (p : Fin 8192) (j : Fin 512) (hp : p.val = t.val % 16 * 512 + j.val)
include hp

theorem iblk_cos (l : Fin 128) : (iblk m c 17 t : FVec Ideal S512x128 .f32) (ix2 j l) = cosTable (ix2 p l) := by
  blk_simp [iblk]
  rw [V_cos]
  congr 1
  blk_ext [idx17]
theorem iblk_sin1 (l : Fin 128) : (iblk m c 18 t : FVec Ideal S512x128 .f32) (ix2 j l) = sinFirst (ix2 p l) := by
  blk_simp [iblk]
  rw [V_sin1]
  congr 1
  blk_ext [idx18]
theorem iblk_sin2 (l : Fin 128) : (iblk m c 19 t : FVec Ideal S512x128 .f32) (ix2 j l) = sinSecond (ix2 p l) := by
  blk_simp [iblk]
  rw [V_sin2]
  congr 1
  blk_ext [idx19]
end

theorem iblk_means (t : Fin cfg0.N) (d k : Fin 256) : (iblk m c 5 t : FVec Ideal S256x256 .bf16) (ix2 d k) = means (ix2 d k) := by
  blk_simp [iblk]
  rw [V_means]
  congr 1
  blk_ext [idx5]
theorem iblk_w (t : Fin cfg0.N) (d k : Fin 1024) : (iblk m c 8 t : FVec Ideal S1024x1024 .bf16) (ix2 d k) = (m ((c : Thread nD τ).loc main_arg7) : FVec Ideal S1x1024x1024 .f32) (ix3 0 d k) := by
  refine Eq.trans ?_ (square_apply _ d k)
  blk_simp [iblk]
  rw [V_w]
  congr 1
  blk_ext [idx8]
theorem iblk_wp (t : Fin cfg0.N) (d : Fin 256) (k : Fin 1024) : (iblk m c 10 t : FVec Ideal S256x1024 .bf16) (ix2 d k) = (m ((c : Thread nD τ).loc main_arg9) : FVec Ideal S2x256x1024 .f32) (ix3 0 d k) := by
  refine Eq.trans ?_ (short_apply _ d k)
  blk_simp [iblk]
  rw [V_wp]
  congr 1
  blk_ext [idx10]
theorem iblk_wg (t : Fin cfg0.N) (d k : Fin 1024) : (iblk m c 11 t : FVec Ideal S1024x1024 .bf16) (ix2 d k) = (m ((c : Thread nD τ).loc main_arg10) : FVec Ideal S2x1024x1024 .f32) (ix3 0 d k) := by
  refine Eq.trans ?_ ((square_apply _ d k).trans (wide_apply _ d k))
  blk_simp [iblk]
  rw [V_wg]
  congr 1
  blk_ext [idx11]
theorem iblk_kw (t : Fin cfg0.N) (d : Fin 1024) (k : Fin 2048) : (iblk m c 14 t : FVec Ideal S1024x2048 .bf16) (ix2 d k) = (m ((c : Thread nD τ).loc main_arg13) : FVec Ideal S1024x2048 .f32) (ix2 d k) := by
  refine Eq.trans ?_ (narrow_apply _ d k)
  blk_simp [iblk]
  rw [V_kw]
  congr 1
  blk_ext [idx14]
theorem iblk_qw (t : Fin cfg0.N) (d : Fin 1024) (k : Fin 2048) : (iblk m c 16 t : FVec Ideal S1024x2048 .bf16) (ix2 d k) = (m ((c : Thread nD τ).loc main_arg15) : FVec Ideal S1x1024x2048 .f32) (ix3 0 d k) := by
  refine Eq.trans ?_ (pair_apply _ d k)
  blk_simp [iblk]
  rw [V_qw]
  congr 1
  blk_ext [idx16]
theorem iblk_lg (t : Fin cfg0.N) (k : Fin 1024) : (iblk m c 6 t : FVec Ideal S1x1024 .f32) (ix2 0 k) = (m ((c : Thread nD τ).loc main_arg5) : FVec Ideal S1x1024 .f32) (ix2 0 k) := by
  refine Eq.trans ?_ (again_apply _ k)
  blk_simp [iblk]
  rw [V_lg]
  congr 1
  blk_ext [idx6]
theorem iblk_lb (t : Fin cfg0.N) (k : Fin 1024) : (iblk m c 7 t : FVec Ideal S1x1024 .f32) (ix2 0 k) = (m ((c : Thread nD τ).loc main_arg6) : FVec Ideal S1x1024 .f32) (ix2 0 k) := by
  refine Eq.trans ?_ (again_apply _ k)
  blk_simp [iblk]
  rw [V_lb]
  congr 1
  blk_ext [idx7]
theorem iblk_np (t : Fin cfg0.N) (k : Fin 1024) : (iblk m c 9 t : FVec Ideal S1x1024 .f32) (ix2 0 k) = (m ((c : Thread nD τ).loc main_arg8) : FVec Ideal S2x1024 .f32) (ix2 0 k) := by
  refine Eq.trans ?_ (gain_apply _ k)
  blk_simp [iblk]
  rw [V_np]
  congr 1
  blk_ext [idx9]
theorem iblk_nl (t : Fin cfg0.N) (k : Fin 1024) : (iblk m c 12 t : FVec Ideal S1x1024 .f32) (ix2 0 k) = (m ((c : Thread nD τ).loc main_arg11) : FVec Ideal S2x1024 .f32) (ix2 0 k) := by
  refine Eq.trans ?_ (gain_apply _ k)
  blk_simp [iblk]
  rw [V_nl]
  congr 1
  blk_ext [idx12]
theorem iblk_kn (t : Fin cfg0.N) (k : Fin 1024) : (iblk m c 13 t : FVec Ideal S1x1024 .f32) (ix2 0 k) = (m ((c : Thread nD τ).loc main_arg12) : FVec Ideal S1024 .f32) (ix1 k) := by
  refine Eq.trans ?_ (flat_apply _ k)
  blk_simp [iblk]
  rw [V_kn]
  congr 1
  blk_ext [idx13]
theorem iblk_qn (t : Fin cfg0.N) (k : Fin 1024) : (iblk m c 15 t : FVec Ideal S1x1024 .f32) (ix2 0 k) = (m ((c : Thread nD τ).loc main_arg14) : FVec Ideal S2x1024 .f32) (ix2 1 k) := by
  refine Eq.trans ?_ (next_apply _ k)
  blk_simp [iblk]
  rw [V_qn]
  congr 1
  blk_ext [idx15]

end Cert.Proof.Kernel3Ideal

end
-- ==== Proof.M.Array.lean ====
/- THE THIRD KERNEL'S RESULT ARRAYS: each of their rows from the arguments' rows, and the arrays the output blocks cover. -/
module

public import proofs.«01_k».proof.Proof.M.Block
public import proofs.«01_k».proof.Proof.M.Host

@[expose] public section

set_option maxRecDepth 16384

noncomputable section

namespace Cert.Proof.Kernel3Ideal

open Cert.Kernel3Ideal Cert.Kernel3Ideal.Gen Cert.Proof.Rows
open Idealize.ShloMosaic Idealize.ShloMosaic.TcCoe Idealize.ShloMosaic.StableHlo Idealize.ShloMosaic.Pipeline

/-- An array of rows. -/
def arr (R : Fin 8 → Fin 8192 → Fin 1024 → EReal) : S8x8192x1024.Idx → EReal := fun i => R (i 0) (i 1) (i 2)

theorem arr_apply (R : Fin 8 → Fin 8192 → Fin 1024 → EReal) (z : S8x8192x1024.Idx) (b : Fin 8) (p : Fin 8192) (n : Fin 1024) (h0 : (z 0).val = b.val) (h1 : (z 1).val = p.val)
    (h2 : (z 2).val = n.val) : arr R z = R b p n := by
  have hz : z = ix3 b p n := by
    funext a
    fin_cases a
    · exact Fin.ext h0
    · exact Fin.ext h1
    · exact Fin.ext h2
  subst hz
  rfl

/-- A position's cosines and sines. -/
def cosRow (p : Fin 8192) (a : Fin 8) : EReal := (Host.cos angles : FVec Ideal S8192x8 .f32) (ix2 p a)
def sinRow (p : Fin 8192) (a : Fin 8) : EReal := (Host.sin angles : FVec Ideal S8192x8 .f32) (ix2 p a)

variable (m : (ℓ : Loc nD τ sig) → Buf (Elt Ideal) ℓ) (c : Dev nD)

/-- A row of the stream, of the keys' and values' projection, and of the queries' and gates'. -/
def hRow (b : Fin 8) (p : Fin 8192) : Fin 1024 → EReal :=
  streamRow (fun d => (m ((c : Thread nD τ).loc main_arg0) : FVec Ideal S8x8192x1024 .bf16) (ix3 b p d)) (fun d => (m ((c : Thread nD τ).loc main_arg1) : FVec Ideal S8x8192x1024 .bf16) (ix3 b p d))
    (fun d => (m ((c : Thread nD τ).loc main_arg2) : FVec Ideal S8x8192x1024 .bf16) (ix3 b p d)) (fun d => (m ((c : Thread nD τ).loc main_arg3) : FVec Ideal S8x8192x1024 .f32) (ix3 b p d))
    (fun d => (m ((c : Thread nD τ).loc main_arg4) : FVec Ideal S2x8x8192x256 .f32) (ix4 0 b p d)) (fun d => (m ((c : Thread nD τ).loc main_arg5) : FVec Ideal S1x1024 .f32) (ix2 0 d)) (fun d => (m ((c : Thread nD τ).loc main_arg6) : FVec Ideal S1x1024 .f32) (ix2 0 d))
    (fun d n => (m ((c : Thread nD τ).loc main_arg7) : FVec Ideal S1x1024x1024 .f32) (ix3 0 d n)) (fun d => (m ((c : Thread nD τ).loc main_arg8) : FVec Ideal S2x1024 .f32) (ix2 0 d))
    (fun d n => (m ((c : Thread nD τ).loc main_arg9) : FVec Ideal S2x256x1024 .f32) (ix3 0 d n)) (fun d n => (m ((c : Thread nD τ).loc main_arg10) : FVec Ideal S2x1024x1024 .f32) (ix3 0 d n))
    (fun d => (m ((c : Thread nD τ).loc main_arg11) : FVec Ideal S2x1024 .f32) (ix2 0 d))
def kvRow (b : Fin 8) (p : Fin 8192) : Fin 2048 → EReal := proj (hRow m c b p) (fun d => (m ((c : Thread nD τ).loc main_arg12) : FVec Ideal S1024 .f32) (ix1 d)) (fun d k => (m ((c : Thread nD τ).loc main_arg13) : FVec Ideal S1024x2048 .f32) (ix2 d k))
def qgRow (b : Fin 8) (p : Fin 8192) : Fin 2048 → EReal := proj (hRow m c b p) (fun d => (m ((c : Thread nD τ).loc main_arg14) : FVec Ideal S2x1024 .f32) (ix2 1 d)) (fun d k => (m ((c : Thread nD τ).loc main_arg15) : FVec Ideal S1x1024x2048 .f32) (ix3 0 d k))

/-- A row of each result after the stream. -/
def qRow (b : Fin 8) (p : Fin 8192) (n : Fin 1024) : EReal := rotated (cosRow p) (sinRow p) (left (qgRow m c b p)) n * Ideal.ofBits .f32 0x3E38AA3B#32
def kRow (b : Fin 8) (p : Fin 8192) (n : Fin 1024) : EReal := rotated (cosRow p) (sinRow p) (left (kvRow m c b p)) n
def vRow (b : Fin 8) (p : Fin 8192) (n : Fin 1024) : EReal := right (kvRow m c b p) n
def gRow (b : Fin 8) (p : Fin 8192) (n : Fin 1024) : EReal := right (qgRow m c b p) n

theorem ones (t : Fin cfg0.N) (d k : Fin 256) : (iblk m c 5 t : FVec Ideal S256x256 .bf16) (ix2 d k) = (if d.val / 64 = k.val / 64 then 1 else 0) * Ideal.ofBits .bf16 0x3C80#16 :=
  (iblk_means m c t d k).trans (means_apply d k)

section
variable (t : Fin cfg0.N) (b : Fin 8) (p : Fin 8192) (j : Fin 512) (hb : b.val = t.val / 16) (hp : p.val = t.val % 16 * 512 + j.val)

include hb hp in
theorem rows : blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j = hRow m c b p := by
  unfold blockRow hRow
  simp only [iblk_y m c t b p j hb hp, iblk_g m c t b p j hb hp, iblk_e m c t b p j hb hp, iblk_x m c t b p j hb hp, iblk_p m c t b p j hb hp, iblk_lg, iblk_lb, iblk_w, iblk_np, iblk_wp, iblk_wg, iblk_nl]

include hp in
theorem turns (x : Fin 1024 → EReal) (n : Fin 1024) :
    rolled (fun l => (iblk m c 17 t : FVec Ideal S512x128 .f32) (ix2 j l)) (fun l => (iblk m c 18 t : FVec Ideal S512x128 .f32) (ix2 j l)) (fun l => (iblk m c 19 t : FVec Ideal S512x128 .f32) (ix2 j l)) x n =
      rotated (cosRow p) (sinRow p) x n :=
  rolled_eq (cosRow p) (sinRow p) x n _ _ _ (fun l => (iblk_cos m c t p j hp l).trans (cosTable_apply p l)) (fun l => (iblk_sin1 m c t p j hp l).trans (sinFirst_apply p l))
    (fun l => (iblk_sin2 m c t p j hp l).trans (sinSecond_apply p l))
end

/-- The array of window 20 at the end of the run. -/
theorem array_h : (dats m 0 c).arrAt 20 cfg0.N = arr (hRow m c) := by
  refine (dats m 0 c).arrAt_eq_of_covers 20 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_20]
  refine (block_h _ _ _ _ _ _ _ _ _ _ _ _ _ _ _ _ _ _ _ _ y j n hj hn (ones m c t)).trans ?_
  refine Eq.trans ?_ (arr_apply (hRow m c) _ b p n ?_ ?_ ?_).symm
  · rw [rows m c t b p j hb hp]
  · blk_simp [idx20]
    omega
  · blk_simp [idx20]
    omega
  · blk_simp [idx20]
    omega

/-- The array of window 21 at the end of the run. -/
theorem array_q : (dats m 0 c).arrAt 21 cfg0.N = arr (qRow m c) := by
  refine (dats m 0 c).arrAt_eq_of_covers 21 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_21]
  refine (block_q _ _ _ _ _ _ _ _ _ _ _ _ _ _ _ _ _ _ _ _ y j n hj hn (ones m c t)).trans ?_
  refine Eq.trans ?_ (arr_apply (qRow m c) _ b p n ?_ ?_ ?_).symm
  · rw [rows m c t b p j hb hp]
    rw [turns m c t p j hp]
    simp only [iblk_qn, iblk_qw]
    rfl
  · blk_simp [idx21]
    omega
  · blk_simp [idx21]
    omega
  · blk_simp [idx21]
    omega

/-- The array of window 22 at the end of the run. -/
theorem array_k : (dats m 0 c).arrAt 22 cfg0.N = arr (kRow m c) := by
  refine (dats m 0 c).arrAt_eq_of_covers 22 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_22]
  refine (block_k _ _ _ _ _ _ _ _ _ _ _ _ _ _ _ _ _ _ _ _ y j n hj hn (ones m c t)).trans ?_
  refine Eq.trans ?_ (arr_apply (kRow m c) _ b p n ?_ ?_ ?_).symm
  · rw [rows m c t b p j hb hp]
    rw [turns m c t p j hp]
    simp only [iblk_kn, iblk_kw]
    rfl
  · blk_simp [idx22]
    omega
  · blk_simp [idx22]
    omega
  · blk_simp [idx22]
    omega

/-- The array of window 23 at the end of the run. -/
theorem array_v : (dats m 0 c).arrAt 23 cfg0.N = arr (vRow m c) := by
  refine (dats m 0 c).arrAt_eq_of_covers 23 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_23]
  refine (block_v _ _ _ _ _ _ _ _ _ _ _ _ _ _ _ _ _ _ _ _ y j n hj hn (ones m c t)).trans ?_
  refine Eq.trans ?_ (arr_apply (vRow m c) _ b p n ?_ ?_ ?_).symm
  · rw [rows m c t b p j hb hp]
    simp only [iblk_kn, iblk_kw]
    rfl
  · blk_simp [idx23]
    omega
  · blk_simp [idx23]
    omega
  · blk_simp [idx23]
    omega

/-- The array of window 24 at the end of the run. -/
theorem array_g : (dats m 0 c).arrAt 24 cfg0.N = arr (gRow m c) := by
  refine (dats m 0 c).arrAt_eq_of_covers 24 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_24]
  refine (block_g _ _ _ _ _ _ _ _ _ _ _ _ _ _ _ _ _ _ _ _ y j n hj hn (ones m c t)).trans ?_
  refine Eq.trans ?_ (arr_apply (gRow m c) _ b p n ?_ ?_ ?_).symm
  · rw [rows m c t b p j hb hp]
    simp only [iblk_qn, iblk_qw]
    rfl
  · blk_simp [idx24]
    omega
  · blk_simp [idx24]
    omega
  · blk_simp [idx24]
    omega

end Cert.Proof.Kernel3Ideal

end
-- ==== Proof.M.Ref.lean ====
/- THE THIRD REFERENCE'S STREAM, stage by stage, read at coordinates. -/
module

public import proofs.«01_k».proof.Proof.M.Row
public import proofs.«01_k».proof.Proof.Gen.Reference3Ideal.Run
public import Idealize.ShloMosaic.Lib.Pipeline.ValueKit

@[expose] public section

set_option maxRecDepth 16384

noncomputable section

namespace Cert.Proof.Reference3Ideal

open Cert.Reference3Ideal Cert.Reference3Ideal.Gen Cert.Reference3Ideal.Value Cert.Proof.Rows
open Idealize.ShloMosaic Idealize.ShloMosaic.TcCoe Idealize.ShloMosaic.StableHlo

abbrev Stream := FVec Ideal S8x8192x1024 .f32
abbrev Heads := FVec Ideal S8x8192x16x64 .f32

def onesOf : Stream := broadcastInDim S8x8192x1024 ![] bcast_S_S8x8192x1024 (constant S_ .f32 0x3F800000#32)

/-- The logistic function of every entry. -/
def logis (x : Stream) : Stream := Host.divf onesOf (addf onesOf (Host.exp (Host.negf x)))

def widen (x : FVec Ideal S8x8192x1024 .bf16) : Stream := extf .f32 x bitsLt_bf16_f32

/-- Rows by heads, and back. -/
def split (x : Stream) : Heads := shapeCast _ x shapeCasts_S8x8192x1024_S8x8192x16x64
def join (x : Heads) : Stream := shapeCast _ x shapeCasts_S8x8192x16x64_S8x8192x1024

/-- The heads' means. -/
def meanOf (y : Heads) : FVec Ideal S8x8192x16x1 .f32 :=
  Host.divf (broadcastInDim S8x8192x16x1 ![0, 1, 2] bcast_S8x8192x16_S8x8192x16x1_0_1_2 (Host.reduceAdd y (constant S_ .f32 0x00000000#32) reducesTo_S8x8192x16x64_S8x8192x16_d3 h_S_)) (broadcastInDim S8x8192x16x1 ![] bcast_S_S8x8192x16x1 (constant S_ .f32 0x42800000#32))
def overHead (y : FVec Ideal S8x8192x16x1 .f32) : Heads := broadcastInDim S8x8192x16x64 ![0, 1, 2, 3] bcast_S8x8192x16x1_S8x8192x16x64_0_1_2_3 y
def centredOf (y : Heads) : Heads := subf y (overHead (meanOf y))
def lanesOf (x : FVec Ideal S1x1024 .f32) : Heads :=
  broadcastInDim S8x8192x16x64 ![0, 1, 2, 3] bcast_S1x1x16x64_S8x8192x16x64_0_1_2_3 (broadcastInDim S1x1x16x64 ![2, 3] bcast_S16x64_S1x1x16x64_2_3 (shapeCast _ (shapeCast _ x shapeCasts_S1x1024_S1024 : FVec Ideal S1024 .f32) shapeCasts_S1024_S16x64))
def headNormOf (y : Heads) (lg lb : FVec Ideal S1x1024 .f32) : Heads :=
  addf (mulf (mulf (centredOf y) (overHead (Host.rsqrt (addf (meanOf (mulf (centredOf y) (centredOf y))) (broadcastInDim S8x8192x16x1 ![] bcast_S_S8x8192x16x1 (constant S_ .f32 0x3A27C5AC#32)))))) (lanesOf lg)) (lanesOf lb)

def mixedOf (y : FVec Ideal S8x8192x1024 .bf16) (lg lb : FVec Ideal S1x1024 .f32) (e : FVec Ideal S8x8192x1024 .bf16) : Stream := addf (join (headNormOf (split (widen y)) lg lb)) (widen e)

def gated (o g : Stream) : Stream := mulf o (mulf g (logis g))

def square (x : FVec Ideal S1x1024x1024 .f32) : FVec Ideal S1024x1024 .f32 := shapeCast _ x shapeCasts_S1x1024x1024_S1024x1024
def wide (x : FVec Ideal S2x1024x1024 .f32) : FVec Ideal S1x1024x1024 .f32 := extractStridedSlice S1x1024x1024 ![0, 0, 0] x slices_S2x1024x1024_S1x1024x1024_0_0_0
def gain (x : FVec Ideal S2x1024 .f32) : FVec Ideal S1024 .f32 := shapeCast _ (extractStridedSlice S1x1024 ![0, 0] x slices_S2x1024_S1x1024_0_0) shapeCasts_S1x1024_S1024
def next (x : FVec Ideal S2x1024 .f32) : FVec Ideal S1024 .f32 := shapeCast _ (extractStridedSlice S1x1024 ![1, 0] x slices_S2x1024_S1x1024_1_0) shapeCasts_S1x1024_S1024
def rowsOf (x : FVec Ideal S2x8x8192x256 .f32) : FVec Ideal S8x8192x256 .f32 := shapeCast _ (extractStridedSlice S1x8x8192x256 ![0, 0, 0, 0] x slices_S2x8x8192x256_S1x8x8192x256_0_0_0_0) shapeCasts_S1x8x8192x256_S8x8192x256
def short (x : FVec Ideal S2x256x1024 .f32) : FVec Ideal S256x1024 .f32 := shapeCast _ (extractStridedSlice S1x256x1024 ![0, 0, 0] x slices_S2x256x1024_S1x256x1024_0_0_0) shapeCasts_S1x256x1024_S256x1024
def pair (x : FVec Ideal S1x1024x2048 .f32) : FVec Ideal S1024x2048 .f32 := shapeCast _ x shapeCasts_S1x1024x2048_S1024x2048

def through (x : Stream) (w : FVec Ideal S1024x1024 .f32) : Stream := Host.dotGeneral dot_S8x8192x1024_S1024x1024_S8x8192x1024_2_0_01_1_n_n none x w
def throughP (x : FVec Ideal S8x8192x256 .f32) (w : FVec Ideal S256x1024 .f32) : Stream := Host.dotGeneral dot_S8x8192x256_S256x1024_S8x8192x1024_2_0_01_1_n_n none x w
def throughW (x : Stream) (w : FVec Ideal S1024x2048 .f32) : FVec Ideal S8x8192x2048 .f32 := Host.dotGeneral dot_S8x8192x1024_S1024x2048_S8x8192x2048_2_0_01_1_n_n none x w

/-- Every row over the root of its mean square, times a gain. -/
def normRows (y : Stream) (g : FVec Ideal S1024 .f32) : Stream :=
  mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

def firstOf (o g h : Stream) (w : FVec Ideal S1x1024x1024 .f32) (np : FVec Ideal S2x1024 .f32) : Stream := addf h (normRows (through (gated o g) (square w)) (gain np))
def secondOf (s : Stream) (p : FVec Ideal S2x8x8192x256 .f32) (wp : FVec Ideal S2x256x1024 .f32) (wg : FVec Ideal S2x1024x1024 .f32) (nl : FVec Ideal S2x1024 .f32) : Stream :=
  addf s (normRows (mulf (logis (through s (square (wide wg)))) (throughP (rowsOf p) (short wp))) (gain nl))

variable (b : Fin 8) (p : Fin 8192) (n : Fin 1024)

/-- The lane of a head's lane. -/
def at64 (h : Fin 16) (e : Fin 64) : Fin 1024 := ⟨h.val * 64 + e.val, by omega⟩

theorem logis_apply (x : Stream) : logis x (ix3 b p n) = logi (x (ix3 b p n)) := by
  pointwise [logis, onesOf, logi]
theorem gated_apply (o g : Stream) : gated o g (ix3 b p n) = gate (fun d => o (ix3 b p d)) (fun d => g (ix3 b p d)) n := by
  pointwise [gated, gate, logis_apply]
theorem square_apply (x) (d : Fin 1024) : square x (ix2 d n) = x (ix3 0 d n) := by
  pointwise [square]
theorem wide_apply (x) (d : Fin 1024) : wide x (ix3 0 d n) = x (ix3 0 d n) := by
  pointwise [wide]
theorem gain_apply (x) : gain x (ix1 n) = x (ix2 0 n) := by
  pointwise [gain]
theorem next_apply (x) : next x (ix1 n) = x (ix2 1 n) := by
  pointwise [next]
theorem rowsOf_apply (x) (d : Fin 256) : rowsOf x (ix3 b p d) = x (ix4 0 b p d) := by
  pointwise [rowsOf]
theorem short_apply (x) (d : Fin 256) : short x (ix2 d n) = x (ix3 0 d n) := by
  pointwise [short]
theorem pair_apply (x) (d : Fin 1024) (k : Fin 2048) : pair x (ix2 d k) = x (ix3 0 d k) := by
  pointwise [pair]
theorem through_apply (x w) : through x w (ix3 b p n) = times (fun d => x (ix3 b p d)) (fun d n => w (ix2 d n)) n := by
  pointwise [through, times]
theorem throughP_apply (x w) : throughP x w (ix3 b p n) = times (fun d => x (ix3 b p d)) (fun d n => w (ix2 d n)) n := by
  pointwise [throughP, times]
theorem throughW_apply (x w) (k : Fin 2048) : throughW x w (ix3 b p k) = ∑ d : Fin 1024, x (ix3 b p d) * w (ix2 d k) := by
  pointwise [throughW]
theorem normRows_apply (y g) : normRows y g (ix3 b p n) = rms (fun n => y (ix3 b p n)) (fun n => g (ix1 n)) n := by
  pointwise [normRows, rms]

theorem split_apply (x : Stream) (h : Fin 16) (e : Fin 64) : split x (ix4 b p h e) = x (ix3 b p (at64 h e)) := by
  pointwise [split, at64]
theorem join_apply (x : Heads) : join x (ix3 b p n) = x (ix4 b p ⟨n.val / 64, by omega⟩ ⟨n.val % 64, by omega⟩) := by
  pointwise [join]
theorem lanesOf_apply (x) (h : Fin 16) (e : Fin 64) : lanesOf x (ix4 b p h e) = x (ix2 0 (at64 h e)) := by
  pointwise [lanesOf, at64]
theorem meanOf_apply (y : Heads) (h : Fin 16) : meanOf y (ix4 b p h 0) = Ideal.div (∑ j : Fin 64, y (ix4 b p h j)) (Ideal.ofBits .f32 0x42800000#32) := by
  pointwise [meanOf]
theorem overHead_apply (y) (h : Fin 16) (e : Fin 64) : overHead y (ix4 b p h e) = y (ix4 b p h 0) := by
  pointwise [overHead]

theorem headMean_eq (x : Fin 1024 → EReal) (h : Fin 16) (e : Fin 64) : headMean x (at64 h e) = Ideal.div (∑ j : Fin 64, x (at64 h j)) (Ideal.ofBits .f32 0x42800000#32) := by
  unfold headMean at64
  congr 1
  refine Finset.sum_congr rfl fun j _ => congrArg x (Fin.ext ?_)
  show (h.val * 64 + e.val) / 64 * 64 + j.val = h.val * 64 + j.val
  omega

theorem mean_row (y : Heads) (x : Fin 1024 → EReal) (hy : ∀ (h : Fin 16) (e : Fin 64), y (ix4 b p h e) = x (at64 h e)) (h : Fin 16) (e : Fin 64) :
    overHead (meanOf y) (ix4 b p h e) = headMean x (at64 h e) := by
  rw [overHead_apply, meanOf_apply, headMean_eq]
  simp only [hy]

theorem centred_row (y : Heads) (x : Fin 1024 → EReal) (hy : ∀ (h : Fin 16) (e : Fin 64), y (ix4 b p h e) = x (at64 h e)) (h : Fin 16) (e : Fin 64) :
    centredOf y (ix4 b p h e) = centred x (at64 h e) := by
  show y (ix4 b p h e) - overHead (meanOf y) (ix4 b p h e) = _
  rw [hy, mean_row b p y x hy]
  rfl

theorem norm_row (y : Heads) (x : Fin 1024 → EReal) (hy : ∀ (h : Fin 16) (e : Fin 64), y (ix4 b p h e) = x (at64 h e)) (lg lb) (h : Fin 16) (e : Fin 64) :
    headNormOf y lg lb (ix4 b p h e) = headNorm x (fun n => lg (ix2 0 n)) (fun n => lb (ix2 0 n)) (at64 h e) := by
  have q : meanOf (mulf (centredOf y) (centredOf y)) (ix4 b p h 0) = headMean (fun d => centred x d * centred x d) (at64 h e) := by
    refine (overHead_apply b p (meanOf (mulf (centredOf y) (centredOf y))) h e).symm.trans ?_
    exact mean_row b p _ (fun d => centred x d * centred x d) (fun h e => by
      show centredOf y (ix4 b p h e) * centredOf y (ix4 b p h e) = _
      rw [centred_row b p y x hy]) h e
  show centredOf y (ix4 b p h e) * overHead _ (ix4 b p h e) * lanesOf lg (ix4 b p h e) + lanesOf lb (ix4 b p h e) = _
  rw [centred_row b p y x hy, overHead_apply, lanesOf_apply, lanesOf_apply]
  pointwise
  rw [q]
  rfl

theorem mixedOf_apply (y : FVec Ideal S8x8192x1024 .bf16) (lg lb) (e : FVec Ideal S8x8192x1024 .bf16) :
    mixedOf y lg lb e (ix3 b p n) = mixed (fun d => y (ix3 b p d)) (fun n => lg (ix2 0 n)) (fun n => lb (ix2 0 n)) (fun d => e (ix3 b p d)) n := by
  have hn : at64 ⟨n.val / 64, by omega⟩ ⟨n.val % 64, by omega⟩ = n := Fin.ext (by show n.val / 64 * 64 + n.val % 64 = n.val; omega)
  show join _ (ix3 b p n) + e (ix3 b p n) = _
  rw [join_apply, norm_row b p (split (widen y)) (fun d => y (ix3 b p d)) (fun h e => split_apply b p _ h e), hn]
  rfl

theorem firstOf_apply (o g h : Stream) (w np) :
    firstOf o g h w np (ix3 b p n) = after (fun d => o (ix3 b p d)) (fun d => g (ix3 b p d)) (fun d => h (ix3 b p d)) (fun d n => w (ix3 0 d n)) (fun n => np (ix2 0 n)) n := by
  show h (ix3 b p n) + normRows _ _ (ix3 b p n) = _
  simp only [normRows_apply, through_apply, gated_apply, square_apply, gain_apply]
  rfl

theorem secondOf_apply (s : Stream) (q : FVec Ideal S2x8x8192x256 .f32) (wp : FVec Ideal S2x256x1024 .f32) (wg : FVec Ideal S2x1024x1024 .f32) (nl : FVec Ideal S2x1024 .f32) :
    secondOf s q wp wg nl (ix3 b p n) = plus (fun d => s (ix3 b p d)) (fun d => q (ix4 0 b p d)) (fun d n => wp (ix3 0 d n)) (fun d n => wg (ix3 0 d n)) (fun n => nl (ix2 0 n)) n := by
  have e : ∀ n : Fin 1024, mulf (logis (through s (square (wide wg)))) (throughP (rowsOf q) (short wp)) (ix3 b p n) =
      embed (fun d => s (ix3 b p d)) (fun d => q (ix4 0 b p d)) (fun d n => wp (ix3 0 d n)) (fun d n => wg (ix3 0 d n)) n := fun n => by
    show logis _ (ix3 b p n) * throughP _ _ (ix3 b p n) = _
    simp only [logis_apply, through_apply, throughP_apply, square_apply, wide_apply, rowsOf_apply, short_apply]
    rfl
  show s (ix3 b p n) + normRows _ _ (ix3 b p n) = _
  simp only [normRows_apply, gain_apply, e]
  rfl

theorem proj_apply (s : Stream) (g : FVec Ideal S1024 .f32) (w : FVec Ideal S1024x2048 .f32) (k : Fin 2048) :
    throughW (normRows s g) w (ix3 b p k) = proj (fun d => s (ix3 b p d)) (fun d => g (ix1 d)) (fun d k => w (ix2 d k)) k := by
  rw [throughW_apply]
  simp only [normRows_apply]
  rfl

end Cert.Proof.Reference3Ideal

end
-- ==== Proof.M.RefTurn.lean ====
/- THE THIRD REFERENCE'S ROTATION, read at coordinates. -/
module

public import proofs.«01_k».proof.Proof.M.Ref

@[expose] public section

set_option maxRecDepth 16384

noncomputable section

namespace Cert.Proof.Reference3Ideal

open Cert.Reference3Ideal Cert.Reference3Ideal.Gen Cert.Reference3Ideal.Value Cert.Proof.Rows
open Idealize.ShloMosaic Idealize.ShloMosaic.TcCoe Idealize.ShloMosaic.StableHlo

/-- The first half of the projection's lanes by pairs of heads, and the lanes of a pair's head that turn. -/
def leftOf (x : FVec Ideal S8x8192x2048 .f32) : Stream := extractStridedSlice S8x8192x1024 ![0, 0, 0] x slices_S8x8192x2048_S8x8192x1024_0_0_0
def rightOf (x : FVec Ideal S8x8192x2048 .f32) : Stream := extractStridedSlice S8x8192x1024 ![0, 0, 1024] x slices_S8x8192x2048_S8x8192x1024_0_0_1024
def pairs (x : Stream) : FVec Ideal S8x8192x8x2x64 .f32 := shapeCast _ x shapeCasts_S8x8192x1024_S8x8192x8x2x64
def flat (x : FVec Ideal S8x8192x8x2x64 .f32) : Stream := shapeCast _ x shapeCasts_S8x8192x8x2x64_S8x8192x1024
def lowOf (x : FVec Ideal S8x8192x8x2x64 .f32) : FVec Ideal S8x8192x8x2x8 .f32 := extractStridedSlice S8x8192x8x2x8 ![0, 0, 0, 0, 0] x slices_S8x8192x8x2x64_S8x8192x8x2x8_0_0_0_0_0
def highOf (x : FVec Ideal S8x8192x8x2x64 .f32) : FVec Ideal S8x8192x8x2x8 .f32 := extractStridedSlice S8x8192x8x2x8 ![0, 0, 0, 0, 8] x slices_S8x8192x8x2x64_S8x8192x8x2x8_0_0_0_0_8
def stillOf (x : FVec Ideal S8x8192x8x2x64 .f32) : FVec Ideal S8x8192x8x2x48 .f32 := extractStridedSlice S8x8192x8x2x48 ![0, 0, 0, 0, 16] x slices_S8x8192x8x2x64_S8x8192x8x2x48_0_0_0_0_16
def perPair (x : FVec Ideal S8192x8 .f32) : FVec Ideal S8x8192x8x2x8 .f32 := broadcastInDim S8x8192x8x2x8 ![0, 1, 2, 3, 4] bcast_S1x8192x1x1x8_S8x8192x8x2x8_0_1_2_3_4 (broadcastInDim S1x8192x1x1x8 ![1, 4] bcast_S8192x8_S1x8192x1x1x8_1_4 x)

def lowTurned (c s : FVec Ideal S8192x8 .f32) (x : FVec Ideal S8x8192x8x2x64 .f32) : FVec Ideal S8x8192x8x2x8 .f32 := subf (mulf (lowOf x) (perPair c)) (mulf (highOf x) (perPair s))
def highTurned (c s : FVec Ideal S8192x8 .f32) (x : FVec Ideal S8x8192x8x2x64 .f32) : FVec Ideal S8x8192x8x2x8 .f32 := addf (mulf (highOf x) (perPair c)) (mulf (lowOf x) (perPair s))

def turned (c s : FVec Ideal S8192x8 .f32) (x : FVec Ideal S8x8192x8x2x64 .f32) : FVec Ideal S8x8192x8x2x64 .f32 :=
  concatenate S8x8192x8x2x64 4 [⟨S8x8192x8x2x8, lowTurned c s x⟩, ⟨S8x8192x8x2x8, highTurned c s x⟩, ⟨S8x8192x8x2x48, stillOf x⟩] concatenates_S8x8192x8x2x8_S8x8192x8x2x8_S8x8192x8x2x48_S8x8192x8x2x64_d4

variable (b : Fin 8) (p : Fin 8192) (n : Fin 1024)

/-- The lane of a pair's head's lane. -/
def at2 (g : Fin 8) (i : Fin 2) (e : Fin 64) : Fin 1024 := ⟨g.val * 128 + i.val * 64 + e.val, by omega⟩

theorem leftOf_apply (x) : leftOf x (ix3 b p n) = left (fun k => x (ix3 b p k)) n := by
  pointwise [leftOf, left]
theorem rightOf_apply (x) : rightOf x (ix3 b p n) = right (fun k => x (ix3 b p k)) n := by
  pointwise [rightOf, right]
theorem pairs_apply (x) (g : Fin 8) (i : Fin 2) (e : Fin 64) : pairs x (ix5 b p g i e) = x (ix3 b p (at2 g i e)) := by
  pointwise [pairs, at2]
theorem flat_apply (x) : flat x (ix3 b p n) = x (ix5 b p ⟨n.val / 128, by omega⟩ ⟨n.val / 64 % 2, by omega⟩ ⟨n.val % 64, by omega⟩) := by
  pointwise [flat]
theorem perPair_apply (x) (g : Fin 8) (i : Fin 2) (a : Fin 8) : perPair x (ix5 b p g i a) = x (ix2 p a) := by
  pointwise [perPair]
theorem lowOf_apply (x) (g : Fin 8) (i : Fin 2) (a : Fin 8) : lowOf x (ix5 b p g i a) = x (ix5 b p g i ⟨a.val, by omega⟩) := by
  pointwise [lowOf]
theorem highOf_apply (x) (g : Fin 8) (i : Fin 2) (a : Fin 8) : highOf x (ix5 b p g i a) = x (ix5 b p g i ⟨8 + a.val, by omega⟩) := by
  pointwise [highOf]
theorem stillOf_apply (x) (g : Fin 8) (i : Fin 2) (a : Fin 48) : stillOf x (ix5 b p g i a) = x (ix5 b p g i ⟨16 + a.val, by omega⟩) := by
  pointwise [stillOf]

theorem lowTurned_apply (c s x) (g : Fin 8) (i : Fin 2) (a : Fin 8) : lowTurned c s x (ix5 b p g i a) =
    x (ix5 b p g i ⟨a.val, by omega⟩) * c (ix2 p a) - x (ix5 b p g i ⟨8 + a.val, by omega⟩) * s (ix2 p a) := by
  show lowOf _ _ * perPair _ _ - highOf _ _ * perPair _ _ = _
  rw [lowOf_apply, highOf_apply, perPair_apply, perPair_apply]
theorem highTurned_apply (c s x) (g : Fin 8) (i : Fin 2) (a : Fin 8) : highTurned c s x (ix5 b p g i a) =
    x (ix5 b p g i ⟨8 + a.val, by omega⟩) * c (ix2 p a) + x (ix5 b p g i ⟨a.val, by omega⟩) * s (ix2 p a) := by
  show highOf _ _ * perPair _ _ + lowOf _ _ * perPair _ _ = _
  rw [lowOf_apply, highOf_apply, perPair_apply, perPair_apply]

theorem turned_low (c s x) (g : Fin 8) (i : Fin 2) (e : Fin 64) (a : Fin 8) (h : e.val = a.val) : turned c s x (ix5 b p g i e) = lowTurned c s x (ix5 b p g i a) := by
  obtain ⟨e, he⟩ := e
  subst h
  pointwise [turned]
theorem turned_high (c s x) (g : Fin 8) (i : Fin 2) (e : Fin 64) (a : Fin 8) (h : e.val = 8 + a.val) : turned c s x (ix5 b p g i e) = highTurned c s x (ix5 b p g i a) := by
  obtain ⟨e, he⟩ := e
  subst h
  pointwise [turned]
theorem turned_still (c s x) (g : Fin 8) (i : Fin 2) (e : Fin 64) (a : Fin 48) (h : e.val = 16 + a.val) : turned c s x (ix5 b p g i e) = stillOf x (ix5 b p g i a) := by
  obtain ⟨e, he⟩ := e
  subst h
  pointwise [turned]
  rw [dif_neg (by omega), dif_neg (by omega)]
  exact congrArg (fun k => stillOf x (ix5 b p g i k)) (Fin.ext (by show 16 + a.val - 8 - 8 = a.val; omega))

/-- The rotation of every row. -/
theorem turned_apply (c s : FVec Ideal S8192x8 .f32) (x : Stream) :
    flat (turned c s (pairs x)) (ix3 b p n) = rotated (fun a => c (ix2 p a)) (fun a => s (ix2 p a)) (fun d => x (ix3 b p d)) n := by
  have hn : ∀ (a : ℕ) (ha : a < 64) (k : Fin 1024), n.val / 64 * 64 + a = k.val → at2 ⟨n.val / 128, by omega⟩ ⟨n.val / 64 % 2, by omega⟩ ⟨a, ha⟩ = k := fun a ha k e =>
    Fin.ext (by show n.val / 128 * 128 + n.val / 64 % 2 * 64 + a = k.val; omega)
  rw [flat_apply]
  unfold rotated
  by_cases h8 : n.val % 64 < 8
  · have ht : turn n.val = ⟨n.val % 64, h8⟩ := Fin.ext (by show n.val % 8 = n.val % 64; omega)
    rw [if_pos h8, turned_low b p c s _ _ _ _ ⟨n.val % 64, h8⟩ rfl, lowTurned_apply, pairs_apply, pairs_apply, hn _ _ n (by show n.val / 64 * 64 + n.val % 64 = n.val; omega),
      hn _ _ (up n) (by show n.val / 64 * 64 + (8 + n.val % 64) = (n.val + 8) % 1024; omega), ht]
  · by_cases h16 : n.val % 64 < 16
    · have ht : turn n.val = ⟨n.val % 64 - 8, by omega⟩ := Fin.ext (by show n.val % 8 = n.val % 64 - 8; omega)
      rw [if_neg h8, if_pos h16, turned_high b p c s _ _ _ _ ⟨n.val % 64 - 8, by omega⟩ (by show n.val % 64 = 8 + (n.val % 64 - 8); omega), highTurned_apply, pairs_apply, pairs_apply,
        hn _ _ n (by show n.val / 64 * 64 + (8 + (n.val % 64 - 8)) = n.val; omega), hn _ _ (down n) (by show n.val / 64 * 64 + (n.val % 64 - 8) = (n.val + 1016) % 1024; omega), ht]
    · rw [if_neg h8, if_neg h16, turned_still b p _ _ _ _ _ _ ⟨n.val % 64 - 16, by omega⟩ (by show n.val % 64 = 16 + (n.val % 64 - 16); omega), stillOf_apply, pairs_apply,
        hn _ _ n (by show n.val / 64 * 64 + (16 + (n.val % 64 - 16)) = n.val; omega)]

end Cert.Proof.Reference3Ideal

end
-- ==== Proof.M.RefOut.lean ====
/- THE THIRD REFERENCE'S RESULTS, each at coordinates from the arguments' rows. -/
module

public import proofs.«01_k».proof.Proof.M.RefTurn

@[expose] public section

set_option maxRecDepth 16384

noncomputable section

namespace Cert.Proof.Reference3Ideal

open Cert.Reference3Ideal Cert.Reference3Ideal.Gen Cert.Reference3Ideal.Value Cert.Proof.Rows
open Idealize.ShloMosaic Idealize.ShloMosaic.TcCoe Idealize.ShloMosaic.StableHlo

/-- The stream after the mixing's output projection and the embedding. -/
def streamOf (y g e : FVec Ideal S8x8192x1024 .bf16) (x : Stream) (p : FVec Ideal S2x8x8192x256 .f32) (lg lb : FVec Ideal S1x1024 .f32) (w : FVec Ideal S1x1024x1024 .f32)
    (np : FVec Ideal S2x1024 .f32) (wp : FVec Ideal S2x256x1024 .f32) (wg : FVec Ideal S2x1024x1024 .f32) (nl : FVec Ideal S2x1024 .f32) : Stream :=
  secondOf (firstOf (mixedOf y lg lb e) (widen g) x w np) p wp wg nl
def keysOf (s : Stream) (kn : FVec Ideal S1024 .f32) (kw : FVec Ideal S1024x2048 .f32) : FVec Ideal S8x8192x2048 .f32 := throughW (normRows s kn) kw
def queriesOf (s : Stream) (qn : FVec Ideal S2x1024 .f32) (qw : FVec Ideal S1x1024x2048 .f32) : FVec Ideal S8x8192x2048 .f32 := throughW (normRows s (next qn)) (pair qw)
def turnedOf (c s : FVec Ideal S8192x8 .f32) (x : FVec Ideal S8x8192x2048 .f32) : Stream := flat (turned c s (pairs (leftOf x)))
def scaled (x : Stream) : Stream := mulf x (broadcastInDim S8x8192x1024 ![] bcast_S_S8x8192x1024 (constant S_ .f32 0x3E38AA3B#32))
def narrow (x : Stream) : FVec Ideal S8x8192x1024 .bf16 := truncf .bf16 x bitsLt_bf16_f32

/-- The positions' cosines and sines. -/
def cosOf (m : (ℓ : Loc nD τ sig) → Buf (Elt Ideal) ℓ) (c : Dev nD) : FVec Ideal S8192x8 .f32 := res_main_v16 (launchContents m c)
def sinOf (m : (ℓ : Loc nD τ sig) → Buf (Elt Ideal) ℓ) (c : Dev nD) : FVec Ideal S8192x8 .f32 := res_main_v17 (launchContents m c)

section
variable (m : (ℓ : Loc nD τ sig) → Buf (Elt Ideal) ℓ) (c : Dev nD)

def streamAt : Stream := streamOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
def keysAt : FVec Ideal S8x8192x2048 .f32 := keysOf (streamAt m c) (m ((c.tc : Thread nD τ).loc main_arg12)) (m ((c.tc : Thread nD τ).loc main_arg13))
def queriesAt : FVec Ideal S8x8192x2048 .f32 := queriesOf (streamAt m c) (m ((c.tc : Thread nD τ).loc main_arg14)) (m ((c.tc : Thread nD τ).loc main_arg15))

theorem mid_eq : res_main_v55 (launchContents m c) = through (gated (mixedOf (m ((c.tc : Thread nD τ).loc main_arg0)) (m ((c.tc : Thread nD τ).loc main_arg5)) (m ((c.tc : Thread nD τ).loc main_arg6)) (m ((c.tc : Thread nD τ).loc main_arg2))) (widen (m ((c.tc : Thread nD τ).loc main_arg1)))) (square (m ((c.tc : Thread nD τ).loc main_arg7))) := rfl
theorem first_eq : res_main_v71 (launchContents m c) = firstOf (mixedOf (m ((c.tc : Thread nD τ).loc main_arg0)) (m ((c.tc : Thread nD τ).loc main_arg5)) (m ((c.tc : Thread nD τ).loc main_arg6)) (m ((c.tc : Thread nD τ).loc main_arg2))) (widen (m ((c.tc : Thread nD τ).loc main_arg1))) (m ((c.tc : Thread nD τ).loc main_arg3)) (m ((c.tc : Thread nD τ).loc main_arg7)) (m ((c.tc : Thread nD τ).loc main_arg8)) := rfl
theorem stream_eq : res_main_v102 (launchContents m c) = streamAt m c := rfl
theorem keys_eq : res_main_v116 (launchContents m c) = keysAt m c := rfl
theorem queries_eq : res_main_v133 (launchContents m c) = queriesAt m c := rfl

end

variable (b : Fin 8) (p : Fin 8192) (n : Fin 1024)

theorem streamOf_apply (y g e : FVec Ideal S8x8192x1024 .bf16) (x : Stream) (q : FVec Ideal S2x8x8192x256 .f32) (lg lb : FVec Ideal S1x1024 .f32) (w : FVec Ideal S1x1024x1024 .f32)
    (np : FVec Ideal S2x1024 .f32) (wp : FVec Ideal S2x256x1024 .f32) (wg : FVec Ideal S2x1024x1024 .f32) (nl : FVec Ideal S2x1024 .f32) :
    streamOf y g e x q lg lb w np wp wg nl (ix3 b p n) =
      plus (after (mixed (fun d => y (ix3 b p d)) (fun d => lg (ix2 0 d)) (fun d => lb (ix2 0 d)) (fun d => e (ix3 b p d))) (fun d => g (ix3 b p d)) (fun d => x (ix3 b p d))
        (fun d n => w (ix3 0 d n)) (fun d => np (ix2 0 d))) (fun d => q (ix4 0 b p d)) (fun d n => wp (ix3 0 d n)) (fun d n => wg (ix3 0 d n)) (fun d => nl (ix2 0 d)) n := by
  unfold streamOf
  rw [secondOf_apply]
  simp only [firstOf_apply, mixedOf_apply]
  rfl

theorem keysOf_apply (s : Stream) (kn kw) (k : Fin 2048) : keysOf s kn kw (ix3 b p k) = proj (fun d => s (ix3 b p d)) (fun d => kn (ix1 d)) (fun d k => kw (ix2 d k)) k := by
  unfold keysOf
  rw [proj_apply]

theorem queriesOf_apply (s : Stream) (qn qw) (k : Fin 2048) : queriesOf s qn qw (ix3 b p k) = proj (fun d => s (ix3 b p d)) (fun d => qn (ix2 1 d)) (fun d k => qw (ix3 0 d k)) k := by
  unfold queriesOf
  rw [proj_apply]
  simp only [next_apply, pair_apply]

theorem turnedOf_apply (c s x) : turnedOf c s x (ix3 b p n) = rotated (fun a => c (ix2 p a)) (fun a => s (ix2 p a)) (left fun k => x (ix3 b p k)) n := by
  unfold turnedOf
  rw [turned_apply]
  simp only [leftOf_apply]

theorem scaled_apply (x) : scaled x (ix3 b p n) = x (ix3 b p n) * Ideal.ofBits .f32 0x3E38AA3B#32 := by
  pointwise [scaled]

theorem narrow_apply (x) : narrow x (ix3 b p n) = x (ix3 b p n) := rfl

end Cert.Proof.Reference3Ideal

end
-- ==== Proof.M.Equal.lean ====
/- THE THIRD EQUATION: from the same arguments each of the kernel's arrays and the reference's are one. -/
module

public import proofs.«01_k».proof.Proof.M.Array
public import proofs.«01_k».proof.Proof.M.RefOut

@[expose] public section

set_option maxRecDepth 16384

noncomputable section

namespace Cert.Proof.Mid

open Idealize.ShloMosaic Idealize.ShloMosaic.TcCoe Cert.Proof.Rows Cert.Proof.Reference3Ideal

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two programs' arguments are the same. -/
def Same : Prop :=
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)

variable {m m' c} (h : Same m m' c) (b : Fin 8) (p : Fin 8192)

theorem cos_eq (a : Fin 8) : cosOf m' c (ix2 p a) = Kernel3Ideal.cosRow p a := rfl
theorem sin_eq (a : Fin 8) : sinOf m' c (ix2 p a) = Kernel3Ideal.sinRow p a := rfl

include h

theorem stream_row (n : Fin 1024) : streamAt m' c (ix3 b p n) = Kernel3Ideal.hRow m c b p n := by
  obtain ⟨e0, e1, e2, e3, e4, e5, e6, e7, e8, e9, e10, e11, e12, e13, e14, e15⟩ := h
  unfold streamAt
  rw [streamOf_apply]
  rw [e0, e1, e2, e3, e4, e5, e6, e7, e8, e9, e10, e11]
  rfl

theorem keys_row (k : Fin 2048) : keysAt m' c (ix3 b p k) = Kernel3Ideal.kvRow m c b p k := by
  unfold keysAt
  rw [keysOf_apply, funext (stream_row h b p)]
  obtain ⟨e0, e1, e2, e3, e4, e5, e6, e7, e8, e9, e10, e11, e12, e13, e14, e15⟩ := h
  rw [e12, e13]
  rfl

theorem queries_row (k : Fin 2048) : queriesAt m' c (ix3 b p k) = Kernel3Ideal.qgRow m c b p k := by
  unfold queriesAt
  rw [queriesOf_apply, funext (stream_row h b p)]
  obtain ⟨e0, e1, e2, e3, e4, e5, e6, e7, e8, e9, e10, e11, e12, e13, e14, e15⟩ := h
  rw [e14, e15]
  rfl

omit h in
/-- Two arrays with the same rows. -/
theorem arr_ext (x : FVec Ideal Cert.Reference3Ideal.S8x8192x1024 .f32) (R : Fin 8 → Fin 8192 → Fin 1024 → EReal) (e : ∀ b p n, x (ix3 b p n) = R b p n) : x = Kernel3Ideal.arr R := by
  funext i
  exact (congrArg _ (eq_ix3 i)).trans ((e _ _ _).trans rfl)

/-- The five results. -/
theorem stream_arr : streamAt m' c = Kernel3Ideal.arr (Kernel3Ideal.hRow m c) := by
  exact arr_ext _ _ (stream_row h)

theorem q_arr : narrow (scaled (turnedOf (cosOf m' c) (sinOf m' c) (queriesAt m' c))) = Kernel3Ideal.arr (Kernel3Ideal.qRow m c) := by
  refine arr_ext _ _ fun b p n => ?_
  rw [narrow_apply, scaled_apply, turnedOf_apply, funext (queries_row h b p), funext (cos_eq p), funext (sin_eq p)]
  rfl

theorem k_arr : narrow (turnedOf (cosOf m' c) (sinOf m' c) (keysAt m' c)) = Kernel3Ideal.arr (Kernel3Ideal.kRow m c) := by
  refine arr_ext _ _ fun b p n => ?_
  rw [narrow_apply, turnedOf_apply, funext (keys_row h b p), funext (cos_eq p), funext (sin_eq p)]
  rfl

theorem v_arr : narrow (rightOf (keysAt m' c)) = Kernel3Ideal.arr (Kernel3Ideal.vRow m c) := by
  refine arr_ext _ _ fun b p n => ?_
  rw [narrow_apply, rightOf_apply, funext (keys_row h b p)]
  rfl

theorem g_arr : narrow (rightOf (queriesAt m' c)) = Kernel3Ideal.arr (Kernel3Ideal.gRow m c) := by
  refine arr_ext _ _ fun b p n => ?_
  rw [narrow_apply, rightOf_apply, funext (queries_row h b p)]
  rfl

end Cert.Proof.Mid

end
-- ==== Proof.W.Row.lean ====
/- ONE POSITION BEFORE THE RECURRENCE: the row mixed with the one before it, the projections, the decay, the rate, the normed direction and the bonus. -/
module

public import proofs.«01_k».proof.Proof.M.Row

@[expose] public section

noncomputable section

namespace Cert.Proof.Rows

open Idealize.ShloMosaic

/-- What one position's rows come from: its normed row, the row before it, and the weights. -/
structure Turn where
  x : Fin 1024 → EReal
  p : Fin 1024 → EReal
  mu : Fin 6 → Fin 1024 → EReal
  w : Fin 4 → Fin 1024 → Fin 1024 → EReal
  w0 : Fin 1024 → EReal
  w1 : Fin 1024 → Fin 64 → EReal
  w2 : Fin 64 → Fin 1024 → EReal
  a0 : Fin 1024 → EReal
  a1 : Fin 1024 → Fin 64 → EReal
  a2 : Fin 64 → Fin 1024 → EReal
  kk : Fin 1024 → EReal
  ka : Fin 1024 → EReal
  rk : Fin 1024 → EReal

/-- A row's sum over the 64 lanes of the head that lane `n` lies in. -/
def headSum (y : Fin 1024 → EReal) (n : Fin 1024) : EReal := ∑ j : Fin 64, y ⟨n.val / 64 * 64 + j.val, by omega⟩

/-- A row times a matrix of 64 columns. -/
def low (x : Fin 1024 → EReal) (a : Fin 1024 → Fin 64 → EReal) (k : Fin 64) : EReal := ∑ d, x d * a d k

/-- A row moved towards the row before it. -/
def blend (x p mu : Fin 1024 → EReal) (n : Fin 1024) : EReal := x n + (p n - x n) * mu n

/-- The logistic function of a row and a product of 64 terms. -/
def squash (b : Fin 1024 → EReal) (l : Fin 64 → EReal) (w : Fin 64 → Fin 1024 → EReal) (n : Fin 1024) : EReal := logi (b n + times l w n)

/-- The square of the least length. -/
def leastSq : EReal := ((5316911940649 / 5316911983139663491615228241121378304 : ℝ) : EReal)

/-- The decay's factor. -/
def factor : EReal := Ideal.exp (Ideal.ofBits .f32 0xBF000000#32)

namespace Turn

variable (I : Turn)

def mix (q : Fin 6) : Fin 1024 → EReal := blend I.x I.p (I.mu q)
def r : Fin 1024 → EReal := times (I.mix 0) (I.w 0)
def key0 : Fin 1024 → EReal := times (I.mix 1) (I.w 1)
def v : Fin 1024 → EReal := times (I.mix 2) (I.w 2)
def g : Fin 1024 → EReal := times (I.mix 3) (I.w 3)
def decay (n : Fin 1024) : EReal := -factor * squash I.w0 (fun k => Ideal.tanh (low (I.mix 4) I.w1 k)) I.w2 n
def rate : Fin 1024 → EReal := squash I.a0 (low (I.mix 5) I.a1) I.a2
def key (n : Fin 1024) : EReal := I.key0 n * (1 + (I.rate n - 1) * I.ka n)
def dir0 (n : Fin 1024) : EReal := I.key0 n * I.kk n
def dir (n : Fin 1024) : EReal := I.dir0 n * Ideal.rsqrt (max (headSum (fun d => I.dir0 d * I.dir0 d) n) leastSq)
def beta (n : Fin 1024) : EReal := I.dir n * I.rate n
def bonus (n : Fin 1024) : EReal := headSum (fun d => I.r d * I.key d * I.rk d) n * I.v n

end Turn

/-- The sums with the matrix that is one where two lanes lie in one head and zero elsewhere are the heads' sums. -/
theorem blockSum_ones (x : Fin 1024 → EReal) (o : Fin 256 → Fin 256 → EReal) (n : Fin 1024) (ho : ∀ d k : Fin 256, o d k = if d.val / 64 = k.val / 64 then 1 else 0) :
    blockSum x o n = headSum x n := by
  unfold blockSum headSum
  have e : ∀ d : Fin 256, x ⟨n.val / 256 * 256 + d.val, by omega⟩ * o d ⟨n.val % 256, by omega⟩ =
      if d.val / 64 = n.val % 256 / 64 then x ⟨n.val / 256 * 256 + d.val, by omega⟩ else 0 := fun d => by
    rw [ho]
    split <;> simp
  rw [Finset.sum_congr rfl fun d _ => e d, ← Equiv.sum_comp (finProdFinEquiv (m := 4) (n := 64)), Fintype.sum_prod_type,
    Finset.sum_eq_single (⟨n.val % 256 / 64, by omega⟩ : Fin 4)]
  · refine Finset.sum_congr rfl fun j _ => ?_
    have h : (finProdFinEquiv ((⟨n.val % 256 / 64, by omega⟩ : Fin 4), j) : Fin 256).val = j.val + 64 * (n.val % 256 / 64) := rfl
    rw [if_pos (by rw [h]; omega)]
    congr 1
    refine Fin.ext ?_
    show n.val / 256 * 256 + (j.val + 64 * (n.val % 256 / 64)) = n.val / 64 * 64 + j.val
    omega
  · intro q _ hq
    refine Finset.sum_eq_zero fun j _ => if_neg fun h => hq (Fin.ext ?_)
    have h' : (j.val + 64 * q.val) / 64 = n.val % 256 / 64 := h
    show q.val = n.val % 256 / 64
    omega
  · exact fun h => absurd (Finset.mem_univ _) h

end Cert.Proof.Rows

end
-- ==== Proof.W.Pay.lean ====
/- THE FOURTH KERNEL'S BODY AT COORDINATES: each value of one tile from the values it reads. -/
module

public import proofs.«01_k».proof.Proof.W.Row
public import proofs.«01_k».proof.Proof.Gen.Kernel4Ideal.Value
public import Idealize.ShloMosaic.Lib.Pipeline.ValueKit
public import Idealize.ShloMosaic.Lib.KernelVsHost

@[expose] public section

set_option maxRecDepth 16384

noncomputable section

namespace Cert.Proof.Kernel4Ideal

open Cert.Kernel4Ideal Cert.Kernel4Ideal.Gen Cert.Proof.Rows
open Idealize.ShloMosaic Idealize.ShloMosaic.TcCoe

abbrev Tile := FVec Ideal S512x1024 .f32
abbrev Row := Vec Ideal S1x1024 .f32

variable (r : Fin 512) (n : Fin 1024)

/-- A block of 256 lanes times a matrix. -/
def block (v : FVec Ideal S512x256 .bf16) (o : FVec Ideal S256x256 .bf16) : FVec Ideal S512x256 .f32 :=
  matmul dot_S512x256_S256x256_S512x256_1_0_0_1_n_n none v o (constant S512x256 .f32 0x00000000#32)

/-- The four blocks of lanes. -/
def lanes (v : FVec Ideal S512x1024 .f32) : Fin 4 → FVec Ideal S512x256 .bf16 :=
  ![truncf .bf16 (extractStridedSlice S512x256 ![0, 0] v slices_S512x1024_o0_0_S512x256 : FVec Ideal S512x256 .f32) bitsLt_bf16_f32,
    truncf .bf16 (extractStridedSlice S512x256 ![0, 256] v slices_S512x1024_o0_256_S512x256 : FVec Ideal S512x256 .f32) bitsLt_bf16_f32,
    truncf .bf16 (extractStridedSlice S512x256 ![0, 512] v slices_S512x1024_o0_512_S512x256 : FVec Ideal S512x256 .f32) bitsLt_bf16_f32,
    truncf .bf16 (extractStridedSlice S512x256 ![0, 768] v slices_S512x1024_o0_768_S512x256 : FVec Ideal S512x256 .f32) bitsLt_bf16_f32]

/-- The blocks times the matrix, side by side. -/
def heads (v : FVec Ideal S512x1024 .f32) (o : FVec Ideal S256x256 .bf16) : Tile :=
  concatenate S512x1024 1 [⟨S512x256, block (lanes v 0) o⟩, ⟨S512x256, block (lanes v 1) o⟩, ⟨S512x256, block (lanes v 2) o⟩, ⟨S512x256, block (lanes v 3) o⟩]
    concatenates_S512x256_S512x256_S512x256_S512x256_S512x1024_d1

theorem block_apply (v : FVec Ideal S512x256 .bf16) (o : FVec Ideal S256x256 .bf16) (k : Fin 256) : block v o (ix2 r k) = ∑ d : Fin 256, v (ix2 r d) * o (ix2 d k) := by
  pointwise [block]

theorem lanes_apply (v : FVec Ideal S512x1024 .f32) (q : Fin 4) (d : Fin 256) : lanes v q (ix2 r d) = v (ix2 r ⟨q.val * 256 + d.val, by omega⟩) := by
  fin_cases q
  · show extractStridedSlice S512x256 ![0, 0] v slices_S512x1024_o0_0_S512x256 (ix2 r d) = _
    pointwise
  · show extractStridedSlice S512x256 ![0, 256] v slices_S512x1024_o0_256_S512x256 (ix2 r d) = _
    pointwise
  · show extractStridedSlice S512x256 ![0, 512] v slices_S512x1024_o0_512_S512x256 (ix2 r d) = _
    pointwise
  · show extractStridedSlice S512x256 ![0, 768] v slices_S512x1024_o0_768_S512x256 (ix2 r d) = _
    pointwise

theorem heads_apply (v : FVec Ideal S512x1024 .f32) (o : FVec Ideal S256x256 .bf16) :
    heads v o (ix2 r n) = blockSum (fun n => v (ix2 r n)) (fun d k => o (ix2 d k)) n := by
  refine (concatenate_ofFn_apply (s₁ := S512x256) (t := S512x1024) 1 (N := 4) (fun q => block (lanes v q) o) _ rfl 256 rfl (ix2 r n) ⟨n.val / 256, by omega⟩ rfl (ix2 r ⟨n.val % 256, by omega⟩) rfl ?_).trans ?_
  · intro b hb
    match b with
    | ⟨0, _⟩ => rfl
    | ⟨1, _⟩ => exact absurd rfl hb
  · rw [block_apply]
    refine Finset.sum_congr rfl fun d _ => ?_
    rw [lanes_apply]

theorem pay4_eq (g : Row) : k0_pay4 g = g := shapeCast_id _ _
theorem pay13_eq (g : Row) : k0_pay13 g = g := shapeCast_id _ _
theorem pay15_eq (g : Vec Ideal S64x1024 .bf16) : k0_pay15 g = g := shapeCast_id _ _
theorem pay10_eq (o : Vec Ideal S256x256 .bf16) : k0_pay10 o = o := shapeCast_id _ _

theorem pay5_apply (g : Row) (x : Vec Ideal S1x512x1024 .f32) : k0_pay5 g x (ix2 r n) = rms (fun n => x (ix3 0 r n)) (fun n => g (ix2 0 n)) n := by
  unfold k0_pay5
  rw [pay4_eq]
  pointwise [rms]

/-- The row before the tile's first. -/
theorem pay6_apply (i : grid0.Coords) (g : Row) (x : Vec Ideal S1x8x1024 .f32) :
    k0_pay6 i g x (ix2 0 n) = if (i 1).val = 0 then 0 else rms (fun n => x (ix3 0 7 n)) (fun n => g (ix2 0 n)) n := by
  unfold k0_pay6
  rw [pay4_eq]
  by_cases h : (i 1).val = 0
  · rw [if_pos h]
    have c : Scalar.cmpi .sgt (BitVec.ofNat 32 (i 1).val) 0#32 = 0#1 := by rw [h]; decide
    simp only [c]
    pointwise
  · rw [if_neg h]
    have c : Scalar.cmpi .sgt (BitVec.ofNat 32 (i 1).val) 0#32 = 1#1 := by
      have hlt : (i 1).val < 16 := (i 1).isLt
      generalize (i 1).val = k at h hlt
      interval_cases k <;> first | exact absurd rfl h | decide
    simp only [c]
    pointwise [rms]

/-- The row above, around the tile. -/
theorem pay7_apply (g : Row) (x : Vec Ideal S1x512x1024 .f32) : k0_pay7 g x (ix2 r n) = rms (fun n => x (ix3 0 ⟨(r.val + 511) % 512, by omega⟩ n)) (fun n => g (ix2 0 n)) n := by
  rw [← pay5_apply]
  refine dynamicRotate_apply 0 1#32 (k0_pay5 g x) rotates_S512x1024_d0 (ix2 r n) (ix2 ⟨(r.val + 511) % 512, by omega⟩ n) fun b => ?_
  match b with
  | ⟨0, _⟩ => show (r.val + 511) % 512 = (r.val + 512 - 1) % 512; omega
  | ⟨1, _⟩ => rfl

theorem mask_apply : k0_pay8 (ix2 r n) = BitVec.ofBool (decide (r.val = 0)) := by
  have h : r.val < 512 := r.isLt
  have e : k0_pay8 (ix2 r n) = IntOp.cmpi .eq (BitVec.ofNat 32 r.val) 0#32 := by
    pointwise [k0_pay8]
  rw [e]
  have hd : (BitVec.ofNat 32 r.val = 0#32) ↔ r.val = 0 := by
    constructor
    · intro h
      have h' := congrArg BitVec.toNat h
      simp only [BitVec.toNat_ofNat] at h'
      omega
    · intro h
      rw [h]
  by_cases h : r.val = 0
  · simp [IntOp.cmpi, h]
  · have hf : (BitVec.ofNat 32 r.val == 0#32) = false := beq_eq_false_iff_ne.2 fun e => h (hd.1 e)
    simp [IntOp.cmpi, hf, h]

theorem pay9_apply (x : Tile) (p : FVec Ideal S1x1024 .f32) (q : Tile) :
    k0_pay9 x p q k0_pay8 (ix2 r n) = (if r.val = 0 then p (ix2 0 n) else q (ix2 r n)) - x (ix2 r n) := by
  have e := mask_apply r n
  generalize k0_pay8 = k at e
  pointwise [k0_pay9]
  rw [e]
  by_cases h : r.val = 0
  · simp [h, Scalar.select]
  · simp [h, Scalar.select]

theorem pay11_apply (x : Tile) (p : FVec Ideal S1x1024 .f32) (q : Tile) (k : IVec S512x1024 1) (mu : Row) (w : Vec Ideal S1024x64 .bf16) (j : Fin 64) :
    k0_pay11 x p q k mu w (ix2 r j) = ∑ d : Fin 1024, (x (ix2 r d) + k0_pay9 x p q k (ix2 r d) * mu (ix2 0 d)) * w (ix2 d j) := by
  unfold k0_pay11
  generalize k0_pay9 x p q k = y
  pointwise

theorem pay12_apply (x : Tile) (p : FVec Ideal S1x1024 .f32) (q : Tile) (k : IVec S512x1024 1) (mu : Row) (w : Vec Ideal S1x1024x1024 .bf16) :
    k0_pay12 x p q k mu w (ix2 r n) = ∑ d : Fin 1024, (x (ix2 r d) + k0_pay9 x p q k (ix2 r d) * mu (ix2 0 d)) * w (ix3 0 d n) := by
  unfold k0_pay12
  generalize k0_pay9 x p q k = y
  pointwise

theorem pay14_apply (x : Tile) (p : FVec Ideal S1x1024 .f32) (q : Tile) (k : IVec S512x1024 1) (mu : Row) (w : Vec Ideal S1024x64 .bf16) (j : Fin 64) :
    k0_pay14 x p q k mu w (ix2 r j) = Ideal.tanh (∑ d : Fin 1024, (x (ix2 r d) + k0_pay9 x p q k (ix2 r d) * mu (ix2 0 d)) * w (ix2 d j)) := by
  unfold k0_pay14
  generalize k0_pay9 x p q k = y
  pointwise

theorem pay16_apply (l : FVec Ideal S512x64 .f32) (b : Row) (w : Vec Ideal S64x1024 .bf16) :
    k0_pay16 l b w (ix2 r n) = squash (fun n => b (ix2 0 n)) (fun k => l (ix2 r k)) (fun k n => w (ix2 k n)) n := by
  pointwise [k0_pay16, squash, logi, times]
  simp only [zero_sub]

theorem pay17_apply (x y : Tile) (mu : Row) (w : Vec Ideal S1x1024x1024 .bf16) :
    k0_pay17 x y mu w (ix2 r n) = ∑ d : Fin 1024, (x (ix2 r d) + y (ix2 r d) * mu (ix2 0 d)) * w (ix3 0 d n) := by
  pointwise [k0_pay17]

theorem pay18_apply (b : FVec Ideal S1x1024 .f32) (l : FVec Ideal S512x64 .f32) (w : FVec Ideal S64x1024 .bf16) :
    k0_pay18 b l w (ix2 r n) = squash (fun n => b (ix2 0 n)) (fun k => l (ix2 r k)) (fun k n => w (ix2 k n)) n := by
  pointwise [k0_pay18, squash, logi, times]
  simp only [zero_sub]

theorem pay20_apply (y : Tile) : k0_pay20 y k0_pay19 (ix3 0 r n) = -factor * y (ix2 r n) := by
  pointwise [k0_pay20, k0_pay19, factor]
  simp only [zero_sub]

theorem pay21_apply (k : Tile) (g : Row) : k0_pay21 k g (ix2 r n) = k (ix2 r n) * g (ix2 0 n) := by
  pointwise [k0_pay21]

theorem pay22_apply (o : FVec Ideal S256x256 .bf16) (k : Tile) (g : Row) :
    k0_pay22 o k g (ix2 r n) = blockSum (fun n => k0_pay21 k g (ix2 r n) * k0_pay21 k g (ix2 r n)) (fun d k => o (ix2 d k)) n := by
  have e : k0_pay22 o k g = heads (mulf (k0_pay21 k g) (k0_pay21 k g)) o := rfl
  rw [e, heads_apply]
  rfl

theorem pay23_apply (k a : Tile) (g : Row) : k0_pay23 k a g (ix2 r n) = k (ix2 r n) * (1 + (a (ix2 r n) - 1) * g (ix2 0 n)) := by
  pointwise [k0_pay23]

theorem pay24_apply (k a : Tile) (g : Row) : k0_pay24 k a g (ix3 0 r n) = k (ix2 r n) * (1 + (a (ix2 r n) - 1) * g (ix2 0 n)) := by
  pointwise [k0_pay24, k0_pay23]

theorem pay26_apply (x y : Tile) (mu : Row) (w : Vec Ideal S1x1024x1024 .bf16) :
    k0_pay26 (k0_pay25 x y mu) w (ix2 r n) = ∑ d : Fin 1024, (x (ix2 r d) + y (ix2 r d) * mu (ix2 0 d)) * w (ix3 0 d n) := by
  pointwise [k0_pay26, k0_pay25]

theorem pay3_apply (x y : Tile) (mu : Row) (w : Vec Ideal S1x1024x1024 .bf16) :
    k0_pay3 x y mu w (ix3 0 r n) = ∑ d : Fin 1024, (x (ix2 r d) + y (ix2 r d) * mu (ix2 0 d)) * w (ix3 0 d n) := by
  pointwise [k0_pay3]

theorem named_eq : (Named.named κ "square" 0x179ABE15#32 : Ideal .f32) = leastSq := rfl

theorem pay27_apply (y s : Tile) : k0_pay27 y s (ix2 r n) = y (ix2 r n) * Ideal.rsqrt (max (s (ix2 r n)) leastSq) := by
  pointwise [k0_pay27, named_eq]

theorem pay28_apply (y s : Tile) : k0_pay28 y s (ix3 0 r n) = y (ix2 r n) * Ideal.rsqrt (max (s (ix2 r n)) leastSq) := by
  rw [← pay27_apply]
  pointwise [k0_pay28]

theorem pay29_apply (a y s : Tile) : k0_pay29 a y s (ix3 0 r n) = y (ix2 r n) * Ideal.rsqrt (max (s (ix2 r n)) leastSq) * a (ix2 r n) := by
  rw [← pay27_apply]
  pointwise [k0_pay29]

theorem pay30_apply (y : Tile) : k0_pay30 y (ix3 0 r n) = y (ix2 r n) := by
  pointwise [k0_pay30]

theorem pay1_apply (y : Tile) : k0_pay1 y (ix3 0 r n) = y (ix2 r n) := by
  pointwise [k0_pay1]

theorem pay2_apply (o : FVec Ideal S256x256 .bf16) (v q k : Tile) (g : Row) :
    k0_pay2 o v (k0_pay32 o q k g) (k0_pay33 o q k g) (k0_pay34 o q k g) (k0_pay35 q k g) (constant S512x256 .f32 0x00000000#32) (ix3 0 r n) =
      blockSum (fun n => q (ix2 r n) * k (ix2 r n) * g (ix2 0 n)) (fun d k => o (ix2 d k)) n * v (ix2 r n) := by
  have e : k0_pay2 o v (k0_pay32 o q k g) (k0_pay33 o q k g) (k0_pay34 o q k g) (k0_pay35 q k g) (constant S512x256 .f32 0x00000000#32) =
    shapeCast S1x512x1024 (truncf .bf16 (mulf (heads (k0_pay31 q k g) o) v) bitsLt_bf16_f32 : FVec Ideal S512x1024 .bf16) shapeCasts_S512x1024_S1x512x1024 := rfl
  have c : ∀ n : Fin 1024, k0_pay31 q k g (ix2 r n) = q (ix2 r n) * k (ix2 r n) * g (ix2 0 n) := fun n => by
    pointwise [k0_pay31]
  rw [e]
  pointwise
  rw [heads_apply]
  simp only [c]

end Cert.Proof.Kernel4Ideal

end
-- ==== Proof.W.Block.lean ====
/- THE FOURTH KERNEL'S OUTPUT BLOCKS: each of their rows from the rows of the input blocks. -/
module

public import proofs.«01_k».proof.Proof.W.Pay

@[expose] public section

set_option maxRecDepth 16384

noncomputable section

namespace Cert.Proof.Kernel4Ideal

open Cert.Kernel4Ideal Cert.Kernel4Ideal.Gen Cert.Proof.Rows
open Idealize.ShloMosaic Idealize.ShloMosaic.TcCoe

section
variable {e : EltTy}

theorem ld2 {k l : ℕ} (d : Fin k) (n : Fin l) (x : Vec Ideal ⟨2, ![k, l]⟩ e) (inb) : View.ld x (Rect.unit (s := ⟨2, ![k, l]⟩) ![0, 0] ![k, l] inb) (ix2 d n) = x (ix2 d n) := by
  refine View.ld_unit_apply_of _ _ _ _ _ _ fun a => ?_
  match a with
  | ⟨0, _⟩ => exact (Nat.zero_add _).symm
  | ⟨1, _⟩ => exact (Nat.zero_add _).symm

theorem ld3 {k l : ℕ} (d : Fin k) (n : Fin l) (x : Vec Ideal ⟨3, ![1, k, l]⟩ e) (inb) : View.ld x (Rect.unit (s := ⟨3, ![1, k, l]⟩) ![0, 0, 0] ![1, k, l] inb) (ix3 0 d n) = x (ix3 0 d n) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem ldRow (q : Fin 6) (n : Fin 1024) (x : Vec Ideal S6x1024 e) (inb) : View.ld x (Rect.unit (s := S6x1024) ![q.val, 0] S1x1024.size inb) (ix2 0 n) = x (ix2 q n) := by
  refine View.ld_unit_apply_of _ _ _ _ _ _ fun a => ?_
  match a with
  | ⟨0, _⟩ => rfl
  | ⟨1, _⟩ => exact (Nat.zero_add _).symm

theorem ldSlab (q : Fin 4) (d n : Fin 1024) (x : Vec Ideal S4x1024x1024 e) (inb) : View.ld x (Rect.unit (s := S4x1024x1024) ![q.val, 0, 0] S1x1024x1024.size inb) (ix3 0 d n) = x (ix3 q d n) := by
  refine View.ld_unit_apply_of _ _ _ _ _ _ fun a => ?_
  match a with
  | ⟨0, _⟩ => rfl
  | ⟨1, _⟩ => exact (Nat.zero_add _).symm
  | ⟨2, _⟩ => exact (Nat.zero_add _).symm
end

/-- A position's weights and rows from the input blocks: the row before it is the tile's, or before the tile's first row the last of the eight before the tile, or zero before the first tile. -/
def tileTurn (i : grid0.Coords) (x0 : Vec Ideal S1x512x1024 .f32) (x1 : Vec Ideal S1x8x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1x1024 .f32) (x13 : Vec Ideal S1x1024 .f32) (x14 : Vec Ideal S256x256 .bf16) (r : Fin 512) : Turn where
  x := rms (fun n => x0 (ix3 0 r n)) (fun n => x2 (ix2 0 n))
  p := fun n => if r.val = 0 then (if (i 1).val = 0 then 0 else rms (fun n => x1 (ix3 0 7 n)) (fun n => x2 (ix2 0 n)) n) else rms (fun n => x0 (ix3 0 ⟨(r.val + 511) % 512, by omega⟩ n)) (fun n => x2 (ix2 0 n)) n
  mu := fun q n => x3 (ix2 q n)
  w := fun q d n => x4 (ix3 q d n)
  w0 := fun n => x5 (ix2 0 n)
  w1 := fun d k => x6 (ix2 d k)
  w2 := fun k n => x7 (ix2 k n)
  a0 := fun n => x8 (ix2 0 n)
  a1 := fun d k => x9 (ix2 d k)
  a2 := fun k n => x10 (ix2 k n)
  kk := fun n => x11 (ix2 0 n)
  ka := fun n => x12 (ix2 0 n)
  rk := fun n => x13 (ix2 0 n)

section
variable (i : grid0.Coords) (x0 : Vec Ideal S1x512x1024 .f32) (x1 : Vec Ideal S1x8x1024 .f32) (x2 : Vec Ideal S1x1024 .f32) (x3 : Vec Ideal S6x1024 .f32) (x4 : Vec Ideal S4x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1x1024 .f32) (x13 : Vec Ideal S1x1024 .f32) (x14 : Vec Ideal S256x256 .bf16) (r : Fin 512) (n : Fin 1024)

theorem x_apply : k0_pay36 i x0 x1 x2 x3 x4 x5 x6 x7 x8 x9 x10 x11 x12 x13 x14 (ix2 r n) = (tileTurn i x0 x1 x2 x3 x4 x5 x6 x7 x8 x9 x10 x11 x12 x13 x14 r).x n := by
  show k0_pay5 (View.ld x2 r0_0) (View.ld x0 r0_1) (ix2 r n) = _
  rw [pay5_apply]
  exact congrFun (congrArg₂ rms (funext fun n => ld3 r n x0 _) (funext fun n => ld2 0 n x2 _)) n

theorem dx_apply : k0_pay40 i x0 x1 x2 x3 x4 x5 x6 x7 x8 x9 x10 x11 x12 x13 x14 (ix2 r n) = (tileTurn i x0 x1 x2 x3 x4 x5 x6 x7 x8 x9 x10 x11 x12 x13 x14 r).p n - (tileTurn i x0 x1 x2 x3 x4 x5 x6 x7 x8 x9 x10 x11 x12 x13 x14 r).x n := by
  rw [← x_apply]
  show k0_pay9 (k0_pay36 i x0 x1 x2 x3 x4 x5 x6 x7 x8 x9 x10 x11 x12 x13 x14) (k0_pay6 i (View.ld x2 r0_0) (View.ld x1 r0_2)) (k0_pay7 (View.ld x2 r0_0) (View.ld x0 r0_1)) k0_pay8 (ix2 r n) = _
  rw [pay9_apply, pay6_apply, pay7_apply]
  congr 1
  have h1 : rms (fun n => View.ld x1 r0_2 (ix3 0 7 n)) (fun n => View.ld x2 r0_0 (ix2 0 n)) = rms (fun n => x1 (ix3 0 7 n)) (fun n => x2 (ix2 0 n)) :=
    congrArg₂ rms (funext fun n => ld3 7 n x1 _) (funext fun n => ld2 0 n x2 _)
  have h2 : ∀ r : Fin 512, rms (fun n => View.ld x0 r0_1 (ix3 0 r n)) (fun n => View.ld x2 r0_0 (ix2 0 n)) = rms (fun n => x0 (ix3 0 r n)) (fun n => x2 (ix2 0 n)) := fun r =>
    congrArg₂ rms (funext fun n => ld3 r n x0 _) (funext fun n => ld2 0 n x2 _)
  rw [h1, h2]
  rfl

/-- The mixed rows. -/
theorem mix_apply (q : Fin 6) (inb) :
    k0_pay36 i x0 x1 x2 x3 x4 x5 x6 x7 x8 x9 x10 x11 x12 x13 x14 (ix2 r n) + k0_pay40 i x0 x1 x2 x3 x4 x5 x6 x7 x8 x9 x10 x11 x12 x13 x14 (ix2 r n) * View.ld x3 (Rect.unit (s := S6x1024) ![q.val, 0] S1x1024.size inb) (ix2 0 n) = (tileTurn i x0 x1 x2 x3 x4 x5 x6 x7 x8 x9 x10 x11 x12 x13 x14 r).mix q n := by
  rw [x_apply, dx_apply, ldRow]
  rfl

theorem key0_apply : k0_pay42 i x0 x1 x2 x3 x4 x5 x6 x7 x8 x9 x10 x11 x12 x13 x14 (ix2 r n) = (tileTurn i x0 x1 x2 x3 x4 x5 x6 x7 x8 x9 x10 x11 x12 x13 x14 r).key0 n := by
  show k0_pay12 (k0_pay36 i x0 x1 x2 x3 x4 x5 x6 x7 x8 x9 x10 x11 x12 x13 x14) (k0_pay37 i x0 x1 x2 x3 x4 x5 x6 x7 x8 x9 x10 x11 x12 x13 x14) (k0_pay38 i x0 x1 x2 x3 x4 x5 x6 x7 x8 x9 x10 x11 x12 x13 x14) (k0_pay39 i x0 x1 x2 x3 x4 x5 x6 x7 x8 x9 x10 x11 x12 x13 x14) (View.ld x3 r0_7) (View.ld x4 r0_8) (ix2 r n) = _
  rw [pay12_apply]
  exact Finset.sum_congr rfl fun d _ => congrArg₂ (· * ·) (mix_apply i x0 x1 x2 x3 x4 x5 x6 x7 x8 x9 x10 x11 x12 x13 x14 r d 1 _) (ldSlab 1 d n x4 _)

theorem r_apply : k0_pay44 i x0 x1 x2 x3 x4 x5 x6 x7 x8 x9 x10 x11 x12 x13 x14 (ix2 r n) = (tileTurn i x0 x1 x2 x3 x4 x5 x6 x7 x8 x9 x10 x11 x12 x13 x14 r).r n := by
  show k0_pay17 (k0_pay36 i x0 x1 x2 x3 x4 x5 x6 x7 x8 x9 x10 x11 x12 x13 x14) (k0_pay40 i x0 x1 x2 x3 x4 x5 x6 x7 x8 x9 x10 x11 x12 x13 x14) (View.ld x3 r0_10) (View.ld x4 r0_11) (ix2 r n) = _
  rw [pay17_apply]
  exact Finset.sum_congr rfl fun d _ => congrArg₂ (· * ·) (mix_apply i x0 x1 x2 x3 x4 x5 x6 x7 x8 x9 x10 x11 x12 x13 x14 r d 0 _) (ldSlab 0 d n x4 _)

theorem v_apply : k0_pay48 i x0 x1 x2 x3 x4 x5 x6 x7 x8 x9 x10 x11 x12 x13 x14 (ix2 r n) = (tileTurn i x0 x1 x2 x3 x4 x5 x6 x7 x8 x9 x10 x11 x12 x13 x14 r).v n := by
  show k0_pay26 (k0_pay25 (k0_pay36 i x0 x1 x2 x3 x4 x5 x6 x7 x8 x9 x10 x11 x12 x13 x14) (k0_pay40 i x0 x1 x2 x3 x4 x5 x6 x7 x8 x9 x10 x11 x12 x13 x14) (View.ld x3 r0_12)) (View.ld x4 r0_13) (ix2 r n) = _
  rw [pay26_apply]
  exact Finset.sum_congr rfl fun d _ => congrArg₂ (· * ·) (mix_apply i x0 x1 x2 x3 x4 x5 x6 x7 x8 x9 x10 x11 x12 x13 x14 r d 2 _) (ldSlab 2 d n x4 _)

theorem rate_apply : k0_pay43 i x0 x1 x2 x3 x4 x5 x6 x7 x8 x9 x10 x11 x12 x13 x14 (ix2 r n) = (tileTurn i x0 x1 x2 x3 x4 x5 x6 x7 x8 x9 x10 x11 x12 x13 x14 r).rate n := by
  show k0_pay16 (k0_pay11 (k0_pay36 i x0 x1 x2 x3 x4 x5 x6 x7 x8 x9 x10 x11 x12 x13 x14) (k0_pay37 i x0 x1 x2 x3 x4 x5 x6 x7 x8 x9 x10 x11 x12 x13 x14) (k0_pay38 i x0 x1 x2 x3 x4 x5 x6 x7 x8 x9 x10 x11 x12 x13 x14) (k0_pay39 i x0 x1 x2 x3 x4 x5 x6 x7 x8 x9 x10 x11 x12 x13 x14) (View.ld x3 r0_6) (View.ld x9 r0_5)) (View.ld x8 r0_0) (View.ld x10 r0_9) (ix2 r n) = _
  rw [pay16_apply]
  have h1 : (fun n => View.ld x8 r0_0 (ix2 0 n)) = (tileTurn i x0 x1 x2 x3 x4 x5 x6 x7 x8 x9 x10 x11 x12 x13 x14 r).a0 := funext fun n => ld2 0 n x8 _
  have h2 : (fun k n => View.ld x10 r0_9 (ix2 k n)) = (tileTurn i x0 x1 x2 x3 x4 x5 x6 x7 x8 x9 x10 x11 x12 x13 x14 r).a2 := funext fun k => funext fun n => ld2 k n x10 _
  have h3 : (fun j => k0_pay11 (k0_pay36 i x0 x1 x2 x3 x4 x5 x6 x7 x8 x9 x10 x11 x12 x13 x14) (k0_pay37 i x0 x1 x2 x3 x4 x5 x6 x7 x8 x9 x10 x11 x12 x13 x14) (k0_pay38 i x0 x1 x2 x3 x4 x5 x6 x7 x8 x9 x10 x11 x12 x13 x14) (k0_pay39 i x0 x1 x2 x3 x4 x5 x6 x7 x8 x9 x10 x11 x12 x13 x14) (View.ld x3 r0_6) (View.ld x9 r0_5) (ix2 r j)) = low ((tileTurn i x0 x1 x2 x3 x4 x5 x6 x7 x8 x9 x10 x11 x12 x13 x14 r).mix 5) (tileTurn i x0 x1 x2 x3 x4 x5 x6 x7 x8 x9 x10 x11 x12 x13 x14 r).a1 := funext fun j => by
    rw [pay11_apply]
    exact Finset.sum_congr rfl fun d _ => congrArg₂ (· * ·) (mix_apply i x0 x1 x2 x3 x4 x5 x6 x7 x8 x9 x10 x11 x12 x13 x14 r d 5 _) (ld2 d j x9 _)
  rw [h1, h2, h3]
  rfl

theorem dir0_apply : k0_pay45 i x0 x1 x2 x3 x4 x5 x6 x7 x8 x9 x10 x11 x12 x13 x14 (ix2 r n) = (tileTurn i x0 x1 x2 x3 x4 x5 x6 x7 x8 x9 x10 x11 x12 x13 x14 r).dir0 n := by
  show k0_pay21 (k0_pay42 i x0 x1 x2 x3 x4 x5 x6 x7 x8 x9 x10 x11 x12 x13 x14) (View.ld x11 r0_0) (ix2 r n) = _
  rw [pay21_apply, key0_apply]
  exact congrArg (_ * ·) (ld2 0 n x11 _)

theorem key_apply : k0_pay47 i x0 x1 x2 x3 x4 x5 x6 x7 x8 x9 x10 x11 x12 x13 x14 (ix2 r n) = (tileTurn i x0 x1 x2 x3 x4 x5 x6 x7 x8 x9 x10 x11 x12 x13 x14 r).key n := by
  show k0_pay23 (k0_pay42 i x0 x1 x2 x3 x4 x5 x6 x7 x8 x9 x10 x11 x12 x13 x14) (k0_pay43 i x0 x1 x2 x3 x4 x5 x6 x7 x8 x9 x10 x11 x12 x13 x14) (View.ld x12 r0_0) (ix2 r n) = _
  rw [pay23_apply, key0_apply, rate_apply, show View.ld x12 r0_0 (ix2 0 n) = x12 (ix2 0 n) from ld2 0 n x12 _]
  rfl

theorem decay_apply : k0_pay20 (k0_pay18 (k0_pay13 (View.ld x5 r0_0)) (k0_pay14 (k0_pay36 i x0 x1 x2 x3 x4 x5 x6 x7 x8 x9 x10 x11 x12 x13 x14) (k0_pay37 i x0 x1 x2 x3 x4 x5 x6 x7 x8 x9 x10 x11 x12 x13 x14) (k0_pay38 i x0 x1 x2 x3 x4 x5 x6 x7 x8 x9 x10 x11 x12 x13 x14) (k0_pay39 i x0 x1 x2 x3 x4 x5 x6 x7 x8 x9 x10 x11 x12 x13 x14) (View.ld x3 r0_4) (View.ld x6 r0_5)) (k0_pay15 (View.ld x7 r0_9))) k0_pay19 (ix3 0 r n) = (tileTurn i x0 x1 x2 x3 x4 x5 x6 x7 x8 x9 x10 x11 x12 x13 x14 r).decay n := by
  rw [pay20_apply, pay18_apply, pay13_eq, pay15_eq]
  have h1 : (fun n => View.ld x5 r0_0 (ix2 0 n)) = (tileTurn i x0 x1 x2 x3 x4 x5 x6 x7 x8 x9 x10 x11 x12 x13 x14 r).w0 := funext fun n => ld2 0 n x5 _
  have h2 : (fun k n => View.ld x7 r0_9 (ix2 k n)) = (tileTurn i x0 x1 x2 x3 x4 x5 x6 x7 x8 x9 x10 x11 x12 x13 x14 r).w2 := funext fun k => funext fun n => ld2 k n x7 _
  have h3 : (fun j => k0_pay14 (k0_pay36 i x0 x1 x2 x3 x4 x5 x6 x7 x8 x9 x10 x11 x12 x13 x14) (k0_pay37 i x0 x1 x2 x3 x4 x5 x6 x7 x8 x9 x10 x11 x12 x13 x14) (k0_pay38 i x0 x1 x2 x3 x4 x5 x6 x7 x8 x9 x10 x11 x12 x13 x14) (k0_pay39 i x0 x1 x2 x3 x4 x5 x6 x7 x8 x9 x10 x11 x12 x13 x14) (View.ld x3 r0_4) (View.ld x6 r0_5) (ix2 r j)) = fun j => Ideal.tanh (low ((tileTurn i x0 x1 x2 x3 x4 x5 x6 x7 x8 x9 x10 x11 x12 x13 x14 r).mix 4) (tileTurn i x0 x1 x2 x3 x4 x5 x6 x7 x8 x9 x10 x11 x12 x13 x14 r).w1 j) := funext fun j => by
    rw [pay14_apply]
    exact congrArg Ideal.tanh (Finset.sum_congr rfl fun d _ => congrArg₂ (· * ·) (mix_apply i x0 x1 x2 x3 x4 x5 x6 x7 x8 x9 x10 x11 x12 x13 x14 r d 4 _) (ld2 d j x6 _))
  rw [h1, h2, h3]
  rfl

section
variable (ho : ∀ d k : Fin 256, x14 (ix2 d k) = if d.val / 64 = k.val / 64 then (1 : EReal) else (0 : EReal))
include ho

theorem ones_row (d k : Fin 256) : k0_pay41 i x0 x1 x2 x3 x4 x5 x6 x7 x8 x9 x10 x11 x12 x13 x14 (ix2 d k) = if d.val / 64 = k.val / 64 then (1 : EReal) else (0 : EReal) := by
  rw [← ho]
  show k0_pay10 (View.ld x14 r0_3) (ix2 d k) = _
  rw [pay10_eq]
  exact ld2 d k x14 _

theorem squares_apply : k0_pay46 i x0 x1 x2 x3 x4 x5 x6 x7 x8 x9 x10 x11 x12 x13 x14 (ix2 r n) = headSum (fun d => (tileTurn i x0 x1 x2 x3 x4 x5 x6 x7 x8 x9 x10 x11 x12 x13 x14 r).dir0 d * (tileTurn i x0 x1 x2 x3 x4 x5 x6 x7 x8 x9 x10 x11 x12 x13 x14 r).dir0 d) n := by
  show k0_pay22 (k0_pay41 i x0 x1 x2 x3 x4 x5 x6 x7 x8 x9 x10 x11 x12 x13 x14) (k0_pay42 i x0 x1 x2 x3 x4 x5 x6 x7 x8 x9 x10 x11 x12 x13 x14) (View.ld x11 r0_0) (ix2 r n) = _
  rw [pay22_apply, blockSum_ones _ _ n (ones_row i x0 x1 x2 x3 x4 x5 x6 x7 x8 x9 x10 x11 x12 x13 x14 ho)]
  have h : ∀ d, k0_pay21 (k0_pay42 i x0 x1 x2 x3 x4 x5 x6 x7 x8 x9 x10 x11 x12 x13 x14) (View.ld x11 r0_0) (ix2 r d) = (tileTurn i x0 x1 x2 x3 x4 x5 x6 x7 x8 x9 x10 x11 x12 x13 x14 r).dir0 d := dir0_apply i x0 x1 x2 x3 x4 x5 x6 x7 x8 x9 x10 x11 x12 x13 x14 r
  simp only [h]
end

variable (y : S1x512x1024.Idx) (j : Fin 512) (h1' : (y 1).val = j.val) (h2' : (y 2).val = n.val)
include h1' h2'

/-- A row of the receptance. -/
theorem block_r : out0_15 i x0 x1 x2 x3 x4 x5 x6 x7 x8 x9 x10 x11 x12 x13 x14 y = (tileTurn i x0 x1 x2 x3 x4 x5 x6 x7 x8 x9 x10 x11 x12 x13 x14 j).r n := by
  unfold out0_15
  canon_tiles x h using cover0_15 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  exact (pay30_apply r z _).trans (r_apply i x0 x1 x2 x3 x4 x5 x6 x7 x8 x9 x10 x11 x12 x13 x14 r z)

/-- A row of the keys. -/
theorem block_k : out0_16 i x0 x1 x2 x3 x4 x5 x6 x7 x8 x9 x10 x11 x12 x13 x14 y = (tileTurn i x0 x1 x2 x3 x4 x5 x6 x7 x8 x9 x10 x11 x12 x13 x14 j).key n := by
  unfold out0_16
  canon_tiles x h using cover0_16 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  refine (pay24_apply r z _ _ _).trans ((pay23_apply r z _ _ _).symm.trans ?_)
  exact key_apply i x0 x1 x2 x3 x4 x5 x6 x7 x8 x9 x10 x11 x12 x13 x14 r z

/-- A row of the values. -/
theorem block_v : out0_17 i x0 x1 x2 x3 x4 x5 x6 x7 x8 x9 x10 x11 x12 x13 x14 y = (tileTurn i x0 x1 x2 x3 x4 x5 x6 x7 x8 x9 x10 x11 x12 x13 x14 j).v n := by
  unfold out0_17
  canon_tiles x h using cover0_17 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  exact (pay1_apply r z _).trans (v_apply i x0 x1 x2 x3 x4 x5 x6 x7 x8 x9 x10 x11 x12 x13 x14 r z)

/-- A row of the gates. -/
theorem block_g : out0_18 i x0 x1 x2 x3 x4 x5 x6 x7 x8 x9 x10 x11 x12 x13 x14 y = (tileTurn i x0 x1 x2 x3 x4 x5 x6 x7 x8 x9 x10 x11 x12 x13 x14 j).g n := by
  unfold out0_18
  canon_tiles x h using cover0_18 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  refine (pay3_apply r z _ _ _ _).trans ?_
  exact Finset.sum_congr rfl fun d _ => congrArg₂ (· * ·) (mix_apply i x0 x1 x2 x3 x4 x5 x6 x7 x8 x9 x10 x11 x12 x13 x14 r d 3 _) (ldSlab 3 d z x4 _)

/-- A row of the decays. -/
theorem block_w : out0_21 i x0 x1 x2 x3 x4 x5 x6 x7 x8 x9 x10 x11 x12 x13 x14 y = (tileTurn i x0 x1 x2 x3 x4 x5 x6 x7 x8 x9 x10 x11 x12 x13 x14 j).decay n := by
  unfold out0_21
  canon_tiles x h using cover0_21 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  exact decay_apply i x0 x1 x2 x3 x4 x5 x6 x7 x8 x9 x10 x11 x12 x13 x14 r z

variable (ho : ∀ d k : Fin 256, x14 (ix2 d k) = if d.val / 64 = k.val / 64 then (1 : EReal) else (0 : EReal))
include ho

/-- A row of the directions. -/
theorem block_d : out0_19 i x0 x1 x2 x3 x4 x5 x6 x7 x8 x9 x10 x11 x12 x13 x14 y = (tileTurn i x0 x1 x2 x3 x4 x5 x6 x7 x8 x9 x10 x11 x12 x13 x14 j).dir n := by
  unfold out0_19
  canon_tiles x h using cover0_19 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  refine (pay28_apply r z _ _).trans ?_
  rw [dir0_apply, squares_apply i x0 x1 x2 x3 x4 x5 x6 x7 x8 x9 x10 x11 x12 x13 x14 r z ho]
  rfl

/-- A row of the directions times the rates. -/
theorem block_b : out0_20 i x0 x1 x2 x3 x4 x5 x6 x7 x8 x9 x10 x11 x12 x13 x14 y = (tileTurn i x0 x1 x2 x3 x4 x5 x6 x7 x8 x9 x10 x11 x12 x13 x14 j).beta n := by
  unfold out0_20
  canon_tiles x h using cover0_20 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  refine (pay29_apply r z _ _ _).trans ?_
  rw [dir0_apply, squares_apply i x0 x1 x2 x3 x4 x5 x6 x7 x8 x9 x10 x11 x12 x13 x14 r z ho, rate_apply]
  rfl

/-- A row of the bonus. -/
theorem block_u : out0_22 i x0 x1 x2 x3 x4 x5 x6 x7 x8 x9 x10 x11 x12 x13 x14 y = (tileTurn i x0 x1 x2 x3 x4 x5 x6 x7 x8 x9 x10 x11 x12 x13 x14 j).bonus n := by
  unfold out0_22
  canon_tiles x h using cover0_22 ..
  all_goals obtain ⟨a, r, z, rfl⟩ : ∃ (a : Fin 1) (r : Fin 512) (z : Fin 1024), x = ix3 a r z := ⟨x 0, x 1, x 2, eq_ix3 x⟩
  all_goals obtain rfl : a = 0 := Subsingleton.elim _ _
  have hz : z = n := Fin.ext (h2.symm.trans h2')
  have hj : r = j := Fin.ext (h1.symm.trans h1')
  subst hz
  subst hj
  refine (pay2_apply r z (k0_pay41 i x0 x1 x2 x3 x4 x5 x6 x7 x8 x9 x10 x11 x12 x13 x14) (k0_pay48 i x0 x1 x2 x3 x4 x5 x6 x7 x8 x9 x10 x11 x12 x13 x14) (k0_pay44 i x0 x1 x2 x3 x4 x5 x6 x7 x8 x9 x10 x11 x12 x13 x14) (k0_pay47 i x0 x1 x2 x3 x4 x5 x6 x7 x8 x9 x10 x11 x12 x13 x14) (View.ld x13 r0_0)).trans ?_
  rw [blockSum_ones _ _ z (ones_row i x0 x1 x2 x3 x4 x5 x6 x7 x8 x9 x10 x11 x12 x13 x14 ho), v_apply]
  have h : ∀ d, k0_pay44 i x0 x1 x2 x3 x4 x5 x6 x7 x8 x9 x10 x11 x12 x13 x14 (ix2 r d) * k0_pay47 i x0 x1 x2 x3 x4 x5 x6 x7 x8 x9 x10 x11 x12 x13 x14 (ix2 r d) * View.ld x13 r0_0 (ix2 0 d) = (tileTurn i x0 x1 x2 x3 x4 x5 x6 x7 x8 x9 x10 x11 x12 x13 x14 r).r d * (tileTurn i x0 x1 x2 x3 x4 x5 x6 x7 x8 x9 x10 x11 x12 x13 x14 r).key d * (tileTurn i x0 x1 x2 x3 x4 x5 x6 x7 x8 x9 x10 x11 x12 x13 x14 r).rk d := fun d => by
    rw [r_apply, key_apply, show View.ld x13 r0_0 (ix2 0 d) = x13 (ix2 0 d) from ld2 0 d x13 _]
    rfl
  simp only [h]
  rfl
end

end Cert.Proof.Kernel4Ideal

end
-- ==== Proof.W.Host.lean ====
/- WHAT THE FOURTH KERNEL'S WINDOWS READ: the arrays as the host operations leave them, and the input blocks at coordinates. -/
module

public import proofs.«01_k».proof.Proof.W.Row
public import proofs.«01_k».proof.Proof.Gen.Kernel4Ideal.Value
public import Idealize.ShloMosaic.Lib.Pipeline.ValueKit

@[expose] public section

set_option maxRecDepth 16384

noncomputable section

namespace Cert.Proof.Kernel4Ideal

open Cert.Kernel4Ideal Cert.Kernel4Ideal.Gen Cert.Proof.Rows
open Idealize.ShloMosaic Idealize.ShloMosaic.TcCoe Idealize.ShloMosaic.StableHlo Idealize.ShloMosaic.Pipeline

variable (m : (ℓ : Loc nD τ sig) → Buf (Elt Ideal) ℓ) (c : Dev nD)

/-- One word for each of 256 lanes. -/
def every (z : IVec S_ 32) : IVec S256 32 := broadcastInDim S256 ![] bcast_S_S256 z

/-- The lanes' heads. -/
def head : IVec S256 32 :=
  select (andi (cmpi .ne (signi (iotaInDim S256 32 0)) (broadcastInDim S256 ![] bcast_S_S256 (signi (constantI S_ 32 64#32))))
      (cmpi .ne (Host.remsi (iotaInDim S256 32 0) (every (constantI S_ 32 64#32))) (every (constantI S_ 32 0#32))))
    (subi (Host.divsi (iotaInDim S256 32 0) (every (constantI S_ 32 64#32))) (every (constantI S_ 32 1#32)))
    (Host.divsi (iotaInDim S256 32 0) (every (constantI S_ 32 64#32)))

/-- One where two lanes lie in one head. -/
def ones : FVec Ideal S256x256 .bf16 :=
  uitofp .bf16 (cmpi .eq (broadcastInDim S256x256 ![0, 1] bcast_S256x1_S256x256_0_1 (broadcastInDim S256x1 ![0] bcast_S256_S256x1_0 head))
      (broadcastInDim S256x256 ![0, 1] bcast_S1x256_S256x256_0_1 (broadcastInDim S1x256 ![1] bcast_S256_S1x256_1 head)))

theorem head_apply : ∀ d : Fin 256, head (ix1 d) = BitVec.ofNat 32 (d.val / 64) := by decide +kernel

theorem ones_apply (d k : Fin 256) : ones (ix2 d k) = if d.val / 64 = k.val / 64 then 1 else 0 := by
  pointwise [ones]
  simp only [head_apply]
  have hd : (BitVec.ofNat 32 (d.val / 64) = BitVec.ofNat 32 (k.val / 64)) ↔ d.val / 64 = k.val / 64 := by
    constructor
    · intro h
      have h' := congrArg BitVec.toNat h
      simp only [BitVec.toNat_ofNat] at h'
      omega
    · intro h
      rw [h]
  by_cases h : d.val / 64 = k.val / 64
  · simp [IntOp.cmpi, h, FloatOps.uitofp]
  · simp [IntOp.cmpi, hd, h, FloatOps.uitofp]

/-- The weights as the host operations leave them. -/
def again (x : FVec Ideal S1x1024 .f32) : FVec Ideal S1x1024 .f32 := shapeCast S1x1024 (shapeCast S1024 x shapeCasts_S1x1024_S1024) shapeCasts_S1024_S1x1024
def gain (x : FVec Ideal S2x1024 .f32) : FVec Ideal S1x1024 .f32 := again (extractStridedSlice S1x1024 ![0, 0] x slices_S2x1024_S1x1024_0_0)
def mus (x : FVec Ideal S1x6x1024 .f32) : FVec Ideal S6x1024 .f32 := shapeCast S6x1024 x shapeCasts_S1x6x1024_S6x1024
def slabs (x : FVec Ideal S1x4x1024x1024 .f32) : FVec Ideal S4x1024x1024 .bf16 := truncf .bf16 (shapeCast S4x1024x1024 x shapeCasts_S1x4x1024x1024_S4x1024x1024) bitsLt_bf16_f32
def tall (x : FVec Ideal S1x1024x64 .f32) : FVec Ideal S1024x64 .bf16 := truncf .bf16 (shapeCast S1024x64 x shapeCasts_S1x1024x64_S1024x64) bitsLt_bf16_f32
def short (x : FVec Ideal S1x64x1024 .f32) : FVec Ideal S64x1024 .bf16 := truncf .bf16 (shapeCast S64x1024 x shapeCasts_S1x64x1024_S64x1024) bitsLt_bf16_f32
def joined (x : FVec Ideal S1x16x64 .f32) : FVec Ideal S1x1024 .f32 := shapeCast S1x1024 (shapeCast S16x64 x shapeCasts_S1x16x64_S16x64) shapeCasts_S16x64_S1x1024

theorem again_apply (x) (n : Fin 1024) : again x (ix2 0 n) = x (ix2 0 n) := by
  pointwise [again]
theorem gain_apply (x) (n : Fin 1024) : gain x (ix2 0 n) = x (ix2 0 n) := by
  pointwise [gain, again]
theorem mus_apply (x) (q : Fin 6) (n : Fin 1024) : mus x (ix2 q n) = x (ix3 0 q n) := by
  pointwise [mus]
theorem slabs_apply (x) (q : Fin 4) (d n : Fin 1024) : slabs x (ix3 q d n) = x (ix4 0 q d n) := by
  pointwise [slabs]
theorem tall_apply (x) (d : Fin 1024) (k : Fin 64) : tall x (ix2 d k) = x (ix3 0 d k) := by
  pointwise [tall]
theorem short_apply (x) (k : Fin 64) (n : Fin 1024) : short x (ix2 k n) = x (ix3 0 k n) := by
  pointwise [short]
theorem joined_apply (x) (n : Fin 1024) : joined x (ix2 0 n) = x (ix3 0 ⟨n.val / 64, by omega⟩ ⟨n.val % 64, by omega⟩) := by
  pointwise [joined]

theorem V_ones : V m c main_v7 = ones := by
  show StableHlo.after (List.flatten _) (fun b => m (c, b)) main_v7 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_g : V m c main_v10 = gain (m ((c : Thread nD τ).loc main_arg1)) := by
  show StableHlo.after (List.flatten _) (fun b => m (c, b)) main_v10 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_mu : V m c main_v11 = mus (m ((c : Thread nD τ).loc main_arg2)) := by
  show StableHlo.after (List.flatten _) (fun b => m (c, b)) main_v11 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_w : V m c main_v13 = slabs (m ((c : Thread nD τ).loc main_arg3)) := by
  show StableHlo.after (List.flatten _) (fun b => m (c, b)) main_v13 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_w0 : V m c main_v15 = again (m ((c : Thread nD τ).loc main_arg4)) := by
  show StableHlo.after (List.flatten _) (fun b => m (c, b)) main_v15 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_w1 : V m c main_v17 = tall (m ((c : Thread nD τ).loc main_arg5)) := by
  show StableHlo.after (List.flatten _) (fun b => m (c, b)) main_v17 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_w2 : V m c main_v19 = short (m ((c : Thread nD τ).loc main_arg6)) := by
  show StableHlo.after (List.flatten _) (fun b => m (c, b)) main_v19 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_a0 : V m c main_v21 = again (m ((c : Thread nD τ).loc main_arg7)) := by
  show StableHlo.after (List.flatten _) (fun b => m (c, b)) main_v21 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_a1 : V m c main_v23 = tall (m ((c : Thread nD τ).loc main_arg8)) := by
  show StableHlo.after (List.flatten _) (fun b => m (c, b)) main_v23 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_a2 : V m c main_v25 = short (m ((c : Thread nD τ).loc main_arg9)) := by
  show StableHlo.after (List.flatten _) (fun b => m (c, b)) main_v25 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_kk : V m c main_v27 = again (m ((c : Thread nD τ).loc main_arg10)) := by
  show StableHlo.after (List.flatten _) (fun b => m (c, b)) main_v27 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_ka : V m c main_v29 = again (m ((c : Thread nD τ).loc main_arg11)) := by
  show StableHlo.after (List.flatten _) (fun b => m (c, b)) main_v29 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl
theorem V_rk : V m c main_v31 = joined (m ((c : Thread nD τ).loc main_arg12)) := by
  show StableHlo.after (List.flatten _) (fun b => m (c, b)) main_v31 = _
  simp only [hostOps0, hostOps0_1, hostOps0_2, List.flatten_cons, List.flatten_nil, List.append_nil, List.cons_append, List.nil_append, TRef.nullary, TRef.binary, TRef.ternary, TRef.unary, TRef.toBuf, TRef.ofBuf, cast_eq]
  after_results_simp <;> rfl

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16 * 64 - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val / 16, t.val % 16, 0] := (by decide +kernel : ∀ t : Fin grid0.N, _)
theorem idx16 : ∀ t : Fin cfg0.N, win0_16.index t = ![t.val / 16, t.val % 16, 0] := (by decide +kernel : ∀ t : Fin grid0.N, _)
theorem idx17 : ∀ t : Fin cfg0.N, win0_17.index t = ![t.val / 16, t.val % 16, 0] := (by decide +kernel : ∀ t : Fin grid0.N, _)
theorem idx18 : ∀ t : Fin cfg0.N, win0_18.index t = ![t.val / 16, t.val % 16, 0] := (by decide +kernel : ∀ t : Fin grid0.N, _)
theorem idx19 : ∀ t : Fin cfg0.N, win0_19.index t = ![t.val / 16, t.val % 16, 0] := (by decide +kernel : ∀ t : Fin grid0.N, _)
theorem idx20 : ∀ t : Fin cfg0.N, win0_20.index t = ![t.val / 16, t.val % 16, 0] := (by decide +kernel : ∀ t : Fin grid0.N, _)
theorem idx21 : ∀ t : Fin cfg0.N, win0_21.index t = ![t.val / 16, t.val % 16, 0] := (by decide +kernel : ∀ t : Fin grid0.N, _)
theorem idx22 : ∀ t : Fin cfg0.N, win0_22.index t = ![t.val / 16, t.val % 16, 0] := (by decide +kernel : ∀ t : Fin grid0.N, _)

section
variable (t : Fin cfg0.N) (b : Fin 8) (hb : b.val = t.val / 16)
include hb

/-- A row of the tile. -/
theorem iblk_x (p : Fin 8192) (j : Fin 512) (hp : p.val = t.val % 16 * 512 + j.val) (d : Fin 1024) :
    (iblk m c 0 t : FVec Ideal S1x512x1024 .f32) (ix3 0 j d) = (m ((c : Thread nD τ).loc main_arg0) : FVec Ideal S8x8192x1024 .f32) (ix3 b p d) := by
  blk_simp [iblk]
  rw [V_main_arg0]
  congr 1
  blk_ext [idx0]
/-- The row before the tile's first. -/
theorem iblk_p (p : Fin 8192) (h0 : t.val % 16 ≠ 0) (hp : p.val + 1 = t.val % 16 * 512) (d : Fin 1024) :
    (iblk m c 1 t : FVec Ideal S1x8x1024 .f32) (ix3 0 7 d) = (m ((c : Thread nD τ).loc main_arg0) : FVec Ideal S8x8192x1024 .f32) (ix3 b p d) := by
  blk_simp [iblk]
  rw [V_main_arg0]
  congr 1
  blk_ext [idx1]
end

theorem iblk_ones (t : Fin cfg0.N) (d k : Fin 256) : (iblk m c 14 t : FVec Ideal S256x256 .bf16) (ix2 d k) = if d.val / 64 = k.val / 64 then (1 : EReal) else (0 : EReal) := by
  refine Eq.trans ?_ (ones_apply d k)
  blk_simp [iblk]
  rw [V_ones]
  congr 1
  blk_ext [idx14]
theorem iblk_mu (t : Fin cfg0.N) (q : Fin 6) (n : Fin 1024) : (iblk m c 3 t : FVec Ideal S6x1024 .f32) (ix2 q n) = (m ((c : Thread nD τ).loc main_arg2) : FVec Ideal S1x6x1024 .f32) (ix3 0 q n) := by
  refine Eq.trans ?_ (mus_apply _ q n)
  blk_simp [iblk]
  rw [V_mu]
  congr 1
  blk_ext [idx3]
theorem iblk_w (t : Fin cfg0.N) (q : Fin 4) (d n : Fin 1024) : (iblk m c 4 t : FVec Ideal S4x1024x1024 .bf16) (ix3 q d n) = (m ((c : Thread nD τ).loc main_arg3) : FVec Ideal S1x4x1024x1024 .f32) (ix4 0 q d n) := by
  refine Eq.trans ?_ (slabs_apply _ q d n)
  blk_simp [iblk]
  rw [V_w]
  congr 1
  blk_ext [idx4]
theorem iblk_w1 (t : Fin cfg0.N) (d : Fin 1024) (k : Fin 64) : (iblk m c 6 t : FVec Ideal S1024x64 .bf16) (ix2 d k) = (m ((c : Thread nD τ).loc main_arg5) : FVec Ideal S1x1024x64 .f32) (ix3 0 d k) := by
  refine Eq.trans ?_ (tall_apply _ d k)
  blk_simp [iblk]
  rw [V_w1]
  congr 1
  blk_ext [idx6]
theorem iblk_a1 (t : Fin cfg0.N) (d : Fin 1024) (k : Fin 64) : (iblk m c 9 t : FVec Ideal S1024x64 .bf16) (ix2 d k) = (m ((c : Thread nD τ).loc main_arg8) : FVec Ideal S1x1024x64 .f32) (ix3 0 d k) := by
  refine Eq.trans ?_ (tall_apply _ d k)
  blk_simp [iblk]
  rw [V_a1]
  congr 1
  blk_ext [idx9]
theorem iblk_w2 (t : Fin cfg0.N) (k : Fin 64) (n : Fin 1024) : (iblk m c 7 t : FVec Ideal S64x1024 .bf16) (ix2 k n) = (m ((c : Thread nD τ).loc main_arg6) : FVec Ideal S1x64x1024 .f32) (ix3 0 k n) := by
  refine Eq.trans ?_ (short_apply _ k n)
  blk_simp [iblk]
  rw [V_w2]
  congr 1
  blk_ext [idx7]
theorem iblk_a2 (t : Fin cfg0.N) (k : Fin 64) (n : Fin 1024) : (iblk m c 10 t : FVec Ideal S64x1024 .bf16) (ix2 k n) = (m ((c : Thread nD τ).loc main_arg9) : FVec Ideal S1x64x1024 .f32) (ix3 0 k n) := by
  refine Eq.trans ?_ (short_apply _ k n)
  blk_simp [iblk]
  rw [V_a2]
  congr 1
  blk_ext [idx10]
theorem iblk_w0 (t : Fin cfg0.N) (n : Fin 1024) : (iblk m c 5 t : FVec Ideal S1x1024 .f32) (ix2 0 n) = (m ((c : Thread nD τ).loc main_arg4) : FVec Ideal S1x1024 .f32) (ix2 0 n) := by
  refine Eq.trans ?_ (again_apply _ n)
  blk_simp [iblk]
  rw [V_w0]
  congr 1
  blk_ext [idx5]
theorem iblk_a0 (t : Fin cfg0.N) (n : Fin 1024) : (iblk m c 8 t : FVec Ideal S1x1024 .f32) (ix2 0 n) = (m ((c : Thread nD τ).loc main_arg7) : FVec Ideal S1x1024 .f32) (ix2 0 n) := by
  refine Eq.trans ?_ (again_apply _ n)
  blk_simp [iblk]
  rw [V_a0]
  congr 1
  blk_ext [idx8]
theorem iblk_kk (t : Fin cfg0.N) (n : Fin 1024) : (iblk m c 11 t : FVec Ideal S1x1024 .f32) (ix2 0 n) = (m ((c : Thread nD τ).loc main_arg10) : FVec Ideal S1x1024 .f32) (ix2 0 n) := by
  refine Eq.trans ?_ (again_apply _ n)
  blk_simp [iblk]
  rw [V_kk]
  congr 1
  blk_ext [idx11]
theorem iblk_ka (t : Fin cfg0.N) (n : Fin 1024) : (iblk m c 12 t : FVec Ideal S1x1024 .f32) (ix2 0 n) = (m ((c : Thread nD τ).loc main_arg11) : FVec Ideal S1x1024 .f32) (ix2 0 n) := by
  refine Eq.trans ?_ (again_apply _ n)
  blk_simp [iblk]
  rw [V_ka]
  congr 1
  blk_ext [idx12]
theorem iblk_g (t : Fin cfg0.N) (n : Fin 1024) : (iblk m c 2 t : FVec Ideal S1x1024 .f32) (ix2 0 n) = (m ((c : Thread nD τ).loc main_arg1) : FVec Ideal S2x1024 .f32) (ix2 0 n) := by
  refine Eq.trans ?_ (gain_apply _ n)
  blk_simp [iblk]
  rw [V_g]
  congr 1
  blk_ext [idx2]
theorem iblk_rk (t : Fin cfg0.N) (n : Fin 1024) : (iblk m c 13 t : FVec Ideal S1x1024 .f32) (ix2 0 n) = (m ((c : Thread nD τ).loc main_arg12) : FVec Ideal S1x16x64 .f32) (ix3 0 ⟨n.val / 64, by omega⟩ ⟨n.val % 64, by omega⟩) := by
  refine Eq.trans ?_ (joined_apply _ n)
  blk_simp [iblk]
  rw [V_rk]
  congr 1
  blk_ext [idx13]

end Cert.Proof.Kernel4Ideal

end
-- ==== Proof.W.Array.lean ====
/- THE FOURTH KERNEL'S RESULT ARRAYS: each of their rows from the arguments' rows, and the arrays the output blocks cover. -/
module

public import proofs.«01_k».proof.Proof.W.Block
public import proofs.«01_k».proof.Proof.W.Host

@[expose] public section

set_option maxRecDepth 16384

noncomputable section

namespace Cert.Proof.Kernel4Ideal

open Cert.Kernel4Ideal Cert.Kernel4Ideal.Gen Cert.Proof.Rows
open Idealize.ShloMosaic Idealize.ShloMosaic.TcCoe Idealize.ShloMosaic.StableHlo Idealize.ShloMosaic.Pipeline

/-- An array of rows. -/
def arr (R : Fin 8 → Fin 8192 → Fin 1024 → EReal) : S8x8192x1024.Idx → EReal := fun i => R (i 0) (i 1) (i 2)

theorem arr_apply (R : Fin 8 → Fin 8192 → Fin 1024 → EReal) (z : S8x8192x1024.Idx) (b : Fin 8) (p : Fin 8192) (n : Fin 1024) (h0 : (z 0).val = b.val) (h1 : (z 1).val = p.val)
    (h2 : (z 2).val = n.val) : arr R z = R b p n := by
  have hz : z = ix3 b p n := by
    funext a
    fin_cases a
    · exact Fin.ext h0
    · exact Fin.ext h1
    · exact Fin.ext h2
  subst hz
  rfl

variable (m : (ℓ : Loc nD τ sig) → Buf (Elt Ideal) ℓ) (c : Dev nD)

/-- A normed row of the stream. -/
def normed (b : Fin 8) (p : Fin 8192) : Fin 1024 → EReal := rms (fun d => (m ((c : Thread nD τ).loc main_arg0) : FVec Ideal S8x8192x1024 .f32) (ix3 b p d)) (fun d => (m ((c : Thread nD τ).loc main_arg1) : FVec Ideal S2x1024 .f32) (ix2 0 d))

/-- What a position's rows come from. -/
def turn (b : Fin 8) (p : Fin 8192) : Turn where
  x := normed m c b p
  p := fun n => if h : p.val = 0 then 0 else normed m c b ⟨p.val - 1, by omega⟩ n
  mu := fun q n => (m ((c : Thread nD τ).loc main_arg2) : FVec Ideal S1x6x1024 .f32) (ix3 0 q n)
  w := fun q d n => (m ((c : Thread nD τ).loc main_arg3) : FVec Ideal S1x4x1024x1024 .f32) (ix4 0 q d n)
  w0 := fun n => (m ((c : Thread nD τ).loc main_arg4) : FVec Ideal S1x1024 .f32) (ix2 0 n)
  w1 := fun d k => (m ((c : Thread nD τ).loc main_arg5) : FVec Ideal S1x1024x64 .f32) (ix3 0 d k)
  w2 := fun k n => (m ((c : Thread nD τ).loc main_arg6) : FVec Ideal S1x64x1024 .f32) (ix3 0 k n)
  a0 := fun n => (m ((c : Thread nD τ).loc main_arg7) : FVec Ideal S1x1024 .f32) (ix2 0 n)
  a1 := fun d k => (m ((c : Thread nD τ).loc main_arg8) : FVec Ideal S1x1024x64 .f32) (ix3 0 d k)
  a2 := fun k n => (m ((c : Thread nD τ).loc main_arg9) : FVec Ideal S1x64x1024 .f32) (ix3 0 k n)
  kk := fun n => (m ((c : Thread nD τ).loc main_arg10) : FVec Ideal S1x1024 .f32) (ix2 0 n)
  ka := fun n => (m ((c : Thread nD τ).loc main_arg11) : FVec Ideal S1x1024 .f32) (ix2 0 n)
  rk := fun n => (m ((c : Thread nD τ).loc main_arg12) : FVec Ideal S1x16x64 .f32) (ix3 0 ⟨n.val / 64, by omega⟩ ⟨n.val % 64, by omega⟩)

theorem tile_of : ∀ t : Fin grid0.N, (grid0.coords t 1).val = t.val % 16 := by decide +kernel

section
variable (t : Fin cfg0.N) (b : Fin 8) (p : Fin 8192) (j : Fin 512) (hb : b.val = t.val / 16) (hp : p.val = t.val % 16 * 512 + j.val)
include hb hp

theorem norm_row : rms (fun n => (iblk m c 0 t : FVec Ideal S1x512x1024 .f32) (ix3 0 j n)) (fun n => (iblk m c 2 t : FVec Ideal S1x1024 .f32) (ix2 0 n)) = normed m c b p :=
  congrArg₂ rms (funext fun n => iblk_x m c t b hb p j hp n) (funext fun n => iblk_g m c t n)

/-- The row before: the tile's own, or before the tile's first row the last of the eight before the tile. -/
theorem row_before (n : Fin 1024) :
    (if j.val = 0 then (if (grid0.coords t 1).val = 0 then 0 else rms (fun n => (iblk m c 1 t : FVec Ideal S1x8x1024 .f32) (ix3 0 7 n)) (fun n => (iblk m c 2 t : FVec Ideal S1x1024 .f32) (ix2 0 n)) n)
      else rms (fun n => (iblk m c 0 t : FVec Ideal S1x512x1024 .f32) (ix3 0 ⟨(j.val + 511) % 512, by omega⟩ n)) (fun n => (iblk m c 2 t : FVec Ideal S1x1024 .f32) (ix2 0 n)) n) =
      if h : p.val = 0 then 0 else normed m c b ⟨p.val - 1, by omega⟩ n := by
  have hi : (grid0.coords t 1).val = t.val % 16 := tile_of t
  by_cases hj : j.val = 0
  · rw [if_pos hj, hi]
    by_cases h0 : t.val % 16 = 0
    · rw [if_pos h0, dif_pos (by omega)]
    · rw [if_neg h0, dif_neg (by omega)]
      exact congrFun (congrArg₂ rms (funext fun n => iblk_p m c t b hb ⟨p.val - 1, by omega⟩ h0 (by show p.val - 1 + 1 = _; omega) n) (funext fun n => iblk_g m c t n)) n
  · rw [if_neg hj, dif_neg (by omega)]
    exact congrFun (norm_row m c t b ⟨p.val - 1, by omega⟩ ⟨(j.val + 511) % 512, by omega⟩ hb (by show p.val - 1 = _ + (j.val + 511) % 512; omega)) n

theorem turn_eq : tileTurn (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j = turn m c b p := by
  unfold tileTurn turn
  rw [Turn.mk.injEq]
  exact ⟨norm_row m c t b p j hb hp, funext fun n => row_before m c t b p j hb hp n, funext fun q => funext fun n => iblk_mu m c t q n,
    funext fun q => funext fun d => funext fun n => iblk_w m c t q d n, funext fun n => iblk_w0 m c t n, funext fun d => funext fun k => iblk_w1 m c t d k,
    funext fun k => funext fun n => iblk_w2 m c t k n, funext fun n => iblk_a0 m c t n, funext fun d => funext fun k => iblk_a1 m c t d k,
    funext fun k => funext fun n => iblk_a2 m c t k n, funext fun n => iblk_kk m c t n, funext fun n => iblk_ka m c t n, funext fun n => iblk_rk m c t n⟩
end

/-- The array of window 15 at the end of the run. -/
theorem array_r : (dats m 0 c).arrAt 15 cfg0.N = arr (fun b p => (turn m c b p).r) := by
  refine (dats m 0 c).arrAt_eq_of_covers 15 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_15]
  refine (block_r _ _ _ _ _ _ _ _ _ _ _ _ _ _ _ _ n y j hj hn).trans ?_
  refine Eq.trans ?_ (arr_apply (fun b p => (turn m c b p).r) _ b p n ?_ ?_ ?_).symm
  · rw [turn_eq m c t b p j hb hp]
  · blk_simp [idx15]
    omega
  · blk_simp [idx15]
    omega
  · blk_simp [idx15]
    omega

/-- The array of window 16 at the end of the run. -/
theorem array_k : (dats m 0 c).arrAt 16 cfg0.N = arr (fun b p => (turn m c b p).key) := by
  refine (dats m 0 c).arrAt_eq_of_covers 16 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_16]
  refine (block_k _ _ _ _ _ _ _ _ _ _ _ _ _ _ _ _ n y j hj hn).trans ?_
  refine Eq.trans ?_ (arr_apply (fun b p => (turn m c b p).key) _ b p n ?_ ?_ ?_).symm
  · rw [turn_eq m c t b p j hb hp]
  · blk_simp [idx16]
    omega
  · blk_simp [idx16]
    omega
  · blk_simp [idx16]
    omega

/-- The array of window 17 at the end of the run. -/
theorem array_v : (dats m 0 c).arrAt 17 cfg0.N = arr (fun b p => (turn m c b p).v) := by
  refine (dats m 0 c).arrAt_eq_of_covers 17 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_17]
  refine (block_v _ _ _ _ _ _ _ _ _ _ _ _ _ _ _ _ n y j hj hn).trans ?_
  refine Eq.trans ?_ (arr_apply (fun b p => (turn m c b p).v) _ b p n ?_ ?_ ?_).symm
  · rw [turn_eq m c t b p j hb hp]
  · blk_simp [idx17]
    omega
  · blk_simp [idx17]
    omega
  · blk_simp [idx17]
    omega

/-- The array of window 18 at the end of the run. -/
theorem array_g : (dats m 0 c).arrAt 18 cfg0.N = arr (fun b p => (turn m c b p).g) := by
  refine (dats m 0 c).arrAt_eq_of_covers 18 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_18]
  refine (block_g _ _ _ _ _ _ _ _ _ _ _ _ _ _ _ _ n y j hj hn).trans ?_
  refine Eq.trans ?_ (arr_apply (fun b p => (turn m c b p).g) _ b p n ?_ ?_ ?_).symm
  · rw [turn_eq m c t b p j hb hp]
  · blk_simp [idx18]
    omega
  · blk_simp [idx18]
    omega
  · blk_simp [idx18]
    omega

/-- The array of window 19 at the end of the run. -/
theorem array_d : (dats m 0 c).arrAt 19 cfg0.N = arr (fun b p => (turn m c b p).dir) := by
  refine (dats m 0 c).arrAt_eq_of_covers 19 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_19]
  refine (block_d _ _ _ _ _ _ _ _ _ _ _ _ _ _ _ _ n y j hj hn (iblk_ones m c t)).trans ?_
  refine Eq.trans ?_ (arr_apply (fun b p => (turn m c b p).dir) _ b p n ?_ ?_ ?_).symm
  · rw [turn_eq m c t b p j hb hp]
  · blk_simp [idx19]
    omega
  · blk_simp [idx19]
    omega
  · blk_simp [idx19]
    omega

/-- The array of window 20 at the end of the run. -/
theorem array_b : (dats m 0 c).arrAt 20 cfg0.N = arr (fun b p => (turn m c b p).beta) := by
  refine (dats m 0 c).arrAt_eq_of_covers 20 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_20]
  refine (block_b _ _ _ _ _ _ _ _ _ _ _ _ _ _ _ _ n y j hj hn (iblk_ones m c t)).trans ?_
  refine Eq.trans ?_ (arr_apply (fun b p => (turn m c b p).beta) _ b p n ?_ ?_ ?_).symm
  · rw [turn_eq m c t b p j hb hp]
  · blk_simp [idx20]
    omega
  · blk_simp [idx20]
    omega
  · blk_simp [idx20]
    omega

/-- The array of window 21 at the end of the run. -/
theorem array_w : (dats m 0 c).arrAt 21 cfg0.N = arr (fun b p => (turn m c b p).decay) := by
  refine (dats m 0 c).arrAt_eq_of_covers 21 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_21]
  refine (block_w _ _ _ _ _ _ _ _ _ _ _ _ _ _ _ _ n y j hj hn).trans ?_
  refine Eq.trans ?_ (arr_apply (fun b p => (turn m c b p).decay) _ b p n ?_ ?_ ?_).symm
  · rw [turn_eq m c t b p j hb hp]
  · blk_simp [idx21]
    omega
  · blk_simp [idx21]
    omega
  · blk_simp [idx21]
    omega

/-- The array of window 22 at the end of the run. -/
theorem array_u : (dats m 0 c).arrAt 22 cfg0.N = arr (fun b p => (turn m c b p).bonus) := by
  refine (dats m 0 c).arrAt_eq_of_covers 22 _ (by decide +kernel) fun t hf y => ?_
  have hN : t.val < 128 := t.isLt
  obtain ⟨b, hb⟩ : ∃ b : Fin 8, b.val = t.val / 16 := ⟨⟨t.val / 16, by omega⟩, rfl⟩
  obtain ⟨j, hj⟩ : ∃ j : Fin 512, (y 1).val = j.val := ⟨y 1, rfl⟩
  obtain ⟨n, hn⟩ : ∃ n : Fin 1024, (y 2).val = n.val := ⟨y 2, rfl⟩
  obtain ⟨p, hp⟩ : ∃ p : Fin 8192, p.val = t.val % 16 * 512 + j.val := ⟨⟨t.val % 16 * 512 + j.val, by omega⟩, rfl⟩
  have y0 : (y 0).val < 1 := (y 0).isLt
  blk_simp
  rw [after0_22]
  refine (block_u _ _ _ _ _ _ _ _ _ _ _ _ _ _ _ _ n y j hj hn (iblk_ones m c t)).trans ?_
  refine Eq.trans ?_ (arr_apply (fun b p => (turn m c b p).bonus) _ b p n ?_ ?_ ?_).symm
  · rw [turn_eq m c t b p j hb hp]
  · blk_simp [idx22]
    omega
  · blk_simp [idx22]
    omega
  · blk_simp [idx22]
    omega

end Cert.Proof.Kernel4Ideal

end
-- ==== Proof.W.Calc.lean ====
/- THE REFERENCE'S FORMS OF THE DECAY AND OF THE NORM: the exponential of a soft plus against a logistic function, the length against its square. -/
module

public import proofs.«01_k».proof.Proof.W.Row

@[expose] public section

noncomputable section

namespace Cert.Proof.Rows

open Idealize.ShloMosaic

/-- The logarithm of one and an exponential, the larger term taken out. -/
def soft (y : EReal) : EReal := max y 0 + Ideal.log1p (Ideal.exp (-max y (-y)))

theorem half_word : Ideal.ofBits .f32 0xBF000000#32 = ((-(1 / 2) : ℝ) : EReal) := by
  simp [Ideal.ofBits, Ideal.ieee]
  rw [← EReal.coe_mul]
  norm_num

theorem half_word' : Ideal.ofBits .f32 0x3F000000#32 = ((1 / 2 : ℝ) : EReal) := by
  simp [Ideal.ofBits, Ideal.ieee]
  rw [← EReal.coe_mul]
  norm_num

theorem least_word : Ideal.ofBits .f32 0x2B8CBCCC#32 = ((2305843 / 2305843009213693952 : ℝ) : EReal) := by
  simp [Ideal.ofBits, Ideal.ieee]
  rw [← EReal.coe_mul]
  norm_num

theorem exp_coe (x : ℝ) : Ideal.exp (x : EReal) = (Real.exp x : EReal) := rfl
theorem exp_bot : Ideal.exp ⊥ = 0 := rfl
theorem exp_top : Ideal.exp ⊤ = ⊤ := rfl

theorem coe_max (x y : ℝ) : ((max x y : ℝ) : EReal) = max (x : EReal) (y : EReal) := EReal.coe_strictMono.monotone.map_max

theorem soft_coe (y : ℝ) : soft (y : EReal) = ((Real.log (1 + Real.exp y) : ℝ) : EReal) := by
  have h1 : max (y : EReal) 0 = ((max y 0 : ℝ) : EReal) := by
    rw [show (0 : EReal) = ((0 : ℝ) : EReal) from rfl]
    exact (coe_max y 0).symm
  have h2 : -max (y : EReal) (-(y : EReal)) = ((-|y| : ℝ) : EReal) := by
    rw [← EReal.coe_neg, ← coe_max, ← EReal.coe_neg]
    rfl
  have hp : 0 < 1 + Real.exp (-|y|) := by positivity
  unfold soft Ideal.log1p
  rw [h1, h2, exp_coe, show (1 : EReal) = ((1 : ℝ) : EReal) from rfl, ← EReal.coe_add]
  have h3 : Ideal.log (((1 + Real.exp (-|y|) : ℝ)) : EReal) = ((Real.log (1 + Real.exp (-|y|)) : ℝ) : EReal) := if_neg (not_le.mpr hp)
  rw [h3, ← EReal.coe_add]
  congr 1
  rcases le_total 0 y with h | h
  · rw [max_eq_left h, abs_of_nonneg h]
    have e : 1 + Real.exp y = Real.exp y * (1 + Real.exp (-y)) := by
      rw [mul_add, ← Real.exp_add]
      simp [add_comm]
    rw [e, Real.log_mul (Real.exp_pos y).ne' (by positivity), Real.log_exp]
  · rw [max_eq_right h, abs_of_nonpos h, neg_neg, zero_add]

theorem soft_top : soft ⊤ = ⊤ := by
  have h : Ideal.log1p (Ideal.exp (-max (⊤ : EReal) (-⊤))) = 0 := by
    rw [max_eq_left le_top, EReal.neg_top, exp_bot, Ideal.log1p, add_zero, show (1 : EReal) = ((1 : ℝ) : EReal) from rfl]
    show (if (1 : ℝ) ≤ 0 then (⊥ : EReal) else ((Real.log 1 : ℝ) : EReal)) = 0
    rw [if_neg (by norm_num), Real.log_one]
    rfl
  rw [soft, h, add_zero, max_eq_left le_top]

theorem soft_bot : soft ⊥ = 0 := by
  have h : Ideal.log1p (Ideal.exp (-max (⊥ : EReal) (-⊥))) = 0 := by
    rw [max_eq_right bot_le, EReal.neg_bot, EReal.neg_top, exp_bot, Ideal.log1p, add_zero, show (1 : EReal) = ((1 : ℝ) : EReal) from rfl]
    show (if (1 : ℝ) ≤ 0 then (⊥ : EReal) else ((Real.log 1 : ℝ) : EReal)) = 0
    rw [if_neg (by norm_num), Real.log_one]
    rfl
  rw [soft, h, add_zero, max_eq_right bot_le]

theorem factor_coe : factor = ((Real.exp (-(1 / 2)) : ℝ) : EReal) := by
  rw [factor, half_word, exp_coe]

/-- The decay's logarithm, as the reference writes it. -/
theorem decay_eq (x : EReal) : -Ideal.exp (-soft (-x) - Ideal.ofBits .f32 0x3F000000#32) = -factor * logi x := by
  rw [EReal.neg_mul, half_word', factor_coe]
  congr 1
  induction x using EReal.rec with
  | bot =>
    have h : logi ⊥ = 0 := by
      rw [logi, EReal.neg_bot, exp_top, show (1 : EReal) + ⊤ = ⊤ from EReal.add_top_of_ne_bot (by decide), Ideal.div, if_neg (by decide), EReal.inv_top, mul_zero]
    rw [h, mul_zero, EReal.neg_bot, soft_top, EReal.neg_top, EReal.bot_sub, exp_bot]
  | top =>
    have h : logi ⊤ = 1 := by
      rw [logi, EReal.neg_top, exp_bot, add_zero, Ideal.div, if_neg one_ne_zero, one_mul, show (1 : EReal) = ((1 : ℝ) : EReal) from rfl, ← EReal.coe_inv, inv_one]
    rw [h, mul_one, EReal.neg_top, soft_bot, neg_zero, zero_sub, ← EReal.coe_neg, exp_coe]
  | coe x =>
    have hp : 0 < 1 + Real.exp (-x) := by positivity
    have h : logi (x : EReal) = (((1 + Real.exp (-x))⁻¹ : ℝ) : EReal) := by
      have hn : ((1 + Real.exp (-x) : ℝ) : EReal) ≠ 0 := by exact_mod_cast hp.ne'
      rw [logi, ← EReal.coe_neg, exp_coe, show (1 : EReal) = ((1 : ℝ) : EReal) from rfl, ← EReal.coe_add, Ideal.div, if_neg hn, ← EReal.coe_inv, ← EReal.coe_mul, one_mul]
    rw [h, ← EReal.coe_neg, soft_coe, ← EReal.coe_neg, ← EReal.coe_sub, exp_coe, ← EReal.coe_mul]
    congr 1
    rw [sub_eq_add_neg, Real.exp_add, Real.exp_neg (Real.log _), Real.exp_log hp, mul_comm]

theorem sq_nonneg' (x : EReal) : 0 ≤ x * x := by
  induction x using EReal.rec with
  | bot => simp
  | top => simp
  | coe x =>
    rw [← EReal.coe_mul]
    exact_mod_cast mul_self_nonneg x

theorem headSum_nonneg (y : Fin 1024 → EReal) (n : Fin 1024) : 0 ≤ headSum (fun d => y d * y d) n := Finset.sum_nonneg fun j _ => sq_nonneg' _

/-- Over the length, the least length at least, is times the root of the inverse of its square. -/
theorem length_eq (x s : EReal) (hs : 0 ≤ s) : Ideal.div x (max (Ideal.sqrt s) (Ideal.ofBits .f32 0x2B8CBCCC#32)) = x * Ideal.rsqrt (max s leastSq) := by
  rw [least_word]
  induction s using EReal.rec with
  | bot => exact absurd hs (by decide)
  | top =>
    rw [show Ideal.sqrt ⊤ = ⊤ from rfl, max_eq_left le_top, max_eq_left le_top, Ideal.div, if_neg (by decide), EReal.inv_top]
    rfl
  | coe s =>
    have h0 : (0 : ℝ) ≤ s := by exact_mod_cast hs
    have he : (0 : ℝ) < 2305843 / 2305843009213693952 := by norm_num
    have e1 : Ideal.sqrt (s : EReal) = ((Real.sqrt s : ℝ) : EReal) := if_neg (not_lt.mpr h0)
    have hq : leastSq = (((2305843 / 2305843009213693952) ^ 2 : ℝ) : EReal) := by
      rw [leastSq]
      congr 1
      norm_num
    have hm : 0 < max s ((2305843 / 2305843009213693952) ^ 2 : ℝ) := lt_max_of_lt_right (by positivity)
    have hk : 0 < max (Real.sqrt s) (2305843 / 2305843009213693952 : ℝ) := lt_max_of_lt_right he
    have hn : ((max (Real.sqrt s) (2305843 / 2305843009213693952) : ℝ) : EReal) ≠ 0 := by exact_mod_cast hk.ne'
    have e2 : Ideal.rsqrt ((max s ((2305843 / 2305843009213693952) ^ 2) : ℝ) : EReal) = (((Real.sqrt (max s ((2305843 / 2305843009213693952) ^ 2)))⁻¹ : ℝ) : EReal) :=
      (if_neg (not_lt.mpr hm.le)).trans (if_neg hm.ne')
    have e3 : Real.sqrt (max s ((2305843 / 2305843009213693952) ^ 2)) = max (Real.sqrt s) (2305843 / 2305843009213693952) := by
      rw [Real.sqrt_monotone.map_max, Real.sqrt_sq he.le]
    rw [e1, ← coe_max, hq, ← coe_max, e2, e3, Ideal.div, if_neg hn, ← EReal.coe_inv]

end Cert.Proof.Rows

end
-- ==== Proof.W.Ref.lean ====
/- THE FOURTH REFERENCE, stage by stage, read at coordinates. -/
module

public import proofs.«01_k».proof.Proof.W.Calc
public import proofs.«01_k».proof.Proof.Gen.Reference4Ideal.Run
public import Idealize.ShloMosaic.Lib.Pipeline.ValueKit
public import Idealize.ShloMosaic.Lib.KernelVsHost

@[expose] public section

set_option maxRecDepth 16384

noncomputable section

namespace Cert.Proof.Reference4Ideal

open Cert.Reference4Ideal Cert.Reference4Ideal.Gen Cert.Reference4Ideal.Value Cert.Proof.Rows
open Idealize.ShloMosaic Idealize.ShloMosaic.TcCoe Idealize.ShloMosaic.StableHlo

abbrev Stream := FVec Ideal S8x8192x1024 .f32
abbrev Heads := FVec Ideal S8x8192x16x64 .f32
abbrev Gain := FVec Ideal S1024 .f32

def all (z : BitVec 32) : Stream := broadcastInDim S8x8192x1024 ![] bcast_S_S8x8192x1024 (constant S_ .f32 z)

/-- The logistic function of every entry. -/
def logis (x : Stream) : Stream := Host.divf (all 0x3F800000#32) (addf (all 0x3F800000#32) (Host.exp (Host.negf x)))

/-- One row at every position. -/
def lift (g : Gain) : Stream := broadcastInDim S8x8192x1024 ![0, 1, 2] bcast_S1x1x1024_S8x8192x1024_0_1_2 (broadcastInDim S1x1x1024 ![2] bcast_S1024_S1x1x1024_2 g)

/-- Every row over the root of its mean square, times a gain. -/
def normRows (y : Stream) (g : Gain) : Stream :=
  mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (lift g)

/-- The rows one position later, zero first. -/
def before (y : Stream) : Stream :=
  extractStridedSlice S8x8192x1024 ![0, 0, 0] (pad S8x8193x1024 ![0, 1, 0] ![0, 0, 0] ![0, 0, 0] y (sitofp .f32 (constantI S_ 32 0#32) : FVec Ideal S_ .f32) pads_S8x8192x1024_S8x8193x1024_000_100_000 h_S_) slices_S8x8193x1024_S8x8192x1024_0_0_0

def mixOf (y : Stream) (mu : Gain) : Stream := addf y (mulf (subf (before y) y) (lift mu))

def gain (x : FVec Ideal S2x1024 .f32) : Gain := shapeCast _ (extractStridedSlice S1x1024 ![0, 0] x slices_S2x1024_S1x1024_0_0) shapeCasts_S1x1024_S1024
def row (x : FVec Ideal S1x1024 .f32) : Gain := shapeCast _ x shapeCasts_S1x1024_S1024
def mu0 (x : FVec Ideal S1x6x1024 .f32) : Gain := shapeCast _ (extractStridedSlice S1x1x1024 ![0, 0, 0] x slices_S1x6x1024_S1x1x1024_0_0_0) shapeCasts_S1x1x1024_S1024
def mu1 (x : FVec Ideal S1x6x1024 .f32) : Gain := shapeCast _ (extractStridedSlice S1x1x1024 ![0, 1, 0] x slices_S1x6x1024_S1x1x1024_0_1_0) shapeCasts_S1x1x1024_S1024
def mu2 (x : FVec Ideal S1x6x1024 .f32) : Gain := shapeCast _ (extractStridedSlice S1x1x1024 ![0, 2, 0] x slices_S1x6x1024_S1x1x1024_0_2_0) shapeCasts_S1x1x1024_S1024
def mu3 (x : FVec Ideal S1x6x1024 .f32) : Gain := shapeCast _ (extractStridedSlice S1x1x1024 ![0, 3, 0] x slices_S1x6x1024_S1x1x1024_0_3_0) shapeCasts_S1x1x1024_S1024
def mu4 (x : FVec Ideal S1x6x1024 .f32) : Gain := shapeCast _ (extractStridedSlice S1x1x1024 ![0, 4, 0] x slices_S1x6x1024_S1x1x1024_0_4_0) shapeCasts_S1x1x1024_S1024
def mu5 (x : FVec Ideal S1x6x1024 .f32) : Gain := shapeCast _ (extractStridedSlice S1x1x1024 ![0, 5, 0] x slices_S1x6x1024_S1x1x1024_0_5_0) shapeCasts_S1x1x1024_S1024
def slab0 (x : FVec Ideal S1x4x1024x1024 .f32) : FVec Ideal S1024x1024 .f32 := shapeCast _ (extractStridedSlice S1x1x1024x1024 ![0, 0, 0, 0] x slices_S1x4x1024x1024_S1x1x1024x1024_0_0_0_0) shapeCasts_S1x1x1024x1024_S1024x1024
def slab1 (x : FVec Ideal S1x4x1024x1024 .f32) : FVec Ideal S1024x1024 .f32 := shapeCast _ (extractStridedSlice S1x1x1024x1024 ![0, 1, 0, 0] x slices_S1x4x1024x1024_S1x1x1024x1024_0_1_0_0) shapeCasts_S1x1x1024x1024_S1024x1024
def slab2 (x : FVec Ideal S1x4x1024x1024 .f32) : FVec Ideal S1024x1024 .f32 := shapeCast _ (extractStridedSlice S1x1x1024x1024 ![0, 2, 0, 0] x slices_S1x4x1024x1024_S1x1x1024x1024_0_2_0_0) shapeCasts_S1x1x1024x1024_S1024x1024
def slab3 (x : FVec Ideal S1x4x1024x1024 .f32) : FVec Ideal S1024x1024 .f32 := shapeCast _ (extractStridedSlice S1x1x1024x1024 ![0, 3, 0, 0] x slices_S1x4x1024x1024_S1x1x1024x1024_0_3_0_0) shapeCasts_S1x1x1024x1024_S1024x1024
def tall (x : FVec Ideal S1x1024x64 .f32) : FVec Ideal S1024x64 .f32 := shapeCast _ x shapeCasts_S1x1024x64_S1024x64
def short (x : FVec Ideal S1x64x1024 .f32) : FVec Ideal S64x1024 .f32 := shapeCast _ x shapeCasts_S1x64x1024_S64x1024

def through (x : Stream) (w : FVec Ideal S1024x1024 .f32) : Stream := Host.dotGeneral dot_S8x8192x1024_S1024x1024_S8x8192x1024_2_0_01_1_n_n none x w
def down (x : Stream) (w : FVec Ideal S1024x64 .f32) : FVec Ideal S8x8192x64 .f32 := Host.dotGeneral dot_S8x8192x1024_S1024x64_S8x8192x64_2_0_01_1_n_n none x w
def up (x : FVec Ideal S8x8192x64 .f32) (w : FVec Ideal S64x1024 .f32) : Stream := Host.dotGeneral dot_S8x8192x64_S64x1024_S8x8192x1024_2_0_01_1_n_n none x w

/-- The logarithm of one and an exponential. -/
def softOf (y : Stream) : Stream :=
  select (cmpf .une (subf y (all 0x00000000#32)) (subf y (all 0x00000000#32))) (addf y (all 0x00000000#32))
    (addf (maximumf y (all 0x00000000#32)) (Host.log1p (Host.exp (Host.negf (Host.absf (subf y (all 0x00000000#32)))))))

def decayOf (w : Stream) : Stream := Host.negf (Host.exp (subf (Host.negf (softOf (Host.negf w))) (all 0x3F000000#32)))

/-- Rows by heads, and back. -/
def split (x : Stream) : Heads := shapeCast _ x shapeCasts_S8x8192x1024_S8x8192x16x64
def join (x : Heads) : Stream := shapeCast _ x shapeCasts_S8x8192x16x64_S8x8192x1024
def sumOf (y : Heads) : FVec Ideal S8x8192x16x1 .f32 :=
  broadcastInDim S8x8192x16x1 ![0, 1, 2] bcast_S8x8192x16_S8x8192x16x1_0_1_2 (Host.reduceAdd y (constant S_ .f32 0x00000000#32) reducesTo_S8x8192x16x64_S8x8192x16_d3 h_S_)
def overHead (y : FVec Ideal S8x8192x16x1 .f32) : Heads := broadcastInDim S8x8192x16x64 ![0, 1, 2, 3] bcast_S8x8192x16x1_S8x8192x16x64_0_1_2_3 y
def lanesOf (x : FVec Ideal S1x16x64 .f32) : Heads :=
  broadcastInDim S8x8192x16x64 ![0, 1, 2, 3] bcast_S1x1x16x64_S8x8192x16x64_0_1_2_3 (broadcastInDim S1x1x16x64 ![2, 3] bcast_S16x64_S1x1x16x64_2_3 (shapeCast _ x shapeCasts_S1x16x64_S16x64 : FVec Ideal S16x64 .f32))

def dirOf (y : Stream) : Stream :=
  join (Host.divf (split y) (overHead (maximumf (Host.sqrt (sumOf (mulf (split y) (split y)))) (broadcastInDim S8x8192x16x1 ![] bcast_S_S8x8192x16x1 (constant S_ .f32 0x2B8CBCCC#32)))))
def keyOf (k a : Stream) (ka : FVec Ideal S1x1024 .f32) : Stream := mulf k (addf (all 0x3F800000#32) (mulf (subf a (all 0x3F800000#32)) (lift (row ka))))
def bonusOf (r k v : Stream) (rk : FVec Ideal S1x16x64 .f32) : Stream := join (mulf (overHead (sumOf (mulf (mulf (split r) (split k)) (lanesOf rk)))) (split v))
def narrow (x : Stream) : FVec Ideal S8x8192x1024 .bf16 := truncf .bf16 x bitsLt_bf16_f32

variable (b : Fin 8) (p : Fin 8192) (n : Fin 1024)

theorem logis_apply (x : Stream) : logis x (ix3 b p n) = logi (x (ix3 b p n)) := by
  pointwise [logis, all, logi]
theorem lift_apply (g) : lift g (ix3 b p n) = g (ix1 n) := by
  pointwise [lift]
theorem normRows_apply (y g) : normRows y g (ix3 b p n) = rms (fun n => y (ix3 b p n)) (fun n => g (ix1 n)) n := by
  pointwise [normRows, lift, rms]

theorem before_apply (y : Stream) : before y (ix3 b p n) = if h : p.val = 0 then 0 else y (ix3 b ⟨p.val - 1, by omega⟩ n) := by
  have e : before y (ix3 b p n) = pad S8x8193x1024 ![0, 1, 0] ![0, 0, 0] ![0, 0, 0] y (sitofp .f32 (constantI S_ 32 0#32) : FVec Ideal S_ .f32) pads_S8x8192x1024_S8x8193x1024_000_100_000 h_S_ (ix3 b ⟨p.val, by omega⟩ n) := by
    unfold before extractStridedSlice
    congr 1
    funext a
    match a with
    | ⟨0, _⟩ => exact Fin.ext (Nat.zero_add _)
    | ⟨1, _⟩ => exact Fin.ext (Nat.zero_add _)
    | ⟨2, _⟩ => exact Fin.ext (Nat.zero_add _)
  rw [e]
  by_cases h : p.val = 0
  · rw [dif_pos h]
    refine (pad_apply_of_not_inside _ _ _ y _ _ _ (ix3 b ⟨p.val, by omega⟩ n) 1 ?_).trans ?_
    · intro hin
      have h1 : 1 ≤ p.val := hin.1
      omega
    · show (((0#32 : BitVec 32).toInt : ℝ) : EReal) = 0
      simp
  · rw [dif_neg h]
    refine pad_apply_of_inside _ _ _ y _ _ _ (ix3 b ⟨p.val, by omega⟩ n) (ix3 b ⟨p.val - 1, by omega⟩ n) fun a => ?_
    match a with
    | ⟨0, _⟩ => show b.val = 0 + b.val * (0 + 1); omega
    | ⟨1, _⟩ => show p.val = 1 + (p.val - 1) * (0 + 1); omega
    | ⟨2, _⟩ => show n.val = 0 + n.val * (0 + 1); omega

theorem mixOf_apply (y mu) : mixOf y mu (ix3 b p n) = blend (fun n => y (ix3 b p n)) (fun n => before y (ix3 b p n)) (fun n => mu (ix1 n)) n := by
  show y (ix3 b p n) + (before y (ix3 b p n) - y (ix3 b p n)) * lift mu (ix3 b p n) = _
  rw [lift_apply]
  rfl

theorem gain_apply (x) : gain x (ix1 n) = x (ix2 0 n) := by
  pointwise [gain]
theorem row_apply (x) : row x (ix1 n) = x (ix2 0 n) := by
  pointwise [row]
theorem mu0_apply (x) : mu0 x (ix1 n) = x (ix3 0 0 n) := by
  pointwise [mu0]
theorem mu1_apply (x) : mu1 x (ix1 n) = x (ix3 0 1 n) := by
  pointwise [mu1]
theorem mu2_apply (x) : mu2 x (ix1 n) = x (ix3 0 2 n) := by
  pointwise [mu2]
theorem mu3_apply (x) : mu3 x (ix1 n) = x (ix3 0 3 n) := by
  pointwise [mu3]
theorem mu4_apply (x) : mu4 x (ix1 n) = x (ix3 0 4 n) := by
  pointwise [mu4]
theorem mu5_apply (x) : mu5 x (ix1 n) = x (ix3 0 5 n) := by
  pointwise [mu5]
theorem slab0_apply (x) (d : Fin 1024) : slab0 x (ix2 d n) = x (ix4 0 0 d n) := by
  pointwise [slab0]
theorem slab1_apply (x) (d : Fin 1024) : slab1 x (ix2 d n) = x (ix4 0 1 d n) := by
  pointwise [slab1]
theorem slab2_apply (x) (d : Fin 1024) : slab2 x (ix2 d n) = x (ix4 0 2 d n) := by
  pointwise [slab2]
theorem slab3_apply (x) (d : Fin 1024) : slab3 x (ix2 d n) = x (ix4 0 3 d n) := by
  pointwise [slab3]
theorem tall_apply (x) (d : Fin 1024) (k : Fin 64) : tall x (ix2 d k) = x (ix3 0 d k) := by
  pointwise [tall]
theorem short_apply (x) (k : Fin 64) : short x (ix2 k n) = x (ix3 0 k n) := by
  pointwise [short]
theorem through_apply (x w) : through x w (ix3 b p n) = times (fun d => x (ix3 b p d)) (fun d n => w (ix2 d n)) n := by
  pointwise [through, times]
theorem down_apply (x w) (k : Fin 64) : down x w (ix3 b p k) = low (fun d => x (ix3 b p d)) (fun d n => w (ix2 d n)) k := by
  pointwise [down, low]
theorem up_apply (x w) : up x w (ix3 b p n) = times (fun d => x (ix3 b p d)) (fun d n => w (ix2 d n)) n := by
  pointwise [up, times]
theorem tanh_apply (x : FVec Ideal S8x8192x64 .f32) (k : Fin 64) : (Host.tanh x : FVec Ideal S8x8192x64 .f32) (ix3 b p k) = Ideal.tanh (x (ix3 b p k)) := rfl

theorem softOf_apply (y : Stream) : softOf y (ix3 b p n) = soft (y (ix3 b p n)) := by
  pointwise [softOf, all, soft]
  simp
  rfl

theorem decayOf_apply (w : Stream) : decayOf w (ix3 b p n) = -factor * logi (w (ix3 b p n)) := by
  rw [← decay_eq]
  show -Ideal.exp (-(softOf (Host.negf w) (ix3 b p n)) - all 0x3F000000#32 (ix3 b p n)) = _
  rw [softOf_apply]
  pointwise [all]

/-- The lane of a head's lane. -/
def at64 (h : Fin 16) (e : Fin 64) : Fin 1024 := ⟨h.val * 64 + e.val, by omega⟩
def headOf (n : Fin 1024) : Fin 16 := ⟨n.val / 64, by omega⟩
def laneOf (n : Fin 1024) : Fin 64 := ⟨n.val % 64, by omega⟩

theorem split_apply (x : Stream) (h : Fin 16) (e : Fin 64) : split x (ix4 b p h e) = x (ix3 b p (at64 h e)) := by
  pointwise [split, at64]
theorem join_apply (x : Heads) : join x (ix3 b p n) = x (ix4 b p (headOf n) (laneOf n)) := by
  pointwise [join, headOf, laneOf]
theorem lanesOf_apply (x) (h : Fin 16) (e : Fin 64) : lanesOf x (ix4 b p h e) = x (ix3 0 h e) := by
  pointwise [lanesOf]
theorem sumOf_apply (y : Heads) (h : Fin 16) : sumOf y (ix4 b p h 0) = ∑ j : Fin 64, y (ix4 b p h j) := by
  pointwise [sumOf]
theorem overHead_apply (y) (h : Fin 16) (e : Fin 64) : overHead y (ix4 b p h e) = y (ix4 b p h 0) := by
  pointwise [overHead]
theorem at64_eq : at64 (headOf n) (laneOf n) = n := Fin.ext (by show n.val / 64 * 64 + n.val % 64 = n.val; omega)

theorem sum_row (y : Heads) (x : Fin 1024 → EReal) (hy : ∀ (h : Fin 16) (e : Fin 64), y (ix4 b p h e) = x (at64 h e)) : sumOf y (ix4 b p (headOf n) 0) = headSum x n := by
  rw [sumOf_apply]
  exact Finset.sum_congr rfl fun j _ => hy _ j

theorem dirOf_apply (y : Stream) : dirOf y (ix3 b p n) = y (ix3 b p n) * Ideal.rsqrt (max (headSum (fun d => y (ix3 b p d) * y (ix3 b p d)) n) leastSq) := by
  rw [← length_eq _ _ (headSum_nonneg (fun d => y (ix3 b p d)) n)]
  unfold dirOf
  rw [join_apply]
  show Ideal.div (split y (ix4 b p (headOf n) (laneOf n))) (overHead _ (ix4 b p (headOf n) (laneOf n))) = _
  rw [split_apply, at64_eq, overHead_apply]
  show Ideal.div (y (ix3 b p n)) (max (Ideal.sqrt (sumOf _ (ix4 b p (headOf n) 0))) _) = _
  rw [sum_row b p n _ (fun d => y (ix3 b p d) * y (ix3 b p d)) fun h e => by
    show split y (ix4 b p h e) * split y (ix4 b p h e) = _
    rw [split_apply]]
  pointwise

theorem keyOf_apply (k a : Stream) (ka) : keyOf k a ka (ix3 b p n) = k (ix3 b p n) * (1 + (a (ix3 b p n) - 1) * ka (ix2 0 n)) := by
  pointwise [keyOf, all, lift_apply, row_apply]

theorem bonusOf_apply (r k v : Stream) (rk) :
    bonusOf r k v rk (ix3 b p n) = headSum (fun d => r (ix3 b p d) * k (ix3 b p d) * rk (ix3 0 (headOf d) (laneOf d))) n * v (ix3 b p n) := by
  unfold bonusOf
  rw [join_apply]
  show overHead _ (ix4 b p (headOf n) (laneOf n)) * split v (ix4 b p (headOf n) (laneOf n)) = _
  rw [split_apply, at64_eq, overHead_apply,
    sum_row b p n _ (fun d => r (ix3 b p d) * k (ix3 b p d) * rk (ix3 0 (headOf d) (laneOf d))) fun h e => by
      show split r (ix4 b p h e) * split k (ix4 b p h e) * lanesOf rk (ix4 b p h e) = _
      have h1 : headOf (at64 h e) = h := Fin.ext (by show (h.val * 64 + e.val) / 64 = h.val; omega)
      have h2 : laneOf (at64 h e) = e := Fin.ext (by show (h.val * 64 + e.val) % 64 = e.val; omega)
      rw [split_apply, split_apply, lanesOf_apply, h1, h2]]

theorem narrow_apply (x : Stream) : narrow x (ix3 b p n) = x (ix3 b p n) := rfl

end Cert.Proof.Reference4Ideal

end
-- ==== Proof.W.RefOut.lean ====
/- THE FOURTH REFERENCE'S RESULTS as arrays made stage by stage. -/
module

public import proofs.«01_k».proof.Proof.W.Ref

@[expose] public section

set_option maxRecDepth 16384

noncomputable section

namespace Cert.Proof.Reference4Ideal

open Cert.Reference4Ideal Cert.Reference4Ideal.Gen Cert.Reference4Ideal.Value Cert.Proof.Rows
open Idealize.ShloMosaic Idealize.ShloMosaic.TcCoe Idealize.ShloMosaic.StableHlo

variable (m : (ℓ : Loc nD τ sig) → Buf (Elt Ideal) ℓ) (c : Dev nD)

def normAt : Stream := normRows (m ((c.tc : Thread nD τ).loc main_arg0)) (gain (m ((c.tc : Thread nD τ).loc main_arg1)))
def rAt : Stream := through (mixOf (normAt m c) (mu0 (m ((c.tc : Thread nD τ).loc main_arg2)))) (slab0 (m ((c.tc : Thread nD τ).loc main_arg3)))
def key0At : Stream := through (mixOf (normAt m c) (mu1 (m ((c.tc : Thread nD τ).loc main_arg2)))) (slab1 (m ((c.tc : Thread nD τ).loc main_arg3)))
def vAt : Stream := through (mixOf (normAt m c) (mu2 (m ((c.tc : Thread nD τ).loc main_arg2)))) (slab2 (m ((c.tc : Thread nD τ).loc main_arg3)))
def gAt : Stream := through (mixOf (normAt m c) (mu3 (m ((c.tc : Thread nD τ).loc main_arg2)))) (slab3 (m ((c.tc : Thread nD τ).loc main_arg3)))
def decayAt : Stream := decayOf (addf (lift (row (m ((c.tc : Thread nD τ).loc main_arg4)))) (up (Host.tanh (down (mixOf (normAt m c) (mu4 (m ((c.tc : Thread nD τ).loc main_arg2)))) (tall (m ((c.tc : Thread nD τ).loc main_arg5))))) (short (m ((c.tc : Thread nD τ).loc main_arg6)))))
def rateAt : Stream := logis (addf (lift (row (m ((c.tc : Thread nD τ).loc main_arg7)))) (up (down (mixOf (normAt m c) (mu5 (m ((c.tc : Thread nD τ).loc main_arg2)))) (tall (m ((c.tc : Thread nD τ).loc main_arg8)))) (short (m ((c.tc : Thread nD τ).loc main_arg9)))))
def dir0At : Stream := mulf (key0At m c) (lift (row (m ((c.tc : Thread nD τ).loc main_arg10))))
def dirAt : Stream := dirOf (dir0At m c)
def keyAt : Stream := keyOf (key0At m c) (rateAt m c) (m ((c.tc : Thread nD τ).loc main_arg11))
def bonusAt : Stream := bonusOf (rAt m c) (keyAt m c) (vAt m c) (m ((c.tc : Thread nD τ).loc main_arg12))

theorem key_eq : res_main_v135 m c = narrow (keyAt m c) := rfl
theorem dir_eq : res_main_v138 m c = narrow (dirAt m c) := rfl
theorem beta_eq : res_main_v140 m c = narrow (mulf (dirAt m c) (rateAt m c)) := rfl
theorem decay_at : res_main_v79 m c = decayAt m c := rfl
theorem bonus_eq : res_main_v141 m c = narrow (bonusAt m c) := rfl

end Cert.Proof.Reference4Ideal

end
-- ==== Proof.W.Equal.lean ====
/- THE FOURTH EQUATION: from the same arguments each of the kernel's arrays and the reference's are one. -/
module

public import proofs.«01_k».proof.Proof.W.Array
public import proofs.«01_k».proof.Proof.W.RefOut

@[expose] public section

set_option maxRecDepth 16384

noncomputable section

namespace Cert.Proof.Before

open Idealize.ShloMosaic Idealize.ShloMosaic.TcCoe Cert.Proof.Rows Cert.Proof.Reference4Ideal
open Cert.Proof.Kernel4Ideal (turn normed arr)

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The two programs' arguments are the same. -/
def Same : Prop :=
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)

variable {m m' c} (h : Same m m' c) (b : Fin 8) (p : Fin 8192)

include h

theorem norm_row (n : Fin 1024) : normAt m' c (ix3 b p n) = normed m c b p n := by
  obtain ⟨e0, e1, e2, e3, e4, e5, e6, e7, e8, e9, e10, e11, e12⟩ := h
  unfold normAt
  rw [normRows_apply, e0, e1]
  simp only [gain_apply]
  rfl

theorem before_row (n : Fin 1024) : before (normAt m' c) (ix3 b p n) = (turn m c b p).p n := by
  rw [before_apply]
  simp only [norm_row h]
  rfl

theorem mix_row (mu : Gain) (q : Fin 6) (hmu : ∀ n : Fin 1024, mu (ix1 n) = (turn m c b p).mu q n) (n : Fin 1024) : mixOf (normAt m' c) mu (ix3 b p n) = (turn m c b p).mix q n := by
  rw [mixOf_apply]
  simp only [norm_row h, before_row h, hmu]
  rfl

theorem r_row (n : Fin 1024) : rAt m' c (ix3 b p n) = (turn m c b p).r n := by
  have hm := mix_row h b p (mu0 (m' ((c.tc : Thread Cert.Reference4Ideal.nD Cert.Reference4Ideal.τ).loc Cert.Reference4Ideal.main_arg2))) 0 fun n => by
    rw [h.2.2.1, mu0_apply]
    rfl
  unfold rAt
  rw [through_apply, funext hm]
  obtain ⟨e0, e1, e2, e3, e4, e5, e6, e7, e8, e9, e10, e11, e12⟩ := h
  rw [e3]
  simp only [slab0_apply]
  rfl

theorem key0_row (n : Fin 1024) : key0At m' c (ix3 b p n) = (turn m c b p).key0 n := by
  have hm := mix_row h b p (mu1 (m' ((c.tc : Thread Cert.Reference4Ideal.nD Cert.Reference4Ideal.τ).loc Cert.Reference4Ideal.main_arg2))) 1 fun n => by
    rw [h.2.2.1, mu1_apply]
    rfl
  unfold key0At
  rw [through_apply, funext hm]
  obtain ⟨e0, e1, e2, e3, e4, e5, e6, e7, e8, e9, e10, e11, e12⟩ := h
  rw [e3]
  simp only [slab1_apply]
  rfl

theorem v_row (n : Fin 1024) : vAt m' c (ix3 b p n) = (turn m c b p).v n := by
  have hm := mix_row h b p (mu2 (m' ((c.tc : Thread Cert.Reference4Ideal.nD Cert.Reference4Ideal.τ).loc Cert.Reference4Ideal.main_arg2))) 2 fun n => by
    rw [h.2.2.1, mu2_apply]
    rfl
  unfold vAt
  rw [through_apply, funext hm]
  obtain ⟨e0, e1, e2, e3, e4, e5, e6, e7, e8, e9, e10, e11, e12⟩ := h
  rw [e3]
  simp only [slab2_apply]
  rfl

theorem g_row (n : Fin 1024) : gAt m' c (ix3 b p n) = (turn m c b p).g n := by
  have hm := mix_row h b p (mu3 (m' ((c.tc : Thread Cert.Reference4Ideal.nD Cert.Reference4Ideal.τ).loc Cert.Reference4Ideal.main_arg2))) 3 fun n => by
    rw [h.2.2.1, mu3_apply]
    rfl
  unfold gAt
  rw [through_apply, funext hm]
  obtain ⟨e0, e1, e2, e3, e4, e5, e6, e7, e8, e9, e10, e11, e12⟩ := h
  rw [e3]
  simp only [slab3_apply]
  rfl

theorem decay_row (n : Fin 1024) : decayAt m' c (ix3 b p n) = (turn m c b p).decay n := by
  have hm := mix_row h b p (mu4 (m' ((c.tc : Thread Cert.Reference4Ideal.nD Cert.Reference4Ideal.τ).loc Cert.Reference4Ideal.main_arg2))) 4 fun n => by
    rw [h.2.2.1, mu4_apply]
    rfl
  obtain ⟨e0, e1, e2, e3, e4, e5, e6, e7, e8, e9, e10, e11, e12⟩ := h
  unfold decayAt
  rw [decayOf_apply]
  refine congrArg (-factor * logi ·) (congrArg₂ (· + ·) ?_ ?_)
  · rw [lift_apply, row_apply, e4]
    rfl
  · rw [up_apply, e6]
    simp only [tanh_apply, down_apply, hm, e5, tall_apply, short_apply]
    rfl

theorem rate_row (n : Fin 1024) : rateAt m' c (ix3 b p n) = (turn m c b p).rate n := by
  have hm := mix_row h b p (mu5 (m' ((c.tc : Thread Cert.Reference4Ideal.nD Cert.Reference4Ideal.τ).loc Cert.Reference4Ideal.main_arg2))) 5 fun n => by
    rw [h.2.2.1, mu5_apply]
    rfl
  obtain ⟨e0, e1, e2, e3, e4, e5, e6, e7, e8, e9, e10, e11, e12⟩ := h
  unfold rateAt
  rw [logis_apply]
  refine congrArg logi (congrArg₂ (· + ·) ?_ ?_)
  · rw [lift_apply, row_apply, e7]
    rfl
  · rw [up_apply, e9]
    simp only [down_apply, hm, e8, tall_apply, short_apply]
    rfl

theorem dir0_row (n : Fin 1024) : dir0At m' c (ix3 b p n) = (turn m c b p).dir0 n := by
  refine congrArg₂ (· * ·) (key0_row h b p n) ?_
  rw [lift_apply, row_apply, h.2.2.2.2.2.2.2.2.2.2.1]
  rfl

theorem dir_row (n : Fin 1024) : dirAt m' c (ix3 b p n) = (turn m c b p).dir n := by
  unfold dirAt
  rw [dirOf_apply]
  simp only [dir0_row h]
  rfl

theorem key_row (n : Fin 1024) : keyAt m' c (ix3 b p n) = (turn m c b p).key n := by
  unfold keyAt
  rw [keyOf_apply, key0_row h, rate_row h, h.2.2.2.2.2.2.2.2.2.2.2.1]
  rfl

theorem bonus_row (n : Fin 1024) : bonusAt m' c (ix3 b p n) = (turn m c b p).bonus n := by
  unfold bonusAt
  rw [bonusOf_apply, v_row h, h.2.2.2.2.2.2.2.2.2.2.2.2]
  simp only [r_row h, key_row h]
  rfl

omit h in
/-- Two arrays with the same rows. -/
theorem arr_ext (x : FVec Ideal Cert.Reference4Ideal.S8x8192x1024 .f32) (R : Fin 8 → Fin 8192 → Fin 1024 → EReal) (e : ∀ b p n, x (ix3 b p n) = R b p n) : x = arr R := by
  funext i
  exact (congrArg _ (eq_ix3 i)).trans ((e _ _ _).trans rfl)

omit h in
theorem narrow_ext (x : FVec Ideal Cert.Reference4Ideal.S8x8192x1024 .f32) (R : Fin 8 → Fin 8192 → Fin 1024 → EReal) (e : ∀ b p n, x (ix3 b p n) = R b p n) : narrow x = arr R :=
  arr_ext _ _ fun b p n => (narrow_apply b p n x).trans (e b p n)

omit h in
theorem product_ext (x y : FVec Ideal Cert.Reference4Ideal.S8x8192x1024 .f32) (X Y : Fin 8 → Fin 8192 → Fin 1024 → EReal) (ex : ∀ b p n, x (ix3 b p n) = X b p n) (ey : ∀ b p n, y (ix3 b p n) = Y b p n) :
    narrow (mulf x y) = arr (fun b p n => X b p n * Y b p n) :=
  narrow_ext _ _ fun b p n => congrArg₂ (· * ·) (ex b p n) (ey b p n)

/-- The eight results. -/
theorem r_arr : narrow (rAt m' c) = arr (fun b p => (turn m c b p).r) := narrow_ext (rAt m' c) (fun b p => (turn m c b p).r) (r_row h)
theorem k_arr : narrow (keyAt m' c) = arr (fun b p => (turn m c b p).key) := narrow_ext (keyAt m' c) (fun b p => (turn m c b p).key) (key_row h)
theorem v_arr : narrow (vAt m' c) = arr (fun b p => (turn m c b p).v) := narrow_ext (vAt m' c) (fun b p => (turn m c b p).v) (v_row h)
theorem g_arr : narrow (gAt m' c) = arr (fun b p => (turn m c b p).g) := narrow_ext (gAt m' c) (fun b p => (turn m c b p).g) (g_row h)
theorem d_arr : narrow (dirAt m' c) = arr (fun b p => (turn m c b p).dir) := narrow_ext (dirAt m' c) (fun b p => (turn m c b p).dir) (dir_row h)
theorem u_arr : narrow (bonusAt m' c) = arr (fun b p => (turn m c b p).bonus) := narrow_ext (bonusAt m' c) (fun b p => (turn m c b p).bonus) (bonus_row h)
theorem w_arr : decayAt m' c = arr (fun b p => (turn m c b p).decay) := arr_ext (decayAt m' c) (fun b p => (turn m c b p).decay) (decay_row h)
theorem b_arr : narrow (mulf (dirAt m' c) (rateAt m' c)) = arr (fun b p => (turn m c b p).beta) :=
  product_ext (dirAt m' c) (rateAt m' c) (fun b p => (turn m c b p).dir) (fun b p => (turn m c b p).rate) (dir_row h) (rate_row h)

end Cert.Proof.Before

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.K.Run
public import proofs.«01_k».proof.Proof.KI.Run
public import proofs.«01_k».proof.Proof.Finite
public import proofs.«01_k».proof.Proof.Equal
public import proofs.«01_k».proof.Proof.O.Array
public import proofs.«01_k».proof.Proof.O.Ref
public import proofs.«01_k».proof.Proof.M.Equal
public import proofs.«01_k».proof.Proof.W.Equal
public import Idealize.ShloMosaic.Adequacy
public import Idealize.ShloMosaic.Init

@[expose] public section

noncomputable section

namespace Cert.Proof

open Idealize.ShloMosaic Idealize.SL.Sem

theorem quiescent_kernel : Cert.quiescent_Kernel := fun m g _ =>
  (θ_run _ _ _).mono (fun r h => ⟨fun c => Kernel.args_kept m r h.1 c, h.2⟩) (Kernel.run_main m g)

theorem quiescent_kernelIdeal : Cert.quiescent_KernelIdeal := fun m g _ =>
  (θ_run _ _ _).mono (fun r h => ⟨fun c => KernelIdeal.args_kept m r h.1 c, h.2⟩) (KernelIdeal.run_main m g)

/-- The reference declares no semaphore. -/
theorem no_sem {α : Type} (s s' : GSem Cert.ReferenceIdeal.nD Cert.ReferenceIdeal.τ Cert.ReferenceIdeal.sig → α) : s = s' := by
  funext ⟨t, k⟩
  cases k with
  | _ x => exact x.elim0

theorem quiescent_referenceIdeal : Cert.quiescent_ReferenceIdeal := fun m g _ =>
  (θ_run _ _ _).mono (fun r h => ⟨fun c => (h c).2, no_sem _ _⟩) (Cert.ReferenceIdeal.Value.run m g)

/-- On arguments of finite entries the kernel's array and the reference's are one. -/
theorem algebraic : Cert.algebraic_KernelIdeal_ReferenceIdeal_pre_finite (hPre_finite := Finite.facts) := fun m g m' g' hpre hargs => by
  have hfin := fun c => Finite.all_real _ _ _ _ _ (hpre c)
  have hlam : ∀ c : Dev Cert.KernelIdeal.nD, ∃ lam : ℝ, Weights.lamOf (fun a x => KernelIdeal.argLam m c a x) = (lam : EReal) := fun c => by
    obtain ⟨lam, hl⟩ := Weights.lamOf_coe (fun a x => (KernelIdeal.argLam m c a x).toReal)
    refine ⟨lam, hl.symm.symm ▸ congrArg Weights.lamOf ?_⟩
    funext a x
    exact (hfin c).2.2.2 _
  choose lam hl using hlam
  refine ⟨fun c => KernelIdeal.result m c (lam c), ?_, ?_⟩
  · refine (θ_run _ _ _).mono (fun r h c => ⟨?_, KernelIdeal.args_kept m r h.1 c⟩) (KernelIdeal.run_main m g)
    exact KernelIdeal.array m c (lam c) (hl c) (fun b j d => (hfin c).1 _) (fun b j d => (hfin c).2.1 _) (fun b j d => (hfin c).2.2.1 _) r h.1
  · refine (θ_run _ _ _).mono (fun r h c => ⟨?_, (h c).2⟩) (Cert.ReferenceIdeal.Value.run m' g')
    obtain ⟨e0, e1, e2, e3, e4⟩ := hargs c
    refine (h c).1.trans ((ReferenceIdeal.out_eq m' c).trans ?_)
    refine out_eq_result m c _ _ _ _ _ e0 e1 e2 e3 e4 (lam c) ?_ ?_ ?_ ?_
    · rw [e3]; exact hl c
    · rw [e0]; exact (hfin c).1
    · rw [e1]; exact (hfin c).2.1
    · rw [e2]; exact (hfin c).2.2.1

theorem quiescent_kernel2 : Cert.quiescent_Kernel2 := fun m g _ => Cert.Kernel2.Gen.frame m g

theorem quiescent_kernel2Ideal : Cert.quiescent_Kernel2Ideal := fun m g _ => Cert.Kernel2Ideal.Gen.frame m g

theorem no_sem2 {α : Type} (s s' : GSem Cert.Reference2Ideal.nD Cert.Reference2Ideal.τ Cert.Reference2Ideal.sig → α) : s = s' := by
  funext ⟨t, k⟩
  cases k with
  | _ x => exact x.elim0

theorem quiescent_reference2Ideal : Cert.quiescent_Reference2Ideal := fun m g _ =>
  (θ_run _ _ _).mono (fun r h => ⟨fun c => (h c).2, no_sem2 _ _⟩) (Cert.Reference2Ideal.Value.run m g)

/-- The output projection's array and its reference's are one. -/
theorem algebraic2 : Cert.algebraic_Kernel2Ideal_Reference2Ideal := fun m g m' g' _ hargs => by
  refine ⟨fun c => Kernel2Ideal.result m c, ?_, ?_⟩
  · refine (θ_run _ _ _).mono (fun r h c => ?_) (Cert.Kernel2Ideal.Gen.run_main m g)
    exact ⟨(Cert.Kernel2Ideal.Value.post9 m r h c).trans (Kernel2Ideal.array m c), Cert.Kernel2Ideal.Value.kept_main_arg0 m r h c, Cert.Kernel2Ideal.Value.kept_main_arg1 m r h c,
      Cert.Kernel2Ideal.Value.kept_main_arg2 m r h c, Cert.Kernel2Ideal.Value.kept_main_arg3 m r h c, Cert.Kernel2Ideal.Value.kept_main_arg4 m r h c,
      Cert.Kernel2Ideal.Value.kept_main_arg5 m r h c, Cert.Kernel2Ideal.Value.kept_main_arg6 m r h c, Cert.Kernel2Ideal.Value.kept_main_arg7 m r h c,
      Cert.Kernel2Ideal.Value.kept_main_arg8 m r h c⟩
  · refine (θ_run _ _ _).mono (fun r h c => ⟨?_, (h c).2⟩) (Cert.Reference2Ideal.Value.run m' g')
    obtain ⟨e0, e1, e2, e3, e4, e5, e6, e7, e8⟩ := hargs c
    refine (h c).1.trans ((Reference2Ideal.out_eq m' c).trans ?_)
    rw [e0, e1, e2, e3, e4, e5, e6, e7, e8]
    funext i
    refine (congrArg _ (eq_ix3 i)).trans ((Reference2Ideal.second_apply _ _ _ _ _ _ _ _).trans ?_)
    exact (Rows.plus_congr_first fun d => Reference2Ideal.first_apply _ _ d _ _ _ _ _).trans rfl

theorem quiescent_kernel3 : Cert.quiescent_Kernel3 := fun m g _ => Cert.Kernel3.Gen.frame m g

theorem quiescent_kernel3Ideal : Cert.quiescent_Kernel3Ideal := fun m g _ => Cert.Kernel3Ideal.Gen.frame m g

theorem no_sem3 {α : Type} (s s' : GSem Cert.Reference3Ideal.nD Cert.Reference3Ideal.τ Cert.Reference3Ideal.sig → α) : s = s' := by
  funext ⟨t, k⟩
  cases k with
  | _ x => exact x.elim0

theorem quiescent_reference3Ideal : Cert.quiescent_Reference3Ideal := fun m g _ =>
  (θ_run _ _ _).mono (fun r h => ⟨fun c => (h c).2.2.2.2.2, no_sem3 _ _⟩) (Cert.Reference3Ideal.Value.run m g)

/-- Each of the five arrays of the call between the mixings and its reference's are one. -/
theorem algebraic3 : Cert.algebraic_Kernel3Ideal_Reference3Ideal := fun m g m' g' _ hargs => by
  refine ⟨fun c => Kernel3Ideal.arr (Kernel3Ideal.hRow m c), fun c => Kernel3Ideal.arr (Kernel3Ideal.qRow m c), fun c => Kernel3Ideal.arr (Kernel3Ideal.kRow m c),
    fun c => Kernel3Ideal.arr (Kernel3Ideal.vRow m c), fun c => Kernel3Ideal.arr (Kernel3Ideal.gRow m c), ?_, ?_⟩
  · refine (θ_run _ _ _).mono (fun r h c => ?_) (Cert.Kernel3Ideal.Gen.run_main m g)
    exact ⟨(Cert.Kernel3Ideal.Value.post20 m r h c).trans (Kernel3Ideal.array_h m c),
      (Cert.Kernel3Ideal.Value.post21 m r h c).trans (Kernel3Ideal.array_q m c),
      (Cert.Kernel3Ideal.Value.post22 m r h c).trans (Kernel3Ideal.array_k m c),
      (Cert.Kernel3Ideal.Value.post23 m r h c).trans (Kernel3Ideal.array_v m c),
      (Cert.Kernel3Ideal.Value.post24 m r h c).trans (Kernel3Ideal.array_g m c),
      Cert.Kernel3Ideal.Value.kept_main_arg0 m r h c, Cert.Kernel3Ideal.Value.kept_main_arg1 m r h c, Cert.Kernel3Ideal.Value.kept_main_arg2 m r h c, Cert.Kernel3Ideal.Value.kept_main_arg3 m r h c,
      Cert.Kernel3Ideal.Value.kept_main_arg4 m r h c, Cert.Kernel3Ideal.Value.kept_main_arg5 m r h c, Cert.Kernel3Ideal.Value.kept_main_arg6 m r h c, Cert.Kernel3Ideal.Value.kept_main_arg7 m r h c,
      Cert.Kernel3Ideal.Value.kept_main_arg8 m r h c, Cert.Kernel3Ideal.Value.kept_main_arg9 m r h c, Cert.Kernel3Ideal.Value.kept_main_arg10 m r h c, Cert.Kernel3Ideal.Value.kept_main_arg11 m r h c,
      Cert.Kernel3Ideal.Value.kept_main_arg12 m r h c, Cert.Kernel3Ideal.Value.kept_main_arg13 m r h c, Cert.Kernel3Ideal.Value.kept_main_arg14 m r h c, Cert.Kernel3Ideal.Value.kept_main_arg15 m r h c⟩
  · refine (θ_run _ _ _).mono (fun r h c => ?_) (Cert.Reference3Ideal.Value.run m' g')
    obtain ⟨h0, h1, h2, h3, h4, kept⟩ := h c
    exact ⟨h0.trans (Mid.stream_arr (hargs c)), h1.trans (Mid.q_arr (hargs c)), h2.trans (Mid.k_arr (hargs c)), h3.trans (Mid.v_arr (hargs c)), h4.trans (Mid.g_arr (hargs c)), kept⟩

theorem quiescent_kernel4 : Cert.quiescent_Kernel4 := fun m g _ => Cert.Kernel4.Gen.frame m g

theorem quiescent_kernel4Ideal : Cert.quiescent_Kernel4Ideal := fun m g _ => Cert.Kernel4Ideal.Gen.frame m g

theorem no_sem4 {α : Type} (s s' : GSem Cert.Reference4Ideal.nD Cert.Reference4Ideal.τ Cert.Reference4Ideal.sig → α) : s = s' := by
  funext ⟨t, k⟩
  cases k with
  | _ x => exact x.elim0

theorem quiescent_reference4Ideal : Cert.quiescent_Reference4Ideal := fun m g _ =>
  (θ_run _ _ _).mono (fun r h => ⟨fun c => (h c).2.2.2.2.2.2.2.2, no_sem4 _ _⟩) (Cert.Reference4Ideal.Value.run m g)

/-- Each of the eight arrays of the call before the recurrence and its reference's are one. -/
theorem algebraic4 : Cert.algebraic_Kernel4Ideal_Reference4Ideal := fun m g m' g' _ hargs => by
  refine ⟨fun c => Kernel4Ideal.arr fun b p => (Kernel4Ideal.turn m c b p).r, fun c => Kernel4Ideal.arr fun b p => (Kernel4Ideal.turn m c b p).key, fun c => Kernel4Ideal.arr fun b p => (Kernel4Ideal.turn m c b p).v, fun c => Kernel4Ideal.arr fun b p => (Kernel4Ideal.turn m c b p).g, fun c => Kernel4Ideal.arr fun b p => (Kernel4Ideal.turn m c b p).dir, fun c => Kernel4Ideal.arr fun b p => (Kernel4Ideal.turn m c b p).beta, fun c => Kernel4Ideal.arr fun b p => (Kernel4Ideal.turn m c b p).decay, fun c => Kernel4Ideal.arr fun b p => (Kernel4Ideal.turn m c b p).bonus, ?_, ?_⟩
  · refine (θ_run _ _ _).mono (fun r h c => ?_) (Cert.Kernel4Ideal.Gen.run_main m g)
    exact ⟨(Cert.Kernel4Ideal.Value.post15 m r h c).trans (Kernel4Ideal.array_r m c),
      (Cert.Kernel4Ideal.Value.post16 m r h c).trans (Kernel4Ideal.array_k m c),
      (Cert.Kernel4Ideal.Value.post17 m r h c).trans (Kernel4Ideal.array_v m c),
      (Cert.Kernel4Ideal.Value.post18 m r h c).trans (Kernel4Ideal.array_g m c),
      (Cert.Kernel4Ideal.Value.post19 m r h c).trans (Kernel4Ideal.array_d m c),
      (Cert.Kernel4Ideal.Value.post20 m r h c).trans (Kernel4Ideal.array_b m c),
      (Cert.Kernel4Ideal.Value.post21 m r h c).trans (Kernel4Ideal.array_w m c),
      (Cert.Kernel4Ideal.Value.post22 m r h c).trans (Kernel4Ideal.array_u m c),
      Cert.Kernel4Ideal.Value.kept_main_arg0 m r h c, Cert.Kernel4Ideal.Value.kept_main_arg1 m r h c, Cert.Kernel4Ideal.Value.kept_main_arg2 m r h c, Cert.Kernel4Ideal.Value.kept_main_arg3 m r h c, Cert.Kernel4Ideal.Value.kept_main_arg4 m r h c, Cert.Kernel4Ideal.Value.kept_main_arg5 m r h c, Cert.Kernel4Ideal.Value.kept_main_arg6 m r h c, Cert.Kernel4Ideal.Value.kept_main_arg7 m r h c, Cert.Kernel4Ideal.Value.kept_main_arg8 m r h c, Cert.Kernel4Ideal.Value.kept_main_arg9 m r h c, Cert.Kernel4Ideal.Value.kept_main_arg10 m r h c, Cert.Kernel4Ideal.Value.kept_main_arg11 m r h c, Cert.Kernel4Ideal.Value.kept_main_arg12 m r h c⟩
  · refine (θ_run _ _ _).mono (fun r h c => ?_) (Cert.Reference4Ideal.Value.run m' g')
    obtain ⟨h0, h1, h2, h3, h4, h5, h6, h7, kept⟩ := h c
    exact ⟨h0.trans (Before.r_arr (hargs c)),
      h1.trans ((Reference4Ideal.key_eq m' c).trans (Before.k_arr (hargs c))),
      h2.trans (Before.v_arr (hargs c)),
      h3.trans (Before.g_arr (hargs c)),
      h4.trans ((Reference4Ideal.dir_eq m' c).trans (Before.d_arr (hargs c))),
      h5.trans ((Reference4Ideal.beta_eq m' c).trans (Before.b_arr (hargs c))),
      h6.trans ((Reference4Ideal.decay_at m' c).trans (Before.w_arr (hargs c))),
      h7.trans ((Reference4Ideal.bonus_eq m' c).trans (Before.u_arr (hargs c))), kept⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Finite.facts,
  quiescent_kernel, quiescent_kernelIdeal, fun m g _ => quiescent_kernelIdeal m g trivial,
  quiescent_referenceIdeal, fun m g _ => quiescent_referenceIdeal m g trivial,
  quiescent_kernel2, quiescent_kernel2Ideal, quiescent_reference2Ideal, quiescent_kernel3, quiescent_kernel3Ideal, quiescent_reference3Ideal,
  quiescent_kernel4, quiescent_kernel4Ideal, quiescent_reference4Ideal,
  IdealRules.named_const.statement Cert.KernelIdeal.κ "mask" .f32 0xF149F2CA#32 ⊥ rfl,
  algebraic, trivial, algebraic2, trivial, algebraic3,
  IdealRules.named_const.statement Cert.Kernel4Ideal.κ "square" .f32 0x179ABE15#32 ((5316911940649 / 5316911983139663491615228241121378304 : ℝ) : EReal) rfl, algebraic4⟩

end Cert.Proof

end
